-- ==== Defs.lean ====
def Pre_Kernel [hPre_own_graph : Cert.Pre_own_graph.Facts] (m : (ℓ : Loc Cert.Kernel.nD Cert.Kernel.τ Cert.Kernel.sig) → Buf (Elt Bits) ℓ) : Prop :=
  ∀ c : Dev Cert.Kernel.nD,
    (Cert.Pre_own_graph.fn (F := Bits) (m ((c.tc : Thread Cert.Kernel.nD Cert.Kernel.τ).loc Cert.Kernel.main_arg0))) = (fun _ => 1#1)

def Pre_KernelIdeal [hPre_own_graph : Cert.Pre_own_graph.Facts] (m : (ℓ : Loc Cert.KernelIdeal.nD Cert.KernelIdeal.τ Cert.KernelIdeal.sig) → Buf (Elt Ideal) ℓ) : Prop :=
  ∀ c : Dev Cert.KernelIdeal.nD,
    (Cert.Pre_own_graph.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_own_graph [hPre_own_graph : Cert.Pre_own_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_own_graph.fn (F := Ideal) (m ((c.tc : Thread Cert.ReferenceIdeal.nD Cert.ReferenceIdeal.τ).loc Cert.ReferenceIdeal.main_arg0))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_nodes [hPre_finite_nodes : Cert.Pre_finite_nodes.Facts] (m : (ℓ : Loc Cert.ConvIdeal.nD Cert.ConvIdeal.τ Cert.ConvIdeal.sig) → Buf (Elt Ideal) ℓ) : Prop :=
  ∀ c : Dev Cert.ConvIdeal.nD,
    (Cert.Pre_finite_nodes.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_finite_nodes [hPre_finite_nodes : Cert.Pre_finite_nodes.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_finite_nodes.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4))) = (fun _ => 1#1)

def Pre_Conv2 (m : (ℓ : Loc Cert.Conv2.nD Cert.Conv2.τ Cert.Conv2.sig) → Buf (Elt Bits) ℓ) : Prop :=
  True

def Pre_Conv2Ideal (m : (ℓ : Loc Cert.Conv2Ideal.nD Cert.Conv2Ideal.τ Cert.Conv2Ideal.sig) → Buf (Elt Ideal) ℓ) : Prop :=
  True

def Pre_Conv2Ideal_finite_kept [hPre_finite_kept : Cert.Pre_finite_kept.Facts] (m : (ℓ : Loc Cert.Conv2Ideal.nD Cert.Conv2Ideal.τ Cert.Conv2Ideal.sig) → Buf (Elt Ideal) ℓ) : Prop :=
  ∀ c : Dev Cert.Conv2Ideal.nD,
    (Cert.Pre_finite_kept.fn (F := Ideal) (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1)) (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3)) (m ((c.tc : Thread Cert.Conv2Ideal.nD Cert.Conv2Ideal.τ).loc Cert.Conv2Ideal.main_arg4))) = (fun _ => 1#1)

def Pre_Conv2ReferenceIdeal (m : (ℓ : Loc Cert.Conv2ReferenceIdeal.nD Cert.Conv2ReferenceIdeal.τ Cert.Conv2ReferenceIdeal.sig) → Buf (Elt Ideal) ℓ) : Prop :=
  True

def Pre_Conv2ReferenceIdeal_finite_kept [hPre_finite_kept : Cert.Pre_finite_kept.Facts] (m : (ℓ : Loc Cert.Conv2ReferenceIdeal.nD Cert.Conv2ReferenceIdeal.τ Cert.Conv2ReferenceIdeal.sig) → Buf (Elt Ideal) ℓ) : Prop :=
  ∀ c : Dev Cert.Conv2ReferenceIdeal.nD,
    (Cert.Pre_finite_kept.fn (F := Ideal) (m ((c.tc : Thread Cert.Conv2ReferenceIdeal.nD Cert.Conv2ReferenceIdeal.τ).loc Cert.Conv2ReferenceIdeal.main_arg0)) (m ((c.tc : Thread Cert.Conv2ReferenceIdeal.nD Cert.Conv2ReferenceIdeal.τ).loc Cert.Conv2ReferenceIdeal.main_arg1)) (m ((c.tc : Thread Cert.Conv2ReferenceIdeal.nD Cert.Conv2ReferenceIdeal.τ).loc Cert.Conv2ReferenceIdeal.main_arg2)) (m ((c.tc : Thread Cert.Conv2ReferenceIdeal.nD Cert.Conv2ReferenceIdeal.τ).loc Cert.Conv2ReferenceIdeal.main_arg3)) (m ((c.tc : Thread Cert.Conv2ReferenceIdeal.nD Cert.Conv2ReferenceIdeal.τ).loc Cert.Conv2ReferenceIdeal.main_arg4))) = (fun _ => 1#1)

def Pre_Zprep (m : (ℓ : Loc Cert.Zprep.nD Cert.Zprep.τ Cert.Zprep.sig) → Buf (Elt Bits) ℓ) : Prop :=
  True

def Pre_ZprepIdeal (m : (ℓ : Loc Cert.ZprepIdeal.nD Cert.ZprepIdeal.τ Cert.ZprepIdeal.sig) → Buf (Elt Ideal) ℓ) : Prop :=
  True

def Pre_ZprepIdeal_finite_means [hPre_finite_means : Cert.Pre_finite_means.Facts] (m : (ℓ : Loc Cert.ZprepIdeal.nD Cert.ZprepIdeal.τ Cert.ZprepIdeal.sig) → Buf (Elt Ideal) ℓ) : Prop :=
  ∀ c : Dev Cert.ZprepIdeal.nD,
    (Cert.Pre_finite_means.fn (F := Ideal) (m ((c.tc : Thread Cert.ZprepIdeal.nD Cert.ZprepIdeal.τ).loc Cert.ZprepIdeal.main_arg0)) (m ((c.tc : Thread Cert.ZprepIdeal.nD Cert.ZprepIdeal.τ).loc Cert.ZprepIdeal.main_arg1)) (m ((c.tc : Thread Cert.ZprepIdeal.nD Cert.ZprepIdeal.τ).loc Cert.ZprepIdeal.main_arg2)) (m ((c.tc : Thread Cert.ZprepIdeal.nD Cert.ZprepIdeal.τ).loc Cert.ZprepIdeal.main_arg3)) (m ((c.tc : Thread Cert.ZprepIdeal.nD Cert.ZprepIdeal.τ).loc Cert.ZprepIdeal.main_arg4)) (m ((c.tc : Thread Cert.ZprepIdeal.nD Cert.ZprepIdeal.τ).loc Cert.ZprepIdeal.main_arg5))) = (fun _ => 1#1)

def Pre_ZprepReferenceIdeal (m : (ℓ : Loc Cert.ZprepReferenceIdeal.nD Cert.ZprepReferenceIdeal.τ Cert.ZprepReferenceIdeal.sig) → Buf (Elt Ideal) ℓ) : Prop :=
  True

def Pre_ZprepReferenceIdeal_finite_means [hPre_finite_means : Cert.Pre_finite_means.Facts] (m : (ℓ : Loc Cert.ZprepReferenceIdeal.nD Cert.ZprepReferenceIdeal.τ Cert.ZprepReferenceIdeal.sig) → Buf (Elt Ideal) ℓ) : Prop :=
  ∀ c : Dev Cert.ZprepReferenceIdeal.nD,
    (Cert.Pre_finite_means.fn (F := Ideal) (m ((c.tc : Thread Cert.ZprepReferenceIdeal.nD Cert.ZprepReferenceIdeal.τ).loc Cert.ZprepReferenceIdeal.main_arg0)) (m ((c.tc : Thread Cert.ZprepReferenceIdeal.nD Cert.ZprepReferenceIdeal.τ).loc Cert.ZprepReferenceIdeal.main_arg1)) (m ((c.tc : Thread Cert.ZprepReferenceIdeal.nD Cert.ZprepReferenceIdeal.τ).loc Cert.ZprepReferenceIdeal.main_arg2)) (m ((c.tc : Thread Cert.ZprepReferenceIdeal.nD Cert.ZprepReferenceIdeal.τ).loc Cert.ZprepReferenceIdeal.main_arg3)) (m ((c.tc : Thread Cert.ZprepReferenceIdeal.nD Cert.ZprepReferenceIdeal.τ).loc Cert.ZprepReferenceIdeal.main_arg4)) (m ((c.tc : Thread Cert.ZprepReferenceIdeal.nD Cert.ZprepReferenceIdeal.τ).loc Cert.ZprepReferenceIdeal.main_arg5))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10)) (m ((c.tc : Thread Cert.HeadIdeal.nD Cert.HeadIdeal.τ).loc Cert.HeadIdeal.main_arg11)) (m ((c.tc : Thread Cert.HeadIdeal.nD Cert.HeadIdeal.τ).loc Cert.HeadIdeal.main_arg12)) (m ((c.tc : Thread Cert.HeadIdeal.nD Cert.HeadIdeal.τ).loc Cert.HeadIdeal.main_arg13)) (m ((c.tc : Thread Cert.HeadIdeal.nD Cert.HeadIdeal.τ).loc Cert.HeadIdeal.main_arg14)) (m ((c.tc : Thread Cert.HeadIdeal.nD Cert.HeadIdeal.τ).loc Cert.HeadIdeal.main_arg15)) (m ((c.tc : Thread Cert.HeadIdeal.nD Cert.HeadIdeal.τ).loc Cert.HeadIdeal.main_arg16)) (m ((c.tc : Thread Cert.HeadIdeal.nD Cert.HeadIdeal.τ).loc Cert.HeadIdeal.main_arg17)) (m ((c.tc : Thread Cert.HeadIdeal.nD Cert.HeadIdeal.τ).loc Cert.HeadIdeal.main_arg18)) (m ((c.tc : Thread Cert.HeadIdeal.nD Cert.HeadIdeal.τ).loc Cert.HeadIdeal.main_arg19)) (m ((c.tc : Thread Cert.HeadIdeal.nD Cert.HeadIdeal.τ).loc Cert.HeadIdeal.main_arg20))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_finite_head [hPre_finite_head : Cert.Pre_finite_head.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_finite_head.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10)) (m ((c.tc : Thread Cert.HeadReferenceIdeal.nD Cert.HeadReferenceIdeal.τ).loc Cert.HeadReferenceIdeal.main_arg11)) (m ((c.tc : Thread Cert.HeadReferenceIdeal.nD Cert.HeadReferenceIdeal.τ).loc Cert.HeadReferenceIdeal.main_arg12)) (m ((c.tc : Thread Cert.HeadReferenceIdeal.nD Cert.HeadReferenceIdeal.τ).loc Cert.HeadReferenceIdeal.main_arg13)) (m ((c.tc : Thread Cert.HeadReferenceIdeal.nD Cert.HeadReferenceIdeal.τ).loc Cert.HeadReferenceIdeal.main_arg14)) (m ((c.tc : Thread Cert.HeadReferenceIdeal.nD Cert.HeadReferenceIdeal.τ).loc Cert.HeadReferenceIdeal.main_arg15)) (m ((c.tc : Thread Cert.HeadReferenceIdeal.nD Cert.HeadReferenceIdeal.τ).loc Cert.HeadReferenceIdeal.main_arg16)) (m ((c.tc : Thread Cert.HeadReferenceIdeal.nD Cert.HeadReferenceIdeal.τ).loc Cert.HeadReferenceIdeal.main_arg17)) (m ((c.tc : Thread Cert.HeadReferenceIdeal.nD Cert.HeadReferenceIdeal.τ).loc Cert.HeadReferenceIdeal.main_arg18)) (m ((c.tc : Thread Cert.HeadReferenceIdeal.nD Cert.HeadReferenceIdeal.τ).loc Cert.HeadReferenceIdeal.main_arg19)) (m ((c.tc : Thread Cert.HeadReferenceIdeal.nD Cert.HeadReferenceIdeal.τ).loc Cert.HeadReferenceIdeal.main_arg20))) = (fun _ => 1#1)

def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcReferenceIdeal (m : (ℓ : Loc Cert.FcReferenceIdeal.nD Cert.FcReferenceIdeal.τ Cert.FcReferenceIdeal.sig) → Buf (Elt Ideal) ℓ) : Prop :=
  True

def quiescent_Kernel [hKernel : Cert.Kernel.Facts] [hPre_own_graph : Cert.Pre_own_graph.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_own_graph : Cert.Pre_own_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_own_graph [hReferenceIdeal : Cert.ReferenceIdeal.Facts] [hPre_own_graph : Cert.Pre_own_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_own_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvIdeal_pre_finite_nodes [hConvIdeal : Cert.ConvIdeal.Facts] [hPre_finite_nodes : Cert.Pre_finite_nodes.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_nodes m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_ConvReferenceIdeal_pre_finite_nodes [hConvReferenceIdeal : Cert.ConvReferenceIdeal.Facts] [hPre_finite_nodes : Cert.Pre_finite_nodes.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_finite_nodes m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_Conv2 [hConv2 : Cert.Conv2.Facts] : Prop :=
  ∀ (m : (ℓ : Loc Cert.Conv2.nD Cert.Conv2.τ Cert.Conv2.sig) → Buf (Elt Bits) ℓ) (g : Dev Cert.Conv2.nD → PrngReg), Pre_Conv2 m →
    θ_run (Cert.Conv2.defs (F := Bits)) (onTc (τ := Cert.Conv2.τ) (Cert.Conv2.main (F := Bits))) ⟨m, fun _ => 0, g⟩ (fun r => (∀ c : Dev Cert.Conv2.nD,
      r.2.mem ((c.tc : Thread Cert.Conv2.nD Cert.Conv2.τ).loc Cert.Conv2.main_arg0) = m ((c.tc : Thread Cert.Conv2.nD Cert.Conv2.τ).loc Cert.Conv2.main_arg0)
      ∧ r.2.mem ((c.tc : Thread Cert.Conv2.nD Cert.Conv2.τ).loc Cert.Conv2.main_arg1) = m ((c.tc : Thread Cert.Conv2.nD Cert.Conv2.τ).loc Cert.Conv2.main_arg1)
      ∧ r.2.mem ((c.tc : Thread Cert.Conv2.nD Cert.Conv2.τ).loc Cert.Conv2.main_arg2) = m ((c.tc : Thread Cert.Conv2.nD Cert.Conv2.τ).loc Cert.Conv2.main_arg2)
      ∧ r.2.mem ((c.tc : Thread Cert.Conv2.nD Cert.Conv2.τ).loc Cert.Conv2.main_arg3) = m ((c.tc : Thread Cert.Conv2.nD Cert.Conv2.τ).loc Cert.Conv2.main_arg3)
      ∧ r.2.mem ((c.tc : Thread Cert.Conv2.nD Cert.Conv2.τ).loc Cert.Conv2.main_arg4) = m ((c.tc : Thread Cert.Conv2.nD Cert.Conv2.τ).loc Cert.Conv2.main_arg4))
      ∧ r.2.sem = fun _ => 0)

def quiescent_Conv2Ideal [hConv2Ideal : Cert.Conv2Ideal.Facts] : Prop :=
  ∀ (m : (ℓ : Loc Cert.Conv2Ideal.nD Cert.Conv2Ideal.τ Cert.Conv2Ideal.sig) → Buf (Elt Ideal) ℓ) (g : Dev Cert.Conv2Ideal.nD → PrngReg), Pre_Conv2Ideal m →
    θ_run (Cert.Conv2Ideal.defs (F := Ideal)) (onTc (τ := Cert.Conv2Ideal.τ) (Cert.Conv2Ideal.main (F := Ideal))) ⟨m, fun _ => 0, g⟩ (fun r => (∀ c : Dev Cert.Conv2Ideal.nD,
      r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
      ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
      ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2)
      ∧ r.2.mem ((c.tc : Thread Cert.Conv2Ideal.nD Cert.Conv2Ideal.τ).loc Cert.Conv2Ideal.main_arg3) = m ((c.tc : Thread Cert.Conv2Ideal.nD Cert.Conv2Ideal.τ).loc Cert.Conv2Ideal.main_arg3)
      ∧ r.2.mem ((c.tc : Thread Cert.Conv2Ideal.nD Cert.Conv2Ideal.τ).loc Cert.Conv2Ideal.main_arg4) = m ((c.tc : Thread Cert.Conv2Ideal.nD Cert.Conv2Ideal.τ).loc Cert.Conv2Ideal.main_arg4))
      ∧ r.2.sem = fun _ => 0)

def quiescent_Conv2Ideal_pre_finite_kept [hConv2Ideal : Cert.Conv2Ideal.Facts] [hPre_finite_kept : Cert.Pre_finite_kept.Facts] : Prop :=
  ∀ (m : (ℓ : Loc Cert.Conv2Ideal.nD Cert.Conv2Ideal.τ Cert.Conv2Ideal.sig) → Buf (Elt Ideal) ℓ) (g : Dev Cert.Conv2Ideal.nD → PrngReg), Pre_Conv2Ideal_finite_kept m →
    θ_run (Cert.Conv2Ideal.defs (F := Ideal)) (onTc (τ := Cert.Conv2Ideal.τ) (Cert.Conv2Ideal.main (F := Ideal))) ⟨m, fun _ => 0, g⟩ (fun r => (∀ c : Dev Cert.Conv2Ideal.nD,
      r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
      ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
      ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2)
      ∧ r.2.mem ((c.tc : Thread Cert.Conv2Ideal.nD Cert.Conv2Ideal.τ).loc Cert.Conv2Ideal.main_arg3) = m ((c.tc : Thread Cert.Conv2Ideal.nD Cert.Conv2Ideal.τ).loc Cert.Conv2Ideal.main_arg3)
      ∧ r.2.mem ((c.tc : Thread Cert.Conv2Ideal.nD Cert.Conv2Ideal.τ).loc Cert.Conv2Ideal.main_arg4) = m ((c.tc : Thread Cert.Conv2Ideal.nD Cert.Conv2Ideal.τ).loc Cert.Conv2Ideal.main_arg4))
      ∧ r.2.sem = fun _ => 0)

def quiescent_Conv2ReferenceIdeal [hConv2ReferenceIdeal : Cert.Conv2ReferenceIdeal.Facts] : Prop :=
  ∀ (m : (ℓ : Loc Cert.Conv2ReferenceIdeal.nD Cert.Conv2ReferenceIdeal.τ Cert.Conv2ReferenceIdeal.sig) → Buf (Elt Ideal) ℓ) (g : Dev Cert.Conv2ReferenceIdeal.nD → PrngReg), Pre_Conv2ReferenceIdeal m →
    θ_run (Cert.Conv2ReferenceIdeal.defs (F := Ideal)) (onTc (τ := Cert.Conv2ReferenceIdeal.τ) (Cert.Conv2ReferenceIdeal.main (F := Ideal))) ⟨m, fun _ => 0, g⟩ (fun r => (∀ c : Dev Cert.Conv2ReferenceIdeal.nD,
      r.2.mem ((c.tc : Thread Cert.Conv2ReferenceIdeal.nD Cert.Conv2ReferenceIdeal.τ).loc Cert.Conv2ReferenceIdeal.main_arg0) = m ((c.tc : Thread Cert.Conv2ReferenceIdeal.nD Cert.Conv2ReferenceIdeal.τ).loc Cert.Conv2ReferenceIdeal.main_arg0)
      ∧ r.2.mem ((c.tc : Thread Cert.Conv2ReferenceIdeal.nD Cert.Conv2ReferenceIdeal.τ).loc Cert.Conv2ReferenceIdeal.main_arg1) = m ((c.tc : Thread Cert.Conv2ReferenceIdeal.nD Cert.Conv2ReferenceIdeal.τ).loc Cert.Conv2ReferenceIdeal.main_arg1)
      ∧ r.2.mem ((c.tc : Thread Cert.Conv2ReferenceIdeal.nD Cert.Conv2ReferenceIdeal.τ).loc Cert.Conv2ReferenceIdeal.main_arg2) = m ((c.tc : Thread Cert.Conv2ReferenceIdeal.nD Cert.Conv2ReferenceIdeal.τ).loc Cert.Conv2ReferenceIdeal.main_arg2)
      ∧ r.2.mem ((c.tc : Thread Cert.Conv2ReferenceIdeal.nD Cert.Conv2ReferenceIdeal.τ).loc Cert.Conv2ReferenceIdeal.main_arg3) = m ((c.tc : Thread Cert.Conv2ReferenceIdeal.nD Cert.Conv2ReferenceIdeal.τ).loc Cert.Conv2ReferenceIdeal.main_arg3)
      ∧ r.2.mem ((c.tc : Thread Cert.Conv2ReferenceIdeal.nD Cert.Conv2ReferenceIdeal.τ).loc Cert.Conv2ReferenceIdeal.main_arg4) = m ((c.tc : Thread Cert.Conv2ReferenceIdeal.nD Cert.Conv2ReferenceIdeal.τ).loc Cert.Conv2ReferenceIdeal.main_arg4))
      ∧ r.2.sem = fun _ => 0)

def quiescent_Conv2ReferenceIdeal_pre_finite_kept [hConv2ReferenceIdeal : Cert.Conv2ReferenceIdeal.Facts] [hPre_finite_kept : Cert.Pre_finite_kept.Facts] : Prop :=
  ∀ (m : (ℓ : Loc Cert.Conv2ReferenceIdeal.nD Cert.Conv2ReferenceIdeal.τ Cert.Conv2ReferenceIdeal.sig) → Buf (Elt Ideal) ℓ) (g : Dev Cert.Conv2ReferenceIdeal.nD → PrngReg), Pre_Conv2ReferenceIdeal_finite_kept m →
    θ_run (Cert.Conv2ReferenceIdeal.defs (F := Ideal)) (onTc (τ := Cert.Conv2ReferenceIdeal.τ) (Cert.Conv2ReferenceIdeal.main (F := Ideal))) ⟨m, fun _ => 0, g⟩ (fun r => (∀ c : Dev Cert.Conv2ReferenceIdeal.nD,
      r.2.mem ((c.tc : Thread Cert.Conv2ReferenceIdeal.nD Cert.Conv2ReferenceIdeal.τ).loc Cert.Conv2ReferenceIdeal.main_arg0) = m ((c.tc : Thread Cert.Conv2ReferenceIdeal.nD Cert.Conv2ReferenceIdeal.τ).loc Cert.Conv2ReferenceIdeal.main_arg0)
      ∧ r.2.mem ((c.tc : Thread Cert.Conv2ReferenceIdeal.nD Cert.Conv2ReferenceIdeal.τ).loc Cert.Conv2ReferenceIdeal.main_arg1) = m ((c.tc : Thread Cert.Conv2ReferenceIdeal.nD Cert.Conv2ReferenceIdeal.τ).loc Cert.Conv2ReferenceIdeal.main_arg1)
      ∧ r.2.mem ((c.tc : Thread Cert.Conv2ReferenceIdeal.nD Cert.Conv2ReferenceIdeal.τ).loc Cert.Conv2ReferenceIdeal.main_arg2) = m ((c.tc : Thread Cert.Conv2ReferenceIdeal.nD Cert.Conv2ReferenceIdeal.τ).loc Cert.Conv2ReferenceIdeal.main_arg2)
      ∧ r.2.mem ((c.tc : Thread Cert.Conv2ReferenceIdeal.nD Cert.Conv2ReferenceIdeal.τ).loc Cert.Conv2ReferenceIdeal.main_arg3) = m ((c.tc : Thread Cert.Conv2ReferenceIdeal.nD Cert.Conv2ReferenceIdeal.τ).loc Cert.Conv2ReferenceIdeal.main_arg3)
      ∧ r.2.mem ((c.tc : Thread Cert.Conv2ReferenceIdeal.nD Cert.Conv2ReferenceIdeal.τ).loc Cert.Conv2ReferenceIdeal.main_arg4) = m ((c.tc : Thread Cert.Conv2ReferenceIdeal.nD Cert.Conv2ReferenceIdeal.τ).loc Cert.Conv2ReferenceIdeal.main_arg4))
      ∧ r.2.sem = fun _ => 0)

def quiescent_Zprep [hZprep : Cert.Zprep.Facts] : Prop :=
  ∀ (m : (ℓ : Loc Cert.Zprep.nD Cert.Zprep.τ Cert.Zprep.sig) → Buf (Elt Bits) ℓ) (g : Dev Cert.Zprep.nD → PrngReg), Pre_Zprep m →
    θ_run (Cert.Zprep.defs (F := Bits)) (onTc (τ := Cert.Zprep.τ) (Cert.Zprep.main (F := Bits))) ⟨m, fun _ => 0, g⟩ (fun r => (∀ c : Dev Cert.Zprep.nD,
      r.2.mem ((c.tc : Thread Cert.Zprep.nD Cert.Zprep.τ).loc Cert.Zprep.main_arg0) = m ((c.tc : Thread Cert.Zprep.nD Cert.Zprep.τ).loc Cert.Zprep.main_arg0)
      ∧ r.2.mem ((c.tc : Thread Cert.Zprep.nD Cert.Zprep.τ).loc Cert.Zprep.main_arg1) = m ((c.tc : Thread Cert.Zprep.nD Cert.Zprep.τ).loc Cert.Zprep.main_arg1)
      ∧ r.2.mem ((c.tc : Thread Cert.Zprep.nD Cert.Zprep.τ).loc Cert.Zprep.main_arg2) = m ((c.tc : Thread Cert.Zprep.nD Cert.Zprep.τ).loc Cert.Zprep.main_arg2)
      ∧ r.2.mem ((c.tc : Thread Cert.Zprep.nD Cert.Zprep.τ).loc Cert.Zprep.main_arg3) = m ((c.tc : Thread Cert.Zprep.nD Cert.Zprep.τ).loc Cert.Zprep.main_arg3)
      ∧ r.2.mem ((c.tc : Thread Cert.Zprep.nD Cert.Zprep.τ).loc Cert.Zprep.main_arg4) = m ((c.tc : Thread Cert.Zprep.nD Cert.Zprep.τ).loc Cert.Zprep.main_arg4)
      ∧ r.2.mem ((c.tc : Thread Cert.Zprep.nD Cert.Zprep.τ).loc Cert.Zprep.main_arg5) = m ((c.tc : Thread Cert.Zprep.nD Cert.Zprep.τ).loc Cert.Zprep.main_arg5))
      ∧ r.2.sem = fun _ => 0)

def quiescent_ZprepIdeal [hZprepIdeal : Cert.ZprepIdeal.Facts] : Prop :=
  ∀ (m : (ℓ : Loc Cert.ZprepIdeal.nD Cert.ZprepIdeal.τ Cert.ZprepIdeal.sig) → Buf (Elt Ideal) ℓ) (g : Dev Cert.ZprepIdeal.nD → PrngReg), Pre_ZprepIdeal m →
    θ_run (Cert.ZprepIdeal.defs (F := Ideal)) (onTc (τ := Cert.ZprepIdeal.τ) (Cert.ZprepIdeal.main (F := Ideal))) ⟨m, fun _ => 0, g⟩ (fun r => (∀ c : Dev Cert.ZprepIdeal.nD,
      r.2.mem ((c.tc : Thread Cert.ZprepIdeal.nD Cert.ZprepIdeal.τ).loc Cert.ZprepIdeal.main_arg0) = m ((c.tc : Thread Cert.ZprepIdeal.nD Cert.ZprepIdeal.τ).loc Cert.ZprepIdeal.main_arg0)
      ∧ r.2.mem ((c.tc : Thread Cert.ZprepIdeal.nD Cert.ZprepIdeal.τ).loc Cert.ZprepIdeal.main_arg1) = m ((c.tc : Thread Cert.ZprepIdeal.nD Cert.ZprepIdeal.τ).loc Cert.ZprepIdeal.main_arg1)
      ∧ r.2.mem ((c.tc : Thread Cert.ZprepIdeal.nD Cert.ZprepIdeal.τ).loc Cert.ZprepIdeal.main_arg2) = m ((c.tc : Thread Cert.ZprepIdeal.nD Cert.ZprepIdeal.τ).loc Cert.ZprepIdeal.main_arg2)
      ∧ r.2.mem ((c.tc : Thread Cert.ZprepIdeal.nD Cert.ZprepIdeal.τ).loc Cert.ZprepIdeal.main_arg3) = m ((c.tc : Thread Cert.ZprepIdeal.nD Cert.ZprepIdeal.τ).loc Cert.ZprepIdeal.main_arg3)
      ∧ r.2.mem ((c.tc : Thread Cert.ZprepIdeal.nD Cert.ZprepIdeal.τ).loc Cert.ZprepIdeal.main_arg4) = m ((c.tc : Thread Cert.ZprepIdeal.nD Cert.ZprepIdeal.τ).loc Cert.ZprepIdeal.main_arg4)
      ∧ r.2.mem ((c.tc : Thread Cert.ZprepIdeal.nD Cert.ZprepIdeal.τ).loc Cert.ZprepIdeal.main_arg5) = m ((c.tc : Thread Cert.ZprepIdeal.nD Cert.ZprepIdeal.τ).loc Cert.ZprepIdeal.main_arg5))
      ∧ r.2.sem = fun _ => 0)

def quiescent_ZprepIdeal_pre_finite_means [hZprepIdeal : Cert.ZprepIdeal.Facts] [hPre_finite_means : Cert.Pre_finite_means.Facts] : Prop :=
  ∀ (m : (ℓ : Loc Cert.ZprepIdeal.nD Cert.ZprepIdeal.τ Cert.ZprepIdeal.sig) → Buf (Elt Ideal) ℓ) (g : Dev Cert.ZprepIdeal.nD → PrngReg), Pre_ZprepIdeal_finite_means m →
    θ_run (Cert.ZprepIdeal.defs (F := Ideal)) (onTc (τ := Cert.ZprepIdeal.τ) (Cert.ZprepIdeal.main (F := Ideal))) ⟨m, fun _ => 0, g⟩ (fun r => (∀ c : Dev Cert.ZprepIdeal.nD,
      r.2.mem ((c.tc : Thread Cert.ZprepIdeal.nD Cert.ZprepIdeal.τ).loc Cert.ZprepIdeal.main_arg0) = m ((c.tc : Thread Cert.ZprepIdeal.nD Cert.ZprepIdeal.τ).loc Cert.ZprepIdeal.main_arg0)
      ∧ r.2.mem ((c.tc : Thread Cert.ZprepIdeal.nD Cert.ZprepIdeal.τ).loc Cert.ZprepIdeal.main_arg1) = m ((c.tc : Thread Cert.ZprepIdeal.nD Cert.ZprepIdeal.τ).loc Cert.ZprepIdeal.main_arg1)
      ∧ r.2.mem ((c.tc : Thread Cert.ZprepIdeal.nD Cert.ZprepIdeal.τ).loc Cert.ZprepIdeal.main_arg2) = m ((c.tc : Thread Cert.ZprepIdeal.nD Cert.ZprepIdeal.τ).loc Cert.ZprepIdeal.main_arg2)
      ∧ r.2.mem ((c.tc : Thread Cert.ZprepIdeal.nD Cert.ZprepIdeal.τ).loc Cert.ZprepIdeal.main_arg3) = m ((c.tc : Thread Cert.ZprepIdeal.nD Cert.ZprepIdeal.τ).loc Cert.ZprepIdeal.main_arg3)
      ∧ r.2.mem ((c.tc : Thread Cert.ZprepIdeal.nD Cert.ZprepIdeal.τ).loc Cert.ZprepIdeal.main_arg4) = m ((c.tc : Thread Cert.ZprepIdeal.nD Cert.ZprepIdeal.τ).loc Cert.ZprepIdeal.main_arg4)
      ∧ r.2.mem ((c.tc : Thread Cert.ZprepIdeal.nD Cert.ZprepIdeal.τ).loc Cert.ZprepIdeal.main_arg5) = m ((c.tc : Thread Cert.ZprepIdeal.nD Cert.ZprepIdeal.τ).loc Cert.ZprepIdeal.main_arg5))
      ∧ r.2.sem = fun _ => 0)

def quiescent_ZprepReferenceIdeal [hZprepReferenceIdeal : Cert.ZprepReferenceIdeal.Facts] : Prop :=
  ∀ (m : (ℓ : Loc Cert.ZprepReferenceIdeal.nD Cert.ZprepReferenceIdeal.τ Cert.ZprepReferenceIdeal.sig) → Buf (Elt Ideal) ℓ) (g : Dev Cert.ZprepReferenceIdeal.nD → PrngReg), Pre_ZprepReferenceIdeal m →
    θ_run (Cert.ZprepReferenceIdeal.defs (F := Ideal)) (onTc (τ := Cert.ZprepReferenceIdeal.τ) (Cert.ZprepReferenceIdeal.main (F := Ideal))) ⟨m, fun _ => 0, g⟩ (fun r => (∀ c : Dev Cert.ZprepReferenceIdeal.nD,
      r.2.mem ((c.tc : Thread Cert.ZprepReferenceIdeal.nD Cert.ZprepReferenceIdeal.τ).loc Cert.ZprepReferenceIdeal.main_arg0) = m ((c.tc : Thread Cert.ZprepReferenceIdeal.nD Cert.ZprepReferenceIdeal.τ).loc Cert.ZprepReferenceIdeal.main_arg0)
      ∧ r.2.mem ((c.tc : Thread Cert.ZprepReferenceIdeal.nD Cert.ZprepReferenceIdeal.τ).loc Cert.ZprepReferenceIdeal.main_arg1) = m ((c.tc : Thread Cert.ZprepReferenceIdeal.nD Cert.ZprepReferenceIdeal.τ).loc Cert.ZprepReferenceIdeal.main_arg1)
      ∧ r.2.mem ((c.tc : Thread Cert.ZprepReferenceIdeal.nD Cert.ZprepReferenceIdeal.τ).loc Cert.ZprepReferenceIdeal.main_arg2) = m ((c.tc : Thread Cert.ZprepReferenceIdeal.nD Cert.ZprepReferenceIdeal.τ).loc Cert.ZprepReferenceIdeal.main_arg2)
      ∧ r.2.mem ((c.tc : Thread Cert.ZprepReferenceIdeal.nD Cert.ZprepReferenceIdeal.τ).loc Cert.ZprepReferenceIdeal.main_arg3) = m ((c.tc : Thread Cert.ZprepReferenceIdeal.nD Cert.ZprepReferenceIdeal.τ).loc Cert.ZprepReferenceIdeal.main_arg3)
      ∧ r.2.mem ((c.tc : Thread Cert.ZprepReferenceIdeal.nD Cert.ZprepReferenceIdeal.τ).loc Cert.ZprepReferenceIdeal.main_arg4) = m ((c.tc : Thread Cert.ZprepReferenceIdeal.nD Cert.ZprepReferenceIdeal.τ).loc Cert.ZprepReferenceIdeal.main_arg4)
      ∧ r.2.mem ((c.tc : Thread Cert.ZprepReferenceIdeal.nD Cert.ZprepReferenceIdeal.τ).loc Cert.ZprepReferenceIdeal.main_arg5) = m ((c.tc : Thread Cert.ZprepReferenceIdeal.nD Cert.ZprepReferenceIdeal.τ).loc Cert.ZprepReferenceIdeal.main_arg5))
      ∧ r.2.sem = fun _ => 0)

def quiescent_ZprepReferenceIdeal_pre_finite_means [hZprepReferenceIdeal : Cert.ZprepReferenceIdeal.Facts] [hPre_finite_means : Cert.Pre_finite_means.Facts] : Prop :=
  ∀ (m : (ℓ : Loc Cert.ZprepReferenceIdeal.nD Cert.ZprepReferenceIdeal.τ Cert.ZprepReferenceIdeal.sig) → Buf (Elt Ideal) ℓ) (g : Dev Cert.ZprepReferenceIdeal.nD → PrngReg), Pre_ZprepReferenceIdeal_finite_means m →
    θ_run (Cert.ZprepReferenceIdeal.defs (F := Ideal)) (onTc (τ := Cert.ZprepReferenceIdeal.τ) (Cert.ZprepReferenceIdeal.main (F := Ideal))) ⟨m, fun _ => 0, g⟩ (fun r => (∀ c : Dev Cert.ZprepReferenceIdeal.nD,
      r.2.mem ((c.tc : Thread Cert.ZprepReferenceIdeal.nD Cert.ZprepReferenceIdeal.τ).loc Cert.ZprepReferenceIdeal.main_arg0) = m ((c.tc : Thread Cert.ZprepReferenceIdeal.nD Cert.ZprepReferenceIdeal.τ).loc Cert.ZprepReferenceIdeal.main_arg0)
      ∧ r.2.mem ((c.tc : Thread Cert.ZprepReferenceIdeal.nD Cert.ZprepReferenceIdeal.τ).loc Cert.ZprepReferenceIdeal.main_arg1) = m ((c.tc : Thread Cert.ZprepReferenceIdeal.nD Cert.ZprepReferenceIdeal.τ).loc Cert.ZprepReferenceIdeal.main_arg1)
      ∧ r.2.mem ((c.tc : Thread Cert.ZprepReferenceIdeal.nD Cert.ZprepReferenceIdeal.τ).loc Cert.ZprepReferenceIdeal.main_arg2) = m ((c.tc : Thread Cert.ZprepReferenceIdeal.nD Cert.ZprepReferenceIdeal.τ).loc Cert.ZprepReferenceIdeal.main_arg2)
      ∧ r.2.mem ((c.tc : Thread Cert.ZprepReferenceIdeal.nD Cert.ZprepReferenceIdeal.τ).loc Cert.ZprepReferenceIdeal.main_arg3) = m ((c.tc : Thread Cert.ZprepReferenceIdeal.nD Cert.ZprepReferenceIdeal.τ).loc Cert.ZprepReferenceIdeal.main_arg3)
      ∧ r.2.mem ((c.tc : Thread Cert.ZprepReferenceIdeal.nD Cert.ZprepReferenceIdeal.τ).loc Cert.ZprepReferenceIdeal.main_arg4) = m ((c.tc : Thread Cert.ZprepReferenceIdeal.nD Cert.ZprepReferenceIdeal.τ).loc Cert.ZprepReferenceIdeal.main_arg4)
      ∧ r.2.mem ((c.tc : Thread Cert.ZprepReferenceIdeal.nD Cert.ZprepReferenceIdeal.τ).loc Cert.ZprepReferenceIdeal.main_arg5) = m ((c.tc : Thread Cert.ZprepReferenceIdeal.nD Cert.ZprepReferenceIdeal.τ).loc Cert.ZprepReferenceIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10)
      ∧ r.2.mem ((c.tc : Thread Cert.Head.nD Cert.Head.τ).loc Cert.Head.main_arg11) = m ((c.tc : Thread Cert.Head.nD Cert.Head.τ).loc Cert.Head.main_arg11)
      ∧ r.2.mem ((c.tc : Thread Cert.Head.nD Cert.Head.τ).loc Cert.Head.main_arg12) = m ((c.tc : Thread Cert.Head.nD Cert.Head.τ).loc Cert.Head.main_arg12)
      ∧ r.2.mem ((c.tc : Thread Cert.Head.nD Cert.Head.τ).loc Cert.Head.main_arg13) = m ((c.tc : Thread Cert.Head.nD Cert.Head.τ).loc Cert.Head.main_arg13)
      ∧ r.2.mem ((c.tc : Thread Cert.Head.nD Cert.Head.τ).loc Cert.Head.main_arg14) = m ((c.tc : Thread Cert.Head.nD Cert.Head.τ).loc Cert.Head.main_arg14)
      ∧ r.2.mem ((c.tc : Thread Cert.Head.nD Cert.Head.τ).loc Cert.Head.main_arg15) = m ((c.tc : Thread Cert.Head.nD Cert.Head.τ).loc Cert.Head.main_arg15)
      ∧ r.2.mem ((c.tc : Thread Cert.Head.nD Cert.Head.τ).loc Cert.Head.main_arg16) = m ((c.tc : Thread Cert.Head.nD Cert.Head.τ).loc Cert.Head.main_arg16)
      ∧ r.2.mem ((c.tc : Thread Cert.Head.nD Cert.Head.τ).loc Cert.Head.main_arg17) = m ((c.tc : Thread Cert.Head.nD Cert.Head.τ).loc Cert.Head.main_arg17)
      ∧ r.2.mem ((c.tc : Thread Cert.Head.nD Cert.Head.τ).loc Cert.Head.main_arg18) = m ((c.tc : Thread Cert.Head.nD Cert.Head.τ).loc Cert.Head.main_arg18)
      ∧ r.2.mem ((c.tc : Thread Cert.Head.nD Cert.Head.τ).loc Cert.Head.main_arg19) = m ((c.tc : Thread Cert.Head.nD Cert.Head.τ).loc Cert.Head.main_arg19)
      ∧ r.2.mem ((c.tc : Thread Cert.Head.nD Cert.Head.τ).loc Cert.Head.main_arg20) = m ((c.tc : Thread Cert.Head.nD Cert.Head.τ).loc Cert.Head.main_arg20))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
      ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
      ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
      ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
      ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
      ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15)
      ∧ r.2.mem ((c.tc : Thread Cert.HeadIdeal.nD Cert.HeadIdeal.τ).loc Cert.HeadIdeal.main_arg16) = m ((c.tc : Thread Cert.HeadIdeal.nD Cert.HeadIdeal.τ).loc Cert.HeadIdeal.main_arg16)
      ∧ r.2.mem ((c.tc : Thread Cert.HeadIdeal.nD Cert.HeadIdeal.τ).loc Cert.HeadIdeal.main_arg17) = m ((c.tc : Thread Cert.HeadIdeal.nD Cert.HeadIdeal.τ).loc Cert.HeadIdeal.main_arg17)
      ∧ r.2.mem ((c.tc : Thread Cert.HeadIdeal.nD Cert.HeadIdeal.τ).loc Cert.HeadIdeal.main_arg18) = m ((c.tc : Thread Cert.HeadIdeal.nD Cert.HeadIdeal.τ).loc Cert.HeadIdeal.main_arg18)
      ∧ r.2.mem ((c.tc : Thread Cert.HeadIdeal.nD Cert.HeadIdeal.τ).loc Cert.HeadIdeal.main_arg19) = m ((c.tc : Thread Cert.HeadIdeal.nD Cert.HeadIdeal.τ).loc Cert.HeadIdeal.main_arg19)
      ∧ r.2.mem ((c.tc : Thread Cert.HeadIdeal.nD Cert.HeadIdeal.τ).loc Cert.HeadIdeal.main_arg20) = m ((c.tc : Thread Cert.HeadIdeal.nD Cert.HeadIdeal.τ).loc Cert.HeadIdeal.main_arg20))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
      ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
      ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
      ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
      ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
      ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15)
      ∧ r.2.mem ((c.tc : Thread Cert.HeadIdeal.nD Cert.HeadIdeal.τ).loc Cert.HeadIdeal.main_arg16) = m ((c.tc : Thread Cert.HeadIdeal.nD Cert.HeadIdeal.τ).loc Cert.HeadIdeal.main_arg16)
      ∧ r.2.mem ((c.tc : Thread Cert.HeadIdeal.nD Cert.HeadIdeal.τ).loc Cert.HeadIdeal.main_arg17) = m ((c.tc : Thread Cert.HeadIdeal.nD Cert.HeadIdeal.τ).loc Cert.HeadIdeal.main_arg17)
      ∧ r.2.mem ((c.tc : Thread Cert.HeadIdeal.nD Cert.HeadIdeal.τ).loc Cert.HeadIdeal.main_arg18) = m ((c.tc : Thread Cert.HeadIdeal.nD Cert.HeadIdeal.τ).loc Cert.HeadIdeal.main_arg18)
      ∧ r.2.mem ((c.tc : Thread Cert.HeadIdeal.nD Cert.HeadIdeal.τ).loc Cert.HeadIdeal.main_arg19) = m ((c.tc : Thread Cert.HeadIdeal.nD Cert.HeadIdeal.τ).loc Cert.HeadIdeal.main_arg19)
      ∧ r.2.mem ((c.tc : Thread Cert.HeadIdeal.nD Cert.HeadIdeal.τ).loc Cert.HeadIdeal.main_arg20) = m ((c.tc : Thread Cert.HeadIdeal.nD Cert.HeadIdeal.τ).loc Cert.HeadIdeal.main_arg20))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10)
      ∧ r.2.mem ((c.tc : Thread Cert.HeadReferenceIdeal.nD Cert.HeadReferenceIdeal.τ).loc Cert.HeadReferenceIdeal.main_arg11) = m ((c.tc : Thread Cert.HeadReferenceIdeal.nD Cert.HeadReferenceIdeal.τ).loc Cert.HeadReferenceIdeal.main_arg11)
      ∧ r.2.mem ((c.tc : Thread Cert.HeadReferenceIdeal.nD Cert.HeadReferenceIdeal.τ).loc Cert.HeadReferenceIdeal.main_arg12) = m ((c.tc : Thread Cert.HeadReferenceIdeal.nD Cert.HeadReferenceIdeal.τ).loc Cert.HeadReferenceIdeal.main_arg12)
      ∧ r.2.mem ((c.tc : Thread Cert.HeadReferenceIdeal.nD Cert.HeadReferenceIdeal.τ).loc Cert.HeadReferenceIdeal.main_arg13) = m ((c.tc : Thread Cert.HeadReferenceIdeal.nD Cert.HeadReferenceIdeal.τ).loc Cert.HeadReferenceIdeal.main_arg13)
      ∧ r.2.mem ((c.tc : Thread Cert.HeadReferenceIdeal.nD Cert.HeadReferenceIdeal.τ).loc Cert.HeadReferenceIdeal.main_arg14) = m ((c.tc : Thread Cert.HeadReferenceIdeal.nD Cert.HeadReferenceIdeal.τ).loc Cert.HeadReferenceIdeal.main_arg14)
      ∧ r.2.mem ((c.tc : Thread Cert.HeadReferenceIdeal.nD Cert.HeadReferenceIdeal.τ).loc Cert.HeadReferenceIdeal.main_arg15) = m ((c.tc : Thread Cert.HeadReferenceIdeal.nD Cert.HeadReferenceIdeal.τ).loc Cert.HeadReferenceIdeal.main_arg15)
      ∧ r.2.mem ((c.tc : Thread Cert.HeadReferenceIdeal.nD Cert.HeadReferenceIdeal.τ).loc Cert.HeadReferenceIdeal.main_arg16) = m ((c.tc : Thread Cert.HeadReferenceIdeal.nD Cert.HeadReferenceIdeal.τ).loc Cert.HeadReferenceIdeal.main_arg16)
      ∧ r.2.mem ((c.tc : Thread Cert.HeadReferenceIdeal.nD Cert.HeadReferenceIdeal.τ).loc Cert.HeadReferenceIdeal.main_arg17) = m ((c.tc : Thread Cert.HeadReferenceIdeal.nD Cert.HeadReferenceIdeal.τ).loc Cert.HeadReferenceIdeal.main_arg17)
      ∧ r.2.mem ((c.tc : Thread Cert.HeadReferenceIdeal.nD Cert.HeadReferenceIdeal.τ).loc Cert.HeadReferenceIdeal.main_arg18) = m ((c.tc : Thread Cert.HeadReferenceIdeal.nD Cert.HeadReferenceIdeal.τ).loc Cert.HeadReferenceIdeal.main_arg18)
      ∧ r.2.mem ((c.tc : Thread Cert.HeadReferenceIdeal.nD Cert.HeadReferenceIdeal.τ).loc Cert.HeadReferenceIdeal.main_arg19) = m ((c.tc : Thread Cert.HeadReferenceIdeal.nD Cert.HeadReferenceIdeal.τ).loc Cert.HeadReferenceIdeal.main_arg19)
      ∧ r.2.mem ((c.tc : Thread Cert.HeadReferenceIdeal.nD Cert.HeadReferenceIdeal.τ).loc Cert.HeadReferenceIdeal.main_arg20) = m ((c.tc : Thread Cert.HeadReferenceIdeal.nD Cert.HeadReferenceIdeal.τ).loc Cert.HeadReferenceIdeal.main_arg20))
      ∧ r.2.sem = fun _ => 0)

def quiescent_HeadReferenceIdeal_pre_finite_head [hHeadReferenceIdeal : Cert.HeadReferenceIdeal.Facts] [hPre_finite_head : Cert.Pre_finite_head.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_finite_head m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10)
      ∧ r.2.mem ((c.tc : Thread Cert.HeadReferenceIdeal.nD Cert.HeadReferenceIdeal.τ).loc Cert.HeadReferenceIdeal.main_arg11) = m ((c.tc : Thread Cert.HeadReferenceIdeal.nD Cert.HeadReferenceIdeal.τ).loc Cert.HeadReferenceIdeal.main_arg11)
      ∧ r.2.mem ((c.tc : Thread Cert.HeadReferenceIdeal.nD Cert.HeadReferenceIdeal.τ).loc Cert.HeadReferenceIdeal.main_arg12) = m ((c.tc : Thread Cert.HeadReferenceIdeal.nD Cert.HeadReferenceIdeal.τ).loc Cert.HeadReferenceIdeal.main_arg12)
      ∧ r.2.mem ((c.tc : Thread Cert.HeadReferenceIdeal.nD Cert.HeadReferenceIdeal.τ).loc Cert.HeadReferenceIdeal.main_arg13) = m ((c.tc : Thread Cert.HeadReferenceIdeal.nD Cert.HeadReferenceIdeal.τ).loc Cert.HeadReferenceIdeal.main_arg13)
      ∧ r.2.mem ((c.tc : Thread Cert.HeadReferenceIdeal.nD Cert.HeadReferenceIdeal.τ).loc Cert.HeadReferenceIdeal.main_arg14) = m ((c.tc : Thread Cert.HeadReferenceIdeal.nD Cert.HeadReferenceIdeal.τ).loc Cert.HeadReferenceIdeal.main_arg14)
      ∧ r.2.mem ((c.tc : Thread Cert.HeadReferenceIdeal.nD Cert.HeadReferenceIdeal.τ).loc Cert.HeadReferenceIdeal.main_arg15) = m ((c.tc : Thread Cert.HeadReferenceIdeal.nD Cert.HeadReferenceIdeal.τ).loc Cert.HeadReferenceIdeal.main_arg15)
      ∧ r.2.mem ((c.tc : Thread Cert.HeadReferenceIdeal.nD Cert.HeadReferenceIdeal.τ).loc Cert.HeadReferenceIdeal.main_arg16) = m ((c.tc : Thread Cert.HeadReferenceIdeal.nD Cert.HeadReferenceIdeal.τ).loc Cert.HeadReferenceIdeal.main_arg16)
      ∧ r.2.mem ((c.tc : Thread Cert.HeadReferenceIdeal.nD Cert.HeadReferenceIdeal.τ).loc Cert.HeadReferenceIdeal.main_arg17) = m ((c.tc : Thread Cert.HeadReferenceIdeal.nD Cert.HeadReferenceIdeal.τ).loc Cert.HeadReferenceIdeal.main_arg17)
      ∧ r.2.mem ((c.tc : Thread Cert.HeadReferenceIdeal.nD Cert.HeadReferenceIdeal.τ).loc Cert.HeadReferenceIdeal.main_arg18) = m ((c.tc : Thread Cert.HeadReferenceIdeal.nD Cert.HeadReferenceIdeal.τ).loc Cert.HeadReferenceIdeal.main_arg18)
      ∧ r.2.mem ((c.tc : Thread Cert.HeadReferenceIdeal.nD Cert.HeadReferenceIdeal.τ).loc Cert.HeadReferenceIdeal.main_arg19) = m ((c.tc : Thread Cert.HeadReferenceIdeal.nD Cert.HeadReferenceIdeal.τ).loc Cert.HeadReferenceIdeal.main_arg19)
      ∧ r.2.mem ((c.tc : Thread Cert.HeadReferenceIdeal.nD Cert.HeadReferenceIdeal.τ).loc Cert.HeadReferenceIdeal.main_arg20) = m ((c.tc : Thread Cert.HeadReferenceIdeal.nD Cert.HeadReferenceIdeal.τ).loc Cert.HeadReferenceIdeal.main_arg20))
      ∧ r.2.sem = fun _ => 0)

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2)
      ∧ r.2.mem ((c.tc : Thread Cert.Fc.nD Cert.Fc.τ).loc Cert.Fc.main_arg3) = m ((c.tc : Thread Cert.Fc.nD Cert.Fc.τ).loc Cert.Fc.main_arg3)
      ∧ r.2.mem ((c.tc : Thread Cert.Fc.nD Cert.Fc.τ).loc Cert.Fc.main_arg4) = m ((c.tc : Thread Cert.Fc.nD Cert.Fc.τ).loc Cert.Fc.main_arg4))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
      ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
      ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ r.2.sem = fun _ => 0)

def quiescent_FcReferenceIdeal [hFcReferenceIdeal : Cert.FcReferenceIdeal.Facts] : Prop :=
  ∀ (m : (ℓ : Loc Cert.FcReferenceIdeal.nD Cert.FcReferenceIdeal.τ Cert.FcReferenceIdeal.sig) → Buf (Elt Ideal) ℓ) (g : Dev Cert.FcReferenceIdeal.nD → PrngReg), Pre_FcReferenceIdeal m →
    θ_run (Cert.FcReferenceIdeal.defs (F := Ideal)) (onTc (τ := Cert.FcReferenceIdeal.τ) (Cert.FcReferenceIdeal.main (F := Ideal))) ⟨m, fun _ => 0, g⟩ (fun r => (∀ c : Dev Cert.FcReferenceIdeal.nD,
      r.2.mem ((c.tc : Thread Cert.FcReferenceIdeal.nD Cert.FcReferenceIdeal.τ).loc Cert.FcReferenceIdeal.main_arg0) = m ((c.tc : Thread Cert.FcReferenceIdeal.nD Cert.FcReferenceIdeal.τ).loc Cert.FcReferenceIdeal.main_arg0)
      ∧ r.2.mem ((c.tc : Thread Cert.FcReferenceIdeal.nD Cert.FcReferenceIdeal.τ).loc Cert.FcReferenceIdeal.main_arg1) = m ((c.tc : Thread Cert.FcReferenceIdeal.nD Cert.FcReferenceIdeal.τ).loc Cert.FcReferenceIdeal.main_arg1)
      ∧ r.2.mem ((c.tc : Thread Cert.FcReferenceIdeal.nD Cert.FcReferenceIdeal.τ).loc Cert.FcReferenceIdeal.main_arg2) = m ((c.tc : Thread Cert.FcReferenceIdeal.nD Cert.FcReferenceIdeal.τ).loc Cert.FcReferenceIdeal.main_arg2)
      ∧ r.2.mem ((c.tc : Thread Cert.FcReferenceIdeal.nD Cert.FcReferenceIdeal.τ).loc Cert.FcReferenceIdeal.main_arg3) = m ((c.tc : Thread Cert.FcReferenceIdeal.nD Cert.FcReferenceIdeal.τ).loc Cert.FcReferenceIdeal.main_arg3)
      ∧ r.2.mem ((c.tc : Thread Cert.FcReferenceIdeal.nD Cert.FcReferenceIdeal.τ).loc Cert.FcReferenceIdeal.main_arg4) = m ((c.tc : Thread Cert.FcReferenceIdeal.nD Cert.FcReferenceIdeal.τ).loc Cert.FcReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_own_graph : Cert.Pre_own_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Conv_ConvIdeal : Prop :=
  True

def algebraic_ConvIdeal_ConvReferenceIdeal_pre_finite_nodes [hConvIdeal : Cert.ConvIdeal.Facts] [hConvReferenceIdeal : Cert.ConvReferenceIdeal.Facts] [hPre_finite_nodes : Cert.Pre_finite_nodes.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal_finite_nodes m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)) (v2 : (c : Dev Cert.ConvIdeal.nD) → Buf (Elt Ideal) ((c.tc : Thread Cert.ConvIdeal.nD Cert.ConvIdeal.τ).loc Cert.ConvIdeal.main_v3_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_v3_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v14) = v0 c
          ∧ r.2.mem ((c.tc : Thread Cert.ConvReferenceIdeal.nD Cert.ConvReferenceIdeal.τ).loc Cert.ConvReferenceIdeal.main_v10) = v1 c
          ∧ r.2.mem ((c.tc : Thread Cert.ConvReferenceIdeal.nD Cert.ConvReferenceIdeal.τ).loc Cert.ConvReferenceIdeal.main_v13) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4))

def preserves_Conv2_Conv2Ideal : Prop :=
  True

def algebraic_Conv2Ideal_Conv2ReferenceIdeal_pre_finite_kept [hConv2Ideal : Cert.Conv2Ideal.Facts] [hConv2ReferenceIdeal : Cert.Conv2ReferenceIdeal.Facts] [hPre_finite_kept : Cert.Pre_finite_kept.Facts] : Prop :=
  ∀ (m : (ℓ : Loc Cert.Conv2Ideal.nD Cert.Conv2Ideal.τ Cert.Conv2Ideal.sig) → Buf (Elt Ideal) ℓ) (g : Dev Cert.Conv2Ideal.nD → PrngReg)
    (m' : (ℓ : Loc Cert.Conv2ReferenceIdeal.nD Cert.Conv2ReferenceIdeal.τ Cert.Conv2ReferenceIdeal.sig) → Buf (Elt Ideal) ℓ) (g' : Dev Cert.Conv2ReferenceIdeal.nD → PrngReg), Pre_Conv2Ideal_finite_kept m →
    (∀ c : Dev Cert.Conv2Ideal.nD,
      m' ((c.tc : Thread Cert.Conv2ReferenceIdeal.nD Cert.Conv2ReferenceIdeal.τ).loc Cert.Conv2ReferenceIdeal.main_arg0) = m ((c.tc : Thread Cert.Conv2Ideal.nD Cert.Conv2Ideal.τ).loc Cert.Conv2Ideal.main_arg0)
      ∧ m' ((c.tc : Thread Cert.Conv2ReferenceIdeal.nD Cert.Conv2ReferenceIdeal.τ).loc Cert.Conv2ReferenceIdeal.main_arg1) = m ((c.tc : Thread Cert.Conv2Ideal.nD Cert.Conv2Ideal.τ).loc Cert.Conv2Ideal.main_arg1)
      ∧ m' ((c.tc : Thread Cert.Conv2ReferenceIdeal.nD Cert.Conv2ReferenceIdeal.τ).loc Cert.Conv2ReferenceIdeal.main_arg2) = m ((c.tc : Thread Cert.Conv2Ideal.nD Cert.Conv2Ideal.τ).loc Cert.Conv2Ideal.main_arg2)
      ∧ m' ((c.tc : Thread Cert.Conv2ReferenceIdeal.nD Cert.Conv2ReferenceIdeal.τ).loc Cert.Conv2ReferenceIdeal.main_arg3) = m ((c.tc : Thread Cert.Conv2Ideal.nD Cert.Conv2Ideal.τ).loc Cert.Conv2Ideal.main_arg3)
      ∧ m' ((c.tc : Thread Cert.Conv2ReferenceIdeal.nD Cert.Conv2ReferenceIdeal.τ).loc Cert.Conv2ReferenceIdeal.main_arg4) = m ((c.tc : Thread Cert.Conv2Ideal.nD Cert.Conv2Ideal.τ).loc Cert.Conv2Ideal.main_arg4)) →
    ∃ (v0 : (c : Dev Cert.Conv2Ideal.nD) → Buf (Elt Ideal) ((c.tc : Thread Cert.Conv2Ideal.nD Cert.Conv2Ideal.τ).loc Cert.Conv2Ideal.main_v1_0)) (v1 : (c : Dev Cert.Conv2Ideal.nD) → Buf (Elt Ideal) ((c.tc : Thread Cert.Conv2Ideal.nD Cert.Conv2Ideal.τ).loc Cert.Conv2Ideal.main_v1_1)) (v2 : (c : Dev Cert.Conv2Ideal.nD) → Buf (Elt Ideal) ((c.tc : Thread Cert.Conv2Ideal.nD Cert.Conv2Ideal.τ).loc Cert.Conv2Ideal.main_v1_2)),
      θ_run (Cert.Conv2Ideal.defs (F := Ideal)) (onTc (τ := Cert.Conv2Ideal.τ) (Cert.Conv2Ideal.main (F := Ideal))) ⟨m, fun _ => 0, g⟩ (fun r => ∀ c : Dev Cert.Conv2Ideal.nD,
          r.2.mem ((c.tc : Thread Cert.Conv2Ideal.nD Cert.Conv2Ideal.τ).loc Cert.Conv2Ideal.main_v1_0) = v0 c
          ∧ r.2.mem ((c.tc : Thread Cert.Conv2Ideal.nD Cert.Conv2Ideal.τ).loc Cert.Conv2Ideal.main_v1_1) = v1 c
          ∧ r.2.mem ((c.tc : Thread Cert.Conv2Ideal.nD Cert.Conv2Ideal.τ).loc Cert.Conv2Ideal.main_v1_2) = v2 c
          ∧ r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
          ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
          ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2)
          ∧ r.2.mem ((c.tc : Thread Cert.Conv2Ideal.nD Cert.Conv2Ideal.τ).loc Cert.Conv2Ideal.main_arg3) = m ((c.tc : Thread Cert.Conv2Ideal.nD Cert.Conv2Ideal.τ).loc Cert.Conv2Ideal.main_arg3)
          ∧ r.2.mem ((c.tc : Thread Cert.Conv2Ideal.nD Cert.Conv2Ideal.τ).loc Cert.Conv2Ideal.main_arg4) = m ((c.tc : Thread Cert.Conv2Ideal.nD Cert.Conv2Ideal.τ).loc Cert.Conv2Ideal.main_arg4))
      ∧ θ_run (Cert.Conv2ReferenceIdeal.defs (F := Ideal)) (onTc (τ := Cert.Conv2ReferenceIdeal.τ) (Cert.Conv2ReferenceIdeal.main (F := Ideal))) ⟨m', fun _ => 0, g'⟩ (fun r => ∀ c : Dev Cert.Conv2ReferenceIdeal.nD,
          r.2.mem ((c.tc : Thread Cert.Conv2ReferenceIdeal.nD Cert.Conv2ReferenceIdeal.τ).loc Cert.Conv2ReferenceIdeal.main_v14) = v0 c
          ∧ r.2.mem ((c.tc : Thread Cert.Conv2ReferenceIdeal.nD Cert.Conv2ReferenceIdeal.τ).loc Cert.Conv2ReferenceIdeal.main_v10) = v1 c
          ∧ r.2.mem ((c.tc : Thread Cert.Conv2ReferenceIdeal.nD Cert.Conv2ReferenceIdeal.τ).loc Cert.Conv2ReferenceIdeal.main_v13) = v2 c
          ∧ r.2.mem ((c.tc : Thread Cert.Conv2ReferenceIdeal.nD Cert.Conv2ReferenceIdeal.τ).loc Cert.Conv2ReferenceIdeal.main_arg0) = m' ((c.tc : Thread Cert.Conv2ReferenceIdeal.nD Cert.Conv2ReferenceIdeal.τ).loc Cert.Conv2ReferenceIdeal.main_arg0)
          ∧ r.2.mem ((c.tc : Thread Cert.Conv2ReferenceIdeal.nD Cert.Conv2ReferenceIdeal.τ).loc Cert.Conv2ReferenceIdeal.main_arg1) = m' ((c.tc : Thread Cert.Conv2ReferenceIdeal.nD Cert.Conv2ReferenceIdeal.τ).loc Cert.Conv2ReferenceIdeal.main_arg1)
          ∧ r.2.mem ((c.tc : Thread Cert.Conv2ReferenceIdeal.nD Cert.Conv2ReferenceIdeal.τ).loc Cert.Conv2ReferenceIdeal.main_arg2) = m' ((c.tc : Thread Cert.Conv2ReferenceIdeal.nD Cert.Conv2ReferenceIdeal.τ).loc Cert.Conv2ReferenceIdeal.main_arg2)
          ∧ r.2.mem ((c.tc : Thread Cert.Conv2ReferenceIdeal.nD Cert.Conv2ReferenceIdeal.τ).loc Cert.Conv2ReferenceIdeal.main_arg3) = m' ((c.tc : Thread Cert.Conv2ReferenceIdeal.nD Cert.Conv2ReferenceIdeal.τ).loc Cert.Conv2ReferenceIdeal.main_arg3)
          ∧ r.2.mem ((c.tc : Thread Cert.Conv2ReferenceIdeal.nD Cert.Conv2ReferenceIdeal.τ).loc Cert.Conv2ReferenceIdeal.main_arg4) = m' ((c.tc : Thread Cert.Conv2ReferenceIdeal.nD Cert.Conv2ReferenceIdeal.τ).loc Cert.Conv2ReferenceIdeal.main_arg4))

def preserves_Zprep_ZprepIdeal : Prop :=
  True

def algebraic_ZprepIdeal_ZprepReferenceIdeal_pre_finite_means [hZprepIdeal : Cert.ZprepIdeal.Facts] [hZprepReferenceIdeal : Cert.ZprepReferenceIdeal.Facts] [hPre_finite_means : Cert.Pre_finite_means.Facts] : Prop :=
  ∀ (m : (ℓ : Loc Cert.ZprepIdeal.nD Cert.ZprepIdeal.τ Cert.ZprepIdeal.sig) → Buf (Elt Ideal) ℓ) (g : Dev Cert.ZprepIdeal.nD → PrngReg)
    (m' : (ℓ : Loc Cert.ZprepReferenceIdeal.nD Cert.ZprepReferenceIdeal.τ Cert.ZprepReferenceIdeal.sig) → Buf (Elt Ideal) ℓ) (g' : Dev Cert.ZprepReferenceIdeal.nD → PrngReg), Pre_ZprepIdeal_finite_means m →
    (∀ c : Dev Cert.ZprepIdeal.nD,
      m' ((c.tc : Thread Cert.ZprepReferenceIdeal.nD Cert.ZprepReferenceIdeal.τ).loc Cert.ZprepReferenceIdeal.main_arg0) = m ((c.tc : Thread Cert.ZprepIdeal.nD Cert.ZprepIdeal.τ).loc Cert.ZprepIdeal.main_arg0)
      ∧ m' ((c.tc : Thread Cert.ZprepReferenceIdeal.nD Cert.ZprepReferenceIdeal.τ).loc Cert.ZprepReferenceIdeal.main_arg1) = m ((c.tc : Thread Cert.ZprepIdeal.nD Cert.ZprepIdeal.τ).loc Cert.ZprepIdeal.main_arg1)
      ∧ m' ((c.tc : Thread Cert.ZprepReferenceIdeal.nD Cert.ZprepReferenceIdeal.τ).loc Cert.ZprepReferenceIdeal.main_arg2) = m ((c.tc : Thread Cert.ZprepIdeal.nD Cert.ZprepIdeal.τ).loc Cert.ZprepIdeal.main_arg2)
      ∧ m' ((c.tc : Thread Cert.ZprepReferenceIdeal.nD Cert.ZprepReferenceIdeal.τ).loc Cert.ZprepReferenceIdeal.main_arg3) = m ((c.tc : Thread Cert.ZprepIdeal.nD Cert.ZprepIdeal.τ).loc Cert.ZprepIdeal.main_arg3)
      ∧ m' ((c.tc : Thread Cert.ZprepReferenceIdeal.nD Cert.ZprepReferenceIdeal.τ).loc Cert.ZprepReferenceIdeal.main_arg4) = m ((c.tc : Thread Cert.ZprepIdeal.nD Cert.ZprepIdeal.τ).loc Cert.ZprepIdeal.main_arg4)
      ∧ m' ((c.tc : Thread Cert.ZprepReferenceIdeal.nD Cert.ZprepReferenceIdeal.τ).loc Cert.ZprepReferenceIdeal.main_arg5) = m ((c.tc : Thread Cert.ZprepIdeal.nD Cert.ZprepIdeal.τ).loc Cert.ZprepIdeal.main_arg5)) →
    ∃ (v0 : (c : Dev Cert.ZprepIdeal.nD) → Buf (Elt Ideal) ((c.tc : Thread Cert.ZprepIdeal.nD Cert.ZprepIdeal.τ).loc Cert.ZprepIdeal.main_v6)),
      θ_run (Cert.ZprepIdeal.defs (F := Ideal)) (onTc (τ := Cert.ZprepIdeal.τ) (Cert.ZprepIdeal.main (F := Ideal))) ⟨m, fun _ => 0, g⟩ (fun r => ∀ c : Dev Cert.ZprepIdeal.nD,
          r.2.mem ((c.tc : Thread Cert.ZprepIdeal.nD Cert.ZprepIdeal.τ).loc Cert.ZprepIdeal.main_v6) = v0 c
          ∧ r.2.mem ((c.tc : Thread Cert.ZprepIdeal.nD Cert.ZprepIdeal.τ).loc Cert.ZprepIdeal.main_arg0) = m ((c.tc : Thread Cert.ZprepIdeal.nD Cert.ZprepIdeal.τ).loc Cert.ZprepIdeal.main_arg0)
          ∧ r.2.mem ((c.tc : Thread Cert.ZprepIdeal.nD Cert.ZprepIdeal.τ).loc Cert.ZprepIdeal.main_arg1) = m ((c.tc : Thread Cert.ZprepIdeal.nD Cert.ZprepIdeal.τ).loc Cert.ZprepIdeal.main_arg1)
          ∧ r.2.mem ((c.tc : Thread Cert.ZprepIdeal.nD Cert.ZprepIdeal.τ).loc Cert.ZprepIdeal.main_arg2) = m ((c.tc : Thread Cert.ZprepIdeal.nD Cert.ZprepIdeal.τ).loc Cert.ZprepIdeal.main_arg2)
          ∧ r.2.mem ((c.tc : Thread Cert.ZprepIdeal.nD Cert.ZprepIdeal.τ).loc Cert.ZprepIdeal.main_arg3) = m ((c.tc : Thread Cert.ZprepIdeal.nD Cert.ZprepIdeal.τ).loc Cert.ZprepIdeal.main_arg3)
          ∧ r.2.mem ((c.tc : Thread Cert.ZprepIdeal.nD Cert.ZprepIdeal.τ).loc Cert.ZprepIdeal.main_arg4) = m ((c.tc : Thread Cert.ZprepIdeal.nD Cert.ZprepIdeal.τ).loc Cert.ZprepIdeal.main_arg4)
          ∧ r.2.mem ((c.tc : Thread Cert.ZprepIdeal.nD Cert.ZprepIdeal.τ).loc Cert.ZprepIdeal.main_arg5) = m ((c.tc : Thread Cert.ZprepIdeal.nD Cert.ZprepIdeal.τ).loc Cert.ZprepIdeal.main_arg5))
      ∧ θ_run (Cert.ZprepReferenceIdeal.defs (F := Ideal)) (onTc (τ := Cert.ZprepReferenceIdeal.τ) (Cert.ZprepReferenceIdeal.main (F := Ideal))) ⟨m', fun _ => 0, g'⟩ (fun r => ∀ c : Dev Cert.ZprepReferenceIdeal.nD,
          r.2.mem ((c.tc : Thread Cert.ZprepReferenceIdeal.nD Cert.ZprepReferenceIdeal.τ).loc Cert.ZprepReferenceIdeal.main_v48) = v0 c
          ∧ r.2.mem ((c.tc : Thread Cert.ZprepReferenceIdeal.nD Cert.ZprepReferenceIdeal.τ).loc Cert.ZprepReferenceIdeal.main_arg0) = m' ((c.tc : Thread Cert.ZprepReferenceIdeal.nD Cert.ZprepReferenceIdeal.τ).loc Cert.ZprepReferenceIdeal.main_arg0)
          ∧ r.2.mem ((c.tc : Thread Cert.ZprepReferenceIdeal.nD Cert.ZprepReferenceIdeal.τ).loc Cert.ZprepReferenceIdeal.main_arg1) = m' ((c.tc : Thread Cert.ZprepReferenceIdeal.nD Cert.ZprepReferenceIdeal.τ).loc Cert.ZprepReferenceIdeal.main_arg1)
          ∧ r.2.mem ((c.tc : Thread Cert.ZprepReferenceIdeal.nD Cert.ZprepReferenceIdeal.τ).loc Cert.ZprepReferenceIdeal.main_arg2) = m' ((c.tc : Thread Cert.ZprepReferenceIdeal.nD Cert.ZprepReferenceIdeal.τ).loc Cert.ZprepReferenceIdeal.main_arg2)
          ∧ r.2.mem ((c.tc : Thread Cert.ZprepReferenceIdeal.nD Cert.ZprepReferenceIdeal.τ).loc Cert.ZprepReferenceIdeal.main_arg3) = m' ((c.tc : Thread Cert.ZprepReferenceIdeal.nD Cert.ZprepReferenceIdeal.τ).loc Cert.ZprepReferenceIdeal.main_arg3)
          ∧ r.2.mem ((c.tc : Thread Cert.ZprepReferenceIdeal.nD Cert.ZprepReferenceIdeal.τ).loc Cert.ZprepReferenceIdeal.main_arg4) = m' ((c.tc : Thread Cert.ZprepReferenceIdeal.nD Cert.ZprepReferenceIdeal.τ).loc Cert.ZprepReferenceIdeal.main_arg4)
          ∧ r.2.mem ((c.tc : Thread Cert.ZprepReferenceIdeal.nD Cert.ZprepReferenceIdeal.τ).loc Cert.ZprepReferenceIdeal.main_arg5) = m' ((c.tc : Thread Cert.ZprepReferenceIdeal.nD Cert.ZprepReferenceIdeal.τ).loc Cert.ZprepReferenceIdeal.main_arg5))

def preserves_Head_HeadIdeal : Prop :=
  True

def algebraic_HeadIdeal_HeadReferenceIdeal_pre_finite_head [hHeadIdeal : Cert.HeadIdeal.Facts] [hHeadReferenceIdeal : Cert.HeadReferenceIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal_finite_head m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)
      ∧ m' ((c.tc : Thread Cert.HeadReferenceIdeal.nD Cert.HeadReferenceIdeal.τ).loc Cert.HeadReferenceIdeal.main_arg5) = m ((c.tc : Thread Cert.HeadIdeal.nD Cert.HeadIdeal.τ).loc Cert.HeadIdeal.main_arg5)
      ∧ m' ((c.tc : Thread Cert.HeadReferenceIdeal.nD Cert.HeadReferenceIdeal.τ).loc Cert.HeadReferenceIdeal.main_arg6) = m ((c.tc : Thread Cert.HeadIdeal.nD Cert.HeadIdeal.τ).loc Cert.HeadIdeal.main_arg6)
      ∧ m' ((c.tc : Thread Cert.HeadReferenceIdeal.nD Cert.HeadReferenceIdeal.τ).loc Cert.HeadReferenceIdeal.main_arg7) = m ((c.tc : Thread Cert.HeadIdeal.nD Cert.HeadIdeal.τ).loc Cert.HeadIdeal.main_arg7)
      ∧ m' ((c.tc : Thread Cert.HeadReferenceIdeal.nD Cert.HeadReferenceIdeal.τ).loc Cert.HeadReferenceIdeal.main_arg8) = m ((c.tc : Thread Cert.HeadIdeal.nD Cert.HeadIdeal.τ).loc Cert.HeadIdeal.main_arg8)
      ∧ m' ((c.tc : Thread Cert.HeadReferenceIdeal.nD Cert.HeadReferenceIdeal.τ).loc Cert.HeadReferenceIdeal.main_arg9) = m ((c.tc : Thread Cert.HeadIdeal.nD Cert.HeadIdeal.τ).loc Cert.HeadIdeal.main_arg9)
      ∧ m' ((c.tc : Thread Cert.HeadReferenceIdeal.nD Cert.HeadReferenceIdeal.τ).loc Cert.HeadReferenceIdeal.main_arg10) = m ((c.tc : Thread Cert.HeadIdeal.nD Cert.HeadIdeal.τ).loc Cert.HeadIdeal.main_arg10)
      ∧ m' ((c.tc : Thread Cert.HeadReferenceIdeal.nD Cert.HeadReferenceIdeal.τ).loc Cert.HeadReferenceIdeal.main_arg11) = m ((c.tc : Thread Cert.HeadIdeal.nD Cert.HeadIdeal.τ).loc Cert.HeadIdeal.main_arg11)
      ∧ m' ((c.tc : Thread Cert.HeadReferenceIdeal.nD Cert.HeadReferenceIdeal.τ).loc Cert.HeadReferenceIdeal.main_arg12) = m ((c.tc : Thread Cert.HeadIdeal.nD Cert.HeadIdeal.τ).loc Cert.HeadIdeal.main_arg12)
      ∧ m' ((c.tc : Thread Cert.HeadReferenceIdeal.nD Cert.HeadReferenceIdeal.τ).loc Cert.HeadReferenceIdeal.main_arg13) = m ((c.tc : Thread Cert.HeadIdeal.nD Cert.HeadIdeal.τ).loc Cert.HeadIdeal.main_arg13)
      ∧ m' ((c.tc : Thread Cert.HeadReferenceIdeal.nD Cert.HeadReferenceIdeal.τ).loc Cert.HeadReferenceIdeal.main_arg14) = m ((c.tc : Thread Cert.HeadIdeal.nD Cert.HeadIdeal.τ).loc Cert.HeadIdeal.main_arg14)
      ∧ m' ((c.tc : Thread Cert.HeadReferenceIdeal.nD Cert.HeadReferenceIdeal.τ).loc Cert.HeadReferenceIdeal.main_arg15) = m ((c.tc : Thread Cert.HeadIdeal.nD Cert.HeadIdeal.τ).loc Cert.HeadIdeal.main_arg15)
      ∧ m' ((c.tc : Thread Cert.HeadReferenceIdeal.nD Cert.HeadReferenceIdeal.τ).loc Cert.HeadReferenceIdeal.main_arg16) = m ((c.tc : Thread Cert.HeadIdeal.nD Cert.HeadIdeal.τ).loc Cert.HeadIdeal.main_arg16)
      ∧ m' ((c.tc : Thread Cert.HeadReferenceIdeal.nD Cert.HeadReferenceIdeal.τ).loc Cert.HeadReferenceIdeal.main_arg17) = m ((c.tc : Thread Cert.HeadIdeal.nD Cert.HeadIdeal.τ).loc Cert.HeadIdeal.main_arg17)
      ∧ m' ((c.tc : Thread Cert.HeadReferenceIdeal.nD Cert.HeadReferenceIdeal.τ).loc Cert.HeadReferenceIdeal.main_arg18) = m ((c.tc : Thread Cert.HeadIdeal.nD Cert.HeadIdeal.τ).loc Cert.HeadIdeal.main_arg18)
      ∧ m' ((c.tc : Thread Cert.HeadReferenceIdeal.nD Cert.HeadReferenceIdeal.τ).loc Cert.HeadReferenceIdeal.main_arg19) = m ((c.tc : Thread Cert.HeadIdeal.nD Cert.HeadIdeal.τ).loc Cert.HeadIdeal.main_arg19)
      ∧ m' ((c.tc : Thread Cert.HeadReferenceIdeal.nD Cert.HeadReferenceIdeal.τ).loc Cert.HeadReferenceIdeal.main_arg20) = m ((c.tc : Thread Cert.HeadIdeal.nD Cert.HeadIdeal.τ).loc Cert.HeadIdeal.main_arg20)) →
    ∃ (v0 : (c : Dev Cert.HeadIdeal.nD) → Buf (Elt Ideal) ((c.tc : Thread Cert.HeadIdeal.nD Cert.HeadIdeal.τ).loc Cert.HeadIdeal.main_v23)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v23) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
          ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
          ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
          ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
          ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
          ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15)
          ∧ r.2.mem ((c.tc : Thread Cert.HeadIdeal.nD Cert.HeadIdeal.τ).loc Cert.HeadIdeal.main_arg16) = m ((c.tc : Thread Cert.HeadIdeal.nD Cert.HeadIdeal.τ).loc Cert.HeadIdeal.main_arg16)
          ∧ r.2.mem ((c.tc : Thread Cert.HeadIdeal.nD Cert.HeadIdeal.τ).loc Cert.HeadIdeal.main_arg17) = m ((c.tc : Thread Cert.HeadIdeal.nD Cert.HeadIdeal.τ).loc Cert.HeadIdeal.main_arg17)
          ∧ r.2.mem ((c.tc : Thread Cert.HeadIdeal.nD Cert.HeadIdeal.τ).loc Cert.HeadIdeal.main_arg18) = m ((c.tc : Thread Cert.HeadIdeal.nD Cert.HeadIdeal.τ).loc Cert.HeadIdeal.main_arg18)
          ∧ r.2.mem ((c.tc : Thread Cert.HeadIdeal.nD Cert.HeadIdeal.τ).loc Cert.HeadIdeal.main_arg19) = m ((c.tc : Thread Cert.HeadIdeal.nD Cert.HeadIdeal.τ).loc Cert.HeadIdeal.main_arg19)
          ∧ r.2.mem ((c.tc : Thread Cert.HeadIdeal.nD Cert.HeadIdeal.τ).loc Cert.HeadIdeal.main_arg20) = m ((c.tc : Thread Cert.HeadIdeal.nD Cert.HeadIdeal.τ).loc Cert.HeadIdeal.main_arg20))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v263) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6)
          ∧ r.2.mem ((c.tc : Thread Cert.HeadReferenceIdeal.nD Cert.HeadReferenceIdeal.τ).loc Cert.HeadReferenceIdeal.main_arg7) = m' ((c.tc : Thread Cert.HeadReferenceIdeal.nD Cert.HeadReferenceIdeal.τ).loc Cert.HeadReferenceIdeal.main_arg7)
          ∧ r.2.mem ((c.tc : Thread Cert.HeadReferenceIdeal.nD Cert.HeadReferenceIdeal.τ).loc Cert.HeadReferenceIdeal.main_arg8) = m' ((c.tc : Thread Cert.HeadReferenceIdeal.nD Cert.HeadReferenceIdeal.τ).loc Cert.HeadReferenceIdeal.main_arg8)
          ∧ r.2.mem ((c.tc : Thread Cert.HeadReferenceIdeal.nD Cert.HeadReferenceIdeal.τ).loc Cert.HeadReferenceIdeal.main_arg9) = m' ((c.tc : Thread Cert.HeadReferenceIdeal.nD Cert.HeadReferenceIdeal.τ).loc Cert.HeadReferenceIdeal.main_arg9)
          ∧ r.2.mem ((c.tc : Thread Cert.HeadReferenceIdeal.nD Cert.HeadReferenceIdeal.τ).loc Cert.HeadReferenceIdeal.main_arg10) = m' ((c.tc : Thread Cert.HeadReferenceIdeal.nD Cert.HeadReferenceIdeal.τ).loc Cert.HeadReferenceIdeal.main_arg10)
          ∧ r.2.mem ((c.tc : Thread Cert.HeadReferenceIdeal.nD Cert.HeadReferenceIdeal.τ).loc Cert.HeadReferenceIdeal.main_arg11) = m' ((c.tc : Thread Cert.HeadReferenceIdeal.nD Cert.HeadReferenceIdeal.τ).loc Cert.HeadReferenceIdeal.main_arg11)
          ∧ r.2.mem ((c.tc : Thread Cert.HeadReferenceIdeal.nD Cert.HeadReferenceIdeal.τ).loc Cert.HeadReferenceIdeal.main_arg12) = m' ((c.tc : Thread Cert.HeadReferenceIdeal.nD Cert.HeadReferenceIdeal.τ).loc Cert.HeadReferenceIdeal.main_arg12)
          ∧ r.2.mem ((c.tc : Thread Cert.HeadReferenceIdeal.nD Cert.HeadReferenceIdeal.τ).loc Cert.HeadReferenceIdeal.main_arg13) = m' ((c.tc : Thread Cert.HeadReferenceIdeal.nD Cert.HeadReferenceIdeal.τ).loc Cert.HeadReferenceIdeal.main_arg13)
          ∧ r.2.mem ((c.tc : Thread Cert.HeadReferenceIdeal.nD Cert.HeadReferenceIdeal.τ).loc Cert.HeadReferenceIdeal.main_arg14) = m' ((c.tc : Thread Cert.HeadReferenceIdeal.nD Cert.HeadReferenceIdeal.τ).loc Cert.HeadReferenceIdeal.main_arg14)
          ∧ r.2.mem ((c.tc : Thread Cert.HeadReferenceIdeal.nD Cert.HeadReferenceIdeal.τ).loc Cert.HeadReferenceIdeal.main_arg15) = m' ((c.tc : Thread Cert.HeadReferenceIdeal.nD Cert.HeadReferenceIdeal.τ).loc Cert.HeadReferenceIdeal.main_arg15)
          ∧ r.2.mem ((c.tc : Thread Cert.HeadReferenceIdeal.nD Cert.HeadReferenceIdeal.τ).loc Cert.HeadReferenceIdeal.main_arg16) = m' ((c.tc : Thread Cert.HeadReferenceIdeal.nD Cert.HeadReferenceIdeal.τ).loc Cert.HeadReferenceIdeal.main_arg16)
          ∧ r.2.mem ((c.tc : Thread Cert.HeadReferenceIdeal.nD Cert.HeadReferenceIdeal.τ).loc Cert.HeadReferenceIdeal.main_arg17) = m' ((c.tc : Thread Cert.HeadReferenceIdeal.nD Cert.HeadReferenceIdeal.τ).loc Cert.HeadReferenceIdeal.main_arg17)
          ∧ r.2.mem ((c.tc : Thread Cert.HeadReferenceIdeal.nD Cert.HeadReferenceIdeal.τ).loc Cert.HeadReferenceIdeal.main_arg18) = m' ((c.tc : Thread Cert.HeadReferenceIdeal.nD Cert.HeadReferenceIdeal.τ).loc Cert.HeadReferenceIdeal.main_arg18)
          ∧ r.2.mem ((c.tc : Thread Cert.HeadReferenceIdeal.nD Cert.HeadReferenceIdeal.τ).loc Cert.HeadReferenceIdeal.main_arg19) = m' ((c.tc : Thread Cert.HeadReferenceIdeal.nD Cert.HeadReferenceIdeal.τ).loc Cert.HeadReferenceIdeal.main_arg19)
          ∧ r.2.mem ((c.tc : Thread Cert.HeadReferenceIdeal.nD Cert.HeadReferenceIdeal.τ).loc Cert.HeadReferenceIdeal.main_arg20) = m' ((c.tc : Thread Cert.HeadReferenceIdeal.nD Cert.HeadReferenceIdeal.τ).loc Cert.HeadReferenceIdeal.main_arg20))

def preserves_Fc_FcIdeal : Prop :=
  True

def algebraic_FcIdeal_FcReferenceIdeal [hFcIdeal : Cert.FcIdeal.Facts] [hFcReferenceIdeal : Cert.FcReferenceIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcReferenceIdeal.nD Cert.FcReferenceIdeal.τ Cert.FcReferenceIdeal.sig) → Buf (Elt Ideal) ℓ) (g' : Dev Cert.FcReferenceIdeal.nD → PrngReg), Pre_FcIdeal m →
    (∀ c : Dev Cert.FcIdeal.nD,
      m' ((c.tc : Thread Cert.FcReferenceIdeal.nD Cert.FcReferenceIdeal.τ).loc Cert.FcReferenceIdeal.main_arg0) = m ((c.tc : Thread Cert.FcIdeal.nD Cert.FcIdeal.τ).loc Cert.FcIdeal.main_arg0)
      ∧ m' ((c.tc : Thread Cert.FcReferenceIdeal.nD Cert.FcReferenceIdeal.τ).loc Cert.FcReferenceIdeal.main_arg1) = m ((c.tc : Thread Cert.FcIdeal.nD Cert.FcIdeal.τ).loc Cert.FcIdeal.main_arg1)
      ∧ m' ((c.tc : Thread Cert.FcReferenceIdeal.nD Cert.FcReferenceIdeal.τ).loc Cert.FcReferenceIdeal.main_arg2) = m ((c.tc : Thread Cert.FcIdeal.nD Cert.FcIdeal.τ).loc Cert.FcIdeal.main_arg2)
      ∧ m' ((c.tc : Thread Cert.FcReferenceIdeal.nD Cert.FcReferenceIdeal.τ).loc Cert.FcReferenceIdeal.main_arg3) = m ((c.tc : Thread Cert.FcIdeal.nD Cert.FcIdeal.τ).loc Cert.FcIdeal.main_arg3)
      ∧ m' ((c.tc : Thread Cert.FcReferenceIdeal.nD Cert.FcReferenceIdeal.τ).loc Cert.FcReferenceIdeal.main_arg4) = m ((c.tc : Thread Cert.FcIdeal.nD Cert.FcIdeal.τ).loc Cert.FcIdeal.main_arg4)) →
    ∃ (v0 : (c : Dev Cert.FcIdeal.nD) → Buf (Elt Ideal) ((c.tc : Thread Cert.FcIdeal.nD Cert.FcIdeal.τ).loc Cert.FcIdeal.main_v7)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v7) = v0 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
          ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
          ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ θ_run (Cert.FcReferenceIdeal.defs (F := Ideal)) (onTc (τ := Cert.FcReferenceIdeal.τ) (Cert.FcReferenceIdeal.main (F := Ideal))) ⟨m', fun _ => 0, g'⟩ (fun r => ∀ c : Dev Cert.FcReferenceIdeal.nD,
          r.2.mem ((c.tc : Thread Cert.FcReferenceIdeal.nD Cert.FcReferenceIdeal.τ).loc Cert.FcReferenceIdeal.main_v12) = v0 c
          ∧ r.2.mem ((c.tc : Thread Cert.FcReferenceIdeal.nD Cert.FcReferenceIdeal.τ).loc Cert.FcReferenceIdeal.main_arg0) = m' ((c.tc : Thread Cert.FcReferenceIdeal.nD Cert.FcReferenceIdeal.τ).loc Cert.FcReferenceIdeal.main_arg0)
          ∧ r.2.mem ((c.tc : Thread Cert.FcReferenceIdeal.nD Cert.FcReferenceIdeal.τ).loc Cert.FcReferenceIdeal.main_arg1) = m' ((c.tc : Thread Cert.FcReferenceIdeal.nD Cert.FcReferenceIdeal.τ).loc Cert.FcReferenceIdeal.main_arg1)
          ∧ r.2.mem ((c.tc : Thread Cert.FcReferenceIdeal.nD Cert.FcReferenceIdeal.τ).loc Cert.FcReferenceIdeal.main_arg2) = m' ((c.tc : Thread Cert.FcReferenceIdeal.nD Cert.FcReferenceIdeal.τ).loc Cert.FcReferenceIdeal.main_arg2)
          ∧ r.2.mem ((c.tc : Thread Cert.FcReferenceIdeal.nD Cert.FcReferenceIdeal.τ).loc Cert.FcReferenceIdeal.main_arg3) = m' ((c.tc : Thread Cert.FcReferenceIdeal.nD Cert.FcReferenceIdeal.τ).loc Cert.FcReferenceIdeal.main_arg3)
          ∧ r.2.mem ((c.tc : Thread Cert.FcReferenceIdeal.nD Cert.FcReferenceIdeal.τ).loc Cert.FcReferenceIdeal.main_arg4) = m' ((c.tc : Thread Cert.FcReferenceIdeal.nD Cert.FcReferenceIdeal.τ).loc Cert.FcReferenceIdeal.main_arg4))

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvReferenceIdeal : Cert.ConvReferenceIdeal.Facts) (hConv2 : Cert.Conv2.Facts) (hConv2Ideal : Cert.Conv2Ideal.Facts) (hConv2ReferenceIdeal : Cert.Conv2ReferenceIdeal.Facts) (hZprep : Cert.Zprep.Facts) (hZprepIdeal : Cert.ZprepIdeal.Facts) (hZprepReferenceIdeal : Cert.ZprepReferenceIdeal.Facts) (hHead : Cert.Head.Facts) (hHeadIdeal : Cert.HeadIdeal.Facts) (hHeadReferenceIdeal : Cert.HeadReferenceIdeal.Facts) (hFc : Cert.Fc.Facts) (hFcIdeal : Cert.FcIdeal.Facts) (hFcReferenceIdeal : Cert.FcReferenceIdeal.Facts) (hPre_own_graph : Cert.Pre_own_graph.Facts) (hPre_finite_nodes : Cert.Pre_finite_nodes.Facts) (hPre_finite_kept : Cert.Pre_finite_kept.Facts) (hPre_finite_means : Cert.Pre_finite_means.Facts) (hPre_finite_head : Cert.Pre_finite_head.Facts),
    quiescent_Kernel (hKernel := hKernel) (hPre_own_graph := hPre_own_graph)
    ∧ quiescent_KernelIdeal (hKernelIdeal := hKernelIdeal) (hPre_own_graph := hPre_own_graph)
    ∧ quiescent_ReferenceIdeal (hReferenceIdeal := hReferenceIdeal)
    ∧ quiescent_ReferenceIdeal_pre_own_graph (hReferenceIdeal := hReferenceIdeal) (hPre_own_graph := hPre_own_graph)
    ∧ quiescent_Conv (hConv := hConv)
    ∧ quiescent_ConvIdeal (hConvIdeal := hConvIdeal)
    ∧ quiescent_ConvIdeal_pre_finite_nodes (hConvIdeal := hConvIdeal) (hPre_finite_nodes := hPre_finite_nodes)
    ∧ quiescent_ConvReferenceIdeal (hConvReferenceIdeal := hConvReferenceIdeal)
    ∧ quiescent_ConvReferenceIdeal_pre_finite_nodes (hConvReferenceIdeal := hConvReferenceIdeal) (hPre_finite_nodes := hPre_finite_nodes)
    ∧ quiescent_Conv2 (hConv2 := hConv2)
    ∧ quiescent_Conv2Ideal (hConv2Ideal := hConv2Ideal)
    ∧ quiescent_Conv2Ideal_pre_finite_kept (hConv2Ideal := hConv2Ideal) (hPre_finite_kept := hPre_finite_kept)
    ∧ quiescent_Conv2ReferenceIdeal (hConv2ReferenceIdeal := hConv2ReferenceIdeal)
    ∧ quiescent_Conv2ReferenceIdeal_pre_finite_kept (hConv2ReferenceIdeal := hConv2ReferenceIdeal) (hPre_finite_kept := hPre_finite_kept)
    ∧ quiescent_Zprep (hZprep := hZprep)
    ∧ quiescent_ZprepIdeal (hZprepIdeal := hZprepIdeal)
    ∧ quiescent_ZprepIdeal_pre_finite_means (hZprepIdeal := hZprepIdeal) (hPre_finite_means := hPre_finite_means)
    ∧ quiescent_ZprepReferenceIdeal (hZprepReferenceIdeal := hZprepReferenceIdeal)
    ∧ quiescent_ZprepReferenceIdeal_pre_finite_means (hZprepReferenceIdeal := hZprepReferenceIdeal) (hPre_finite_means := hPre_finite_means)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadReferenceIdeal (hHeadReferenceIdeal := hHeadReferenceIdeal)
    ∧ quiescent_HeadReferenceIdeal_pre_finite_head (hHeadReferenceIdeal := hHeadReferenceIdeal) (hPre_finite_head := hPre_finite_head)
    ∧ quiescent_Fc (hFc := hFc)
    ∧ quiescent_FcIdeal (hFcIdeal := hFcIdeal)
    ∧ quiescent_FcReferenceIdeal (hFcReferenceIdeal := hFcReferenceIdeal)
    ∧ preserves_Kernel_KernelIdeal
    ∧ algebraic_KernelIdeal_ReferenceIdeal (hKernelIdeal := hKernelIdeal) (hReferenceIdeal := hReferenceIdeal) (hPre_own_graph := hPre_own_graph)
    ∧ preserves_Conv_ConvIdeal
    ∧ algebraic_ConvIdeal_ConvReferenceIdeal_pre_finite_nodes (hConvIdeal := hConvIdeal) (hConvReferenceIdeal := hConvReferenceIdeal) (hPre_finite_nodes := hPre_finite_nodes)
    ∧ preserves_Conv2_Conv2Ideal
    ∧ algebraic_Conv2Ideal_Conv2ReferenceIdeal_pre_finite_kept (hConv2Ideal := hConv2Ideal) (hConv2ReferenceIdeal := hConv2ReferenceIdeal) (hPre_finite_kept := hPre_finite_kept)
    ∧ preserves_Zprep_ZprepIdeal
    ∧ algebraic_ZprepIdeal_ZprepReferenceIdeal_pre_finite_means (hZprepIdeal := hZprepIdeal) (hZprepReferenceIdeal := hZprepReferenceIdeal) (hPre_finite_means := hPre_finite_means)
    ∧ preserves_Head_HeadIdeal
    ∧ algebraic_HeadIdeal_HeadReferenceIdeal_pre_finite_head (hHeadIdeal := hHeadIdeal) (hHeadReferenceIdeal := hHeadReferenceIdeal) (hPre_finite_head := hPre_finite_head)
    ∧ preserves_Fc_FcIdeal
    ∧ algebraic_FcIdeal_FcReferenceIdeal (hFcIdeal := hFcIdeal) (hFcReferenceIdeal := hFcReferenceIdeal)
-- ==== Pre_finite_head.lean ====
abbrev S64x256 : Shape := ⟨2, ![64, 256]⟩
abbrev S128x1x1x1 : Shape := ⟨4, ![128, 1, 1, 1]⟩
abbrev S128 : Shape := ⟨1, ![128]⟩
abbrev S64x128x3x3 : Shape := ⟨4, ![64, 128, 3, 3]⟩
abbrev S64 : Shape := ⟨1, ![64]⟩
abbrev S1x64x1x1 : Shape := ⟨4, ![1, 64, 1, 1]⟩
abbrev S1 : Shape := ⟨1, ![1]⟩
abbrev S_ : Shape := ⟨0, ![]⟩

class Facts : Prop where
  bcast_S_S64x256 : S_.BroadcastsInDim S64x256 (![] : Fin 0 → Fin S64x256.rank)
  reducesTo_S64x256_S_d0_1 : S64x256.ReducesTo [0, 1] S_
  h_S_ : 0 < S_.numel
  bcast_S_S128x1x1x1 : S_.BroadcastsInDim S128x1x1x1 (![] : Fin 0 → Fin S128x1x1x1.rank)
  reducesTo_S128x1x1x1_S_d0_1_2_3 : S128x1x1x1.ReducesTo [0, 1, 2, 3] S_
  bcast_S_S128 : S_.BroadcastsInDim S128 (![] : Fin 0 → Fin S128.rank)
  reducesTo_S128_S_d0 : S128.ReducesTo [0] S_
  bcast_S_S64x128x3x3 : S_.BroadcastsInDim S64x128x3x3 (![] : Fin 0 → Fin S64x128x3x3.rank)
  reducesTo_S64x128x3x3_S_d0_1_2_3 : S64x128x3x3.ReducesTo [0, 1, 2, 3] S_
  bcast_S_S64 : S_.BroadcastsInDim S64 (![] : Fin 0 → Fin S64.rank)
  reducesTo_S64_S_d0 : S64.ReducesTo [0] S_
  bcast_S_S1x64x1x1 : S_.BroadcastsInDim S1x64x1x1 (![] : Fin 0 → Fin S1x64x1x1.rank)
  reducesTo_S1x64x1x1_S_d0_1_2_3 : S1x64x1x1.ReducesTo [0, 1, 2, 3] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S128 .f32) (main_arg15 : FVec F S64x128x3x3 .f32) (main_arg16 : FVec F S64 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128x3x3 .f32 := Host.absf main_arg15
  let main_cst_28 : FVec F S_ .f32 := constant S_ .f32 0x7F800000#32
  let main_v75 : FVec F S64x128x3x3 .f32 := broadcastInDim S64x128x3x3 ![] bcast_S_S64x128x3x3 main_cst_28
  let main_v76 : IVec S64x128x3x3 1 := cmpf .olt main_v74 main_v75
  let main_c_29 : IVec S_ 1 := constantI S_ 1 1#1
  let main_v77 : IVec S_ 1 := (fun x v => Host.reduce IntOp.andi x v reducesTo_S64x128x3x3_S_d0_1_2_3 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg11 : FVec F S128x1x1x1 .f32) (main_arg12 : FVec F S128 .f32) (main_arg13 : FVec F S128 .f32) (main_arg14 : FVec F S128 .f32) (main_arg15 : FVec F S64x128x3x3 .f32) (main_arg16 : FVec F S64 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x1x1x1 .f32 := Host.absf main_arg11
  let main_cst_20 : FVec F S_ .f32 := constant S_ .f32 0x7F800000#32
  let main_v55 : FVec F S128x1x1x1 .f32 := broadcastInDim S128x1x1x1 ![] bcast_S_S128x1x1x1 main_cst_20
  let main_v56 : IVec S128x1x1x1 1 := cmpf .olt main_v54 main_v55
  let main_c_21 : IVec S_ 1 := constantI S_ 1 1#1
  let main_v57 : IVec S_ 1 := (fun x v => Host.reduce IntOp.andi x v reducesTo_S128x1x1x1_S_d0_1_2_3 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_v63 main_v67

def fn_part2 {F : FTy → Type} [FloatOps F] (main_arg7 : FVec F S64 .f32) (main_arg8 : FVec F S64 .f32) (main_arg9 : FVec F S1x64x1x1 .f32) (main_arg10 : FVec F S1 .f32) (main_arg11 : FVec F S128x1x1x1 .f32) (main_arg12 : FVec F S128 .f32) (main_arg13 : FVec F S128 .f32) (main_arg14 : FVec F S128 .f32) (main_arg15 : FVec F S64x128x3x3 .f32) (main_arg16 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64x1x1 .f32 := Host.absf main_arg9
  let main_cst_16 : FVec F S_ .f32 := constant S_ .f32 0x7F800000#32
  let main_v45 : FVec F S1x64x1x1 .f32 := broadcastInDim S1x64x1x1 ![] bcast_S_S1x64x1x1 main_cst_16
  let main_v46 : IVec S1x64x1x1 1 := cmpf .olt main_v44 main_v45
  let main_c_17 : IVec S_ 1 := constantI S_ 1 1#1
  let main_v47 : IVec S_ 1 := (fun x v => Host.reduce IntOp.andi x v reducesTo_S1x64x1x1_S_d0_1_2_3 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S64x128x3x3 .f32) (main_arg6 : FVec F S64 .f32) (main_arg7 : FVec F S64 .f32) (main_arg8 : FVec F S64 .f32) (main_arg9 : FVec F S1x64x1x1 .f32) (main_arg10 : FVec F S1 .f32) (main_arg11 : FVec F S128x1x1x1 .f32) (main_arg12 : FVec F S128 .f32) (main_arg13 : FVec F S128 .f32) (main_arg14 : FVec F S128 .f32) (main_arg15 : FVec F S64x128x3x3 .f32) (main_arg16 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128x3x3 .f32 := Host.absf main_arg5
  let main_cst_8 : FVec F S_ .f32 := constant S_ .f32 0x7F800000#32
  let main_v25 : FVec F S64x128x3x3 .f32 := broadcastInDim S64x128x3x3 ![] bcast_S_S64x128x3x3 main_cst_8
  let main_v26 : IVec S64x128x3x3 1 := cmpf .olt main_v24 main_v25
  let main_c_9 : IVec S_ 1 := constantI S_ 1 1#1
  let main_v27 : IVec S_ 1 := (fun x v => Host.reduce IntOp.andi x v reducesTo_S64x128x3x3_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S64x256 .f32) (main_arg1 : FVec F S128x1x1x1 .f32) (main_arg2 : FVec F S128 .f32) (main_arg3 : FVec F S128 .f32) (main_arg4 : FVec F S128 .f32) (main_arg5 : FVec F S64x128x3x3 .f32) (main_arg6 : FVec F S64 .f32) (main_arg7 : FVec F S64 .f32) (main_arg8 : FVec F S64 .f32) (main_arg9 : FVec F S1x64x1x1 .f32) (main_arg10 : FVec F S1 .f32) (main_arg11 : FVec F S128x1x1x1 .f32) (main_arg12 : FVec F S128 .f32) (main_arg13 : FVec F S128 .f32) (main_arg14 : FVec F S128 .f32) (main_arg15 : FVec F S64x128x3x3 .f32) (main_arg16 : FVec F S64 .f32) (main_arg17 : FVec F S64 .f32) (main_arg18 : FVec F S64 .f32) (main_arg19 : FVec F S1x64x1x1 .f32) (main_arg20 : FVec F S1 .f32) : IVec S_ 1 :=
  let main_v0 : FVec F S64x256 .f32 := Host.absf main_arg0
  let main_cst : FVec F S_ .f32 := constant S_ .f32 0x7F800000#32
  let main_v1 : FVec F S64x256 .f32 := broadcastInDim S64x256 ![] bcast_S_S64x256 main_cst
  let main_v2 : IVec S64x256 1 := cmpf .olt main_v0 main_v1
  let main_c : IVec S_ 1 := constantI S_ 1 1#1
  let main_v3 : IVec S_ 1 := (fun x v => Host.reduce IntOp.andi x v reducesTo_S64x256_S_d0_1 h_S_) main_v2 main_c
  let main_v4 : FVec F S128x1x1x1 .f32 := Host.absf main_arg1
  let main_cst_0 : FVec F S_ .f32 := constant S_ .f32 0x7F800000#32
  let main_v5 : FVec F S128x1x1x1 .f32 := broadcastInDim S128x1x1x1 ![] bcast_S_S128x1x1x1 main_cst_0
  let main_v6 : IVec S128x1x1x1 1 := cmpf .olt main_v4 main_v5
  let main_c_1 : IVec S_ 1 := constantI S_ 1 1#1
  let main_v7 : IVec S_ 1 := (fun x v => Host.reduce IntOp.andi x v reducesTo_S128x1x1x1_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Pre_finite_kept.lean ====
abbrev S64x128x128 : Shape := ⟨3, ![64, 128, 128]⟩
abbrev S64x128x1024 : Shape := ⟨3, ![64, 128, 1024]⟩
abbrev S1024x1024 : Shape := ⟨2, ![1024, 1024]⟩
abbrev S1024 : Shape := ⟨1, ![1024]⟩
abbrev S_ : Shape := ⟨0, ![]⟩

class Facts : Prop where
  bcast_S_S64x128x1024 : S_.BroadcastsInDim S64x128x1024 (![] : Fin 0 → Fin S64x128x1024.rank)
  reducesTo_S64x128x1024_S_d0_1_2 : S64x128x1024.ReducesTo [0, 1, 2] S_
  h_S_ : 0 < S_.numel

variable [Facts]

def fn {F : FTy → Type} [FloatOps F] (main_arg0 : FVec F S64x128x128 .f32) (main_arg1 : FVec F S64x128x1024 .f32) (main_arg2 : FVec F S1024x1024 .f32) (main_arg3 : FVec F S1024 .f32) (main_arg4 : FVec F S1024x1024 .f32) : IVec S_ 1 :=
  let main_v0 : FVec F S64x128x1024 .f32 := Host.absf main_arg1
  let main_cst : FVec F S_ .f32 := constant S_ .f32 0x7F800000#32
  let main_v1 : FVec F S64x128x1024 .f32 := broadcastInDim S64x128x1024 ![] bcast_S_S64x128x1024 main_cst
  let main_v2 : IVec S64x128x1024 1 := cmpf .olt main_v0 main_v1
  let main_c : IVec S_ 1 := constantI S_ 1 1#1
  let main_v3 : IVec S_ 1 := (fun x v => Host.reduce IntOp.andi x v reducesTo_S64x128x1024_S_d0_1_2 h_S_) main_v2 main_c
  main_v3
-- ==== Pre_finite_means.lean ====
abbrev S64x1x1024 : Shape := ⟨3, ![64, 1, 1024]⟩
abbrev S512 : Shape := ⟨1, ![512]⟩
abbrev S256 : Shape := ⟨1, ![256]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S64x1x1024 .f32) (main_arg1 : FVec F S64x1x1024 .f32) (main_arg2 : FVec F S512 .f32) (main_arg3 : FVec F S512 .f32) (main_arg4 : FVec F S256 .f32) (main_arg5 : FVec F S256 .f32) : IVec S_ 1 :=
  let main_v0 : FVec F S64x1x1024 .f32 := Host.absf main_arg0
  let main_cst : FVec F S_ .f32 := constant S_ .f32 0x7F800000#32
  let main_v1 : FVec F S64x1x1024 .f32 := broadcastInDim S64x1x1024 ![] bcast_S_S64x1x1024 main_cst
  let main_v2 : IVec S64x1x1024 1 := cmpf .olt main_v0 main_v1
  let main_c : IVec S_ 1 := constantI S_ 1 1#1
  let main_v3 : IVec S_ 1 := (fun x v => Host.reduce IntOp.andi x v reducesTo_S64x1x1024_S_d0_1_2 h_S_) main_v2 main_c
  let main_v4 : FVec F S64x1x1024 .f32 := Host.absf main_arg1
  let main_cst_0 : FVec F S_ .f32 := constant S_ .f32 0x7F800000#32
  let main_v5 : FVec F S64x1x1024 .f32 := broadcastInDim S64x1x1024 ![] bcast_S_S64x1x1024 main_cst_0
  let main_v6 : IVec S64x1x1024 1 := cmpf .olt main_v4 main_v5
  let main_c_1 : IVec S_ 1 := constantI S_ 1 1#1
  let main_v7 : IVec S_ 1 := (fun x v => Host.reduce IntOp.andi x v reducesTo_S64x1x1024_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Pre_finite_nodes.lean ====
abbrev S64x256x256 : Shape := ⟨3, ![64, 256, 256]⟩
abbrev S12800x128 : Shape := ⟨2, ![12800, 128]⟩
abbrev S128x1024 : Shape := ⟨2, ![128, 1024]⟩
abbrev S1024 : Shape := ⟨1, ![1024]⟩
abbrev S_ : Shape := ⟨0, ![]⟩

class Facts : Prop where
  bcast_S_S12800x128 : S_.BroadcastsInDim S12800x128 (![] : Fin 0 → Fin S12800x128.rank)
  reducesTo_S12800x128_S_d0_1 : S12800x128.ReducesTo [0, 1] S_
  h_S_ : 0 < S_.numel

variable [Facts]

def fn {F : FTy → Type} [FloatOps F] (main_arg0 : FVec F S64x256x256 .f32) (main_arg1 : FVec F S12800x128 .f32) (main_arg2 : FVec F S128x1024 .f32) (main_arg3 : FVec F S1024 .f32) (main_arg4 : FVec F S128x1024 .f32) : IVec S_ 1 :=
  let main_v0 : FVec F S12800x128 .f32 := Host.absf main_arg1
  let main_cst : FVec F S_ .f32 := constant S_ .f32 0x7F800000#32
  let main_v1 : FVec F S12800x128 .f32 := broadcastInDim S12800x128 ![] bcast_S_S12800x128 main_cst
  let main_v2 : IVec S12800x128 1 := cmpf .olt main_v0 main_v1
  let main_c : IVec S_ 1 := constantI S_ 1 1#1
  let main_v3 : IVec S_ 1 := (fun x v => Host.reduce IntOp.andi x v reducesTo_S12800x128_S_d0_1 h_S_) main_v2 main_c
  main_v3
-- ==== Pre_own_graph.lean ====
abbrev S2x204800 : Shape := ⟨2, ![2, 204800]⟩
abbrev S204800 : Shape := ⟨1, ![204800]⟩
abbrev S_ : Shape := ⟨0, ![]⟩
abbrev S1x204800 : Shape := ⟨2, ![1, 204800]⟩

class Facts : Prop where
  bcast_S_S204800 : S_.BroadcastsInDim S204800 (![] : Fin 0 → Fin S204800.rank)
  bcast_S204800_S1x204800_1 : S204800.BroadcastsInDim S1x204800 (![1] : Fin 1 → Fin S1x204800.rank)
  bcast_S_S1x204800 : S_.BroadcastsInDim S1x204800 (![] : Fin 0 → Fin S1x204800.rank)
  bcast_S1x204800_S2x204800_0_1 : S1x204800.BroadcastsInDim S2x204800 (![0, 1] : Fin 2 → Fin S2x204800.rank)
  bcast_S_S2x204800 : S_.BroadcastsInDim S2x204800 (![] : Fin 0 → Fin S2x204800.rank)
  reducesTo_S2x204800_S_d0_1 : S2x204800.ReducesTo [0, 1] S_
  h_S_ : 0 < S_.numel

variable [Facts]

def fn_where {F : FTy → Type} [FloatOps F] (arg0 : IVec S204800 1) (arg1 : IVec S204800 32) (arg2 : IVec S204800 32) : IVec S204800 32 :=
  let v0 : IVec S204800 32 := select arg0 arg1 arg2
  v0

def fn_floor_divide {F : FTy → Type} [FloatOps F] (arg0 : IVec S204800 32) (arg1 : IVec S_ 32) : IVec S204800 32 :=
  let v0 : IVec S_ 32 := id arg1
  let v1 : IVec S204800 32 := broadcastInDim S204800 ![] bcast_S_S204800 v0
  let v2 : IVec S204800 32 := Host.divsi arg0 v1
  let v3 : IVec S204800 32 := signi arg0
  let v4 : IVec S_ 32 := signi v0
  let v5 : IVec S204800 32 := broadcastInDim S204800 ![] bcast_S_S204800 v4
  let v6 : IVec S204800 1 := cmpi .ne v3 v5
  let v7 : IVec S204800 32 := broadcastInDim S204800 ![] bcast_S_S204800 v0
  let v8 : IVec S204800 32 := Host.remsi arg0 v7
  let c : IVec S_ 32 := constantI S_ 32 0#32
  let v9 : IVec S204800 32 := broadcastInDim S204800 ![] bcast_S_S204800 c
  let v10 : IVec S204800 1 := cmpi .ne v8 v9
  let v11 : IVec S204800 1 := andi v6 v10
  let c_0 : IVec S_ 32 := constantI S_ 32 1#32
  let v12 : IVec S204800 32 := broadcastInDim S204800 ![] bcast_S_S204800 c_0
  let v13 : IVec S204800 32 := subi v2 v12
  let v14 : IVec S204800 32 := fn_where (F := F) v11 v13 v2
  v14

def fn {F : FTy → Type} [FloatOps F] (main_arg0 : IVec S2x204800 32) : IVec S_ 1 :=
  let main_v0 : IVec S204800 32 := iotaInDim S204800 32 0
  let main_c : IVec S_ 32 := constantI S_ 32 3200#32
  let main_v1 : IVec S204800 32 := fn_floor_divide (F := F) main_v0 main_c
  let main_v2 : IVec S1x204800 32 := broadcastInDim S1x204800 ![1] bcast_S204800_S1x204800_1 main_v1
  let main_c_0 : IVec S_ 32 := constantI S_ 32 200#32
  let main_v3 : IVec S1x204800 32 := broadcastInDim S1x204800 ![] bcast_S_S1x204800 main_c_0
  let main_v4 : IVec S1x204800 32 := muli main_v2 main_v3
  let main_v5 : IVec S2x204800 32 := broadcastInDim S2x204800 ![0, 1] bcast_S1x204800_S2x204800_0_1 main_v4
  let main_v6 : IVec S2x204800 32 := subi main_arg0 main_v5
  let main_c_1 : IVec S_ 32 := constantI S_ 32 0#32
  let main_v7 : IVec S2x204800 32 := broadcastInDim S2x204800 ![] bcast_S_S2x204800 main_c_1
  let main_v8 : IVec S2x204800 1 := cmpi .sge main_v6 main_v7
  let main_c_2 : IVec S_ 32 := constantI S_ 32 200#32
  let main_v9 : IVec S2x204800 32 := broadcastInDim S2x204800 ![] bcast_S_S2x204800 main_c_2
  let main_v10 : IVec S2x204800 1 := cmpi .slt main_v6 main_v9
  let main_v11 : IVec S2x204800 1 := andi main_v8 main_v10
  let main_c_3 : IVec S_ 1 := constantI S_ 1 1#1
  let main_v12 : IVec S_ 1 := (fun x v => Host.reduce IntOp.andi x v reducesTo_S2x204800_S_d0_1 h_S_) main_v11 main_c_3
  main_v12
-- ==== Kernel.lean ====
abbrev S2x204800 : Shape := ⟨2, ![2, 204800]⟩
abbrev S1x204800 : Shape := ⟨2, ![1, 204800]⟩
abbrev S204800 : Shape := ⟨1, ![204800]⟩
abbrev S64x3200 : Shape := ⟨2, ![64, 3200]⟩
abbrev S64x65536 : Shape := ⟨2, ![64, 65536]⟩
abbrev S3200 : Shape := ⟨1, ![3200]⟩
abbrev S65536 : Shape := ⟨1, ![65536]⟩
abbrev S16 : Shape := ⟨1, ![16]⟩
abbrev S_ : Shape := ⟨0, ![]⟩
abbrev S1x3200 : Shape := ⟨2, ![1, 3200]⟩
abbrev S1x65536 : Shape := ⟨2, ![1, 65536]⟩
abbrev S64x256x256 : Shape := ⟨3, ![64, 256, 256]⟩

abbrev nBuf : Table → Nat
  | .hbm => 9
  | .local .scVector .vmem => 3
  | _ => 0

abbrev bufTy : (tb : Table) → Fin (nBuf tb) → BufTy
  | .hbm, ⟨0, _⟩ => ⟨S2x204800, .i32⟩
  | .hbm, ⟨1, _⟩ => ⟨S1x204800, .i32⟩
  | .hbm, ⟨2, _⟩ => ⟨S204800, .i32⟩
  | .hbm, ⟨3, _⟩ => ⟨S64x3200, .i32⟩
  | .hbm, ⟨4, _⟩ => ⟨S1x204800, .i32⟩
  | .hbm, ⟨5, _⟩ => ⟨S204800, .i32⟩
  | .hbm, ⟨6, _⟩ => ⟨S64x3200, .i32⟩
  | .hbm, ⟨7, _⟩ => ⟨S64x65536, .f32⟩
  | .hbm, ⟨8, _⟩ => ⟨S64x256x256, .f32⟩
  | .local .scVector .vmem, ⟨0, _⟩ => ⟨S3200, .i32⟩
  | .local .scVector .vmem, ⟨1, _⟩ => ⟨S3200, .i32⟩
  | .local .scVector .vmem, ⟨2, _⟩ => ⟨S65536, .f32⟩
  | _, _ => ⟨S2x204800, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v2_scv : Ref sig .scVector := ⟨.hbm, 3, rfl⟩
abbrev main_v5_scv : Ref sig .scVector := ⟨.hbm, 6, rfl⟩
abbrev main_v6_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32
  let c0_i32_22_r0 : BitVec 32 := 0#32
  ![v4.toNat, 0]
@[reducible] def k0_t1_loop : Scf.Loop 32 :=
  let c0_i32_2 : BitVec 32 := 0#32
  let c4096_i32 : BitVec 32 := 4096#32
  let v5 : BitVec 32 := Scalar.addi c0_i32_2 c4096_i32
  let c1_i32 : BitVec 32 := 1#32
  ⟨c0_i32_2, v5, c1_i32⟩
def k0_off2 (k0_t1 : Fin k0_t1_loop.trips) : Fin 1 → Nat :=
  let c0_i32_2 : BitVec 32 := 0#32
  let c1_i32 : BitVec 32 := 1#32
  let arg8 : BitVec 32 := Scf.iv c0_i32_2 c1_i32 k0_t1
  let c16_i32 : BitVec 32 := 16#32
  let v17 : BitVec 32 := Scalar.muli arg8 c16_i32
  let v18 : Index := Scalar.indexCast v17
  ![v18.toNat]
@[reducible] def k0_t2_loop : Scf.Loop 32 :=
  let c0_i32_5 : BitVec 32 := 0#32
  let c200_i32_6 : BitVec 32 := 200#32
  let v8 : BitVec 32 := Scalar.addi c0_i32_5 c200_i32_6
  let c1_i32_7 : BitVec 32 := 1#32
  ⟨c0_i32_5, v8, c1_i32_7⟩
def k0_off3 (k0_t2 : Fin k0_t2_loop.trips) : Fin 1 → Nat :=
  let c0_i32_5 : BitVec 32 := 0#32
  let c1_i32_7 : BitVec 32 := 1#32
  let arg8 : BitVec 32 := Scf.iv c0_i32_5 c1_i32_7 k0_t2
  let c16_i32 : BitVec 32 := 16#32
  let v17 : BitVec 32 := Scalar.muli arg8 c16_i32
  let v18 : Index := Scalar.indexCast v17
  ![v18.toNat]

def k0_chk1 (v29 : IVec S16 32) : Prop :=
  (∀ a x, ((![v29] : Fin 1 → IVec S16 32) a x).toNat < S65536.size a)
theorem k0_idx1_inb : ∀ (v29 : IVec S16 32) (k0_hw1 : k0_chk1 v29), ∀ a x, ((![v29] : Fin 1 → IVec S16 32) a x).toNat < S65536.size a := fun v29 k0_hw1 => k0_hw1
def k0_off4 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32
  let c0_i32_22_r2 : BitVec 32 := 0#32
  ![v4.toNat, 0]
@[reducible] def k0_t3_loop : Scf.Loop 32 :=
  let c0_i32_12 : BitVec 32 := 0#32
  let c4096_i32_13 : BitVec 32 := 4096#32
  let v12 : BitVec 32 := Scalar.addi c0_i32_12 c4096_i32_13
  let c1_i32_14 : BitVec 32 := 1#32
  ⟨c0_i32_12, v12, c1_i32_14⟩
def k0_off5 (k0_t3 : Fin k0_t3_loop.trips) : Fin 1 → Nat :=
  let c0_i32_12 : BitVec 32 := 0#32
  let c1_i32_14 : BitVec 32 := 1#32
  let arg8 : BitVec 32 := Scf.iv c0_i32_12 c1_i32_14 k0_t3
  let c16_i32 : BitVec 32 := 16#32
  let v17 : BitVec 32 := Scalar.muli arg8 c16_i32
  let v18 : Index := Scalar.indexCast v17
  ![v18.toNat]
@[reducible] def k0_t4_loop : Scf.Loop 32 :=
  let c0_i32_18 : BitVec 32 := 0#32
  let c200_i32_19 : BitVec 32 := 200#32
  let v15 : BitVec 32 := Scalar.addi c0_i32_18 c200_i32_19
  let c1_i32_20 : BitVec 32 := 1#32
  ⟨c0_i32_18, v15, c1_i32_20⟩
def k0_off6 (k0_t4 : Fin k0_t4_loop.trips) : Fin 1 → Nat :=
  let c0_i32_18 : BitVec 32 := 0#32
  let c1_i32_20 : BitVec 32 := 1#32
  let arg8 : BitVec 32 := Scf.iv c0_i32_18 c1_i32_20 k0_t4
  let c16_i32 : BitVec 32 := 16#32
  let v17 : BitVec 32 := Scalar.muli arg8 c16_i32
  let v18 : Index := Scalar.indexCast v17
  ![v18.toNat]

def k0_chk2 (v29 : IVec S16 32) : Prop :=
  (∀ a x, ((![v29] : Fin 1 → IVec S16 32) a x).toNat < S65536.size a)
theorem k0_idx2_inb : ∀ (v29 : IVec S16 32) (k0_hw2 : k0_chk2 v29), ∀ a x, ((![v29] : Fin 1 → IVec S16 32) a x).toNat < S65536.size a := fun v29 k0_hw2 => k0_hw2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x204800 : Shape := ⟨2, ![2, 204800]⟩
abbrev S1x204800 : Shape := ⟨2, ![1, 204800]⟩
abbrev S204800 : Shape := ⟨1, ![204800]⟩
abbrev S_ : Shape := ⟨0, ![]⟩
abbrev S64x256x256 : Shape := ⟨3, ![64, 256, 256]⟩
abbrev S204800x1 : Shape := ⟨2, ![204800, 1]⟩
abbrev S204800x3 : Shape := ⟨2, ![204800, 3]⟩

abbrev nBuf : Space → Nat
  | .hbm => 62
  | .vmem => 0
  | .smem => 0
  | _ => 0

abbrev bufTy : (tb : Table) → Fin (tcTables nBuf tb) → BufTy
  | .hbm, ⟨0, _⟩ => ⟨S2x204800, .i32⟩
  | .hbm, ⟨1, _⟩ => ⟨S1x204800, .i32⟩
  | .hbm, ⟨2, _⟩ => ⟨S204800, .i32⟩
  | .hbm, ⟨3, _⟩ => ⟨S1x204800, .i32⟩
  | .hbm, ⟨4, _⟩ => ⟨S204800, .i32⟩
  | .hbm, ⟨5, _⟩ => ⟨S204800, .i32⟩
  | .hbm, ⟨6, _⟩ => ⟨S_, .i32⟩
  | .hbm, ⟨7, _⟩ => ⟨S_, .i32⟩
  | .hbm, ⟨8, _⟩ => ⟨S204800, .i32⟩
  | .hbm, ⟨9, _⟩ => ⟨S204800, .i32⟩
  | .hbm, ⟨10, _⟩ => ⟨S204800, .i32⟩
  | .hbm, ⟨11, _⟩ => ⟨S_, .i32⟩
  | .hbm, ⟨12, _⟩ => ⟨S204800, .i32⟩
  | .hbm, ⟨13, _⟩ => ⟨S204800, .i1⟩
  | .hbm, ⟨14, _⟩ => ⟨S204800, .i32⟩
  | .hbm, ⟨15, _⟩ => ⟨S204800, .i32⟩
  | .hbm, ⟨16, _⟩ => ⟨S_, .i32⟩
  | .hbm, ⟨17, _⟩ => ⟨S204800, .i32⟩
  | .hbm, ⟨18, _⟩ => ⟨S204800, .i1⟩
  | .hbm, ⟨19, _⟩ => ⟨S204800, .i1⟩
  | .hbm, ⟨20, _⟩ => ⟨S_, .i32⟩
  | .hbm, ⟨21, _⟩ => ⟨S204800, .i32⟩
  | .hbm, ⟨22, _⟩ => ⟨S204800, .i32⟩
  | .hbm, ⟨23, _⟩ => ⟨S204800, .i32⟩
  | .hbm, ⟨24, _⟩ => ⟨S_, .f32⟩
  | .hbm, ⟨25, _⟩ => ⟨S204800, .f32⟩
  | .hbm, ⟨26, _⟩ => ⟨S_, .f32⟩
  | .hbm, ⟨27, _⟩ => ⟨S64x256x256, .f32⟩
  | .hbm, ⟨28, _⟩ => ⟨S_, .i32⟩
  | .hbm, ⟨29, _⟩ => ⟨S204800, .i32⟩
  | .hbm, ⟨30, _⟩ => ⟨S204800, .i32⟩
  | .hbm, ⟨31, _⟩ => ⟨S204800, .i32⟩
  | .hbm, ⟨32, _⟩ => ⟨S_, .i32⟩
  | .hbm, ⟨33, _⟩ => ⟨S204800, .i32⟩
  | .hbm, ⟨34, _⟩ => ⟨S204800, .i32⟩
  | .hbm, ⟨35, _⟩ => ⟨S204800, .i32⟩
  | .hbm, ⟨36, _⟩ => ⟨S_, .i32⟩
  | .hbm, ⟨37, _⟩ => ⟨S204800, .i32⟩
  | .hbm, ⟨38, _⟩ => ⟨S204800, .i1⟩
  | .hbm, ⟨39, _⟩ => ⟨S_, .i32⟩
  | .hbm, ⟨40, _⟩ => ⟨S204800, .i32⟩
  | .hbm, ⟨41, _⟩ => ⟨S204800, .i32⟩
  | .hbm, ⟨42, _⟩ => ⟨S204800, .i32⟩
  | .hbm, ⟨43, _⟩ => ⟨S_, .i32⟩
  | .hbm, ⟨44, _⟩ => ⟨S204800, .i32⟩
  | .hbm, ⟨45, _⟩ => ⟨S204800, .i1⟩
  | .hbm, ⟨46, _⟩ => ⟨S_, .i32⟩
  | .hbm, ⟨47, _⟩ => ⟨S204800, .i32⟩
  | .hbm, ⟨48, _⟩ => ⟨S204800, .i32⟩
  | .hbm, ⟨49, _⟩ => ⟨S204800, .i32⟩
  | .hbm, ⟨50, _⟩ => ⟨S_, .i32⟩
  | .hbm, ⟨51, _⟩ => ⟨S204800, .i32⟩
  | .hbm, ⟨52, _⟩ => ⟨S204800, .i1⟩
  | .hbm, ⟨53, _⟩ => ⟨S_, .i32⟩
  | .hbm, ⟨54, _⟩ => ⟨S204800, .i32⟩
  | .hbm, ⟨55, _⟩ => ⟨S204800, .i32⟩
  | .hbm, ⟨56, _⟩ => ⟨S204800, .i32⟩
  | .hbm, ⟨57, _⟩ => ⟨S204800x1, .i32⟩
  | .hbm, ⟨58, _⟩ => ⟨S204800x1, .i32⟩
  | .hbm, ⟨59, _⟩ => ⟨S204800x1, .i32⟩
  | .hbm, ⟨60, _⟩ => ⟨S204800x3, .i32⟩
  | .hbm, ⟨61, _⟩ => ⟨S64x256x256, .f32⟩
  | _, _ => ⟨S2x204800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_c_8 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== Conv.lean ====
abbrev S64x256x256 : Shape := ⟨3, ![64, 256, 256]⟩
abbrev S12800x128 : Shape := ⟨2, ![12800, 128]⟩
abbrev S128x1024 : Shape := ⟨2, ![128, 1024]⟩
abbrev S1024 : Shape := ⟨1, ![1024]⟩
abbrev S64x200x128 : Shape := ⟨3, ![64, 200, 128]⟩
abbrev S_ : Shape := ⟨0, ![]⟩
abbrev S64x256x128 : Shape := ⟨3, ![64, 256, 128]⟩
abbrev S1x1024 : Shape := ⟨2, ![1, 1024]⟩
abbrev S64x256x1024 : Shape := ⟨3, ![64, 256, 1024]⟩
abbrev S1x256x256 : Shape := ⟨3, ![1, 256, 256]⟩
abbrev S1x256x128 : Shape := ⟨3, ![1, 256, 128]⟩
abbrev S1x256x1024 : Shape := ⟨3, ![1, 256, 1024]⟩
abbrev S256x256 : Shape := ⟨2, ![256, 256]⟩
abbrev S256x128 : Shape := ⟨2, ![256, 128]⟩
abbrev S256x1024 : Shape := ⟨2, ![256, 1024]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S64x256x256, .f32⟩
  | .hbm, ⟨1, _⟩ => ⟨S12800x128, .f32⟩
  | .hbm, ⟨2, _⟩ => ⟨S128x1024, .f32⟩
  | .hbm, ⟨3, _⟩ => ⟨S1024, .f32⟩
  | .hbm, ⟨4, _⟩ => ⟨S128x1024, .f32⟩
  | .hbm, ⟨5, _⟩ => ⟨S64x200x128, .f32⟩
  | .hbm, ⟨6, _⟩ => ⟨S_, .i32⟩
  | .hbm, ⟨7, _⟩ => ⟨S_, .f32⟩
  | .hbm, ⟨8, _⟩ => ⟨S64x256x128, .f32⟩
  | .hbm, ⟨9, _⟩ => ⟨S1x1024, .f32⟩
  | .hbm, ⟨10, _⟩ => ⟨S64x256x1024, .f32⟩
  | .hbm, ⟨11, _⟩ => ⟨S1x1024, .f32⟩
  | .hbm, ⟨12, _⟩ => ⟨S1x1024, .f32⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x1024, .f32⟩
  | .local _ .vmem, ⟨10, _⟩ => ⟨S1x1024, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvReferenceIdeal.lean ====
abbrev S64x256x256 : Shape := ⟨3, ![64, 256, 256]⟩
abbrev S12800x128 : Shape := ⟨2, ![12800, 128]⟩
abbrev S128x1024 : Shape := ⟨2, ![128, 1024]⟩
abbrev S1024 : Shape := ⟨1, ![1024]⟩
abbrev S64x200x128 : Shape := ⟨3, ![64, 200, 128]⟩
abbrev S64x200x200 : Shape := ⟨3, ![64, 200, 200]⟩
abbrev S64x200x1024 : Shape := ⟨3, ![64, 200, 1024]⟩
abbrev S1x1x1024 : Shape := ⟨3, ![1, 1, 1024]⟩
abbrev S_ : Shape := ⟨0, ![]⟩
abbrev S1x1024 : Shape := ⟨2, ![1, 1024]⟩
abbrev S64x256x1024 : Shape := ⟨3, ![64, 256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S12800x128, .f32⟩
  | .hbm, ⟨2, _⟩ => ⟨S128x1024, .f32⟩
  | .hbm, ⟨3, _⟩ => ⟨S1024, .f32⟩
  | .hbm, ⟨4, _⟩ => ⟨S128x1024, .f32⟩
  | .hbm, ⟨5, _⟩ => ⟨S64x200x128, .f32⟩
  | .hbm, ⟨6, _⟩ => ⟨S64x200x200, .f32⟩
  | .hbm, ⟨7, _⟩ => ⟨S64x200x128, .f32⟩
  | .hbm, ⟨8, _⟩ => ⟨S64x200x1024, .f32⟩
  | .hbm, ⟨9, _⟩ => ⟨S1x1x1024, .f32⟩
  | .hbm, ⟨10, _⟩ => ⟨S64x200x1024, .f32⟩
  | .hbm, ⟨11, _⟩ => ⟨S64x200x1024, .f32⟩
  | .hbm, ⟨12, _⟩ => ⟨S64x200x1024, .f32⟩
  | .hbm, ⟨13, _⟩ => ⟨S64x200x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S64x200x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .i32⟩
  | .hbm, ⟨22, _⟩ => ⟨S_, .f32⟩
  | .hbm, ⟨23, _⟩ => ⟨S64x256x1024, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Conv2.lean ====
abbrev S64x128x128 : Shape := ⟨3, ![64, 128, 128]⟩
abbrev S64x128x1024 : Shape := ⟨3, ![64, 128, 1024]⟩
abbrev S1024x1024 : Shape := ⟨2, ![1024, 1024]⟩
abbrev S1024 : Shape := ⟨1, ![1024]⟩
abbrev S1x1024 : Shape := ⟨2, ![1, 1024]⟩
abbrev S1x128x128 : Shape := ⟨3, ![1, 128, 128]⟩
abbrev S1x128x1024 : Shape := ⟨3, ![1, 128, 1024]⟩
abbrev S128x128 : Shape := ⟨2, ![128, 128]⟩
abbrev S128x1024 : Shape := ⟨2, ![128, 1024]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S64x128x128, .f32⟩
  | .hbm, ⟨1, _⟩ => ⟨S64x128x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S64x128x1024, .f32⟩
  | .hbm, ⟨7, _⟩ => ⟨S1x1024, .f32⟩
  | .hbm, ⟨8, _⟩ => ⟨S1x1024, .f32⟩
  | .local _ .vmem, ⟨0, _⟩ => ⟨S1x128x128, .f32⟩
  | .local _ .vmem, ⟨1, _⟩ => ⟨S1x128x128, .f32⟩
  | .local _ .vmem, ⟨2, _⟩ => ⟨S1x128x1024, .f32⟩
  | .local _ .vmem, ⟨3, _⟩ => ⟨S1x128x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x1024, .f32⟩
  | .local _ .vmem, ⟨10, _⟩ => ⟨S1x1024, .f32⟩
  | _, _ => ⟨S64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Conv2ReferenceIdeal.lean ====
abbrev S64x128x128 : Shape := ⟨3, ![64, 128, 128]⟩
abbrev S64x128x1024 : Shape := ⟨3, ![64, 128, 1024]⟩
abbrev S1024x1024 : Shape := ⟨2, ![1024, 1024]⟩
abbrev S1024 : Shape := ⟨1, ![1024]⟩
abbrev S64x100x128 : Shape := ⟨3, ![64, 100, 128]⟩
abbrev S64x100x1024 : Shape := ⟨3, ![64, 100, 1024]⟩
abbrev S1x1x1024 : Shape := ⟨3, ![1, 1, 1024]⟩
abbrev S_ : Shape := ⟨0, ![]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S64x128x128, .f32⟩
  | .hbm, ⟨1, _⟩ => ⟨S64x128x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S64x100x128, .f32⟩
  | .hbm, ⟨6, _⟩ => ⟨S64x100x1024, .f32⟩
  | .hbm, ⟨7, _⟩ => ⟨S64x100x1024, .f32⟩
  | .hbm, ⟨8, _⟩ => ⟨S1x1x1024, .f32⟩
  | .hbm, ⟨9, _⟩ => ⟨S64x100x1024, .f32⟩
  | .hbm, ⟨10, _⟩ => ⟨S64x100x1024, .f32⟩
  | .hbm, ⟨11, _⟩ => ⟨S64x100x1024, .f32⟩
  | .hbm, ⟨12, _⟩ => ⟨S64x100x1024, .f32⟩
  | .hbm, ⟨13, _⟩ => ⟨S64x100x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S64x100x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .i32⟩
  | .hbm, ⟨22, _⟩ => ⟨S_, .f32⟩
  | .hbm, ⟨23, _⟩ => ⟨S64x128x1024, .f32⟩
  | _, _ => ⟨S64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Zprep.lean ====
abbrev S64x1x1024 : Shape := ⟨3, ![64, 1, 1024]⟩
abbrev S512 : Shape := ⟨1, ![512]⟩
abbrev S256 : Shape := ⟨1, ![256]⟩
abbrev S64x1024 : Shape := ⟨2, ![64, 1024]⟩
abbrev S1x512 : Shape := ⟨2, ![1, 512]⟩
abbrev S1x256 : Shape := ⟨2, ![1, 256]⟩
abbrev S64x256 : Shape := ⟨2, ![64, 256]⟩
abbrev S1024x512 : Shape := ⟨2, ![1024, 512]⟩
abbrev S64x512 : Shape := ⟨2, ![64, 512]⟩
abbrev S512x256 : Shape := ⟨2, ![512, 256]⟩

abbrev nBuf : Space → Nat
  | .hbm => 13
  | .vmem => 7
  | .smem => 0
  | _ => 0

abbrev bufTy : (tb : Table) → Fin (tcTables nBuf tb) → BufTy
  | .hbm, ⟨0, _⟩ => ⟨S64x1x1024, .f32⟩
  | .hbm, ⟨1, _⟩ => ⟨S64x1x1024, .f32⟩
  | .hbm, ⟨2, _⟩ => ⟨S512, .f32⟩
  | .hbm, ⟨3, _⟩ => ⟨S512, .f32⟩
  | .hbm, ⟨4, _⟩ => ⟨S256, .f32⟩
  | .hbm, ⟨5, _⟩ => ⟨S256, .f32⟩
  | .hbm, ⟨6, _⟩ => ⟨S64x1024, .f32⟩
  | .hbm, ⟨7, _⟩ => ⟨S64x1024, .f32⟩
  | .hbm, ⟨8, _⟩ => ⟨S1x512, .f32⟩
  | .hbm, ⟨9, _⟩ => ⟨S1x512, .f32⟩
  | .hbm, ⟨10, _⟩ => ⟨S1x256, .f32⟩
  | .hbm, ⟨11, _⟩ => ⟨S1x256, .f32⟩
  | .hbm, ⟨12, _⟩ => ⟨S64x256, .f32⟩
  | .local _ .vmem, ⟨0, _⟩ => ⟨S64x1024, .f32⟩
  | .local _ .vmem, ⟨1, _⟩ => ⟨S64x1024, .f32⟩
  | .local _ .vmem, ⟨2, _⟩ => ⟨S1x512, .f32⟩
  | .local _ .vmem, ⟨3, _⟩ => ⟨S1x512, .f32⟩
  | .local _ .vmem, ⟨4, _⟩ => ⟨S1x256, .f32⟩
  | .local _ .vmem, ⟨5, _⟩ => ⟨S1x256, .f32⟩
  | .local _ .vmem, ⟨6, _⟩ => ⟨S64x256, .f32⟩
  | _, _ => ⟨S64x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ZprepReferenceIdeal.lean ====
abbrev S64x1x1024 : Shape := ⟨3, ![64, 1, 1024]⟩
abbrev S512 : Shape := ⟨1, ![512]⟩
abbrev S256 : Shape := ⟨1, ![256]⟩
abbrev S64x1024 : Shape := ⟨2, ![64, 1024]⟩
abbrev S64x512x2 : Shape := ⟨3, ![64, 512, 2]⟩
abbrev S_ : Shape := ⟨0, ![]⟩
abbrev S64x512 : Shape := ⟨2, ![64, 512]⟩
abbrev S1x512 : Shape := ⟨2, ![1, 512]⟩
abbrev S64x256x2 : Shape := ⟨3, ![64, 256, 2]⟩
abbrev S64x256 : Shape := ⟨2, ![64, 256]⟩
abbrev S1x256 : Shape := ⟨2, ![1, 256]⟩

abbrev nBuf : Space → Nat
  | .hbm => 109
  | .vmem => 0
  | .smem => 0
  | _ => 0

abbrev bufTy : (tb : Table) → Fin (tcTables nBuf tb) → BufTy
  | .hbm, ⟨0, _⟩ => ⟨S64x1x1024, .f32⟩
  | .hbm, ⟨1, _⟩ => ⟨S64x1x1024, .f32⟩
  | .hbm, ⟨2, _⟩ => ⟨S512, .f32⟩
  | .hbm, ⟨3, _⟩ => ⟨S512, .f32⟩
  | .hbm, ⟨4, _⟩ => ⟨S256, .f32⟩
  | .hbm, ⟨5, _⟩ => ⟨S256, .f32⟩
  | .hbm, ⟨6, _⟩ => ⟨S64x1024, .f32⟩
  | .hbm, ⟨7, _⟩ => ⟨S64x1024, .f32⟩
  | .hbm, ⟨8, _⟩ => ⟨S64x1024, .f32⟩
  | .hbm, ⟨9, _⟩ => ⟨S64x512x2, .f32⟩
  | .hbm, ⟨10, _⟩ => ⟨S_, .f32⟩
  | .hbm, ⟨11, _⟩ => ⟨S64x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S_, .i32⟩
  | .hbm, ⟨18, _⟩ => ⟨S_, .f32⟩
  | .hbm, ⟨19, _⟩ => ⟨S512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S1x512, .f32⟩
  | .hbm, ⟨41, _⟩ => ⟨S64x512, .f32⟩
  | .hbm, ⟨42, _⟩ => ⟨S64x512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S64x512, .f32⟩
  | .hbm, ⟨49, _⟩ => ⟨S64x512, .f32⟩
  | .hbm, ⟨50, _⟩ => ⟨S1x512, .f32⟩
  | .hbm, ⟨51, _⟩ => ⟨S64x512, .f32⟩
  | .hbm, ⟨52, _⟩ => ⟨S64x512, .f32⟩
  | .hbm, ⟨53, _⟩ => ⟨S1x512, .f32⟩
  | .hbm, ⟨54, _⟩ => ⟨S64x512, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S64x256x2, .f32⟩
  | .hbm, ⟨60, _⟩ => ⟨S_, .f32⟩
  | .hbm, ⟨61, _⟩ => ⟨S64x256, .f32⟩
  | .hbm, ⟨62, _⟩ => ⟨S_, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S_, .i32⟩
  | .hbm, ⟨68, _⟩ => ⟨S_, .f32⟩
  | .hbm, ⟨69, _⟩ => ⟨S256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | .hbm, ⟨74, _⟩ => ⟨S64x256, .f32⟩
  | .hbm, ⟨75, _⟩ => ⟨S64x256, .f32⟩
  | .hbm, ⟨76, _⟩ => ⟨S64x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S256, .f32⟩
  | .hbm, ⟨89, _⟩ => ⟨S256, .f32⟩
  | .hbm, ⟨90, _⟩ => ⟨S1x256, .f32⟩
  | .hbm, ⟨91, _⟩ => ⟨S64x256, .f32⟩
  | .hbm, ⟨92, _⟩ => ⟨S64x256, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S256, .f32⟩
  | .hbm, ⟨97, _⟩ => ⟨S1x256, .f32⟩
  | .hbm, ⟨98, _⟩ => ⟨S64x256, .f32⟩
  | .hbm, ⟨99, _⟩ => ⟨S64x256, .f32⟩
  | .hbm, ⟨100, _⟩ => ⟨S1x256, .f32⟩
  | .hbm, ⟨101, _⟩ => ⟨S64x256, .f32⟩
  | .hbm, ⟨102, _⟩ => ⟨S64x256, .f32⟩
  | .hbm, ⟨103, _⟩ => ⟨S1x256, .f32⟩
  | .hbm, ⟨104, _⟩ => ⟨S64x256, .f32⟩
  | .hbm, ⟨105, _⟩ => ⟨S64x256, .f32⟩
  | .hbm, ⟨106, _⟩ => ⟨S_, .f32⟩
  | .hbm, ⟨107, _⟩ => ⟨S64x256, .f32⟩
  | .hbm, ⟨108, _⟩ => ⟨S64x256, .f32⟩
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_c_7 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_cst_3 : Ref sig .tc := ⟨.hbm, 84, rfl⟩
abbrev main_call1_v12 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_8 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_9 : Ref sig .tc := ⟨.hbm, 106, rfl⟩
abbrev main_v47 : Ref sig .tc := ⟨.hbm, 107, rfl⟩
abbrev main_v48 : Ref sig .tc := ⟨.hbm, 108, rfl⟩

abbrev nD : Nat := 1
abbrev τ : Topo := Topo.v7x

variable {F : FTy → Type} [FloatOps F]
-- ==== Head.lean ====
abbrev S64x256 : Shape := ⟨2, ![64, 256]⟩
abbrev S128x1x1x1 : Shape := ⟨4, ![128, 1, 1, 1]⟩
abbrev S128 : Shape := ⟨1, ![128]⟩
abbrev S64x128x3x3 : Shape := ⟨4, ![64, 128, 3, 3]⟩
abbrev S64 : Shape := ⟨1, ![64]⟩
abbrev S1x64x1x1 : Shape := ⟨4, ![1, 64, 1, 1]⟩
abbrev S1 : Shape := ⟨1, ![1]⟩
abbrev S1x16384 : Shape := ⟨2, ![1, 16384]⟩
abbrev S3x3x64x128 : Shape := ⟨4, ![3, 3, 64, 128]⟩
abbrev S576x128 : Shape := ⟨2, ![576, 128]⟩
abbrev S128x1 : Shape := ⟨2, ![128, 1]⟩
abbrev S64x1 : Shape := ⟨2, ![64, 1]⟩
abbrev S1x64 : Shape := ⟨2, ![1, 64]⟩
abbrev S1x1 : Shape := ⟨2, ![1, 1]⟩
abbrev S128x16384 : Shape := ⟨2, ![128, 16384]⟩
abbrev S64x16384 : Shape := ⟨2, ![64, 16384]⟩
abbrev S64x128 : Shape := ⟨2, ![64, 128]⟩
abbrev S128x16383 : Shape := ⟨2, ![128, 16383]⟩
abbrev S128x2 : Shape := ⟨2, ![128, 2]⟩
abbrev S128x16382 : Shape := ⟨2, ![128, 16382]⟩
abbrev S128x16 : Shape := ⟨2, ![128, 16]⟩
abbrev S128x16368 : Shape := ⟨2, ![128, 16368]⟩
abbrev S128x17 : Shape := ⟨2, ![128, 17]⟩
abbrev S128x16367 : Shape := ⟨2, ![128, 16367]⟩
abbrev S128x18 : Shape := ⟨2, ![128, 18]⟩
abbrev S128x16366 : Shape := ⟨2, ![128, 16366]⟩
abbrev S128x32 : Shape := ⟨2, ![128, 32]⟩
abbrev S128x16352 : Shape := ⟨2, ![128, 16352]⟩
abbrev S128x33 : Shape := ⟨2, ![128, 33]⟩
abbrev S128x16351 : Shape := ⟨2, ![128, 16351]⟩
abbrev S128x34 : Shape := ⟨2, ![128, 34]⟩
abbrev S128x16350 : Shape := ⟨2, ![128, 16350]⟩
abbrev S1x16383 : Shape := ⟨2, ![1, 16383]⟩
abbrev S1x2 : Shape := ⟨2, ![1, 2]⟩
abbrev S1x16382 : Shape := ⟨2, ![1, 16382]⟩
abbrev S1x16 : Shape := ⟨2, ![1, 16]⟩
abbrev S1x16368 : Shape := ⟨2, ![1, 16368]⟩
abbrev S1x17 : Shape := ⟨2, ![1, 17]⟩
abbrev S1x16367 : Shape := ⟨2, ![1, 16367]⟩
abbrev S1x18 : Shape := ⟨2, ![1, 18]⟩
abbrev S1x16366 : Shape := ⟨2, ![1, 16366]⟩
abbrev S1x32 : Shape := ⟨2, ![1, 32]⟩
abbrev S1x16352 : Shape := ⟨2, ![1, 16352]⟩
abbrev S1x33 : Shape := ⟨2, ![1, 33]⟩
abbrev S1x16351 : Shape := ⟨2, ![1, 16351]⟩
abbrev S1x34 : Shape := ⟨2, ![1, 34]⟩
abbrev S1x16350 : Shape := ⟨2, ![1, 16350]⟩
abbrev S128x4 : Shape := ⟨2, ![128, 4]⟩
abbrev S128x16380 : Shape := ⟨2, ![128, 16380]⟩
abbrev S128x36 : Shape := ⟨2, ![128, 36]⟩
abbrev S128x16348 : Shape := ⟨2, ![128, 16348]⟩
abbrev S128x64 : Shape := ⟨2, ![128, 64]⟩
abbrev S128x16320 : Shape := ⟨2, ![128, 16320]⟩
abbrev S128x66 : Shape := ⟨2, ![128, 66]⟩
abbrev S128x16318 : Shape := ⟨2, ![128, 16318]⟩
abbrev S128x68 : Shape := ⟨2, ![128, 68]⟩
abbrev S128x16316 : Shape := ⟨2, ![128, 16316]⟩
abbrev S1x4 : Shape := ⟨2, ![1, 4]⟩
abbrev S1x16380 : Shape := ⟨2, ![1, 16380]⟩
abbrev S1x36 : Shape := ⟨2, ![1, 36]⟩
abbrev S1x16348 : Shape := ⟨2, ![1, 16348]⟩
abbrev S1x16320 : Shape := ⟨2, ![1, 16320]⟩
abbrev S1x66 : Shape := ⟨2, ![1, 66]⟩
abbrev S1x16318 : Shape := ⟨2, ![1, 16318]⟩
abbrev S1x68 : Shape := ⟨2, ![1, 68]⟩
abbrev S1x16316 : Shape := ⟨2, ![1, 16316]⟩

abbrev nBuf : Space → Nat
  | .hbm => 45
  | .vmem => 22
  | .smem => 0
  | _ => 0

abbrev bufTy : (tb : Table) → Fin (tcTables nBuf tb) → BufTy
  | .hbm, ⟨0, _⟩ => ⟨S64x256, .f32⟩
  | .hbm, ⟨1, _⟩ => ⟨S128x1x1x1, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S64x128x3x3, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1x64x1x1, .f32⟩
  | .hbm, ⟨10, _⟩ => ⟨S1, .f32⟩
  | .hbm, ⟨11, _⟩ => ⟨S128x1x1x1, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S64x128x3x3, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S1x64x1x1, .f32⟩
  | .hbm, ⟨20, _⟩ => ⟨S1, .f32⟩
  | .hbm, ⟨21, _⟩ => ⟨S1x16384, .f32⟩
  | .hbm, ⟨22, _⟩ => ⟨S3x3x64x128, .f32⟩
  | .hbm, ⟨23, _⟩ => ⟨S576x128, .f32⟩
  | .hbm, ⟨24, _⟩ => ⟨S3x3x64x128, .f32⟩
  | .hbm, ⟨25, _⟩ => ⟨S576x128, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S1x64, .f32⟩
  | .hbm, ⟨34, _⟩ => ⟨S1x1, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S64x1, .f32⟩
  | .hbm, ⟨40, _⟩ => ⟨S64x1, .f32⟩
  | .hbm, ⟨41, _⟩ => ⟨S64x1, .f32⟩
  | .hbm, ⟨42, _⟩ => ⟨S1x64, .f32⟩
  | .hbm, ⟨43, _⟩ => ⟨S1x1, .f32⟩
  | .hbm, ⟨44, _⟩ => ⟨S1x16384, .f32⟩
  | .local _ .vmem, ⟨0, _⟩ => ⟨S1x16384, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S576x128, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S1x64, .f32⟩
  | .local _ .vmem, ⟨10, _⟩ => ⟨S1x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S576x128, .f32⟩
  | .local _ .vmem, ⟨16, _⟩ => ⟨S64x1, .f32⟩
  | .local _ .vmem, ⟨17, _⟩ => ⟨S64x1, .f32⟩
  | .local _ .vmem, ⟨18, _⟩ => ⟨S64x1, .f32⟩
  | .local _ .vmem, ⟨19, _⟩ => ⟨S1x64, .f32⟩
  | .local _ .vmem, ⟨20, _⟩ => ⟨S1x1, .f32⟩
  | .local _ .vmem, ⟨21, _⟩ => ⟨S1x16384, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S576x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x16384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== HeadReferenceIdeal.lean ====
abbrev S64x256 : Shape := ⟨2, ![64, 256]⟩
abbrev S128x1x1x1 : Shape := ⟨4, ![128, 1, 1, 1]⟩
abbrev S128 : Shape := ⟨1, ![128]⟩
abbrev S64x128x3x3 : Shape := ⟨4, ![64, 128, 3, 3]⟩
abbrev S64 : Shape := ⟨1, ![64]⟩
abbrev S1x64x1x1 : Shape := ⟨4, ![1, 64, 1, 1]⟩
abbrev S1 : Shape := ⟨1, ![1]⟩
abbrev S64x1x16x16 : Shape := ⟨4, ![64, 1, 16, 16]⟩
abbrev S128x1 : Shape := ⟨2, ![128, 1]⟩
abbrev S64x16x16x128 : Shape := ⟨4, ![64, 16, 16, 128]⟩
abbrev S64x128x16x16 : Shape := ⟨4, ![64, 128, 16, 16]⟩
abbrev S1x128x1x1 : Shape := ⟨4, ![1, 128, 1, 1]⟩
abbrev S_ : Shape := ⟨0, ![]⟩
abbrev S64x128x1x1 : Shape := ⟨4, ![64, 128, 1, 1]⟩
abbrev S64x128 : Shape := ⟨2, ![64, 128]⟩
abbrev S64x128x7x7 : Shape := ⟨4, ![64, 128, 7, 7]⟩
abbrev S64x7x7x64 : Shape := ⟨4, ![64, 7, 7, 64]⟩
abbrev S64x64x7x7 : Shape := ⟨4, ![64, 64, 7, 7]⟩
abbrev S1x64 : Shape := ⟨2, ![1, 64]⟩
abbrev S64x7x7x1 : Shape := ⟨4, ![64, 7, 7, 1]⟩
abbrev S64x1x7x7 : Shape := ⟨4, ![64, 1, 7, 7]⟩
abbrev S1x1x1x1 : Shape := ⟨4, ![1, 1, 1, 1]⟩
abbrev S64x7x7x128 : Shape := ⟨4, ![64, 7, 7, 128]⟩
abbrev S64x3x3x64 : Shape := ⟨4, ![64, 3, 3, 64]⟩
abbrev S64x64x3x3 : Shape := ⟨4, ![64, 64, 3, 3]⟩
abbrev S64x3x3x1 : Shape := ⟨4, ![64, 3, 3, 1]⟩
abbrev S64x1x3x3 : Shape := ⟨4, ![64, 1, 3, 3]⟩
abbrev S64x3x3 : Shape := ⟨3, ![64, 3, 3]⟩
abbrev S64x16x16 : Shape := ⟨3, ![64, 16, 16]⟩
abbrev S1x16384 : Shape := ⟨2, ![1, 16384]⟩

abbrev nBuf : Space → Nat
  | .hbm => 398
  | .vmem => 0
  | .smem => 0
  | _ => 0

abbrev hbmTy0_0 (i : Nat) : BufTy := match i % 128 with
  | 0 => ⟨S64x256, .f32⟩
  | 1 => ⟨S128x1x1x1, .f32⟩
  | 2 => ⟨S128, .f32⟩
  | 3 => ⟨S128, .f32⟩
  | 4 => ⟨S128, .f32⟩
  | 5 => ⟨S64x128x3x3, .f32⟩
  | 6 => ⟨S64, .f32⟩
  | 7 => ⟨S64, .f32⟩
  | 8 => ⟨S64, .f32⟩
  | 9 => ⟨S1x64x1x1, .f32⟩
  | 10 => ⟨S1, .f32⟩
  | 11 => ⟨S128x1x1x1, .f32⟩
  | 12 => ⟨S128, .f32⟩
  | 13 => ⟨S128, .f32⟩
  | 14 => ⟨S128, .f32⟩
  | 15 => ⟨S64x128x3x3, .f32⟩
  | 16 => ⟨S64, .f32⟩
  | 17 => ⟨S64, .f32⟩
  | 18 => ⟨S64, .f32⟩
  | 19 => ⟨S1x64x1x1, .f32⟩
  | 20 => ⟨S1, .f32⟩
  | 21 => ⟨S64x1x16x16, .f32⟩
  | 22 => ⟨S128x1, .f32⟩
  | 23 => ⟨S64x16x16x128, .f32⟩
  | 24 => ⟨S64x128x16x16, .f32⟩
  | 25 => ⟨S1x128x1x1, .f32⟩
  | 26 => ⟨S64x128x16x16, .f32⟩
  | 27 => ⟨S64x128x16x16, .f32⟩
  | 28 => ⟨S_, .f32⟩
  | 29 => ⟨S64x128x16x16, .f32⟩
  | 30 => ⟨S64x128x16x16, .f32⟩
  | 31 => ⟨S_, .f32⟩
  | 32 => ⟨S128, .f32⟩
  | 33 => ⟨S1x128x1x1, .f32⟩
  | 34 => ⟨S_, .f32⟩
  | 35 => ⟨S1x128x1x1, .f32⟩
  | 36 => ⟨S1x128x1x1, .f32⟩
  | 37 => ⟨S_, .i32⟩
  | 38 => ⟨S_, .f32⟩
  | 39 => ⟨S128, .f32⟩
  | 40 => ⟨S1x128x1x1, .f32⟩
  | 41 => ⟨S_, .f32⟩
  | 42 => ⟨S1x128x1x1, .f32⟩
  | 43 => ⟨S1x128x1x1, .f32⟩
  | 44 => ⟨S64x128x16x16, .f32⟩
  | 45 => ⟨S64x128x16x16, .f32⟩
  | 46 => ⟨S64x128x16x16, .f32⟩
  | 47 => ⟨S_, .f32⟩
  | 48 => ⟨S_, .f32⟩
  | 49 => ⟨S_, .f32⟩
  | 50 => ⟨S_, .f32⟩
  | 51 => ⟨S128, .f32⟩
  | 52 => ⟨S1x128x1x1, .f32⟩
  | 53 => ⟨S1x128x1x1, .f32⟩
  | 54 => ⟨S1x128x1x1, .f32⟩
  | 55 => ⟨S_, .f32⟩
  | 56 => ⟨S_, .i1⟩
  | 57 => ⟨S_, .f32⟩
  | 58 => ⟨S_, .f32⟩
  | 59 => ⟨S1x128x1x1, .f32⟩
  | 60 => ⟨S1x128x1x1, .f32⟩
  | 61 => ⟨S64x128x16x16, .f32⟩
  | 62 => ⟨S64x128x16x16, .f32⟩
  | 63 => ⟨S_, .f32⟩
  | 64 => ⟨S1x128x1x1, .f32⟩
  | 65 => ⟨S1x128x1x1, .f32⟩
  | 66 => ⟨S1x128x1x1, .f32⟩
  | 67 => ⟨S64x128x16x16, .f32⟩
  | 68 => ⟨S64x128x16x16, .f32⟩
  | 69 => ⟨S1x128x1x1, .f32⟩
  | 70 => ⟨S64x128x16x16, .f32⟩
  | 71 => ⟨S64x128x16x16, .f32⟩
  | 72 => ⟨S1x128x1x1, .f32⟩
  | 73 => ⟨S64x128x16x16, .f32⟩
  | 74 => ⟨S64x128x16x16, .f32⟩
  | 75 => ⟨S64x128x1x1, .f32⟩
  | 76 => ⟨S64x128, .f32⟩
  | 77 => ⟨S64x128x1x1, .f32⟩
  | 78 => ⟨S64x128, .f32⟩
  | 79 => ⟨S64x128x1x1, .f32⟩
  | 80 => ⟨S64x128, .f32⟩
  | 81 => ⟨S64x128x1x1, .f32⟩
  | 82 => ⟨S64x128, .f32⟩
  | 83 => ⟨S64x128x1x1, .f32⟩
  | 84 => ⟨S64x128, .f32⟩
  | 85 => ⟨S64x128x1x1, .f32⟩
  | 86 => ⟨S64x128, .f32⟩
  | 87 => ⟨S64x128x1x1, .f32⟩
  | 88 => ⟨S64x128, .f32⟩
  | 89 => ⟨S64x128x1x1, .f32⟩
  | 90 => ⟨S64x128, .f32⟩
  | 91 => ⟨S64x128x1x1, .f32⟩
  | 92 => ⟨S64x128, .f32⟩
  | 93 => ⟨S64x128x7x7, .f32⟩
  | 94 => ⟨S64x128x7x7, .f32⟩
  | 95 => ⟨S64x128x7x7, .f32⟩
  | 96 => ⟨S64x128x7x7, .f32⟩
  | 97 => ⟨S64x128x7x7, .f32⟩
  | 98 => ⟨S64x128x7x7, .f32⟩
  | 99 => ⟨S64x128x7x7, .f32⟩
  | 100 => ⟨S64x128x7x7, .f32⟩
  | 101 => ⟨S64x128x7x7, .f32⟩
  | 102 => ⟨S64x7x7x64, .f32⟩
  | 103 => ⟨S64x64x7x7, .f32⟩
  | 104 => ⟨S_, .f32⟩
  | 105 => ⟨S64x64x7x7, .f32⟩
  | 106 => ⟨S64x64x7x7, .f32⟩
  | 107 => ⟨S64x7x7x64, .f32⟩
  | 108 => ⟨S64x64x7x7, .f32⟩
  | 109 => ⟨S64x64x7x7, .f32⟩
  | 110 => ⟨S64x7x7x64, .f32⟩
  | 111 => ⟨S64x64x7x7, .f32⟩
  | 112 => ⟨S64x64x7x7, .f32⟩
  | 113 => ⟨S64x7x7x64, .f32⟩
  | 114 => ⟨S64x64x7x7, .f32⟩
  | 115 => ⟨S64x64x7x7, .f32⟩
  | 116 => ⟨S64x7x7x64, .f32⟩
  | 117 => ⟨S64x64x7x7, .f32⟩
  | 118 => ⟨S64x64x7x7, .f32⟩
  | 119 => ⟨S64x7x7x64, .f32⟩
  | 120 => ⟨S64x64x7x7, .f32⟩
  | 121 => ⟨S64x64x7x7, .f32⟩
  | 122 => ⟨S64x7x7x64, .f32⟩
  | 123 => ⟨S64x64x7x7, .f32⟩
  | 124 => ⟨S64x64x7x7, .f32⟩
  | 125 => ⟨S64x7x7x64, .f32⟩
  | 126 => ⟨S64x64x7x7, .f32⟩
  | 127 => ⟨S64x64x7x7, .f32⟩
  | _ => ⟨S64x256, .f32⟩

abbrev hbmTy0_1 (i : Nat) : BufTy := match i % 128 with
  | 0 => ⟨S64x7x7x64, .f32⟩
  | 1 => ⟨S64x64x7x7, .f32⟩
  | 2 => ⟨S64x64x7x7, .f32⟩
  | 3 => ⟨S1x64x1x1, .f32⟩
  | 4 => ⟨S64x64x7x7, .f32⟩
  | 5 => ⟨S64x64x7x7, .f32⟩
  | 6 => ⟨S_, .f32⟩
  | 7 => ⟨S64x64x7x7, .f32⟩
  | 8 => ⟨S64x64x7x7, .f32⟩
  | 9 => ⟨S_, .f32⟩
  | 10 => ⟨S64, .f32⟩
  | 11 => ⟨S1x64x1x1, .f32⟩
  | 12 => ⟨S_, .f32⟩
  | 13 => ⟨S1x64x1x1, .f32⟩
  | 14 => ⟨S1x64x1x1, .f32⟩
  | 15 => ⟨S_, .i32⟩
  | 16 => ⟨S_, .f32⟩
  | 17 => ⟨S64, .f32⟩
  | 18 => ⟨S1x64x1x1, .f32⟩
  | 19 => ⟨S_, .f32⟩
  | 20 => ⟨S1x64x1x1, .f32⟩
  | 21 => ⟨S1x64x1x1, .f32⟩
  | 22 => ⟨S64x64x7x7, .f32⟩
  | 23 => ⟨S64x64x7x7, .f32⟩
  | 24 => ⟨S64x64x7x7, .f32⟩
  | 25 => ⟨S_, .f32⟩
  | 26 => ⟨S_, .f32⟩
  | 27 => ⟨S_, .f32⟩
  | 28 => ⟨S_, .f32⟩
  | 29 => ⟨S64, .f32⟩
  | 30 => ⟨S1x64x1x1, .f32⟩
  | 31 => ⟨S1x64x1x1, .f32⟩
  | 32 => ⟨S1x64x1x1, .f32⟩
  | 33 => ⟨S_, .f32⟩
  | 34 => ⟨S_, .i1⟩
  | 35 => ⟨S_, .f32⟩
  | 36 => ⟨S_, .f32⟩
  | 37 => ⟨S1x64x1x1, .f32⟩
  | 38 => ⟨S1x64x1x1, .f32⟩
  | 39 => ⟨S64x64x7x7, .f32⟩
  | 40 => ⟨S64x64x7x7, .f32⟩
  | 41 => ⟨S_, .f32⟩
  | 42 => ⟨S1x64x1x1, .f32⟩
  | 43 => ⟨S1x64x1x1, .f32⟩
  | 44 => ⟨S1x64x1x1, .f32⟩
  | 45 => ⟨S64x64x7x7, .f32⟩
  | 46 => ⟨S64x64x7x7, .f32⟩
  | 47 => ⟨S1x64x1x1, .f32⟩
  | 48 => ⟨S64x64x7x7, .f32⟩
  | 49 => ⟨S64x64x7x7, .f32⟩
  | 50 => ⟨S1x64x1x1, .f32⟩
  | 51 => ⟨S64x64x7x7, .f32⟩
  | 52 => ⟨S64x64x7x7, .f32⟩
  | 53 => ⟨S1x64, .f32⟩
  | 54 => ⟨S64x7x7x1, .f32⟩
  | 55 => ⟨S64x1x7x7, .f32⟩
  | 56 => ⟨S1x1x1x1, .f32⟩
  | 57 => ⟨S64x1x7x7, .f32⟩
  | 58 => ⟨S64x1x7x7, .f32⟩
  | 59 => ⟨S_, .f32⟩
  | 60 => ⟨S64x1x7x7, .f32⟩
  | 61 => ⟨S64x1x7x7, .f32⟩
  | 62 => ⟨S64x1x7x7, .f32⟩
  | 63 => ⟨S64x1x7x7, .f32⟩
  | 64 => ⟨S64x1x7x7, .f32⟩
  | 65 => ⟨S64x1x7x7, .f32⟩
  | 66 => ⟨S64x1x7x7, .f32⟩
  | 67 => ⟨S64x1x7x7, .f32⟩
  | 68 => ⟨S64x1x7x7, .f32⟩
  | 69 => ⟨S64x1x7x7, .f32⟩
  | 70 => ⟨S64x1x7x7, .f32⟩
  | 71 => ⟨S64x1x7x7, .f32⟩
  | 72 => ⟨S64x1x7x7, .f32⟩
  | 73 => ⟨S64x1x7x7, .f32⟩
  | 74 => ⟨S64x1x7x7, .f32⟩
  | 75 => ⟨S64x1x7x7, .f32⟩
  | 76 => ⟨S64x1x7x7, .f32⟩
  | 77 => ⟨S64x1x7x7, .f32⟩
  | 78 => ⟨S64x1x7x7, .f32⟩
  | 79 => ⟨S64x1x7x7, .f32⟩
  | 80 => ⟨S128x1, .f32⟩
  | 81 => ⟨S64x7x7x128, .f32⟩
  | 82 => ⟨S64x128x7x7, .f32⟩
  | 83 => ⟨S1x128x1x1, .f32⟩
  | 84 => ⟨S64x128x7x7, .f32⟩
  | 85 => ⟨S64x128x7x7, .f32⟩
  | 86 => ⟨S_, .f32⟩
  | 87 => ⟨S64x128x7x7, .f32⟩
  | 88 => ⟨S64x128x7x7, .f32⟩
  | 89 => ⟨S_, .f32⟩
  | 90 => ⟨S128, .f32⟩
  | 91 => ⟨S1x128x1x1, .f32⟩
  | 92 => ⟨S_, .f32⟩
  | 93 => ⟨S1x128x1x1, .f32⟩
  | 94 => ⟨S1x128x1x1, .f32⟩
  | 95 => ⟨S_, .i32⟩
  | 96 => ⟨S_, .f32⟩
  | 97 => ⟨S128, .f32⟩
  | 98 => ⟨S1x128x1x1, .f32⟩
  | 99 => ⟨S_, .f32⟩
  | 100 => ⟨S1x128x1x1, .f32⟩
  | 101 => ⟨S1x128x1x1, .f32⟩
  | 102 => ⟨S64x128x7x7, .f32⟩
  | 103 => ⟨S64x128x7x7, .f32⟩
  | 104 => ⟨S64x128x7x7, .f32⟩
  | 105 => ⟨S_, .f32⟩
  | 106 => ⟨S_, .f32⟩
  | 107 => ⟨S_, .f32⟩
  | 108 => ⟨S_, .f32⟩
  | 109 => ⟨S128, .f32⟩
  | 110 => ⟨S1x128x1x1, .f32⟩
  | 111 => ⟨S1x128x1x1, .f32⟩
  | 112 => ⟨S1x128x1x1, .f32⟩
  | 113 => ⟨S_, .f32⟩
  | 114 => ⟨S_, .i1⟩
  | 115 => ⟨S_, .f32⟩
  | 116 => ⟨S_, .f32⟩
  | 117 => ⟨S1x128x1x1, .f32⟩
  | 118 => ⟨S1x128x1x1, .f32⟩
  | 119 => ⟨S64x128x7x7, .f32⟩
  | 120 => ⟨S64x128x7x7, .f32⟩
  | 121 => ⟨S_, .f32⟩
  | 122 => ⟨S1x128x1x1, .f32⟩
  | 123 => ⟨S1x128x1x1, .f32⟩
  | 124 => ⟨S1x128x1x1, .f32⟩
  | 125 => ⟨S64x128x7x7, .f32⟩
  | 126 => ⟨S64x128x7x7, .f32⟩
  | 127 => ⟨S1x128x1x1, .f32⟩
  | _ => ⟨S64x256, .f32⟩

abbrev hbmTy0_2 (i : Nat) : BufTy := match i % 128 with
  | 0 => ⟨S64x128x7x7, .f32⟩
  | 1 => ⟨S64x128x7x7, .f32⟩
  | 2 => ⟨S1x128x1x1, .f32⟩
  | 3 => ⟨S64x128x7x7, .f32⟩
  | 4 => ⟨S64x128x7x7, .f32⟩
  | 5 => ⟨S64x128x1x1, .f32⟩
  | 6 => ⟨S64x128, .f32⟩
  | 7 => ⟨S64x128x1x1, .f32⟩
  | 8 => ⟨S64x128, .f32⟩
  | 9 => ⟨S64x128x1x1, .f32⟩
  | 10 => ⟨S64x128, .f32⟩
  | 11 => ⟨S64x128x1x1, .f32⟩
  | 12 => ⟨S64x128, .f32⟩
  | 13 => ⟨S64x128x1x1, .f32⟩
  | 14 => ⟨S64x128, .f32⟩
  | 15 => ⟨S64x128x1x1, .f32⟩
  | 16 => ⟨S64x128, .f32⟩
  | 17 => ⟨S64x128x1x1, .f32⟩
  | 18 => ⟨S64x128, .f32⟩
  | 19 => ⟨S64x128x1x1, .f32⟩
  | 20 => ⟨S64x128, .f32⟩
  | 21 => ⟨S64x128x1x1, .f32⟩
  | 22 => ⟨S64x128, .f32⟩
  | 23 => ⟨S64x128x3x3, .f32⟩
  | 24 => ⟨S64x128x3x3, .f32⟩
  | 25 => ⟨S64x128x3x3, .f32⟩
  | 26 => ⟨S64x128x3x3, .f32⟩
  | 27 => ⟨S64x128x3x3, .f32⟩
  | 28 => ⟨S64x128x3x3, .f32⟩
  | 29 => ⟨S64x128x3x3, .f32⟩
  | 30 => ⟨S64x128x3x3, .f32⟩
  | 31 => ⟨S64x128x3x3, .f32⟩
  | 32 => ⟨S64x3x3x64, .f32⟩
  | 33 => ⟨S64x64x3x3, .f32⟩
  | 34 => ⟨S_, .f32⟩
  | 35 => ⟨S64x64x3x3, .f32⟩
  | 36 => ⟨S64x64x3x3, .f32⟩
  | 37 => ⟨S64x3x3x64, .f32⟩
  | 38 => ⟨S64x64x3x3, .f32⟩
  | 39 => ⟨S64x64x3x3, .f32⟩
  | 40 => ⟨S64x3x3x64, .f32⟩
  | 41 => ⟨S64x64x3x3, .f32⟩
  | 42 => ⟨S64x64x3x3, .f32⟩
  | 43 => ⟨S64x3x3x64, .f32⟩
  | 44 => ⟨S64x64x3x3, .f32⟩
  | 45 => ⟨S64x64x3x3, .f32⟩
  | 46 => ⟨S64x3x3x64, .f32⟩
  | 47 => ⟨S64x64x3x3, .f32⟩
  | 48 => ⟨S64x64x3x3, .f32⟩
  | 49 => ⟨S64x3x3x64, .f32⟩
  | 50 => ⟨S64x64x3x3, .f32⟩
  | 51 => ⟨S64x64x3x3, .f32⟩
  | 52 => ⟨S64x3x3x64, .f32⟩
  | 53 => ⟨S64x64x3x3, .f32⟩
  | 54 => ⟨S64x64x3x3, .f32⟩
  | 55 => ⟨S64x3x3x64, .f32⟩
  | 56 => ⟨S64x64x3x3, .f32⟩
  | 57 => ⟨S64x64x3x3, .f32⟩
  | 58 => ⟨S64x3x3x64, .f32⟩
  | 59 => ⟨S64x64x3x3, .f32⟩
  | 60 => ⟨S64x64x3x3, .f32⟩
  | 61 => ⟨S1x64x1x1, .f32⟩
  | 62 => ⟨S64x64x3x3, .f32⟩
  | 63 => ⟨S64x64x3x3, .f32⟩
  | 64 => ⟨S_, .f32⟩
  | 65 => ⟨S64x64x3x3, .f32⟩
  | 66 => ⟨S64x64x3x3, .f32⟩
  | 67 => ⟨S_, .f32⟩
  | 68 => ⟨S64, .f32⟩
  | 69 => ⟨S1x64x1x1, .f32⟩
  | 70 => ⟨S_, .f32⟩
  | 71 => ⟨S1x64x1x1, .f32⟩
  | 72 => ⟨S1x64x1x1, .f32⟩
  | 73 => ⟨S_, .i32⟩
  | 74 => ⟨S_, .f32⟩
  | 75 => ⟨S64, .f32⟩
  | 76 => ⟨S1x64x1x1, .f32⟩
  | 77 => ⟨S_, .f32⟩
  | 78 => ⟨S1x64x1x1, .f32⟩
  | 79 => ⟨S1x64x1x1, .f32⟩
  | 80 => ⟨S64x64x3x3, .f32⟩
  | 81 => ⟨S64x64x3x3, .f32⟩
  | 82 => ⟨S64x64x3x3, .f32⟩
  | 83 => ⟨S_, .f32⟩
  | 84 => ⟨S_, .f32⟩
  | 85 => ⟨S_, .f32⟩
  | 86 => ⟨S_, .f32⟩
  | 87 => ⟨S64, .f32⟩
  | 88 => ⟨S1x64x1x1, .f32⟩
  | 89 => ⟨S1x64x1x1, .f32⟩
  | 90 => ⟨S1x64x1x1, .f32⟩
  | 91 => ⟨S_, .f32⟩
  | 92 => ⟨S_, .i1⟩
  | 93 => ⟨S_, .f32⟩
  | 94 => ⟨S_, .f32⟩
  | 95 => ⟨S1x64x1x1, .f32⟩
  | 96 => ⟨S1x64x1x1, .f32⟩
  | 97 => ⟨S64x64x3x3, .f32⟩
  | 98 => ⟨S64x64x3x3, .f32⟩
  | 99 => ⟨S_, .f32⟩
  | 100 => ⟨S1x64x1x1, .f32⟩
  | 101 => ⟨S1x64x1x1, .f32⟩
  | 102 => ⟨S1x64x1x1, .f32⟩
  | 103 => ⟨S64x64x3x3, .f32⟩
  | 104 => ⟨S64x64x3x3, .f32⟩
  | 105 => ⟨S1x64x1x1, .f32⟩
  | 106 => ⟨S64x64x3x3, .f32⟩
  | 107 => ⟨S64x64x3x3, .f32⟩
  | 108 => ⟨S1x64x1x1, .f32⟩
  | 109 => ⟨S64x64x3x3, .f32⟩
  | 110 => ⟨S64x64x3x3, .f32⟩
  | 111 => ⟨S1x64, .f32⟩
  | 112 => ⟨S64x3x3x1, .f32⟩
  | 113 => ⟨S64x1x3x3, .f32⟩
  | 114 => ⟨S1x1x1x1, .f32⟩
  | 115 => ⟨S64x1x3x3, .f32⟩
  | 116 => ⟨S64x1x3x3, .f32⟩
  | 117 => ⟨S_, .f32⟩
  | 118 => ⟨S64x1x3x3, .f32⟩
  | 119 => ⟨S64x1x3x3, .f32⟩
  | 120 => ⟨S64x1x3x3, .f32⟩
  | 121 => ⟨S64x1x3x3, .f32⟩
  | 122 => ⟨S64x1x3x3, .f32⟩
  | 123 => ⟨S64x1x3x3, .f32⟩
  | 124 => ⟨S64x1x3x3, .f32⟩
  | 125 => ⟨S64x1x3x3, .f32⟩
  | 126 => ⟨S64x1x3x3, .f32⟩
  | 127 => ⟨S64x1x3x3, .f32⟩
  | _ => ⟨S64x256, .f32⟩

abbrev hbmTy0_3 (i : Nat) : BufTy := match i % 128 with
  | 0 => ⟨S64x1x3x3, .f32⟩
  | 1 => ⟨S64x1x3x3, .f32⟩
  | 2 => ⟨S64x1x3x3, .f32⟩
  | 3 => ⟨S64x1x3x3, .f32⟩
  | 4 => ⟨S64x1x3x3, .f32⟩
  | 5 => ⟨S64x1x3x3, .f32⟩
  | 6 => ⟨S64x1x3x3, .f32⟩
  | 7 => ⟨S64x1x3x3, .f32⟩
  | 8 => ⟨S64x1x3x3, .f32⟩
  | 9 => ⟨S64x1x3x3, .f32⟩
  | 10 => ⟨S64x3x3, .f32⟩
  | 11 => ⟨S_, .f32⟩
  | 12 => ⟨S64x16x16, .f32⟩
  | 13 => ⟨S1x16384, .f32⟩
  | _ => ⟨S64x256, .f32⟩

abbrev hbmTy (i : Nat) : BufTy := match i / 128 with
  | 0 => hbmTy0_0 i
  | 1 => hbmTy0_1 i
  | 2 => hbmTy0_2 i
  | 3 => hbmTy0_3 i
  | _ => ⟨S64x256, .f32⟩

abbrev bufTy : (tb : Table) → Fin (tcTables nBuf tb) → BufTy
  | .hbm, ⟨i, _⟩ => hbmTy i
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_2 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_3 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_4 : Ref sig .tc := ⟨.hbm, 134, rfl⟩
abbrev main_v85 : Ref sig .tc := ⟨.hbm, 135, rfl⟩
abbrev main_v86 : Ref sig .tc := ⟨.hbm, 136, rfl⟩
abbrev main_cst_5 : Ref sig .tc := ⟨.hbm, 137, rfl⟩
abbrev main_v87 : Ref sig .tc := ⟨.hbm, 138, rfl⟩
abbrev main_v88 : Ref sig .tc := ⟨.hbm, 139, rfl⟩
abbrev main_cst_6 : Ref sig .tc := ⟨.hbm, 140, rfl⟩
abbrev main_v89 : Ref sig .tc := ⟨.hbm, 141, rfl⟩
abbrev main_v90 : Ref sig .tc := ⟨.hbm, 142, rfl⟩
abbrev main_c_7 : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_cst_0 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_call1_v5 : Ref sig .tc := ⟨.hbm, 151, rfl⟩
abbrev main_call1_v6 : Ref sig .tc := ⟨.hbm, 152, rfl⟩
abbrev main_call1_v7 : Ref sig .tc := ⟨.hbm, 153, rfl⟩
abbrev main_call1_cst_1 : Ref sig .tc := ⟨.hbm, 154, rfl⟩
abbrev main_call1_v8 : Ref sig .tc := ⟨.hbm, 155, rfl⟩
abbrev main_call1_cst_2 : Ref sig .tc := ⟨.hbm, 156, rfl⟩
abbrev main_call1_v9 : Ref sig .tc := ⟨.hbm, 157, rfl⟩
abbrev main_call1_v10 : Ref sig .tc := ⟨.hbm, 158, rfl⟩
abbrev main_call1_v11 : Ref sig .tc := ⟨.hbm, 159, rfl⟩
abbrev main_call1_v12 : Ref sig .tc := ⟨.hbm, 160, rfl⟩
abbrev main_call1_cst_3 : Ref sig .tc := ⟨.hbm, 161, rfl⟩
abbrev main_call1_v13 : Ref sig .tc := ⟨.hbm, 162, rfl⟩
abbrev main_call1_cst_4 : Ref sig .tc := ⟨.hbm, 163, rfl⟩
abbrev main_call1_call0_v0 : Ref sig .tc := ⟨.hbm, 164, rfl⟩
abbrev main_call1_call0_v1 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_8 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_cst_9 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_10 : Ref sig .tc := ⟨.hbm, 214, rfl⟩
abbrev main_v137 : Ref sig .tc := ⟨.hbm, 215, rfl⟩
abbrev main_v138 : Ref sig .tc := ⟨.hbm, 216, rfl⟩
abbrev main_cst_11 : Ref sig .tc := ⟨.hbm, 217, rfl⟩
abbrev main_v139 : Ref sig .tc := ⟨.hbm, 218, rfl⟩
abbrev main_v140 : Ref sig .tc := ⟨.hbm, 219, rfl⟩
abbrev main_cst_12 : Ref sig .tc := ⟨.hbm, 220, rfl⟩
abbrev main_v141 : Ref sig .tc := ⟨.hbm, 221, rfl⟩
abbrev main_v142 : Ref sig .tc := ⟨.hbm, 222, rfl⟩
abbrev main_c_13 : Ref sig .tc := ⟨.hbm, 223, rfl⟩
abbrev main_call2_cst : Ref sig .tc := ⟨.hbm, 224, rfl⟩
abbrev main_call2_v0 : Ref sig .tc := ⟨.hbm, 225, rfl⟩
abbrev main_call2_v1 : Ref sig .tc := ⟨.hbm, 226, rfl⟩
abbrev main_call2_cst_0 : Ref sig .tc := ⟨.hbm, 227, rfl⟩
abbrev main_call2_v2 : Ref sig .tc := ⟨.hbm, 228, rfl⟩
abbrev main_call2_v3 : Ref sig .tc := ⟨.hbm, 229, rfl⟩
abbrev main_call2_v4 : Ref sig .tc := ⟨.hbm, 230, rfl⟩
abbrev main_call2_v5 : Ref sig .tc := ⟨.hbm, 231, rfl⟩
abbrev main_call2_v6 : Ref sig .tc := ⟨.hbm, 232, rfl⟩
abbrev main_call2_v7 : Ref sig .tc := ⟨.hbm, 233, rfl⟩
abbrev main_call2_cst_1 : Ref sig .tc := ⟨.hbm, 234, rfl⟩
abbrev main_call2_v8 : Ref sig .tc := ⟨.hbm, 235, rfl⟩
abbrev main_call2_cst_2 : Ref sig .tc := ⟨.hbm, 236, rfl⟩
abbrev main_call2_v9 : Ref sig .tc := ⟨.hbm, 237, rfl⟩
abbrev main_call2_v10 : Ref sig .tc := ⟨.hbm, 238, rfl⟩
abbrev main_call2_v11 : Ref sig .tc := ⟨.hbm, 239, rfl⟩
abbrev main_call2_v12 : Ref sig .tc := ⟨.hbm, 240, rfl⟩
abbrev main_call2_cst_3 : Ref sig .tc := ⟨.hbm, 241, rfl⟩
abbrev main_call2_v13 : Ref sig .tc := ⟨.hbm, 242, rfl⟩
abbrev main_call2_cst_4 : Ref sig .tc := ⟨.hbm, 243, rfl⟩
abbrev main_call2_call0_v0 : Ref sig .tc := ⟨.hbm, 244, rfl⟩
abbrev main_call2_call0_v1 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_cst_14 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_cst_15 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_cst_16 : Ref sig .tc := ⟨.hbm, 320, rfl⟩
abbrev main_v215 : Ref sig .tc := ⟨.hbm, 321, rfl⟩
abbrev main_v216 : Ref sig .tc := ⟨.hbm, 322, rfl⟩
abbrev main_cst_17 : Ref sig .tc := ⟨.hbm, 323, rfl⟩
abbrev main_v217 : Ref sig .tc := ⟨.hbm, 324, rfl⟩
abbrev main_v218 : Ref sig .tc := ⟨.hbm, 325, rfl⟩
abbrev main_cst_18 : Ref sig .tc := ⟨.hbm, 326, rfl⟩
abbrev main_v219 : Ref sig .tc := ⟨.hbm, 327, rfl⟩
abbrev main_v220 : Ref sig .tc := ⟨.hbm, 328, rfl⟩
abbrev main_c_19 : Ref sig .tc := ⟨.hbm, 329, rfl⟩
abbrev main_call3_cst : Ref sig .tc := ⟨.hbm, 330, rfl⟩
abbrev main_call3_v0 : Ref sig .tc := ⟨.hbm, 331, rfl⟩
abbrev main_call3_v1 : Ref sig .tc := ⟨.hbm, 332, rfl⟩
abbrev main_call3_cst_0 : Ref sig .tc := ⟨.hbm, 333, rfl⟩
abbrev main_call3_v2 : Ref sig .tc := ⟨.hbm, 334, rfl⟩
abbrev main_call3_v3 : Ref sig .tc := ⟨.hbm, 335, rfl⟩
abbrev main_call3_v4 : Ref sig .tc := ⟨.hbm, 336, rfl⟩
abbrev main_call3_v5 : Ref sig .tc := ⟨.hbm, 337, rfl⟩
abbrev main_call3_v6 : Ref sig .tc := ⟨.hbm, 338, rfl⟩
abbrev main_call3_v7 : Ref sig .tc := ⟨.hbm, 339, rfl⟩
abbrev main_call3_cst_1 : Ref sig .tc := ⟨.hbm, 340, rfl⟩
abbrev main_call3_v8 : Ref sig .tc := ⟨.hbm, 341, rfl⟩
abbrev main_call3_cst_2 : Ref sig .tc := ⟨.hbm, 342, rfl⟩
abbrev main_call3_v9 : Ref sig .tc := ⟨.hbm, 343, rfl⟩
abbrev main_call3_v10 : Ref sig .tc := ⟨.hbm, 344, rfl⟩
abbrev main_call3_v11 : Ref sig .tc := ⟨.hbm, 345, rfl⟩
abbrev main_call3_v12 : Ref sig .tc := ⟨.hbm, 346, rfl⟩
abbrev main_call3_cst_3 : Ref sig .tc := ⟨.hbm, 347, rfl⟩
abbrev main_call3_v13 : Ref sig .tc := ⟨.hbm, 348, rfl⟩
abbrev main_call3_cst_4 : Ref sig .tc := ⟨.hbm, 349, rfl⟩
abbrev main_call3_call0_v0 : Ref sig .tc := ⟨.hbm, 350, rfl⟩
abbrev main_call3_call0_v1 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_cst_20 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_v239 : Ref sig .tc := ⟨.hbm, 371, rfl⟩
abbrev main_v240 : Ref sig .tc := ⟨.hbm, 372, rfl⟩
abbrev main_cst_21 : Ref sig .tc := ⟨.hbm, 373, rfl⟩
abbrev main_v241 : Ref sig .tc := ⟨.hbm, 374, rfl⟩
abbrev main_v242 : Ref sig .tc := ⟨.hbm, 375, rfl⟩
abbrev main_v243 : Ref sig .tc := ⟨.hbm, 376, rfl⟩
abbrev main_v244 : Ref sig .tc := ⟨.hbm, 377, rfl⟩
abbrev main_v245 : Ref sig .tc := ⟨.hbm, 378, rfl⟩
abbrev main_v246 : Ref sig .tc := ⟨.hbm, 379, rfl⟩
abbrev main_v247 : Ref sig .tc := ⟨.hbm, 380, rfl⟩
abbrev main_v248 : Ref sig .tc := ⟨.hbm, 381, rfl⟩
abbrev main_v249 : Ref sig .tc := ⟨.hbm, 382, rfl⟩
abbrev main_v250 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_cst_22 : Ref sig .tc := ⟨.hbm, 395, rfl⟩
abbrev main_v262 : Ref sig .tc := ⟨.hbm, 396, rfl⟩
abbrev main_v263 : Ref sig .tc := ⟨.hbm, 397, rfl⟩

abbrev nD : Nat := 1
abbrev τ : Topo := Topo.v7x

variable {F : FTy → Type} [FloatOps F]
-- ==== Fc.lean ====
abbrev S1x16384 : Shape := ⟨2, ![1, 16384]⟩
abbrev S9x1024 : Shape := ⟨2, ![9, 1024]⟩
abbrev S1024 : Shape := ⟨1, ![1024]⟩
abbrev S1024x10 : Shape := ⟨2, ![1024, 10]⟩
abbrev S10 : Shape := ⟨1, ![10]⟩
abbrev S_ : Shape := ⟨0, ![]⟩
abbrev S16x1024 : Shape := ⟨2, ![16, 1024]⟩
abbrev S1024x128 : Shape := ⟨2, ![1024, 128]⟩
abbrev S1x10 : Shape := ⟨2, ![1, 10]⟩
abbrev S1x128 : Shape := ⟨2, ![1, 128]⟩
abbrev S64x256 : Shape := ⟨2, ![64, 256]⟩
abbrev S1x1024 : Shape := ⟨2, ![1, 1024]⟩
abbrev S64x128 : Shape := ⟨2, ![64, 128]⟩
abbrev S256x16 : Shape := ⟨2, ![256, 16]⟩
abbrev S64x16 : Shape := ⟨2, ![64, 16]⟩
abbrev S64x1024 : Shape := ⟨2, ![64, 1024]⟩
abbrev S64x10 : Shape := ⟨2, ![64, 10]⟩

abbrev nBuf : Space → Nat
  | .hbm => 19
  | .vmem => 6
  | .smem => 0
  | _ => 0

abbrev bufTy : (tb : Table) → Fin (tcTables nBuf tb) → BufTy
  | .hbm, ⟨0, _⟩ => ⟨S1x16384, .f32⟩
  | .hbm, ⟨1, _⟩ => ⟨S9x1024, .f32⟩
  | .hbm, ⟨2, _⟩ => ⟨S1024, .f32⟩
  | .hbm, ⟨3, _⟩ => ⟨S1024x10, .f32⟩
  | .hbm, ⟨4, _⟩ => ⟨S10, .f32⟩
  | .hbm, ⟨5, _⟩ => ⟨S_, .i32⟩
  | .hbm, ⟨6, _⟩ => ⟨S_, .f32⟩
  | .hbm, ⟨7, _⟩ => ⟨S16x1024, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1x10, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S64x256, .f32⟩
  | .hbm, ⟨16, _⟩ => ⟨S1x1024, .f32⟩
  | .hbm, ⟨17, _⟩ => ⟨S64x128, .f32⟩
  | .hbm, ⟨18, _⟩ => ⟨S64x10, .f32⟩
  | .local _ .vmem, ⟨0, _⟩ => ⟨S64x256, .f32⟩
  | .local _ .vmem, ⟨1, _⟩ => ⟨S16x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S64x128, .f32⟩
  | _, _ => ⟨S1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== FcReferenceIdeal.lean ====
abbrev S1x16384 : Shape := ⟨2, ![1, 16384]⟩
abbrev S9x1024 : Shape := ⟨2, ![9, 1024]⟩
abbrev S1024 : Shape := ⟨1, ![1024]⟩
abbrev S1024x10 : Shape := ⟨2, ![1024, 10]⟩
abbrev S10 : Shape := ⟨1, ![10]⟩
abbrev S64x16x16 : Shape := ⟨3, ![64, 16, 16]⟩
abbrev S64x3x3 : Shape := ⟨3, ![64, 3, 3]⟩
abbrev S64x9 : Shape := ⟨2, ![64, 9]⟩
abbrev S64x1024 : Shape := ⟨2, ![64, 1024]⟩
abbrev S1x1024 : Shape := ⟨2, ![1, 1024]⟩
abbrev S_ : Shape := ⟨0, ![]⟩
abbrev S64x10 : Shape := ⟨2, ![64, 10]⟩
abbrev S1x10 : Shape := ⟨2, ![1, 10]⟩

abbrev nBuf : Space → Nat
  | .hbm => 19
  | .vmem => 0
  | .smem => 0
  | _ => 0

abbrev bufTy : (tb : Table) → Fin (tcTables nBuf tb) → BufTy
  | .hbm, ⟨0, _⟩ => ⟨S1x16384, .f32⟩
  | .hbm, ⟨1, _⟩ => ⟨S9x1024, .f32⟩
  | .hbm, ⟨2, _⟩ => ⟨S1024, .f32⟩
  | .hbm, ⟨3, _⟩ => ⟨S1024x10, .f32⟩
  | .hbm, ⟨4, _⟩ => ⟨S10, .f32⟩
  | .hbm, ⟨5, _⟩ => ⟨S64x16x16, .f32⟩
  | .hbm, ⟨6, _⟩ => ⟨S64x3x3, .f32⟩
  | .hbm, ⟨7, _⟩ => ⟨S64x9, .f32⟩
  | .hbm, ⟨8, _⟩ => ⟨S64x1024, .f32⟩
  | .hbm, ⟨9, _⟩ => ⟨S1x1024, .f32⟩
  | .hbm, ⟨10, _⟩ => ⟨S64x1024, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S64x1024, .f32⟩
  | .hbm, ⟨15, _⟩ => ⟨S64x10, .f32⟩
  | .hbm, ⟨16, _⟩ => ⟨S1x10, .f32⟩
  | .hbm, ⟨17, _⟩ => ⟨S64x10, .f32⟩
  | .hbm, ⟨18, _⟩ => ⟨S64x10, .f32⟩
  | _, _ => ⟨S1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Tally.lean ====
/-
  What one graph's accumulator holds, as plain functions of that graph's edge list, over any float values.

  Graph `g` owns the nodes `200 g, …, 200 g + 199`. An edge `src → dst` of it lands in cell
  `(dst - 200 g) * 256 + (src - 200 g)` of a flat table of 65536 cells. The kernel walks the 3200 edges sixteen at a
  time; one trip of its edge loop is `step`, the table after `n` trips is `accum … n`.
-/
module

public import proofs.«01_k».proof.Proof.Gen.KernelIdeal
public import proofs.«01_k».proof.Proof.Gen.KernelIdeal.Skeleton
public import Idealize.ShloMosaic.Lib.ValueIdxCore

@[expose] public section

noncomputable section

namespace Cert.Proof.Adj

open Cert.KernelIdeal Cert.KernelIdeal.Gen
open Idealize.ShloMosaic
open Idealize.ShloMosaic.ValueIdx (ix1 ix2)

variable {F : FTy → Type}

/-- The first node of graph `g`, as a word. -/
def base (g : ℕ) : BitVec 32 := BitVec.ofNat 32 (200 * g)

/-- Row `g` of an array of 64 edge lists. -/
def rowOf {α : Type} (A : S64x3200.Idx → α) (g : Fin 64) : S3200.Idx → α := fun j => A (ix2 g (j 0))

/-- The sixteen entries of an edge list that trip `n` reads. -/
def lanes (r : S3200.Idx → BitVec 32) (n : ℕ) : IVec S16 32 := fun x => r (ix1 ⟨(16 * n + (x 0).val) % 3200, Nat.mod_lt _ (by decide)⟩)

/-- The cells sixteen edges name. -/
def cells (b : BitVec 32) (s t : IVec S16 32) : IVec S16 32 := fun x => (t x - b) * 256#32 + (s x - b)

/-- The table of zeros. -/
def zeros [FloatOps F] : Vec F S65536 .f32 := fun _ => (Scalar.ofBits .f32 0x00000000#32 : F .f32)

/-- One trip: sixteen edges counted into the table (left alone if a cell were out of range). -/
def bump [FloatOps F] (v : IVec S16 32) (acc : Vec F S65536 .f32) : Vec F S65536 .f32 := by
  classical exact
  if h : k0_chk1 v then storeIdx (F := F) (e := .f32) acc ![v] (k0_pay5 (F := F) v) (k0_pay4 v) true (k0_idx1_inb v h) else acc

/-- The table after `n` trips over the edge list `(s, t)` of the graph whose first node is `b`. -/
def accum [FloatOps F] (b : BitVec 32) (s t : S3200.Idx → BitVec 32) : ℕ → Vec F S65536 .f32
  | 0 => zeros
  | n + 1 => bump (cells b (lanes s n) (lanes t n)) (accum b s t n)

/-- All 64 tables: row `g` is graph `g`'s after its 200 trips. -/
def tables [FloatOps F] (A B : S64x3200.Idx → BitVec 32) : Vec F S64x65536 .f32 :=
  fun j => accum (F := F) (base (j 0).val) (rowOf A (j 0)) (rowOf B (j 0)) 200 (ix1 (j 1))

theorem bump_of [FloatOps F] {v : IVec S16 32} (h : k0_chk1 v) (acc : Vec F S65536 .f32) :
    bump v acc = storeIdx (F := F) (e := .f32) acc ![v] (k0_pay5 (F := F) v) (k0_pay4 v) true (k0_idx1_inb v h) := by
  unfold bump; exact dif_pos h

/-- The kernel's index arithmetic, first graph of a tile. -/
theorem pay2_eq (i : grid0.Coords) (s t : Vec F S16 .i32) : k0_pay2 (F := F) i s t = cells (base (4 * (i 1).val + 2 * (i 0).val)) s t := by
  have e : Scalar.muli (Scalar.addi (Scalar.muli (Scalar.addi (Scalar.muli (BitVec.ofNat 32 (i 1).val) 2#32) (BitVec.ofNat 32 (i 0).val)) 2#32) 0#32) 200#32
      = base (4 * (i 1).val + 2 * (i 0).val) := by
    revert i; unfold base; decide +kernel
  unfold k0_pay2 cells
  rw [← e]
  rfl

/-- The word `2 s + c` of a tile, as the kernel computes it. -/
def tileWord (i : grid0.Coords) : BitVec 32 := Scalar.addi (Scalar.muli (BitVec.ofNat 32 (i 1).val) 2#32) (BitVec.ofNat 32 (i 0).val)

/-- The kernel's index arithmetic, second graph of a tile. -/
theorem pay6_eq (i : grid0.Coords) (s t : Vec F S16 .i32) :
    k0_pay6 (F := F) (tileWord i) s t = cells (base (4 * (i 1).val + 2 * (i 0).val + 1)) s t := by
  have e : Scalar.muli (Scalar.addi (Scalar.muli (tileWord i) 2#32) 1#32) 200#32 = base (4 * (i 1).val + 2 * (i 0).val + 1) := by
    revert i; unfold base tileWord; decide +kernel
  unfold k0_pay6 cells
  rw [← e]
  rfl

end Cert.Proof.Adj

end
-- ==== Proof.Launch.lean ====
/-
  The one SparseCore call as the launch theorem sees it: its resource algebra, its arrays, and what each of the 32 tiles
  is handed and hands back — the two rows `4 s + 2 c` and `4 s + 2 c + 1` of the source list, the destination list and the
  table, for tile `s` of SparseCore `c`.
-/
module

public import proofs.«01_k».proof.Defs
public import proofs.«01_k».proof.Proof.Tally
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The source lists, the destination lists, the tables, as locations of device `d`. -/
abbrev sLoc (d : Dev nD) : Loc nD τ sig := (SparseCore.T d).loc main_v2
abbrev tLoc (d : Dev nD) : Loc nD τ sig := (SparseCore.T d).loc main_v5
abbrev oLoc (d : Dev nD) : Loc nD τ sig := (SparseCore.T d).loc main_v6

/-- The elements of row `g` of an edge-list array, and of the array of tables. -/
def eRow (g : Fin 64) : Finset S64x3200.Idx := Finset.univ.filter fun j => (j 0).val = g.val
def oRow (g : Fin 64) : Finset S64x65536.Idx := Finset.univ.filter fun j => (j 0).val = g.val

/-- The graph that tile `s` of SparseCore `c` takes in its pass `t`. -/
def graphOf (c : Fin 2) (s : Fin 16) (t : Fin 2) : Fin 64 := ⟨4 * s.val + 2 * c.val + t.val, by omega⟩

/-- One row of the three arrays: the edge lists at `A` and `B`, the table at `f`. -/
def rowPts (d : Dev nD) (A : Buf (Elt F) (sLoc d)) (B : Buf (Elt F) (tLoc d)) (f : Buf (Elt F) (oLoc d)) (g : Fin 64) : sProp 𝕄 :=
  iprop((sLoc d ↦[eRow g]{fullShare} A) ∗ (tLoc d ↦[eRow g]{fullShare} B) ∗ oLoc d ↦[oRow g]{fullShare} f)

/-- What a tile is handed: its two rows. -/
def tilePts (d : Dev nD) (A : Buf (Elt F) (sLoc d)) (B : Buf (Elt F) (tLoc d)) (f : Buf (Elt F) (oLoc d)) (c : Fin 2) (s : Fin 16) : sProp 𝕄 :=
  iprop(rowPts d A B f (graphOf c s 0) ∗ rowPts d A B f (graphOf c s 1))

instance rowPts_storable (d : Dev nD) (A : Buf (Elt F) (sLoc d)) (B : Buf (Elt F) (tLoc d)) (f : Buf (Elt F) (oLoc d)) (g : Fin 64) :
    BI.Storable (upEmb : UEmb _ 𝕄) (rowPts d A B f g) := by unfold rowPts; infer_instance

instance tilePts_storable (d : Dev nD) (A : Buf (Elt F) (sLoc d)) (B : Buf (Elt F) (tLoc d)) (f : Buf (Elt F) (oLoc d)) (c : Fin 2) (s : Fin 16) :
    BI.Storable (upEmb : UEmb _ 𝕄) (tilePts d A B f c s) := by unfold tilePts; infer_instance

theorem mem_eRow {g : Fin 64} {j : S64x3200.Idx} : j ∈ eRow g ↔ (j 0).val = g.val := by simp only [eRow, Finset.mem_filter, Finset.mem_univ, true_and]
theorem mem_oRow {g : Fin 64} {j : S64x65536.Idx} : j ∈ oRow g ↔ (j 0).val = g.val := by simp only [oRow, Finset.mem_filter, Finset.mem_univ, true_and]

theorem eRow_disjoint {g h : Fin 64} (e : g ≠ h) : Disjoint (eRow g) (eRow h) :=
  Finset.disjoint_left.mpr fun _ h1 h2 => e (Fin.ext ((mem_eRow.mp h1).symm.trans (mem_eRow.mp h2)))
theorem oRow_disjoint {g h : Fin 64} (e : g ≠ h) : Disjoint (oRow g) (oRow h) :=
  Finset.disjoint_left.mpr fun _ h1 h2 => e (Fin.ext ((mem_oRow.mp h1).symm.trans (mem_oRow.mp h2)))
theorem eRow_cover : (Finset.univ : Finset (Fin 64)).biUnion eRow = Finset.univ :=
  Finset.eq_univ_of_forall fun j => Finset.mem_biUnion.mpr ⟨j 0, Finset.mem_univ _, mem_eRow.mpr rfl⟩
theorem oRow_cover : (Finset.univ : Finset (Fin 64)).biUnion oRow = Finset.univ :=
  Finset.eq_univ_of_forall fun j => Finset.mem_biUnion.mpr ⟨j 0, Finset.mem_univ _, mem_oRow.mpr rfl⟩

/-- Every graph is some tile's, in one pass. -/
def graphEquiv : Fin 2 × Fin 16 × Fin 2 ≃ Fin 64 where
  toFun x := graphOf x.1 x.2.1 x.2.2
  invFun g := (⟨g.val / 2 % 2, by omega⟩, ⟨g.val / 4, by omega⟩, ⟨g.val % 2, by omega⟩)
  left_inv := by
    rintro ⟨c, s, t⟩
    refine Prod.ext (Fin.ext ?_) (Prod.ext (Fin.ext ?_) (Fin.ext ?_)) <;> simp only [graphOf] <;> omega
  right_inv g := Fin.ext (by simp only [graphOf]; omega)

/-- The three arrays whole are the tiles' rows. -/
theorem whole_eq_tiles (d : Dev nD) (A : Buf (Elt F) (sLoc d)) (B : Buf (Elt F) (tLoc d)) (f : Buf (Elt F) (oLoc d)) :
    (iprop((sLoc d ↦{fullShare} A) ∗ (tLoc d ↦{fullShare} B) ∗ oLoc d ↦{fullShare} f) : sProp 𝕄)
      = bigSep Finset.univ fun c : Fin 2 => bigSep Finset.univ fun s : Fin 16 => tilePts d A B f c s := by
  have e1 : (sLoc d ↦{fullShare} A : sProp 𝕄) = bigSep Finset.univ fun g : Fin 64 => sLoc d ↦[eRow g]{fullShare} A := by
    rw [← pointsTo_biUnion Finset.univ (ℓ := sLoc d) eRow fun g _ h _ e => eRow_disjoint e, eRow_cover]; try rfl
  have e2 : (tLoc d ↦{fullShare} B : sProp 𝕄) = bigSep Finset.univ fun g : Fin 64 => tLoc d ↦[eRow g]{fullShare} B := by
    rw [← pointsTo_biUnion Finset.univ (ℓ := tLoc d) eRow fun g _ h _ e => eRow_disjoint e, eRow_cover]; try rfl
  have e3 : (oLoc d ↦{fullShare} f : sProp 𝕄) = bigSep Finset.univ fun g : Fin 64 => oLoc d ↦[oRow g]{fullShare} f := by
    rw [← pointsTo_biUnion Finset.univ (ℓ := oLoc d) oRow fun g _ h _ e => oRow_disjoint e, oRow_cover]; try rfl
  rw [e1, e2, e3, ← bigSep_sep', ← bigSep_sep']
  refine (bigSep_univ_equiv graphEquiv (fun g => rowPts d A B f g)).trans ?_
  rw [bigSep_univ_prod]
  refine bigSep_congr fun c _ => ?_
  rw [bigSep_univ_prod]
  refine bigSep_congr fun s _ => ?_
  rw [BI.bigSep_fin_two]
  rfl

/-! ## What the handshakes carry -/

variable [FloatOps F]

/-- The call takes the tiles' rows at `A`, `B` and whatever the table array holds, and brings them back with the tables
    counted. -/
def P (A : (d : Dev nD) → Buf (Elt F) (sLoc d)) (B : (d : Dev nD) → Buf (Elt F) (tLoc d)) (f : (d : Dev nD) → Buf (Elt F) (oLoc d)) :
    (K (F := F)).Pay (nD := nD) (Val := Elt F) (Name := ℕ) (U := UU) where
  st := fun q d c => match q with | 0 => bigSep Finset.univ fun s : Fin 16 => tilePts d (A d) (B d) (f d) c s
  dn := fun q d c => match q with | 0 => bigSep Finset.univ fun s : Fin 16 => tilePts d (A d) (B d) (tables (F := F) (A d) (B d)) c s
  go := fun q d c s => match q with | 0 => tilePts d (A d) (B d) (f d) c s
  td := fun q d c s => match q with | 0 => tilePts d (A d) (B d) (tables (F := F) (A d) (B d)) c s
  x := fun _ _ => iprop(emp)

instance P_storable (A : (d : Dev nD) → Buf (Elt F) (sLoc d)) (B : (d : Dev nD) → Buf (Elt F) (tLoc d)) (f : (d : Dev nD) → Buf (Elt F) (oLoc d)) :
    (P (F := F) A B f).IsStorable where
  st q d c := match q with
    | 0 => (inferInstance : BI.Storable (upEmb : UEmb _ 𝕄) (bigSep Finset.univ fun s : Fin 16 => tilePts d (A d) (B d) (f d) c s))
  dn q d c := match q with
    | 0 => (inferInstance : BI.Storable (upEmb : UEmb _ 𝕄) (bigSep Finset.univ fun s : Fin 16 => tilePts d (A d) (B d) (tables (F := F) (A d) (B d)) c s))
  go q d c s := match q with
    | 0 => (inferInstance : BI.Storable (upEmb : UEmb _ 𝕄) (tilePts d (A d) (B d) (f d) c s))
  td q d c s := match q with
    | 0 => (inferInstance : BI.Storable (upEmb : UEmb _ 𝕄) (tilePts d (A d) (B d) (tables (F := F) (A d) (B d)) c s))

/-- A SparseCore's share is its tiles' shares. -/
theorem vecSplit (A : (d : Dev nD) → Buf (Elt F) (sLoc d)) (B : (d : Dev nD) → Buf (Elt F) (tLoc d)) (f : (d : Dev nD) → Buf (Elt F) (oLoc d)) :
    (K (F := F)).VecSplit' (P A B f) 0 := by
  intro d c
  show (bigSep Finset.univ fun s : Fin 16 => tilePts d (A d) (B d) (f d) c s) ⊢ |={Set.univ}=> iprop(
      (bigSep Finset.univ fun s : Fin 16 => tilePts d (A d) (B d) (f d) c s)
      ∗ ((bigSep Finset.univ fun s : Fin 16 => tilePts d (A d) (B d) (tables (F := F) (A d) (B d)) c s)
          -∗ bigSep Finset.univ fun s : Fin 16 => tilePts d (A d) (B d) (tables (F := F) (A d) (B d)) c s))
  iintro H; imodintro
  isplitl [H]; · iexact H
  iintro H; iexact H

end Cert.Proof.Adj

end
-- ==== Proof.Rows.lean ====
/-
  The rows of the three arrays as the kernel addresses them: the slice of one row, its unit axis dropped, is exactly the
  elements of that row, read and written in order.
-/
module

public import proofs.«01_k».proof.Proof.Launch

@[expose] public section

noncomputable section

namespace Cert.Proof.Adj

open Cert.KernelIdeal Cert.KernelIdeal.Gen
open Idealize.ShloMosaic
open Idealize.ShloMosaic.ValueIdx (ix1 ix2)

variable {F : FTy → Type}

/-- The graph of tile `L`'s pass `t`. -/
abbrev gOf (L : grid0.Coords) (t : Fin 2) : Fin 64 := graphOf (L 0) (L 1) t

/-- Row of the source lists / destination lists / tables at a printed offset. -/
abbrev sRow (L : grid0.Coords) (w : BitVec 32) (h : ∀ a, k0_off1 L w a + S1x3200.size a ≤ S64x3200.size a) : Memref sig .scVector .hbm S3200 .i32 :=
  ((Memref.whole main_v2_scv : Memref sig .scVector .hbm S64x3200 .i32).slice (Rect.unit (s := S64x3200) (k0_off1 L w) S1x3200.size h) (fun _ => rfl)).squeeze S3200 squeezes_S1x3200_S3200
abbrev tRow (L : grid0.Coords) (w : BitVec 32) (h : ∀ a, k0_off1 L w a + S1x3200.size a ≤ S64x3200.size a) : Memref sig .scVector .hbm S3200 .i32 :=
  ((Memref.whole main_v5_scv : Memref sig .scVector .hbm S64x3200 .i32).slice (Rect.unit (s := S64x3200) (k0_off1 L w) S1x3200.size h) (fun _ => rfl)).squeeze S3200 squeezes_S1x3200_S3200
abbrev oRowV (L : grid0.Coords) (w : BitVec 32) (h : ∀ a, k0_off4 L w a + S1x65536.size a ≤ S64x65536.size a) : Memref sig .scVector .hbm S65536 .f32 :=
  ((Memref.whole main_v6_scv : Memref sig .scVector .hbm S64x65536 .f32).slice (Rect.unit (s := S64x65536) (k0_off4 L w) S1x65536.size h) (fun _ => rfl)).squeeze S65536 squeezes_S1x65536_S65536

theorem off1_eq (L : grid0.Coords) (t : Fin 2) : k0_off1 L (BitVec.ofNat 32 t.val) = ![(gOf L t).val, 0] := k0_off1_eq L t
theorem off4_eq (L : grid0.Coords) (t : Fin 2) : k0_off4 L (BitVec.ofNat 32 t.val) = ![(gOf L t).val, 0] := k0_off4_eq L t

theorem eRect_emb {off : Fin 2 → ℕ} (h : ∀ a, off a + S1x3200.size a ≤ S64x3200.size a) {g : Fin 64} (e : off = ![g.val, 0])
    (hn : S3200.numel = S1x3200.numel) (j : S3200.Idx) :
    (Rect.unit (s := S64x3200) off S1x3200.size h).emb (Shape.reshapeEquiv hn j) = ix2 g (j 0) := by
  subst e
  rw [Shape.reshapeEquiv_cons_one hn j]
  funext a
  match a with
  | 0 => exact Fin.ext (by show g.val + 1 * 0 = g.val; omega)
  | 1 => exact Fin.ext (by show 0 + 1 * (j 0).val = (j 0).val; omega)

theorem oRect_emb {off : Fin 2 → ℕ} (h : ∀ a, off a + S1x65536.size a ≤ S64x65536.size a) {g : Fin 64} (e : off = ![g.val, 0])
    (hn : S65536.numel = S1x65536.numel) (j : S65536.Idx) :
    (Rect.unit (s := S64x65536) off S1x65536.size h).emb (Shape.reshapeEquiv hn j) = ix2 g (j 0) := by
  subst e
  rw [Shape.reshapeEquiv_cons_one hn j]
  funext a
  match a with
  | 0 => exact Fin.ext (by show g.val + 1 * 0 = g.val; omega)
  | 1 => exact Fin.ext (by show 0 + 1 * (j 0).val = (j 0).val; omega)

section
variable (L : grid0.Coords) (t : Fin 2)

theorem sRow_emb (h) (j : S3200.Idx) : (sRow L (BitVec.ofNat 32 t.val) h).view.emb j = ix2 (gOf L t) (j 0) := eRect_emb h (off1_eq L t) _ j
theorem tRow_emb (h) (j : S3200.Idx) : (tRow L (BitVec.ofNat 32 t.val) h).view.emb j = ix2 (gOf L t) (j 0) := eRect_emb h (off1_eq L t) _ j
theorem oRowV_emb (h) (j : S65536.Idx) : (oRowV L (BitVec.ofNat 32 t.val) h).view.emb j = ix2 (gOf L t) (j 0) := oRect_emb h (off4_eq L t) _ j

theorem set_sRow (h) : (sRow L (BitVec.ofNat 32 t.val) h).view.set = eRow (gOf L t) := by
  ext x
  rw [mem_eRow]
  constructor
  · intro hx
    obtain ⟨j, -, rfl⟩ := Finset.mem_map.mp hx
    rw [sRow_emb]
  · intro hx
    refine Finset.mem_map.mpr ⟨ix1 (x 1), Finset.mem_univ _, ?_⟩
    rw [sRow_emb, ValueIdx.eq_ix2 (n0 := 64) (n1 := 3200) x, show gOf L t = x 0 from Fin.ext hx.symm]
    rfl
theorem set_tRow (h) : (tRow L (BitVec.ofNat 32 t.val) h).view.set = eRow (gOf L t) := by
  ext x
  rw [mem_eRow]
  constructor
  · intro hx
    obtain ⟨j, -, rfl⟩ := Finset.mem_map.mp hx
    rw [tRow_emb]
  · intro hx
    refine Finset.mem_map.mpr ⟨ix1 (x 1), Finset.mem_univ _, ?_⟩
    rw [tRow_emb, ValueIdx.eq_ix2 (n0 := 64) (n1 := 3200) x, show gOf L t = x 0 from Fin.ext hx.symm]
    rfl
theorem set_oRowV (h) : (oRowV L (BitVec.ofNat 32 t.val) h).view.set = oRow (gOf L t) := by
  ext x
  rw [mem_oRow]
  constructor
  · intro hx
    obtain ⟨j, -, rfl⟩ := Finset.mem_map.mp hx
    rw [oRowV_emb]
  · intro hx
    refine Finset.mem_map.mpr ⟨ix1 (x 1), Finset.mem_univ _, ?_⟩
    rw [oRowV_emb, ValueIdx.eq_ix2 (n0 := 64) (n1 := 65536) x, show gOf L t = x 0 from Fin.ext hx.symm]
    rfl

theorem read_sRow (h) (A : S64x3200.Idx → BitVec 32) : (sRow L (BitVec.ofNat 32 t.val) h).view.read (Elt F) A = rowOf A (gOf L t) := by
  funext j
  refine (View.read_apply _ _).trans ((cast_eq _ _).trans ?_)
  rw [sRow_emb]; rfl
theorem read_tRow (h) (A : S64x3200.Idx → BitVec 32) : (tRow L (BitVec.ofNat 32 t.val) h).view.read (Elt F) A = rowOf A (gOf L t) := by
  funext j
  refine (View.read_apply _ _).trans ((cast_eq _ _).trans ?_)
  rw [tRow_emb]; rfl

/-- What a write-out leaves in its row. -/
theorem write_oRowV (h) (f : (oRowV L (BitVec.ofNat 32 t.val) h).view.ty.Contents (Elt F)) (v : S65536.Idx → F .f32) (x : S64x65536.Idx) (hx : x ∈ oRow (gOf L t)) :
    (oRowV L (BitVec.ofNat 32 t.val) h).view.writes (Elt F) f [⟨Rect.whole S65536, v⟩] x = v (ix1 (x 1)) := by
  have e : x = ((oRowV L (BitVec.ofNat 32 t.val) h).view.slice (Rect.whole S65536)).emb (ix1 (x 1)) := by
    show x = (oRowV L (BitVec.ofNat 32 t.val) h).view.emb ((Rect.whole S65536).emb (ix1 (x 1)))
    rw [oRowV_emb, ValueIdx.eq_ix2 (n0 := 64) (n1 := 65536) x, show gOf L t = x 0 from Fin.ext (mem_oRow.mp hx).symm]
    congr 1
    exact Fin.ext (by show (x 1).val = 0 + 1 * (x 1).val; omega)
  rw [View.writes_singleton]
  conv_lhs => rw [e]
  exact (View.write_emb_of_mem _ _ (Finset.mem_univ _)).trans (cast_eq _ _)

end

end Cert.Proof.Adj

end
-- ==== Proof.Tile.lean ====
/-
  One tile's run: two graphs, each fetched, counted and written out.
-/
module

public import proofs.«01_k».proof.Proof.Rows

@[expose] public section

noncomputable section

namespace Cert.Proof.Adj

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
/-- Tile `L`'s thread. -/
abbrev thr (d : Dev nD) (L : grid0.Coords) : Thread nD τ := V d (cV L) (jV L)

/-! ## The tile's own memory -/

abbrev sM : Memref sig .scVector .vmem S3200 .i32 := Memref.whole cc0_scratch0
abbrev tM : Memref sig .scVector .vmem S3200 .i32 := Memref.whole cc0_scratch1
abbrev aM : Memref sig .scVector .vmem S65536 .f32 := Memref.whole cc0_scratch2

theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The cell of a transfer semaphore on tile `L`. -/
abbrev cell (d : Dev nD) (L : grid0.Coords) (sm : DmaSems sig S_) : GSem nD τ sig := (thr d L, .dma sm.sem)

theorem mem_cell (sm : DmaSems sig S_) (h : (SemLoc.dma sm.sem : SemLoc sig).isScoped .scVector = true) : cell d L sm ∈ ownCells (thr d L) :=
  mem_ownCells.mpr ⟨rfl, h⟩
theorem cell_ne {a b : DmaSems sig S_} (h : (SemLoc.dma a.sem : SemLoc sig) ≠ .dma b.sem) : cell d L a ≠ cell d L b :=
  fun e => h (congrArg Prod.snd e)

theorem ownSems0_tile :
    (ownSems0 (thr d L) : sProp 𝕄)
      = iprop(semVal (cell d L cc0_scoped0) 0 ∗ semVal (cell d L cc0_scoped1) 0 ∗ semVal (cell d L cc0_scoped2) 0
          ∗ semVal (cell d L cc0_scoped3) 0 ∗ semVal (cell d L cc0_scoped4) 0 ∗ semVal (cell d L cc0_scoped5) 0
          ∗ bigSep (((((((ownCells (thr d L)).erase (cell d L cc0_scoped0)).erase (cell d L cc0_scoped1)).erase (cell d L cc0_scoped2)).erase (cell d L cc0_scoped3)).erase (cell d L cc0_scoped4)).erase (cell d L cc0_scoped5))
              fun g => semVal g 0) := by
  have ne : ∀ {a b : DmaSems sig S_}, (SemLoc.dma a.sem : SemLoc sig) ≠ .dma b.sem → cell d L a ≠ cell d L b := fun h => cell_ne d L h
  unfold SparseCore.Cfg.ownSems0
  rw [SparseCore.bigSep_erase' (mem_cell d L cc0_scoped0 (by decide)),
    SparseCore.bigSep_erase' (Finset.mem_erase.mpr ⟨ne (by decide), mem_cell d L cc0_scoped1 (by decide)⟩),
    SparseCore.bigSep_erase' (Finset.mem_erase.mpr ⟨ne (by decide), Finset.mem_erase.mpr ⟨ne (by decide), mem_cell d L cc0_scoped2 (by decide)⟩⟩),
    SparseCore.bigSep_erase' (Finset.mem_erase.mpr ⟨ne (by decide), Finset.mem_erase.mpr ⟨ne (by decide), Finset.mem_erase.mpr ⟨ne (by decide), mem_cell d L cc0_scoped3 (by decide)⟩⟩⟩),
    SparseCore.bigSep_erase' (Finset.mem_erase.mpr ⟨ne (by decide), Finset.mem_erase.mpr ⟨ne (by decide), Finset.mem_erase.mpr ⟨ne (by decide), Finset.mem_erase.mpr ⟨ne (by decide), mem_cell d L cc0_scoped4 (by decide)⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), mem_cell d L cc0_scoped5 (by decide)⟩⟩⟩⟩⟩)]

/-! ## The loops -/

variable [FloatOps F]

/-- The accumulator after `n` zeroing trips: the first `16 n` cells are zero. -/
def zeroInv (n : ℕ) (_ : BitVec 32) : sProp 𝕄 :=
  iprop(∃ f, ⌜∀ j : S65536.Idx, (j 0).val < 16 * n → f j = zeros (F := F) j⌝ ∗ aM.view.loc (thr d L) ↦{fullShare} f)

/-- The edge loop before trip `n`: the graph's lists fetched, the accumulator at the table after `n` trips. -/
def edgeInv (A B : S64x3200.Idx → BitVec 32) (g : Fin 64) (n : ℕ) (_ : BitVec 32) : sProp 𝕄 :=
  iprop((sM.view.loc (thr d L) ↦{fullShare} rowOf A g) ∗ (tM.view.loc (thr d L) ↦{fullShare} rowOf B g)
    ∗ aM.view.loc (thr d L) ↦{fullShare} accum (F := F) (base g.val) (rowOf A g) (rowOf B g) n)

/-- A store of sixteen lanes at `16 k` leaves the cells before `16 k` alone and puts its lanes there. -/
theorem store_lanes {k : ℕ} {off : Fin 1 → ℕ} (e : off = ![16 * k]) (h : ∀ a, off a + S16.size a ≤ S65536.size a)
    (f : S65536.Idx → F .f32) (x : F .f32) (hf : ∀ j : S65536.Idx, (j 0).val < 16 * k → f j = x) (j : S65536.Idx) (hj : (j 0).val < 16 * (k + 1)) :
    (aM.view.writes (Elt F) f [⟨Rect.unit (s := S65536) off S16.size h, fun _ => x⟩]) j = x := by
  subst e
  rw [View.writes_singleton]
  by_cases hk : (j 0).val < 16 * k
  · rw [View.write_of_not_mem]
    · exact hf j hk
    · rw [View.setOn_univ, View.set_slice]
      intro hm
      obtain ⟨y, hy, rfl⟩ := Finset.mem_map.mp hm
      have := (Rect.mem_set_unit.mp hy 0).1
      exact absurd hk (Nat.not_lt.mpr this)
  · have e : j = (aM.view.slice (Rect.unit (s := S65536) ![16 * k] S16.size h)).emb (ix1 (⟨(j 0).val - 16 * k, by omega⟩ : Fin 16)) := by
      funext a
      obtain rfl : a = 0 := Subsingleton.elim _ _
      exact Fin.ext (by show (j 0).val = 16 * k + 1 * ((j 0).val - 16 * k); omega)
    rw [e]
    exact (View.write_emb_of_mem _ _ (Finset.mem_univ _)).trans (cast_eq _ _)

/-- A load of sixteen entries at `16 n` of a list is `lanes`. -/
theorem load_lanes {m : Memref sig .scVector .vmem S3200 .i32} {n : ℕ} {off : Fin 1 → ℕ} (hn : n < 200) (e : off = ![16 * n])
    (h : ∀ a, off a + S16.size a ≤ S3200.size a) (f : m.view.ty.Contents (Elt F)) (r : S3200.Idx → BitVec 32) (hr : m.view.read (Elt F) f = r) :
    m.view.readAt (Elt F) (Rect.unit (s := S3200) off S16.size h).toLoadRect f = lanes r n := by
  subst e
  funext x
  rw [View.readAt_apply, hr]
  unfold lanes
  congr 1
  funext a
  obtain rfl : a = 0 := Subsingleton.elim _ _
  have hx : (x 0).val < 16 := (x 0).isLt
  exact Fin.ext (by show 16 * n + 1 * (x 0).val = (16 * n + (x 0).val) % 3200; omega)

theorem zero_step1 (k : Fin k0_t1_loop.trips) (w : BitVec 32) :
    zeroInv (F := F) d L k.val w ⊢ wp frame (wpE (defs₀ (F := F)) 𝒱₀ (thr d L) none) Set.univ
      (k0_t1_body L (Memref.whole main_v2_scv) (Memref.isWhole_whole _) (Memref.whole main_v5_scv) (Memref.isWhole_whole _)
        (Memref.whole main_v6_scv) (Memref.isWhole_whole _) sM (Memref.isWhole_whole _) tM (Memref.isWhole_whole _) aM (Memref.isWhole_whole _)
        cc0_scoped0 cc0_scoped1 cc0_scoped2 cc0_scoped3 cc0_scoped4 cc0_scoped5 k w)
      fun w' => zeroInv (F := F) d L (k.val + 1) w' := by
  unfold k0_t1_body zeroInv
  iintro ⟨%f, %hf, H⟩
  sl_exec
  sl_step
  iexists _
  isplitr
  swap
  · iexact H
  · ipureintro
    exact store_lanes (k0_off2_eq k) _ f _ hf

theorem zero_step3 (k : Fin k0_t3_loop.trips) (v1 w : BitVec 32) :
    zeroInv (F := F) d L k.val w ⊢ wp frame (wpE (defs₀ (F := F)) 𝒱₀ (thr d L) none) Set.univ
      (k0_t3_body L (Memref.whole main_v2_scv) (Memref.isWhole_whole _) (Memref.whole main_v5_scv) (Memref.isWhole_whole _)
        (Memref.whole main_v6_scv) (Memref.isWhole_whole _) sM (Memref.isWhole_whole _) tM (Memref.isWhole_whole _) aM (Memref.isWhole_whole _)
        cc0_scoped0 cc0_scoped1 cc0_scoped2 cc0_scoped3 cc0_scoped4 cc0_scoped5 v1 k0_pay1 k w)
      fun w' => zeroInv (F := F) d L (k.val + 1) w' := by
  unfold k0_t3_body zeroInv
  iintro ⟨%f, %hf, H⟩
  sl_exec
  sl_step
  iexists _
  isplitr
  swap
  · iexact H
  · ipureintro
    exact store_lanes (k0_off5_eq k) _ f _ hf

/-- The accumulator read or written through its whole rectangle is the accumulator. -/
theorem acc_emb (j : S65536.Idx) : (aM.access (.whole S65536)).emb j = j := by
  funext a
  exact Fin.ext (by show 0 + 1 * (j a).val = (j a).val; omega)
theorem acc_set : (aM.access (.whole S65536)).set = Finset.univ :=
  Finset.eq_univ_of_forall fun j => Finset.mem_map.mpr ⟨j, Finset.mem_univ _, acc_emb j⟩
theorem acc_read (f : S65536.Idx → F .f32) : (aM.access (.whole S65536)).read (Elt F) f = f := by
  funext j
  refine (View.read_apply _ _).trans ((cast_eq _ _).trans ?_)
  rw [acc_emb]
theorem acc_write (f w : S65536.Idx → F .f32) : (aM.access (.whole S65536)).write (Elt F) f w Finset.univ = w := by
  funext j
  conv_lhs => rw [← acc_emb j]
  exact (View.write_emb_of_mem _ _ (Finset.mem_univ _)).trans (cast_eq _ _)
theorem acc_pts (f : S65536.Idx → F .f32) :
    ((aM.access (.whole S65536)).loc (thr d L) ↦[(aM.access (.whole S65536)).set]{fullShare} f : sProp 𝕄) = aM.view.loc (thr d L) ↦{fullShare} f := by
  rw [acc_set]

/-- Every trip's cells are in range. -/
abbrev Within (A B : S64x3200.Idx → BitVec 32) : Prop :=
  ∀ (g : Fin 64) (n : ℕ), n < 200 → k0_chk1 (cells (base g.val) (lanes (rowOf A g) n) (lanes (rowOf B g) n))

theorem edge_step2 (A B : S64x3200.Idx → BitVec 32) (hW : Within A B) (k : Fin k0_t2_loop.trips) (w : BitVec 32) :
    edgeInv (F := F) d L A B (gOf L 0) k.val w ⊢ wp frame (wpE (defs₀ (F := F)) 𝒱₀ (thr d L) none) Set.univ
      (k0_t2_body L (Memref.whole main_v2_scv) (Memref.isWhole_whole _) (Memref.whole main_v5_scv) (Memref.isWhole_whole _)
        (Memref.whole main_v6_scv) (Memref.isWhole_whole _) sM (Memref.isWhole_whole _) tM (Memref.isWhole_whole _) aM (Memref.isWhole_whole _)
        cc0_scoped0 cc0_scoped1 cc0_scoped2 cc0_scoped3 cc0_scoped4 cc0_scoped5 k w)
      fun w' => edgeInv (F := F) d L A B (gOf L 0) (k.val + 1) w' := by
  have hk : k.val < 200 := Nat.lt_of_lt_of_le k.isLt k0_t2_abs.2.1
  unfold k0_t2_body edgeInv
  iintro ⟨Hs, Ht, Ha⟩
  sl_exec
  have hv : edge_step2.sl.v29 (F := F) d L A B k = cells (base (gOf L 0).val) (lanes (rowOf A (gOf L 0)) k.val) (lanes (rowOf B (gOf L 0)) k.val) := by
    unfold edge_step2.sl.v29
    rw [pay2_eq, load_lanes (m := sM) hk (k0_off3_eq k) _ _ (rowOf A (gOf L 0)) rfl, load_lanes (m := tM) hk (k0_off3_eq k) _ _ (rowOf B (gOf L 0)) rfl]
    rfl
  have hc : k0_chk1 (edge_step2.sl.v29 (F := F) d L A B k) := hv ▸ hW _ _ hk
  rw [wp_assume_of _ _ _ _ hc]
  ihave Ha' := (Entails.of_eq (acc_pts (F := F) d L _).symm) $$ Ha
  iapply (SparseCore.wp_vectorStoreIdx 𝒱₀ (thr d L) none Set.univ (base := aM)) $$ Ha'
  iintro Ha'
  ihave Ha := (Entails.of_eq (acc_pts (F := F) d L _)) $$ Ha'
  sl_exec
  sl_step
  isplitl [Hs]; · iexact Hs
  isplitl [Ht]; · iexact Ht
  iapply (Entails.of_eq (congrArg (fun f => (aM.view.loc (thr d L) ↦{fullShare} f : sProp 𝕄)) ?_)) $$ Ha
  rw [acc_write, acc_read]
  show _ = bump _ _
  rw [← hv, bump_of hc]

theorem edge_step4 (A B : S64x3200.Idx → BitVec 32) (hW : Within A B) (k : Fin k0_t4_loop.trips) (v2 : FVec F S16 .f32) (w : BitVec 32) :
    edgeInv (F := F) d L A B (gOf L 1) k.val w ⊢ wp frame (wpE (defs₀ (F := F)) 𝒱₀ (thr d L) none) Set.univ
      (k0_t4_body L (Memref.whole main_v2_scv) (Memref.isWhole_whole _) (Memref.whole main_v5_scv) (Memref.isWhole_whole _)
        (Memref.whole main_v6_scv) (Memref.isWhole_whole _) sM (Memref.isWhole_whole _) tM (Memref.isWhole_whole _) aM (Memref.isWhole_whole _)
        cc0_scoped0 cc0_scoped1 cc0_scoped2 cc0_scoped3 cc0_scoped4 cc0_scoped5 (tileWord L) v2 k w)
      fun w' => edgeInv (F := F) d L A B (gOf L 1) (k.val + 1) w' := by
  have hk : k.val < 200 := Nat.lt_of_lt_of_le k.isLt k0_t4_abs.2.1
  unfold k0_t4_body edgeInv
  iintro ⟨Hs, Ht, Ha⟩
  sl_exec
  have hv : edge_step4.sl.v29 (F := F) d L A B k = cells (base (gOf L 1).val) (lanes (rowOf A (gOf L 1)) k.val) (lanes (rowOf B (gOf L 1)) k.val) := by
    unfold edge_step4.sl.v29
    rw [pay6_eq, load_lanes (m := sM) hk (k0_off6_eq k) _ _ (rowOf A (gOf L 1)) rfl, load_lanes (m := tM) hk (k0_off6_eq k) _ _ (rowOf B (gOf L 1)) rfl]
    rfl
  have hc : k0_chk2 (edge_step4.sl.v29 (F := F) d L A B k) := hv ▸ hW _ _ hk
  rw [wp_assume_of _ _ _ _ hc]
  ihave Ha' := (Entails.of_eq (acc_pts (F := F) d L _).symm) $$ Ha
  iapply (SparseCore.wp_vectorStoreIdx 𝒱₀ (thr d L) none Set.univ (base := aM)) $$ Ha'
  iintro Ha'
  ihave Ha := (Entails.of_eq (acc_pts (F := F) d L _)) $$ Ha'
  sl_exec
  sl_step
  isplitl [Hs]; · iexact Hs
  isplitl [Ht]; · iexact Ht
  iapply (Entails.of_eq (congrArg (fun f => (aM.view.loc (thr d L) ↦{fullShare} f : sProp 𝕄)) ?_)) $$ Ha
  rw [acc_write, acc_read]
  show _ = bump _ _
  rw [← hv, bump_of hc]
  rfl

/-! ## The arrays' rows as the transfers name them -/

theorem pts_sRow (t : Fin 2) (h) (A : Buf (Elt F) (sLoc d)) :
    ((sRow L (BitVec.ofNat 32 t.val) h).view.loc (thr d L) ↦[(sRow L (BitVec.ofNat 32 t.val) h).view.set]{fullShare} A : sProp 𝕄)
      = sLoc d ↦[eRow (gOf L t)]{fullShare} A := by
  rw [set_sRow]
theorem pts_tRow (t : Fin 2) (h) (A : Buf (Elt F) (tLoc d)) :
    ((tRow L (BitVec.ofNat 32 t.val) h).view.loc (thr d L) ↦[(tRow L (BitVec.ofNat 32 t.val) h).view.set]{fullShare} A : sProp 𝕄)
      = tLoc d ↦[eRow (gOf L t)]{fullShare} A := by
  rw [set_tRow]
theorem pts_oRow (t : Fin 2) (h) (A : Buf (Elt F) (oLoc d)) :
    ((oRowV L (BitVec.ofNat 32 t.val) h).view.loc (thr d L) ↦[(oRowV L (BitVec.ofNat 32 t.val) h).view.set]{fullShare} A : sProp 𝕄)
      = oLoc d ↦[oRow (gOf L t)]{fullShare} A := by
  rw [set_oRowV]

/-- A row written out with its graph's finished table is that row of `tables`. -/
theorem out_row (t : Fin 2) (h) (A B : S64x3200.Idx → BitVec 32) (f : (oRowV L (BitVec.ofNat 32 t.val) h).view.ty.Contents (Elt F)) :
    ((oRowV L (BitVec.ofNat 32 t.val) h).view.loc (thr d L) ↦[(oRowV L (BitVec.ofNat 32 t.val) h).view.set]{fullShare}
        (oRowV L (BitVec.ofNat 32 t.val) h).view.writes (Elt F) f
          [⟨Rect.whole S65536, accum (F := F) (base (gOf L t).val) (rowOf A (gOf L t)) (rowOf B (gOf L t)) 200⟩] : sProp 𝕄)
      = oLoc d ↦[oRow (gOf L t)]{fullShare} tables (F := F) A B := by
  rw [set_oRowV]
  refine pointsTo_congr fun x hx => ?_
  rw [write_oRowV L t h f _ x hx]
  have e : x 0 = gOf L t := Fin.ext (mem_oRow.mp hx)
  unfold tables
  rw [e]

/-- A tile's body, from its two rows to its two rows with the tables counted. -/
theorem tile_body (hF : (K (F := F)).Facts) (A : Buf (Elt F) (sLoc d)) (B : Buf (Elt F) (tLoc d)) (f : Buf (Elt F) (oLoc d)) (hW : Within A B)
    (O : CellTallies nD τ sig (HIx 1)) (W : Waits sig (HIx 1)) (hO : ∀ g, O g none = 0) :
    iprop(levAts (K (F := F)).L (K (F := F)).lev ∗ emp ∗ tilePts d A B f (L 0) (L 1)
        ∗ scopedBufs (thr d L) ∗ scopedSems0 (thr d L) ∗ owes (thr d L) O W)
      ⊢ wp frame (wpE (defs₀ (F := F)) 𝒱₀ (thr d L) none) Set.univ
          (cc0__adj_sc L (Memref.whole main_v2_scv) (Memref.isWhole_whole _) (Memref.whole main_v5_scv) (Memref.isWhole_whole _)
            (Memref.whole main_v6_scv) (Memref.isWhole_whole _) sM (Memref.isWhole_whole _) tM (Memref.isWhole_whole _) aM (Memref.isWhole_whole _)
            cc0_scoped0 cc0_scoped1 cc0_scoped2 cc0_scoped3 cc0_scoped4 cc0_scoped5)
          fun _ => iprop(tilePts d A B (tables (F := F) A B) (L 0) (L 1) ∗ scopedBufs (thr d L) ∗ scopedSems0 (thr d L)
            ∗ ∃ W', ⌜∀ p ∈ W', p ∈ W ∨ p.2 = none⌝ ∗ owes (thr d L) O W') := by
  simp only [cc0__adj_sc_eq_skeleton]; unfold cc0__adj_sc_skel
  simp only [k0_part1_eq_skeleton, k0_part2_eq_skeleton]; unfold k0_part1_skel k0_part2_skel
  simp only [Prog.bind_assoc]
  rw [(K (F := F)).scopedBufs_V hF d (cV L) (jV L), SparseCore.Cfg.scopedSems0_V (Val := Elt F) d (cV L) (jV L), ownSems0_tile, ownBufs_tile]
  unfold tilePts rowPts
  iintro ⟨#Hlv, -, ⟨⟨Hs0, Ht0, Ho0⟩, ⟨Hs1, Ht1, Ho1⟩⟩, ⟨⟨%fs, Hs⟩, ⟨%ft, Ht⟩, ⟨%fa, Ha⟩, Hbufs⟩, ⟨Hc0, Hc1, Hc2, Hc3, Hc4, Hc5, Hsems⟩, HO⟩
  ihave Hmw := (show levAts (K (F := F)).L (K (F := F)).lev ⊢ Transfers.MayWaits (thr d L) (default : HIx 1) O from
    (K (F := F)).mayWaits_none (thr := thr d L) hO) $$ Hlv
  ihave Hs0 := (Entails.of_eq (pts_sRow (F := F) d L 0 (k0_off1_inb L 0) A).symm) $$ Hs0
  ihave Ht0 := (Entails.of_eq (pts_tRow (F := F) d L 0 (k0_off1_inb L 0) B).symm) $$ Ht0
  ihave Ho0 := (Entails.of_eq (pts_oRow (F := F) d L 0 (k0_off4_inb L 0) f).symm) $$ Ho0
  ihave Hs1 := (Entails.of_eq (pts_sRow (F := F) d L 1 (k0_off1_inb L 1) A).symm) $$ Hs1
  ihave Ht1 := (Entails.of_eq (pts_tRow (F := F) d L 1 (k0_off1_inb L 1) B).symm) $$ Ht1
  ihave Ho1 := (Entails.of_eq (pts_oRow (F := F) d L 1 (k0_off4_inb L 1) f).symm) $$ Ho1
  ihave Hs := (Entails.of_eq (show ((thr d L).loc cc0_scratch0 ↦{fullShare} fs : sProp 𝕄) = sM.view.loc (thr d L) ↦{fullShare} fs from rfl)) $$ Hs
  ihave Ht := (Entails.of_eq (show ((thr d L).loc cc0_scratch1 ↦{fullShare} ft : sProp 𝕄) = tM.view.loc (thr d L) ↦{fullShare} ft from rfl)) $$ Ht
  ihave Ha := (Entails.of_eq (show ((thr d L).loc cc0_scratch2 ↦{fullShare} fa : sProp 𝕄) = aM.view.loc (thr d L) ↦{fullShare} fa from rfl)) $$ Ha
  sl_exec
  sl_for (zeroInv (F := F) d L) $$ [Ha]
  case region => intro k w; exact zero_step1 d L k w
  · unfold zeroInv
    iexists _; isplitr
    swap; · iexact Ha
    ipureintro; intro j hj; omega
  iintro %w0 Hz
  unfold zeroInv
  icases Hz with ⟨%fz, %hz, Ha⟩
  have hz0 : fz = zeros (F := F) := by
    funext j
    have hj : (j 0).val < 65536 := (j 0).isLt
    exact hz j (by rw [show Scf.trips k0_t1_loop.lb k0_t1_loop.ub k0_t1_loop.st = 4096 from by decide]; omega)
  have hs : View.write (Elt F) sM.view fs (tile_body.sl.dma0 (F := F) d L A) Finset.univ = rowOf A (gOf L 0) := by
    unfold tile_body.sl.dma0
    exact (View.write_whole_univ _ _ _).trans (read_sRow L 0 (k0_off1_inb L 0) A)
  have ht : View.write (Elt F) tM.view ft (tile_body.sl.dma0_1 (F := F) d L B) Finset.univ = rowOf B (gOf L 0) := by
    unfold tile_body.sl.dma0_1
    exact (View.write_whole_univ _ _ _).trans (read_tRow L 0 (k0_off1_inb L 0) B)
  rw [hz0, hs, ht]
  sl_exec
  sl_for (edgeInv (F := F) d L A B (gOf L 0)) $$ [Hs Ht Ha]
  case region => intro k w; exact edge_step2 d L A B hW k w
  · unfold edgeInv
    isplitl [Hs]; · iexact Hs
    isplitl [Ht]; · iexact Ht
    iexact Ha
  iintro %w1 He
  unfold edgeInv
  icases He with ⟨Hs, Ht, Ha⟩
  rw [show Scf.trips k0_t2_loop.lb k0_t2_loop.ub k0_t2_loop.st = 200 from by decide]
  sl_exec
  sl_for (zeroInv (F := F) d L) $$ [Ha]
  case region => intro k w; exact zero_step3 d L k _ w
  · unfold zeroInv
    iexists _; isplitr
    swap; · iexact Ha
    ipureintro; intro j hj; omega
  iintro %w2 Hz
  unfold zeroInv
  icases Hz with ⟨%fz1, %hz1, Ha⟩
  have hz2 : fz1 = zeros (F := F) := by
    funext j
    have hj : (j 0).val < 65536 := (j 0).isLt
    exact hz1 j (by rw [show Scf.trips k0_t3_loop.lb k0_t3_loop.ub k0_t3_loop.st = 4096 from by decide]; omega)
  have hs1 : View.write (Elt F) sM.view (rowOf A (gOf L 0)) (tile_body.sl.dma0_3 (F := F) d L A) Finset.univ = rowOf A (gOf L 1) := by
    unfold tile_body.sl.dma0_3
    exact (View.write_whole_univ _ _ _).trans (read_sRow L 1 (k0_off1_inb L 1) A)
  have ht1 : View.write (Elt F) tM.view (rowOf B (gOf L 0)) (tile_body.sl.dma0_4 (F := F) d L B) Finset.univ = rowOf B (gOf L 1) := by
    unfold tile_body.sl.dma0_4
    exact (View.write_whole_univ _ _ _).trans (read_tRow L 1 (k0_off1_inb L 1) B)
  rw [hz2, hs1, ht1]
  sl_exec
  sl_for (edgeInv (F := F) d L A B (gOf L 1)) $$ [Hs Ht Ha]
  case region => intro k w; exact edge_step4 d L A B hW k _ w
  · unfold edgeInv
    isplitl [Hs]; · iexact Hs
    isplitl [Ht]; · iexact Ht
    iexact Ha
  iintro %w3 He
  unfold edgeInv
  icases He with ⟨Hs, Ht, Ha⟩
  rw [show Scf.trips k0_t4_loop.lb k0_t4_loop.ub k0_t4_loop.st = 200 from by decide]
  sl_exec
  sl_step
  isplitl [Hs0 Ht0 Ho0 Hs1 Ht1 Ho1]
  · isplitl [Hs0 Ht0 Ho0]
    · isplitl [Hs0]; · iapply (Entails.of_eq (pts_sRow (F := F) d L 0 (k0_off1_inb L 0) A)); iexact Hs0
      isplitl [Ht0]; · iapply (Entails.of_eq (pts_tRow (F := F) d L 0 (k0_off1_inb L 0) B)); iexact Ht0
      iapply (Entails.of_eq (out_row (F := F) d L 0 (k0_off4_inb L 0) A B _)); iexact Ho0
    · isplitl [Hs1]; · iapply (Entails.of_eq (pts_sRow (F := F) d L 1 (k0_off1_inb L 1) A)); iexact Hs1
      isplitl [Ht1]; · iapply (Entails.of_eq (pts_tRow (F := F) d L 1 (k0_off1_inb L 1) B)); iexact Ht1
      iapply (Entails.of_eq (out_row (F := F) d L 1 (k0_off4_inb L 1) A B _)); iexact Ho1
  isplitl [Hs Ht Ha Hbufs]
  · isplitl [Hs]; · iexists _; iexact Hs
    isplitl [Ht]; · iexists _; iexact Ht
    isplitl [Ha]; · iexists _; iexact Ha
    iexact Hbufs
  isplitl [Hc0 Hc1 Hc2 Hc3 Hc4 Hc5 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap; · iexact HO
  ipureintro; intro p hp
  simp only [Finset.mem_insert] at hp
  rcases hp with hp | hp | hp | hp | hp | hp | hp
  all_goals first | exact .inl hp | exact .inr (hp ▸ rfl)

end Cert.Proof.Adj

end
-- ==== Proof.Obligation.lean ====
/-
  The tile's body as the launch's obligation, for edge lists in which every edge joins two nodes of its own graph.
-/
module

public import proofs.«01_k».proof.Proof.Tile

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Tile `s` of SparseCore `c`, as coordinates of the launch grid. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__adj_sc (coordsOf c s)
          (Memref.whole main_v2_scv) (Memref.isWhole_whole _) (Memref.whole main_v5_scv) (Memref.isWhole_whole _)
          (Memref.whole main_v6_scv) (Memref.isWhole_whole _) sM (Memref.isWhole_whole _) tM (Memref.isWhole_whole _) aM (Memref.isWhole_whole _)
          cc0_scoped0 cc0_scoped1 cc0_scoped2 cc0_scoped3 cc0_scoped4 cc0_scoped5) ⟨⟩ c s := rfl

omit [FloatOps F] in
/-- A body that waits on its own transfers alone waits within what the launch allows it. -/
theorem waits_weaken {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (A : (d : Dev nD) → Buf (Elt F) (sLoc d)) (B : (d : Dev nD) → Buf (Elt F) (tLoc d)) (f : (d : Dev nD) → Buf (Elt F) (oLoc d))
    (hW : ∀ d, Within (A d) (B d)) : (K (F := F)).TileObl (D (F := F)) 𝒱 (P A B f) v₀ 0 := by
  intro d c i O W hO _ _
  simp only [show (P A B f).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coordsOf ⟨_, hci.1⟩ ⟨_, hci.2⟩) facts (A d) (B d) (f d) (hW d) O W hO).trans (wp_mono frame _ _ fun _ => waits_weaken)

end Cert.Proof.Adj

end
-- ==== Proof.Main.lean ====
/-
  The whole program's run, over any float values: from edge lists in which every edge joins two nodes of its own graph,
  it ends quiescent, the argument unchanged, and its result is the counted tables reshaped.
-/
module

public import proofs.«01_k».proof.Proof.Obligation

@[expose] public section

noncomputable section

namespace Cert.Proof.Adj

open Cert.KernelIdeal Cert.KernelIdeal.Gen

open Idealize.ShloMosaic Idealize.ShloMosaic.StableHlo
open Idealize.ShloMosaic.SparseCore (S V T)
open Idealize.ShloMosaic.SparseCore.Cfg (HIx Pay ownBufs ownSems0 ownCells ownRefs mem_ownCells mem_ownRefs)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and its operations around the call -/

abbrev b0 : DevRef τ sig := Proc.devRef .tc (main_arg0 : Ref sig .tc)
abbrev b1 : DevRef τ sig := Proc.devRef .tc (main_v0 : Ref sig .tc)
abbrev b2 : DevRef τ sig := Proc.devRef .tc (main_v1 : Ref sig .tc)
abbrev b3 : DevRef τ sig := Proc.devRef .tc (main_v2 : Ref sig .tc)
abbrev b4 : DevRef τ sig := Proc.devRef .tc (main_v3 : Ref sig .tc)
abbrev b5 : DevRef τ sig := Proc.devRef .tc (main_v4 : Ref sig .tc)
abbrev b6 : DevRef τ sig := Proc.devRef .tc (main_v5 : Ref sig .tc)
abbrev b7 : DevRef τ sig := Proc.devRef .tc (main_v6 : Ref sig .tc)
abbrev b8 : DevRef τ sig := Proc.devRef .tc (main_v7 : Ref sig .tc)

/-- All of @main's arrays, the three the call touches first. -/
abbrev arrays : Finset (DevRef τ sig) := {b3, b6, b7, b0, b8, b1, b2, b4, b5}
/-- Those the call does not touch. -/
abbrev others : Finset (DevRef τ sig) := {b0, b8, b1, b2, b4, b5}

abbrev slice0 : HloOp τ sig (Elt F) := StableHlo.unary main_arg0 main_v0 ((extractStridedSlice S1x204800 ![0, 0] · slices_S2x204800_S1x204800_0_0) : (⟨S2x204800, .i32⟩ : BufTy).Contents (Elt F) → (⟨S1x204800, .i32⟩ : BufTy).Contents (Elt F))
abbrev flat0 : HloOp τ sig (Elt F) := StableHlo.reshape main_v0 main_v1 (rfl : (.i32 : EltTy) = .i32) shapeCasts_S1x204800_S204800
abbrev rows0 : HloOp τ sig (Elt F) := StableHlo.reshape main_v1 main_v2 (rfl : (.i32 : EltTy) = .i32) shapeCasts_S204800_S64x3200
abbrev slice1 : HloOp τ sig (Elt F) := StableHlo.unary main_arg0 main_v3 ((extractStridedSlice S1x204800 ![1, 0] · slices_S2x204800_S1x204800_1_0) : (⟨S2x204800, .i32⟩ : BufTy).Contents (Elt F) → (⟨S1x204800, .i32⟩ : BufTy).Contents (Elt F))
abbrev flat1 : HloOp τ sig (Elt F) := StableHlo.reshape main_v3 main_v4 (rfl : (.i32 : EltTy) = .i32) shapeCasts_S1x204800_S204800
abbrev rows1 : HloOp τ sig (Elt F) := StableHlo.reshape main_v4 main_v5 (rfl : (.i32 : EltTy) = .i32) shapeCasts_S204800_S64x3200
abbrev cube : HloOp τ sig (Elt F) := StableHlo.reshape main_v6 main_v7 (rfl : (.f32 : EltTy) = .f32) shapeCasts_S64x65536_S64x256x256

/-- The operations before the call. -/
abbrev before : List (HloOp τ sig (Elt F)) := [slice0, flat0, rows0, slice1, flat1, rows1]

/-- The arrays at the launch, at the call, and after it. -/
def atLaunch (d : Dev nD) : Valuation τ sig (Elt F) := fun b => m (d, b)
def atCall (d : Dev nD) : Valuation τ sig (Elt F) := StableHlo.after before (atLaunch m d)

/-- The argument and the result, as locations of device `d`. -/
abbrev aLoc (d : Dev nD) : Loc nD τ sig := (SparseCore.T d).loc main_arg0
abbrev rLoc (d : Dev nD) : Loc nD τ sig := (SparseCore.T d).loc main_v7

/-- The edge lists the call reads, from the argument: `which = 0` the sources, `which = 1` the destinations. -/
def edges (x : S2x204800.Idx → BitVec 32) (which : Fin 2) : S64x3200.Idx → BitVec 32 :=
  fun j => x (ix2 which ⟨3200 * (j 0).val + (j 1).val, by
    have h0 : (j 0).val < 64 := (j 0).isLt
    have h1 : (j 1).val < 3200 := (j 1).isLt
    omega⟩)

def argOf (d : Dev nD) : S2x204800.Idx → BitVec 32 := m (aLoc d)

/-- Two reshapes of a row of the argument, read at a graph and an edge of it. -/
theorem cast_slice (x : S2x204800.Idx → BitVec 32) (which : Fin 2) (hs : S2x204800.Slices ![which.val, 0] S1x204800) (j : S64x3200.Idx) :
    shapeCast S64x3200 (shapeCast S204800 (extractStridedSlice S1x204800 ![which.val, 0] x hs) shapeCasts_S1x204800_S204800) shapeCasts_S204800_S64x3200 j
      = edges x which j := by
  have h0 : (j 0).val < 64 := (j 0).isLt
  have h1 : (j 1).val < 3200 := (j 1).isLt
  have e1 : Shape.reshapeEquiv shapeCasts_S204800_S64x3200 j = (ix1 ⟨3200 * (j 0).val + (j 1).val, by omega⟩ : S204800.Idx) :=
    Shape.reshapeEquiv_eq_of_rowMajor _ (by
      rw [Shape.rowMajor_val_one, Shape.rowMajor_val_two]
      show 3200 * (j 0).val + (j 1).val = (j 0).val * 3200 + (j 1).val
      omega)
  have e2 : Shape.reshapeEquiv shapeCasts_S1x204800_S204800 (ix1 ⟨3200 * (j 0).val + (j 1).val, by omega⟩ : S204800.Idx)
      = (ix2 0 ⟨3200 * (j 0).val + (j 1).val, by omega⟩ : S1x204800.Idx) :=
    Shape.reshapeEquiv_eq_of_rowMajor _ (by
      rw [Shape.rowMajor_val_one, Shape.rowMajor_val_two]
      show 0 * 204800 + (3200 * (j 0).val + (j 1).val) = 3200 * (j 0).val + (j 1).val
      omega)
  unfold shapeCast extractStridedSlice edges
  rw [e1, e2]
  congr 1
  funext a
  fin_cases a
  · exact Fin.ext (by show which.val + 0 = which.val; omega)
  · exact Fin.ext (by show 0 + (3200 * (j 0).val + (j 1).val) = 3200 * (j 0).val + (j 1).val; omega)

theorem atCall_src (d : Dev nD) : atCall m d b3 = edges (argOf m d) 0 := by
  unfold atCall atLaunch
  after_results
  funext j
  exact cast_slice (argOf m d) 0 slices_S2x204800_S1x204800_0_0 j

theorem atCall_dst (d : Dev nD) : atCall m d b6 = edges (argOf m d) 1 := by
  unfold atCall atLaunch
  after_results
  funext j
  exact cast_slice (argOf m d) 1 slices_S2x204800_S1x204800_1_0 j

theorem atCall_arg (d : Dev nD) : atCall m d b0 = m (aLoc d) := by
  unfold atCall atLaunch
  after_results

/-- The edge lists and the table array as the call finds them. -/
def srcs (d : Dev nD) : Buf (Elt F) (sLoc d) := atCall m d b3
def dsts (d : Dev nD) : Buf (Elt F) (tLoc d) := atCall m d b6
def olds (d : Dev nD) : Buf (Elt F) (oLoc d) := atCall m d b7

/-- The arrays after the call, and at the end. -/
def afterCall (d : Dev nD) : Valuation τ sig (Elt F) := Function.update (atCall m d) b7 (tables (F := F) (srcs m d) (dsts m d))
def atEnd (d : Dev nD) : Valuation τ sig (Elt F) := (cube (F := F)).result (afterCall m d)

/-- The program's result: the tables, each read as 256 rows of 256. -/
def result (d : Dev nD) : Buf (Elt F) (rLoc d) := atEnd m d b8

theorem result_apply (d : Dev nD) (j : S64x256x256.Idx) :
    result m d j = tables (F := F) (edges (argOf m d) 0) (edges (argOf m d) 1) (ix2 (j 0) ⟨256 * (j 1).val + (j 2).val, by
      have h1 : (j 1).val < 256 := (j 1).isLt
      have h2 : (j 2).val < 256 := (j 2).isLt
      omega⟩) := by
  have h1 : (j 1).val < 256 := (j 1).isLt
  have h2 : (j 2).val < 256 := (j 2).isLt
  have e1 : result m d = fun j => shapeCast S64x256x256 (afterCall m d b7) shapeCasts_S64x65536_S64x256x256 j := by
    unfold result atEnd cube
    rw [StableHlo.reshape_result]
    rfl
  have e2 : Shape.reshapeEquiv shapeCasts_S64x65536_S64x256x256 j = (ix2 (j 0) ⟨256 * (j 1).val + (j 2).val, by omega⟩ : S64x65536.Idx) :=
    Shape.reshapeEquiv_eq_of_rowMajor _ (by
      rw [Shape.rowMajor_val_two, Shape.rowMajor_val_three]
      show (j 0).val * 65536 + (256 * (j 1).val + (j 2).val) = ((j 0).val * 256 + (j 1).val) * 256 + (j 2).val
      omega)
  rw [e1]
  show afterCall m d b7 (Shape.reshapeEquiv shapeCasts_S64x65536_S64x256x256 j) = _
  unfold afterCall
  rw [e2, Function.update_self]
  unfold srcs dsts
  rw [atCall_src, atCall_dst]

theorem atEnd_arg (d : Dev nD) : atEnd m d b0 = m (aLoc d) := by
  unfold atEnd afterCall
  rw [reshape_result_ne (x := main_v6) (y := main_v7) _ _ _ _ _ (show (main_arg0 : Ref sig .tc) ≠ main_v7 by decide),
    Function.update_of_ne (show b0 ≠ b7 by decide), atCall_arg]

/-! ## Held arrays -/

omit [FloatOps F] in
theorem unscopedBufs_eq (d : Dev nD) (W : (b : Ref sig .tc) → Buf (Elt F) ((d.tc : Thread nD τ).loc b)) :
    (unscopedBufs d W : sProp 𝕄) = bigSep {main_v2, main_v5, main_v6, main_arg0, main_v7, main_v0, main_v1, main_v3, main_v4}
      fun b => (SparseCore.T d).loc b ↦{fullShare} W b := by
  unfold unscopedBufs
  rw [show (Finset.univ.filter fun b : Ref sig .tc => ¬ b.isScoped) = {main_v2, main_v5, main_v6, main_arg0, main_v7, main_v0, main_v1, main_v3, main_v4} by decide]

theorem unscoped_held (d : Dev nD) : (unscopedBufs d (fun b => m ((SparseCore.T d).loc b)) : sProp 𝕄) = held (T d) arrays (atLaunch m d) := by
  rw [unscopedBufs_eq]
  unfold held arrays
  iterate 8 rw [SparseCore.bigSep_insert' (by decide)]
  iterate 8 rw [SparseCore.bigSep_insert' (by decide)]
  rw [bigSep_singleton, bigSep_singleton]
  rfl

omit [FloatOps F] in
theorem regroup (X Y Z : sProp 𝕄) : iprop((X ∗ Y) ∗ Z) = iprop(X ∗ Y ∗ Z) := equiv_iff.mp ⟨BI.sep_assoc, BI.sep_assoc'⟩

omit [FloatOps F] in
/-- The three arrays the call touches, apart from the others. -/
theorem held_call (d : Dev nD) (V : Valuation τ sig (Elt F)) :
    (held (T d) arrays V : sProp 𝕄)
      = iprop(((sLoc d ↦{fullShare} V b3) ∗ (tLoc d ↦{fullShare} V b6) ∗ oLoc d ↦{fullShare} V b7) ∗ held (T d) others V) := by
  unfold held arrays
  rw [SparseCore.bigSep_insert' (by decide), SparseCore.bigSep_insert' (by decide), SparseCore.bigSep_insert' (by decide)]
  rw [regroup, regroup]

theorem others_afterCall (d : Dev nD) : (held (T d) others (atCall m d) : sProp 𝕄) = held (T d) others (afterCall m d) := by
  unfold held
  refine bigSep_congr fun b hb => ?_
  have hne : b ≠ b7 := fun e => absurd (e ▸ hb) (by decide)
  unfold afterCall
  rw [Function.update_of_ne hne]

/-- What @main leaves: the argument and the result. -/
def FIN (d : Dev nD) : sProp 𝕄 :=
  iprop((aLoc d ↦{fullShare} m (aLoc d)) ∗ rLoc d ↦{fullShare} result m d)

theorem held_end (d : Dev nD) : (held (T d) arrays (atEnd m d) : sProp 𝕄) ⊢ FIN m d := by
  rw [held_call]
  unfold held others
  rw [SparseCore.bigSep_insert' (by decide), SparseCore.bigSep_insert' (by decide), atEnd_arg]
  unfold FIN
  iintro ⟨-, H0, H8, -⟩
  isplitl [H0]; · iexact H0
  iexact H8

/-! ## @main -/

theorem st0_eq (d : Dev nD) :
    (bigSep Finset.univ fun c : Fin ((K (F := F)).nCore 0) => (P (srcs m) (dsts m) (olds m)).st 0 d c)
      = iprop((sLoc d ↦{fullShare} srcs m d) ∗ (tLoc d ↦{fullShare} dsts m d) ∗ oLoc d ↦{fullShare} olds m d) :=
  (whole_eq_tiles d (srcs m d) (dsts m d) (olds m d)).symm

theorem dn0_eq (d : Dev nD) :
    (bigSep Finset.univ fun c : Fin ((K (F := F)).nCore 0) => (P (srcs m) (dsts m) (olds m)).dn 0 d c)
      = iprop((sLoc d ↦{fullShare} srcs m d) ∗ (tLoc d ↦{fullShare} dsts m d) ∗ oLoc d ↦{fullShare} tables (F := F) (srcs m d) (dsts m d)) :=
  (whole_eq_tiles d (srcs m d) (dsts m d) (tables (F := F) (srcs m d) (dsts m d))).symm

theorem afterCall_parts (d : Dev nD) :
    (held (T d) arrays (afterCall m d) : sProp 𝕄)
      = iprop(((sLoc d ↦{fullShare} srcs m d) ∗ (tLoc d ↦{fullShare} dsts m d) ∗ oLoc d ↦{fullShare} tables (F := F) (srcs m d) (dsts m d))
          ∗ held (T d) others (atCall m d)) := by
  rw [held_call, others_afterCall]
  unfold afterCall
  rw [Function.update_of_ne (show b3 ≠ b7 by decide), Function.update_of_ne (show b6 ≠ b7 by decide), Function.update_self]
  rfl

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (srcs m) (dsts m) (olds m)).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

theorem hmain (κ : GSem nD τ sig → ℕ) (d : Dev nD) :
    iprop((K (F := F)).ctx EH (P (srcs m) (dsts m) (olds m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := slice0) (S := arrays) (show ({b0, b1} : Finset (DevRef τ sig)) ⊆ arrays by decide) (V := atLaunch m d)) $$ [Hb Hheld]
  · isplitl [Hb] <;> iassumption
  iintro ⟨Hb, Hheld⟩; rw [wp_ret]; imodintro
  iapply (wp_hlo_within 𝒱 (SparseCore.T d) none Set.univ (op := flat0) (S := arrays) (show ({b1, b2} : Finset (DevRef τ sig)) ⊆ arrays by decide)) $$ [Hb Hheld]
  · isplitl [Hb] <;> iassumption
  iintro ⟨Hb, Hheld⟩; rw [wp_ret]; imodintro
  iapply (wp_hlo_within 𝒱 (SparseCore.T d) none Set.univ (op := rows0) (S := arrays) (show ({b2, b3} : Finset (DevRef τ sig)) ⊆ arrays by decide)) $$ [Hb Hheld]
  · isplitl [Hb] <;> iassumption
  iintro ⟨Hb, Hheld⟩; rw [wp_ret]; imodintro
  iapply (wp_hlo_within 𝒱 (SparseCore.T d) none Set.univ (op := slice1) (S := arrays) (show ({b0, b4} : Finset (DevRef τ sig)) ⊆ arrays by decide)) $$ [Hb Hheld]
  · isplitl [Hb] <;> iassumption
  iintro ⟨Hb, Hheld⟩; rw [wp_ret]; imodintro
  iapply (wp_hlo_within 𝒱 (SparseCore.T d) none Set.univ (op := flat1) (S := arrays) (show ({b4, b5} : Finset (DevRef τ sig)) ⊆ arrays by decide)) $$ [Hb Hheld]
  · isplitl [Hb] <;> iassumption
  iintro ⟨Hb, Hheld⟩; rw [wp_ret]; imodintro
  iapply (wp_hlo_within 𝒱 (SparseCore.T d) none Set.univ (op := rows1) (S := arrays) (show ({b5, b6} : Finset (DevRef τ sig)) ⊆ arrays by decide)) $$ [Hb Hheld]
  · isplitl [Hb] <;> iassumption
  iintro ⟨Hb, Hheld⟩; rw [wp_ret]; imodintro
  ihave Hheld := (Entails.of_eq (show (held (T d) arrays ((rows1 (F := F)).result (flat1.result (slice1.result (rows0.result (flat0.result (slice0.result (atLaunch m d))))))) : sProp 𝕄)
    = held (T d) arrays (atCall m d) from rfl)) $$ Hheld
  ihave Hh := (Entails.of_eq (held_call (F := F) d (atCall m d))) $$ Hheld
  icases Hh with ⟨Hcall, Hrest⟩
  iapply ((K (F := F)).wp_run (D (F := F)) 𝒱 (EH := EH) (P := P (srcs m) (dsts m) (olds m)) κ d 0) $$ [Hst Hcall Hb Hrest Hts]
  isplitr; · iexact Hctx
  isplitl [Hst]; · iexact Hst
  isplitl [Hcall]
  · rw [st0_eq]; iexact Hcall
  iintro ⟨Hst, Hdn⟩
  ihave Hdn := (Entails.of_eq (dn0_eq m d)) $$ Hdn
  iapply (wp_hlo_within 𝒱 (SparseCore.T d) none Set.univ (op := cube) (S := arrays) (show ({b7, b8} : Finset (DevRef τ sig)) ⊆ arrays by decide) (V := afterCall m d)) $$ [Hb Hdn Hrest]
  · isplitl [Hb]; · iexact Hb
    rw [afterCall_parts]
    isplitl [Hdn]; · iexact Hdn
    iexact Hrest
  iintro ⟨Hb, Hheld⟩
  rw [wp_ret]; imodintro; imodintro
  isplitl [Hst]; · iexact Hst
  isplitl [Hheld]; · iapply (held_end m d); iexact Hheld
  isplitl [Hb] <;> iassumption

/-! ## The run -/

/-- What a final state holds on device `d`. -/
def fq (d : Dev nD) (s' : Phys nD τ sig (Elt F)) : Prop := s'.mem.mem (aLoc d) = m (aLoc d) ∧ s'.mem.mem (rLoc d) = result m d

theorem hfin (d : Dev nD) (s' : Phys nD τ sig (Elt F)) : iprop(FIN m d ∗ SI s') ⊢ (⌜fq m d s'⌝ : sProp 𝕄) := by
  unfold FIN
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun i => ha i (Finset.mem_univ i), funext fun i => hr i (Finset.mem_univ i)⟩

def QC : PUnit × MemSt nD τ sig (Elt F) → Prop :=
  fun r => (∀ c : Dev nD, r.2.mem (aLoc c) = m (aLoc c) ∧ r.2.mem (rLoc c) = result m c) ∧ r.2.sem = fun _ => 0

/-- The program's run, from any memory whose edges each join two nodes of their own graph. -/
theorem run_main [∀ e, Nonempty (Elt F e)] (hW : ∀ d, Within (srcs m d) (dsts m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (srcs m) (dsts m) (olds m)) (A := ∅) facts v₀
    (fun q hq => match q with | 0 => nomatch hq)
    (fun q _ => match q with | 0 => tileObl (srcs m) (dsts m) (olds m) hW)
    (fun q _ => match q with | 0 => SparseCore.Cfg.VecSplit.of_plain (vecSplit (srcs m) (dsts m) (olds m)))
    m ρ main (fun _ => iprop(emp)) (FIN m) (u₀ (F := F)) (sep_elim_left.trans (hu₀ m)) (hmain m ρ) (fq m) (hfin m) (QC m) (fun _ h hz => ⟨h, hz⟩)

end Cert.Proof.Adj

end
-- ==== Proof.Range.lean ====
/-
  What the precondition says of each edge: both of its ends are among the 200 nodes of the graph the edge belongs to.
-/
module

public import proofs.«01_k».proof.Proof.Main
public import proofs.«01_k».proof.Proof.Gen.Pre_own_graph
public import Idealize.ShloMosaic.Lib.ReduceAll
public import Idealize.ShloMosaic.Lib.Routing.Words
public import Idealize.ShloMosaic.Lib.Affine

@[expose] public section

noncomputable section

namespace Cert.Proof.Adj

open Cert.KernelIdeal Cert.KernelIdeal.Gen
open Idealize.ShloMosaic
open Idealize.ShloMosaic.ValueIdx (ix1 ix2 ix0)

/-- Edge `e`'s graph, as the host computes it. -/
theorem graph_word {hb : (Routing.shape0).BroadcastsInDim S204800 (![] : Fin 0 → Fin S204800.rank)} (e : Fin 204800) :
    Routing.pyDiv hb (iotaInDim S204800 32 0) (constantI Routing.shape0 32 3200#32) (ix1 e) = BitVec.ofNat 32 (e.val / 3200) :=
  Routing.pyDiv_ap hb _ _ _ (a := e.val) (b := 3200) rfl rfl (by have := e.isLt; omega) (by decide) (by decide)

theorem base_mul (g : ℕ) : base g = BitVec.ofNat 32 g * 200#32 := by
  unfold base
  rw [Nat.mul_comm, BitVec.ofNat_mul]

/-- A word that is at least 0 and below 200 as a signed number is below 200. -/
theorem small_of_signed {w : BitVec 32} (h0 : IntOp.cmpi .sge w 0#32 = 1#1) (h1 : IntOp.cmpi .slt w 200#32 = 1#1) : w.toNat < 200 := by
  rw [IntOp.cmpi_sge] at h0
  rw [IntOp.cmpi_slt] at h1
  have a : (0#32 : BitVec 32).toInt = 0 := by decide
  have b : (200#32 : BitVec 32).toInt = 200 := by decide
  rw [a] at h0
  rw [b] at h1
  rw [BitVec.toInt_eq_toNat_cond] at h0 h1
  have := w.isLt
  split at h0 <;> omega

/-- Every edge's end, counted from its graph's first node, is below 200. -/
theorem local_lt {F : FTy → Type} [FloatOps F] (x : S2x204800.Idx → BitVec 32) (h : Cert.Pre_own_graph.fn (F := F) x = fun _ => 1#1)
    (which : Fin 2) (e : Fin 204800) : (x (ix2 which e) - base (e.val / 3200)).toNat < 200 := by
  have h' := congrFun h ix0
  have hall := Host.reduce_andi_all _ _ _ _ _ h' (ix2 which e)
  rw [show ∀ (p q : IVec Cert.Pre_own_graph.S2x204800 1) i, andi p q i = IntOp.andi (p i) (q i) from fun _ _ _ => rfl, IntOp.andi_eq_one] at hall
  have hg : x (ix2 which e) - base (e.val / 3200)
      = subi x (broadcastInDim Cert.Pre_own_graph.S2x204800 ![0, 1] Cert.Pre_own_graph.Facts.bcast_S1x204800_S2x204800_0_1
          (muli (broadcastInDim Cert.Pre_own_graph.S1x204800 ![1] Cert.Pre_own_graph.Facts.bcast_S204800_S1x204800_1
            (Cert.Pre_own_graph.fn_floor_divide (F := F) (iotaInDim Cert.Pre_own_graph.S204800 32 0) (constantI Cert.Pre_own_graph.S_ 32 3200#32)))
            (broadcastInDim Cert.Pre_own_graph.S1x204800 ![] Cert.Pre_own_graph.Facts.bcast_S_S1x204800 (constantI Cert.Pre_own_graph.S_ 32 200#32)))) (ix2 which e) := by
    refine congrArg (x (ix2 which e) - ·) ?_
    rw [broadcastInDim_apply _ _ _ (ix2 which e) (ix2 0 e) (by intro a; fin_cases a <;> rfl)]
    rw [Routing.muli_ap, broadcastInDim_apply _ _ _ (ix2 0 e) (ix1 e) (by intro a; fin_cases a; rfl)]
    rw [show Cert.Pre_own_graph.fn_floor_divide (F := F) (iotaInDim Cert.Pre_own_graph.S204800 32 0) (constantI Cert.Pre_own_graph.S_ 32 3200#32) (ix1 e)
      = BitVec.ofNat 32 (e.val / 3200) from graph_word (hb := Cert.Pre_own_graph.Facts.bcast_S_S204800) e]
    exact base_mul _
  rw [hg]
  exact small_of_signed hall.1 hall.2

/-- The cell an edge names, from its two local ends. -/
theorem cell_toNat {a b : BitVec 32} (ha : a.toNat < 200) (hb : b.toNat < 200) : (a * 256#32 + b).toNat = 256 * a.toNat + b.toNat := by
  rw [BitVec.toNat_add, BitVec.toNat_mul]
  show (a.toNat * 256 % 2 ^ 32 + b.toNat) % 2 ^ 32 = _
  omega

/-- Edge `k` of graph `g` is edge `3200 g + k` of the argument. -/
theorem edge_local {F : FTy → Type} [FloatOps F] (x : S2x204800.Idx → BitVec 32) (h : Cert.Pre_own_graph.fn (F := F) x = fun _ => 1#1)
    (which : Fin 2) (g : Fin 64) (k : Fin 3200) : (edges x which (ix2 g k) - base g.val).toNat < 200 := by
  have hg := g.isLt
  have hk := k.isLt
  have := local_lt x h which ⟨3200 * g.val + k.val, by omega⟩
  rw [show (3200 * g.val + k.val) / 3200 = g.val by omega] at this
  exact this

/-- Under the precondition every cell the kernel adds to is one of the table's 65536. -/
theorem within_of_pre {F : FTy → Type} [FloatOps F] (x : S2x204800.Idx → BitVec 32) (h : Cert.Pre_own_graph.fn (F := F) x = fun _ => 1#1) :
    Within (edges x 0) (edges x 1) := by
  intro g n hn
  unfold k0_chk1
  intro a i
  fin_cases a
  have hs := edge_local x h 0 g ⟨(16 * n + (i 0).val) % 3200, Nat.mod_lt _ (by decide)⟩
  have ht := edge_local x h 1 g ⟨(16 * n + (i 0).val) % 3200, Nat.mod_lt _ (by decide)⟩
  have e := cell_toNat ht hs
  show ((edges x 1 (ix2 g ⟨(16 * n + (i 0).val) % 3200, _⟩) - base g.val) * 256#32 + (edges x 0 (ix2 g ⟨(16 * n + (i 0).val) % 3200, _⟩) - base g.val)).toNat < 65536
  rw [e]
  omega

/-- The same of the edge lists the call finds. -/
theorem within_call {F : FTy → Type} [FloatOps F] (m : (ℓ : Loc nD τ sig) → Buf (Elt F) ℓ) (d : Dev nD)
    (h : Cert.Pre_own_graph.fn (F := F) (argOf m d) = fun _ => 1#1) : Within (srcs m d) (dsts m d) := by
  unfold srcs dsts
  rw [atCall_src, atCall_dst]
  exact within_of_pre _ h

end Cert.Proof.Adj

end
-- ==== Proof.Count.lean ====
/-
  The accumulator over exact numbers: after `n` trips a cell holds how many of the first `16 n` edges name it.

  One trip stores, at the last lane naming a cell, how many of the sixteen lanes name it; so each cell named is added to
  once, by the number of lanes that name it.
-/
module

public import proofs.«01_k».proof.Proof.Tally
public import Idealize.ShloMosaic.PureOps.Ideal.Laws

@[expose] public section

noncomputable section

namespace Cert.Proof.Adj

open Cert.KernelIdeal Cert.KernelIdeal.Gen
open Idealize.ShloMosaic
open Idealize.ShloMosaic.ValueIdx (ix1 ix2)

/-- A number of things, as an exact float. -/
def num (n : ℕ) : EReal := ((n : ℝ) : EReal)

theorem num_add (a b : ℕ) : num (a + b) = num a + num b := by
  unfold num
  rw [Nat.cast_add, EReal.coe_add]

/-- Adding values onto one cell, lane after lane, is adding the sum of those that name it. -/
theorem addLanes {ι κ : Type} [DecidableEq κ] (l : List ι) (on : ι → Prop) [DecidablePred on] (at' : ι → κ) (y : ι → EReal) (k : κ) :
    ∀ f : κ → EReal, l.foldl (fun g x => if on x then fun j => if j = at' x then g (at' x) + y x else g j else g) f k
      = f k + (l.map fun x => if on x ∧ at' x = k then y x else 0).sum := by
  induction l with
  | nil => intro f; simp
  | cons a l ih =>
    intro f
    rw [List.foldl_cons, ih, List.map_cons, List.sum_cons, ← add_assoc]
    congr 1
    by_cases h : on a
    · by_cases hk : at' a = k
      · subst hk; simp [h]
      · simp [h, hk, Ne.symm hk]
    · simp [h]

theorem ofLane_eq (i : Fin 16) : (Shape.ofLane (d := ![16]) i : S16.Idx) = ix1 i := by
  funext a; fin_cases a; rfl

theorem pos_lane (i : S16.Idx) : (S16.rowMajor i).val = (i 0).val := Shape.rowMajor_val_one _

/-- How many of sixteen words are `k`. -/
def named (v : IVec S16 32) (k : ℕ) : ℕ := ∑ i : Fin 16, if (v (ix1 i)).toNat = k then 1 else 0

theorem last_mask (v : IVec S16 32) (i : Fin 16) :
    k0_pay4 v (ix1 i) = 1 ↔ ∀ j : Fin 16, i < j → v (ix1 j) ≠ v (ix1 i) := by
  unfold k0_pay4 scanCount
  dsimp only
  constructor
  · intro h j hj
    split at h
    · rename_i hc
      exact fun e => hc.2 (ix1 j) (by rw [pos_lane, pos_lane]; exact hj) ⟨rfl, e⟩
    · exact absurd h (by decide)
  · intro h
    rw [if_pos]
    refine ⟨rfl, fun j hj hc => ?_⟩
    rw [pos_lane, pos_lane] at hj
    refine h (j 0) hj ?_
    rw [← hc.2]
    exact congrArg v (by funext a; fin_cases a; rfl)

/-- What the last lane naming a cell stores: how many lanes name it. -/
theorem last_count (v : IVec S16 32) (i : Fin 16) (h : ∀ j : Fin 16, i < j → v (ix1 j) ≠ v (ix1 i)) :
    k0_pay5 (F := Ideal) v (ix1 i) = num (named v (v (ix1 i)).toNat) := by
  have hcard : (Finset.univ.filter fun j : S16.Idx => (S16.rowMajor j).val ≤ (S16.rowMajor (ix1 i)).val ∧ k0_pay3 j = 1 ∧ v j = v (ix1 i)).card
      = named v (v (ix1 i)).toNat := by
    unfold named
    rw [← Finset.card_filter]
    refine Finset.card_bij (fun j _ => j 0) ?_ ?_ ?_
    · intro j hj
      simp only [Finset.mem_filter, Finset.mem_univ, true_and] at hj
      rw [← hj.2.2]
      refine Finset.mem_filter.mpr ⟨Finset.mem_univ _, ?_⟩
      exact congrArg (fun x => (v x).toNat) (show (ix1 (j 0) : S16.Idx) = j by funext a; fin_cases a; rfl)
    · intro j _ j' _ e
      funext a; fin_cases a; exact e
    · intro j hj
      simp only [Finset.mem_filter, Finset.mem_univ, true_and] at hj
      have hv : v (ix1 j) = v (ix1 i) := BitVec.eq_of_toNat_eq hj
      refine ⟨ix1 j, ?_, rfl⟩
      simp only [Finset.mem_filter, Finset.mem_univ, true_and]
      refine ⟨?_, rfl, hv⟩
      rw [pos_lane, pos_lane]
      by_contra hlt
      exact h j (by simpa using hlt) hv
  have hle : named v (v (ix1 i)).toNat ≤ 16 := by
    unfold named
    rw [← Finset.card_filter]
    exact (Finset.card_le_univ _).trans (by simp)
  show (((BitVec.ofNat 32 _ : BitVec 32).toInt : ℝ) : EReal) = _
  rw [hcard]
  unfold num
  generalize named v (v (ix1 i)).toNat = c at hle
  have : (BitVec.ofNat 32 c).toInt = c := by
    rw [BitVec.toInt_eq_toNat_cond, BitVec.toNat_ofNat]; omega
  rw [this]
  simp

/-- Over the lanes that are the last to name cell `k`, the stored counts add up to the number of lanes naming it. -/
theorem sum_last (v : IVec S16 32) (k : ℕ) :
    (∑ i : Fin 16, if k0_pay4 v (ix1 i) = 1 ∧ (v (ix1 i)).toNat = k then k0_pay5 (F := Ideal) v (ix1 i) else 0) = num (named v k) := by
  classical
  by_cases hne : (Finset.univ.filter fun i : Fin 16 => (v (ix1 i)).toNat = k).Nonempty
  · set S := Finset.univ.filter fun i : Fin 16 => (v (ix1 i)).toNat = k with hS
    have hm := S.max'_mem hne
    set z := S.max' hne with hz
    have hzk : (v (ix1 z)).toNat = k := (Finset.mem_filter.mp hm).2
    have hlast : ∀ j : Fin 16, z < j → v (ix1 j) ≠ v (ix1 z) := fun j hj e =>
      absurd (S.le_max' j (Finset.mem_filter.mpr ⟨Finset.mem_univ _, by rw [e, hzk]⟩)) (not_le.mpr hj)
    rw [Finset.sum_eq_single z]
    · rw [if_pos ⟨(last_mask v z).mpr hlast, hzk⟩, last_count v z hlast, hzk]
    · intro b _ hb
      rw [if_neg]
      rintro ⟨h1, h2⟩
      have hbz : b ≤ z := S.le_max' b (Finset.mem_filter.mpr ⟨Finset.mem_univ _, h2⟩)
      exact (last_mask v b).mp h1 z (lt_of_le_of_ne hbz hb) (BitVec.eq_of_toNat_eq (by rw [hzk, h2]))
    · intro h; exact absurd (Finset.mem_univ _) h
  · rw [Finset.not_nonempty_iff_eq_empty, Finset.filter_eq_empty_iff] at hne
    have h0 : named v k = 0 := Finset.sum_eq_zero fun i _ => if_neg (hne (Finset.mem_univ i))
    rw [h0, Finset.sum_eq_zero fun i _ => if_neg fun h => hne (Finset.mem_univ i) h.2]
    simp [num]

/-- One trip adds to each cell the number of lanes naming it. -/
theorem bump_apply (v : IVec S16 32) (h : k0_chk1 v) (acc : Vec Ideal S65536 .f32) (k : Fin 65536) :
    (bump (F := Ideal) v acc (ix1 k) : EReal) = acc (ix1 k) + num (named v k.val) := by
  rw [bump_of h, ← sum_last v k.val]
  have e := addLanes (List.finRange 16) (fun i : Fin 16 => k0_pay4 v (Shape.ofLane (d := ![16]) i) = 1)
    (fun i : Fin 16 => (idxAt ![v] (k0_idx1_inb v h) (Shape.ofLane (d := ![16]) i) : S65536.Idx))
    (fun i : Fin 16 => k0_pay5 (F := Ideal) v (Shape.ofLane (d := ![16]) i)) (ix1 k) acc
  rw [← List.sum_ofFn, List.ofFn_eq_map]
  refine Eq.trans ?_ (e.trans ?_)
  · unfold storeIdx
    refine congrFun (congrArg (fun g => List.foldl g acc (List.finRange 16)) ?_) (ix1 k)
    funext g i
    refine if_congr Iff.rfl ?_ rfl
    funext j
    by_cases hj : j = (idxAt ![v] (k0_idx1_inb v h) (Shape.ofLane (d := ![16]) i) : S65536.Idx)
    · exact (if_pos fun a => by rw [hj]).trans (by rw [if_pos hj]; rfl)
    · exact (if_neg fun h' => hj (funext fun a => Fin.ext (h' a))).trans (if_neg hj).symm
  · refine congrArg (fun l : List EReal => acc (ix1 k) + l.sum) (List.map_congr_left fun i _ => ?_)
    rw [ofLane_eq]
    refine if_congr (and_congr Iff.rfl ?_) rfl rfl
    constructor
    · intro hj; exact congrArg (fun x : S65536.Idx => (x 0).val) hj
    · intro hj; funext a; fin_cases a; exact Fin.ext hj

/-- The cell edge `e` of a graph names. -/
def cellOf (b : BitVec 32) (s t : S3200.Idx → BitVec 32) (e : ℕ) : ℕ :=
  ((t (ix1 ⟨e % 3200, Nat.mod_lt _ (by decide)⟩) - b) * 256#32 + (s (ix1 ⟨e % 3200, Nat.mod_lt _ (by decide)⟩) - b)).toNat

/-- After `n` trips a cell holds the number of the first `16 n` edges naming it. -/
theorem accum_apply (b : BitVec 32) (s t : S3200.Idx → BitVec 32) (k : Fin 65536) :
    ∀ n, (∀ n' < n, k0_chk1 (cells b (lanes s n') (lanes t n'))) →
      (accum (F := Ideal) b s t n (ix1 k) : EReal) = num (∑ e ∈ Finset.range (16 * n), if cellOf b s t e = k.val then 1 else 0)
  | 0, _ => by
    have e : (accum (F := Ideal) b s t 0 (ix1 k) : EReal) = 0 := Ideal.ofBits_zero_f32
    rw [e]
    simp [num]
  | n + 1, h => by
    show (bump (F := Ideal) (cells b (lanes s n) (lanes t n)) (accum b s t n) (ix1 k) : EReal) = _
    rw [bump_apply _ (h n (Nat.lt_succ_self n)), accum_apply b s t k n fun n' hn' => h n' (Nat.lt_succ_of_lt hn'), ← num_add]
    rw [show 16 * (n + 1) = 16 * n + 16 by ring, Finset.sum_range_add, Finset.sum_range (n := 16)]
    rfl

end Cert.Proof.Adj

end
-- ==== Proof.Named.lean ====
/-
  The reference's result over exact numbers: cell (g, d, s) holds how many edges of graph `g` run from its local node `s`
  to its local node `d`.
-/
module

public import proofs.«01_k».proof.Proof.Gen.ReferenceIdeal.Run
public import proofs.«01_k».proof.Proof.Range
public import proofs.«01_k».proof.Proof.Count
public import Idealize.ShloMosaic.Lib.IdealHost
public import Idealize.ShloMosaic.Lib.Pipeline.Value

@[expose] public section

noncomputable section

namespace Cert.Proof.Adj

open Cert.ReferenceIdeal Cert.ReferenceIdeal.Gen
open Idealize.ShloMosaic Idealize.ShloMosaic.TcCoe
open Idealize.ShloMosaic.ValueIdx (ix0 ix1 ix2 ix3)

/-! ## The scatter's three index columns -/

/-- Every edge's graph. -/
def graphs : IVec S204800 32 := Routing.pyDiv bcast_S_S204800 (iotaInDim S204800 32 0) (id (constantI S_ 32 3200#32))

/-- Row `which` of the edges, less the first node of each edge's graph. -/
def locals (x : S2x204800.Idx → BitVec 32) (which : Fin 2) (hs : S2x204800.Slices ![which.val, 0] S1x204800) : IVec S204800 32 :=
  subi (shapeCast S204800 (extractStridedSlice S1x204800 ![which.val, 0] x hs) shapeCasts_S1x204800_S204800)
    (muli graphs (broadcastInDim S204800 ![] bcast_S_S204800 (constantI S_ 32 200#32)))

/-- An index, counted from the end when negative. -/
def wrap (n : BitVec 32) (v : IVec S204800 32) : IVec S204800 32 :=
  select (cmpi .slt v (broadcastInDim S204800 ![] bcast_S_S204800 (constantI S_ 32 0#32)))
    (addi v (broadcastInDim S204800 ![] bcast_S_S204800 (constantI S_ 32 n))) v

/-- A column of the index array. -/
def column (v : IVec S204800 32) : IVec S204800x1 32 := broadcastInDim S204800x1 ![0] bcast_S204800_S204800x1_0 v

/-- Its columns: graph, destination, source. -/
abbrev columns (x : S2x204800.Idx → BitVec 32) : List ((s : Shape) × (s.Idx → BitVec 32)) :=
  [⟨S204800x1, column (wrap 64#32 graphs)⟩, ⟨S204800x1, column (wrap 256#32 (locals x 1 slices_S2x204800_S1x204800_1_0))⟩,
    ⟨S204800x1, column (wrap 256#32 (locals x 0 slices_S2x204800_S1x204800_0_0))⟩]

/-- The index array. -/
def starts (x : S2x204800.Idx → BitVec 32) : IVec S204800x3 32 :=
  concatenate S204800x3 1 (columns x) concatenates_S204800x1_S204800x1_S204800x1_S204800x3_d1

set_option maxRecDepth 8192 in
theorem res_eq (m : (ℓ : Loc nD τ sig) → Buf (Elt Ideal) ℓ) (c : Dev nD) :
    Value.res_out0 (F := Ideal) m c
      = Host.scatterAdd (F := Ideal) scatter_S64x256x256_S204800x3_S204800_n_012_012_1
          (broadcastInDim S64x256x256 ![] bcast_S_S64x256x256 (constant S_ .f32 0x00000000#32))
          (starts (m ((c.tc : Thread nD τ).loc main_arg0)))
          (broadcastInDim S204800 ![] bcast_S_S204800 (constant S_ .f32 0x3F800000#32)) := by
  unfold Value.res_out0 Value.res_main_v33
  rfl

theorem graphs_apply (e : Fin 204800) : graphs (ix1 e) = BitVec.ofNat 32 (e.val / 3200) := graph_word e

theorem locals_apply (x : S2x204800.Idx → BitVec 32) (which : Fin 2) (hs : S2x204800.Slices ![which.val, 0] S1x204800) (e : Fin 204800) :
    locals x which hs (ix1 e) = x (ix2 which e) - base (e.val / 3200) := by
  have e2 : Shape.reshapeEquiv shapeCasts_S1x204800_S204800 (ix1 e : S204800.Idx) = (ix2 0 e : S1x204800.Idx) :=
    Shape.reshapeEquiv_eq_of_rowMajor _ (by
      rw [Shape.rowMajor_val_one, Shape.rowMajor_val_two]
      show 0 * 204800 + e.val = e.val
      omega)
  unfold locals
  rw [Routing.subi_ap, Routing.muli_ap, graphs_apply, base_mul]
  refine congrArg₂ (· - ·) ?_ rfl
  unfold shapeCast extractStridedSlice
  rw [e2]
  congr 1
  funext a
  fin_cases a
  · exact Fin.ext (by show which.val + 0 = which.val; omega)
  · exact Fin.ext (by show 0 + e.val = e.val; omega)

theorem wrap_apply (n : BitVec 32) (v : IVec S204800 32) (i : S204800.Idx) (h : (v i).toNat < 2 ^ 31) : wrap n v i = v i := by
  unfold wrap
  show Scalar.select (IntOp.cmpi .slt (v i) 0#32) _ _ = _
  have : IntOp.cmpi .slt (v i) 0#32 = 0#1 := by
    rcases BitVec.eq_zero_or_eq_one (IntOp.cmpi .slt (v i) 0#32) with h0 | h1
    · exact h0
    · rw [IntOp.cmpi_slt, BitVec.toInt_eq_toNat_cond, show (0#32 : BitVec 32).toInt = 0 by decide] at h1
      omega
  rw [this]
  rfl

theorem column_apply (v : IVec S204800 32) (e : Fin 204800) : column v (ix2 e 0) = v (ix1 e) :=
  broadcastInDim_apply _ _ _ (ix2 e 0) (ix1 e) (by intro a; fin_cases a; rfl)

theorem starts_graph (x : S2x204800.Idx → BitVec 32) (e : Fin 204800) : starts x (ix2 e 0) = wrap 64#32 graphs (ix1 e) := by
  unfold starts
  refine (concatenate_apply_piece 1 (columns x) concatenates_S204800x1_S204800x1_S204800x1_S204800x3_d1 (ix2 e 0) 0 ?_ S204800x1 _ rfl rfl 0 rfl (ix2 e 0) ?_ rfl).trans (column_apply _ e)
  · exact Nat.zero_lt_succ _
  · intro b hb; fin_cases b
    · rfl
    · exact absurd rfl hb

theorem starts_dst (x : S2x204800.Idx → BitVec 32) (e : Fin 204800) :
    starts x (ix2 e 1) = wrap 256#32 (locals x 1 slices_S2x204800_S1x204800_1_0) (ix1 e) := by
  unfold starts
  refine (concatenate_apply_piece 1 (columns x) concatenates_S204800x1_S204800x1_S204800x1_S204800x3_d1 (ix2 e 1) 1 ?_ S204800x1 _ rfl rfl 1 rfl (ix2 e 0) ?_ rfl).trans (column_apply _ e)
  · exact Nat.succ_lt_succ (Nat.zero_lt_succ _)
  · intro b hb; fin_cases b
    · rfl
    · exact absurd rfl hb

theorem starts_src (x : S2x204800.Idx → BitVec 32) (e : Fin 204800) :
    starts x (ix2 e 2) = wrap 256#32 (locals x 0 slices_S2x204800_S1x204800_0_0) (ix1 e) := by
  unfold starts
  refine (concatenate_apply_piece 1 (columns x) concatenates_S204800x1_S204800x1_S204800x1_S204800x3_d1 (ix2 e 2) 2 ?_ S204800x1 _ rfl rfl 2 rfl (ix2 e 0) ?_ rfl).trans (column_apply _ e)
  · exact Nat.succ_lt_succ (Nat.succ_lt_succ (Nat.zero_lt_succ _))
  · intro b hb; fin_cases b
    · rfl
    · exact absurd rfl hb

/-! ## Where an edge lands -/

theorem start_at (e : Fin 204800) (idx : IVec S204800x3 32) (a : Fin 3) :
    scatter_S64x256x256_S204800x3_S204800_n_012_012_1.start (ix1 e) idx a = (idx (ix2 e a)).toInt := by
  unfold ScatterDims.start
  have ha : a ∈ scatter_S64x256x256_S204800x3_S204800_n_012_012_1.scatterDimsToOperandDims := by revert a; decide
  rw [dif_pos ha]
  congr 2
  funext b
  fin_cases a <;> fin_cases b <;> rfl

theorem window_at (e : Fin 204800) (a : Fin 3) : scatter_S64x256x256_S204800x3_S204800_n_012_012_1.window (ix1 e) a = 0 := by
  unfold ScatterDims.window
  have ha : a ∉ scatter_S64x256x256_S204800x3_S204800_n_012_012_1.sKept := by revert a; decide
  exact dif_neg ha

/-- Edge `e` lands at (its graph, its local destination, its local source). -/
theorem lands {F : FTy → Type} [FloatOps F] (x : S2x204800.Idx → BitVec 32) (h : Cert.Pre_own_graph.fn (F := F) x = fun _ => 1#1)
    (e : Fin 204800) (g : Fin 64) (d s : Fin 256) :
    scatter_S64x256x256_S204800x3_S204800_n_012_012_1.resultIdx? (ix1 e) (starts x) = some (ix3 g d s)
      ↔ e.val / 3200 = g.val ∧ (x (ix2 1 e) - base (e.val / 3200)).toNat = d.val ∧ (x (ix2 0 e) - base (e.val / 3200)).toNat = s.val := by
  have he := e.isLt
  have hd := local_lt x h 1 e
  have hs := local_lt x h 0 e
  have hgn : (BitVec.ofNat 32 (e.val / 3200)).toNat = e.val / 3200 := by rw [BitVec.toNat_ofNat]; omega
  have small : ∀ w : BitVec 32, w.toNat < 2 ^ 31 → w.toInt = w.toNat := fun w hw => by
    rw [BitVec.toInt_eq_toNat_cond]; omega
  have s0 : scatter_S64x256x256_S204800x3_S204800_n_012_012_1.start (ix1 e) (starts x) 0 = ((e.val / 3200 : ℕ) : ℤ) := by
    rw [start_at, starts_graph, wrap_apply _ _ _ (by rw [graphs_apply, hgn]; omega), graphs_apply, small _ (by rw [hgn]; omega), hgn]
  have s1 : scatter_S64x256x256_S204800x3_S204800_n_012_012_1.start (ix1 e) (starts x) 1 = ((x (ix2 1 e) - base (e.val / 3200)).toNat : ℤ) := by
    have hl := locals_apply x 1 slices_S2x204800_S1x204800_1_0 e
    rw [start_at, starts_dst, wrap_apply _ _ _ (by rw [hl]; omega), hl, small _ (by omega)]
  have s2 : scatter_S64x256x256_S204800x3_S204800_n_012_012_1.start (ix1 e) (starts x) 2 = ((x (ix2 0 e) - base (e.val / 3200)).toNat : ℤ) := by
    have hl := locals_apply x 0 slices_S2x204800_S1x204800_0_0 e
    rw [start_at, starts_src, wrap_apply _ _ _ (by rw [hl]; omega), hl, small _ (by omega)]
  unfold ScatterDims.resultIdx?
  rw [dif_pos]
  · rw [Option.some_inj]
    constructor
    · intro hq
      have q0 := congrArg Fin.val (congrFun hq 0)
      have q1 := congrArg Fin.val (congrFun hq 1)
      have q2 := congrArg Fin.val (congrFun hq 2)
      dsimp only at q0 q1 q2
      rw [window_at, s0] at q0
      rw [window_at, s1] at q1
      rw [window_at, s2] at q2
      exact ⟨q0, q1, q2⟩
    · rintro ⟨h0, h1, h2⟩
      funext a
      apply Fin.ext
      dsimp only
      rw [window_at]
      fin_cases a
      · exact (congrArg (fun z : ℤ => (z + (0 : ℕ)).toNat) s0).trans h0
      · exact (congrArg (fun z : ℤ => (z + (0 : ℕ)).toNat) s1).trans h1
      · exact (congrArg (fun z : ℤ => (z + (0 : ℕ)).toNat) s2).trans h2
  · intro a
    rw [window_at]
    fin_cases a
    · show 0 ≤ scatter_S64x256x256_S204800x3_S204800_n_012_012_1.start (ix1 e) (starts x) 0 + ((0 : ℕ) : ℤ) ∧ scatter_S64x256x256_S204800x3_S204800_n_012_012_1.start (ix1 e) (starts x) 0 + ((0 : ℕ) : ℤ) < ((64 : ℕ) : ℤ)
      rw [s0]; omega
    · show 0 ≤ scatter_S64x256x256_S204800x3_S204800_n_012_012_1.start (ix1 e) (starts x) 1 + ((0 : ℕ) : ℤ) ∧ scatter_S64x256x256_S204800x3_S204800_n_012_012_1.start (ix1 e) (starts x) 1 + ((0 : ℕ) : ℤ) < ((256 : ℕ) : ℤ)
      rw [s1]; omega
    · show 0 ≤ scatter_S64x256x256_S204800x3_S204800_n_012_012_1.start (ix1 e) (starts x) 2 + ((0 : ℕ) : ℤ) ∧ scatter_S64x256x256_S204800x3_S204800_n_012_012_1.start (ix1 e) (starts x) 2 + ((0 : ℕ) : ℤ) < ((256 : ℕ) : ℤ)
      rw [s2]; omega

/-! ## The counts -/

/-- How many edges of graph `g` run from local node `s` to local node `d`. -/
def joins (x : S2x204800.Idx → BitVec 32) (g : Fin 64) (d s : Fin 256) : ℕ :=
  (Finset.univ.filter fun k : Fin 3200 => (edges x 1 (ix2 g k) - base g.val).toNat = d.val ∧ (edges x 0 (ix2 g k) - base g.val).toNat = s.val).card

/-- A sum of ones is their number. -/
theorem sum_ones {ι : Type} (S : Finset ι) : (∑ _i ∈ S, (1 : EReal)) = num S.card := by
  classical
  induction S using Finset.induction_on with
  | empty => simp [num]
  | insert a S ha ih => rw [Finset.sum_insert ha, ih, Finset.card_insert_of_notMem ha, Nat.add_comm, num_add]; simp [num]

/-- What the scatter leaves in a cell. -/
theorem scatter_cell (x : S2x204800.Idx → BitVec 32) (h : Cert.Pre_own_graph.fn (F := Ideal) x = fun _ => 1#1) (g : Fin 64) (d s : Fin 256) :
    Host.scatterAdd (F := Ideal) scatter_S64x256x256_S204800x3_S204800_n_012_012_1
          (broadcastInDim S64x256x256 ![] bcast_S_S64x256x256 (constant S_ .f32 0x00000000#32)) (starts x)
          (broadcastInDim S204800 ![] bcast_S_S204800 (constant S_ .f32 0x3F800000#32)) (ix3 g d s) = num (joins x g d s) := by
  have e : Host.scatterAdd (F := Ideal) scatter_S64x256x256_S204800x3_S204800_n_012_012_1
          (broadcastInDim S64x256x256 ![] bcast_S_S64x256x256 (constant S_ .f32 0x00000000#32)) (starts x)
          (broadcastInDim S204800 ![] bcast_S_S204800 (constant S_ .f32 0x3F800000#32)) (ix3 g d s)
      = Ideal.ofBits .f32 0x00000000#32 + ∑ j ∈ Finset.univ.filter (fun j => scatter_S64x256x256_S204800x3_S204800_n_012_012_1.resultIdx? j (starts x) = some (ix3 g d s)),
          (Ideal.ofBits .f32 0x3F800000#32 : EReal) := rfl
  rw [e, Ideal.ofBits_zero_f32, Ideal.ofBits_one_f32, zero_add, sum_ones]
  refine congrArg num ?_
  have hg := g.isLt
  unfold joins
  symm
  refine Finset.card_bij (fun k _ => (ix1 ⟨3200 * g.val + k.val, by have := k.isLt; omega⟩ : S204800.Idx)) ?_ ?_ ?_
  · intro k hk
    have hk3 := k.isLt
    have hq := (Finset.mem_filter.mp hk).2
    refine Finset.mem_filter.mpr ⟨Finset.mem_univ _, (lands x h _ g d s).mpr ?_⟩
    have e1 : (3200 * g.val + k.val) / 3200 = g.val := by omega
    refine ⟨e1, ?_⟩
    dsimp only
    rw [e1]
    exact hq
  · intro k _ k' _ hq
    have := congrArg (fun z : S204800.Idx => (z 0).val) hq
    have : 3200 * g.val + k.val = 3200 * g.val + k'.val := this
    exact Fin.ext (by omega)
  · intro j hj
    obtain ⟨e', rfl⟩ : ∃ e' : Fin 204800, j = ix1 e' := ⟨j 0, by funext a; fin_cases a; rfl⟩
    have hq := (lands x h e' g d s).mp (Finset.mem_filter.mp hj).2
    have he : 3200 * g.val + e'.val % 3200 = e'.val := by omega
    refine ⟨⟨e'.val % 3200, Nat.mod_lt _ (by decide)⟩, ?_, congrArg ix1 (Fin.ext he)⟩
    refine Finset.mem_filter.mpr ⟨Finset.mem_univ _, ?_⟩
    have hi : (⟨3200 * g.val + e'.val % 3200, by omega⟩ : Fin 204800) = e' := Fin.ext he
    show (x (ix2 1 ⟨3200 * g.val + e'.val % 3200, _⟩) - base g.val).toNat = _ ∧ (x (ix2 0 ⟨3200 * g.val + e'.val % 3200, _⟩) - base g.val).toNat = _
    rw [hi, ← hq.1]
    exact hq.2

/-- The reference's cell. -/
theorem reference_cell (m : (ℓ : Loc nD τ sig) → Buf (Elt Ideal) ℓ) (c : Dev nD) (x : S2x204800.Idx → BitVec 32)
    (hx : m ((c.tc : Thread nD τ).loc main_arg0) = x) (h : Cert.Pre_own_graph.fn (F := Ideal) x = fun _ => 1#1) (g : Fin 64) (d s : Fin 256) :
    (Value.res_out0 (F := Ideal) m c (ix3 g d s) : EReal) = num (joins x g d s) := by
  rw [res_eq, hx]
  exact scatter_cell x h g d s

/-- The kernel's cell. -/
theorem table_cell (x : S2x204800.Idx → BitVec 32) (h : Cert.Pre_own_graph.fn (F := Ideal) x = fun _ => 1#1) (g : Fin 64) (d s : Fin 256) :
    (tables (F := Ideal) (edges x 0) (edges x 1) (ix2 g ⟨256 * d.val + s.val, by have := d.isLt; have := s.isLt; omega⟩) : EReal)
      = num (joins x g d s) := by
  have hd := d.isLt
  have hs := s.isLt
  refine (accum_apply (base g.val) (rowOf (edges x 0) g) (rowOf (edges x 1) g) ⟨256 * d.val + s.val, by omega⟩ 200 (within_of_pre x h g)).trans ?_
  refine congrArg num ?_
  unfold joins
  rw [Finset.card_filter, show 16 * 200 = 3200 by norm_num, Finset.sum_range]
  refine Finset.sum_congr rfl fun k _ => ?_
  have hk : k.val % 3200 = k.val := Nat.mod_eq_of_lt k.isLt
  have hc : cellOf (base g.val) (rowOf (edges x 0) g) (rowOf (edges x 1) g) k.val
      = 256 * (edges x 1 (ix2 g k) - base g.val).toNat + (edges x 0 (ix2 g k) - base g.val).toNat := by
    rw [← cell_toNat (edge_local x h 1 g k) (edge_local x h 0 g k)]
    have hi : (⟨k.val % 3200, Nat.mod_lt _ (by decide)⟩ : Fin 3200) = k := Fin.ext hk
    unfold cellOf
    rw [hi]
    rfl
  rw [hc]
  have h1 := edge_local x h 1 g k
  have h0 := edge_local x h 0 g k
  refine if_congr ?_ rfl rfl
  show _ = 256 * d.val + s.val ↔ _
  omega

end Cert.Proof.Adj

end
-- ==== Proof.ConvBody.lean ====
module

public import proofs.«01_k».proof.Proof.Gen.ConvIdeal.Frame
public import proofs.«01_k».proof.Proof.Gen.ConvReferenceIdeal.Read
public import Idealize.ShloMosaic.Lib.Pointwise

@[expose] public section

noncomputable section

namespace Cert.Proof.ConvBody

open Cert.ConvIdeal Cert.ConvIdeal.Gen Idealize.ShloMosaic

/-! The body of the graph convolution, entry by entry. -/

/-- One entry of the layer's result: `a` is a node's row of the adjacency map, `x` the features of the graph's nodes and
    `own` those of this node. -/
def layer (a : Fin 200 → EReal) (x : Fin 200 → Fin 128 → EReal) (own w w' : Fin 128 → EReal) (b : EReal) : EReal :=
  (∑ k : Fin 128, (∑ s : Fin 200, a s * x s k) * w k + b) + ∑ k : Fin 128, own k * w' k

/-- Whether a row of the block is one of the graph's two hundred nodes, as the kernel computes it. -/
theorem kept (r : Fin 256) :
    FloatOps.sitofp (F := Ideal) FTy.f32 (BitVec.setWidth 32 (IntOp.cmpi CmpIPredicate.slt (BitVec.ofNat 32 r.val) 200#32))
      = if r.val < 200 then (1 : EReal) else 0 := by
  have : ∀ r : Fin 256, BitVec.setWidth 32 (IntOp.cmpi CmpIPredicate.slt (BitVec.ofNat 32 r.val) 200#32)
      = if r.val < 200 then 1#32 else 0#32 := by decide +kernel
  rw [this]
  split
  · show (((1#32).toInt : ℝ) : EReal) = 1
    simp
  · show (((0#32).toInt : ℝ) : EReal) = 0
    simp

/-- A sum over the block's rows whose terms past the two hundredth vanish. -/
theorem first_rows (f : Fin 256 → EReal) (h : ∀ s : Fin 256, 200 ≤ s.val → f s = 0) :
    ∑ s : Fin 256, f s = ∑ s : Fin 200, f ⟨s.val, by omega⟩ := by
  rw [show ∑ s : Fin 256, f s = _ from Fin.sum_univ_add (a := 200) (b := 56) f,
    Finset.sum_eq_zero (s := Finset.univ) (f := fun i : Fin 56 => f (Fin.natAdd 200 i)) fun i _ => h _ (by simp), add_zero]
  rfl

/-- A real number less itself. -/
theorem nothing (x : EReal) (h : ∃ r : ℝ, x = (r : EReal)) : x - x = 0 := by
  obtain ⟨r, rfl⟩ := h
  rw [← EReal.coe_sub, sub_self, EReal.coe_zero]

/-- What the body computes for one row, when the features are finite and those past the graph's nodes are zero. -/
theorem row (x0 : Vec Ideal S1x256x256 .f32) (x1 : Vec Ideal S1x256x128 .f32) (x2 x3 : Vec Ideal S128x1024 .f32)
    (x4 : Vec Ideal S1x1024 .f32) (hx : ∀ s k, ∃ r : ℝ, x1 (ix3 0 s k) = (r : EReal))
    (hz : ∀ s k, 200 ≤ s.val → x1 (ix3 0 s k) = (0 : EReal)) (r : Fin 256) (l : Fin 1024) :
    k0_pay5 x0 x1 x2 x3 x4 (ix2 r l)
      = if r.val < 200 then layer (fun s => x0 (ix3 0 r ⟨s.val, by omega⟩)) (fun s k => x1 (ix3 0 ⟨s.val, by omega⟩ k))
          (fun k => x1 (ix3 0 r k)) (fun k => x2 (ix2 k l)) (fun k => x3 (ix2 k l)) (x4 (ix2 0 l)) else 0 := by
  pointwise [k0_pay5]
  rw [kept]
  split
  · rw [mul_one]
    unfold layer
    rw [add_right_comm]
    refine congrArg (· + _ + _) (Finset.sum_congr rfl fun k _ => congrArg (· * _) ?_)
    rw [Finset.sum_eq_zero (f := fun s : Fin 256 => x0 (ix3 0 r s) * (x1 (ix3 0 s k) - x1 (ix3 0 s k)))
      fun s _ => by rw [nothing _ (hx s k), mul_zero], add_zero]
    exact first_rows (fun s => x0 (ix3 0 r s) * x1 (ix3 0 s k)) fun s hs => by rw [hz s k hs, mul_zero]
  · exact mul_zero _

/-! The three payloads that the body stores. -/

theorem stored (x0 : Vec Ideal S1x256x256 .f32) (x1 : Vec Ideal S1x256x128 .f32) (x2 x3 : Vec Ideal S128x1024 .f32)
    (x4 : Vec Ideal S1x1024 .f32) (r : Fin 256) (l : Fin 1024) :
    k0_pay6 x0 x1 x2 x3 x4 (ix3 0 r l) = k0_pay5 x0 x1 x2 x3 x4 (ix2 r l) := by
  pointwise [k0_pay6]

theorem summed (v : Vec Ideal S256x1024 .f32) (z : Vec Ideal S1x1024 .f32) (l : Fin 1024) :
    k0_pay3 v z (ix2 0 l) = z (ix2 0 l) + ∑ r : Fin 256, v (ix2 r l) := by
  pointwise [k0_pay3]

theorem squared (v : Vec Ideal S256x1024 .f32) (z : Vec Ideal S1x1024 .f32) (l : Fin 1024) :
    k0_pay4 v z (ix2 0 l) = z (ix2 0 l) + ∑ r : Fin 256, v (ix2 r l) * v (ix2 r l) := by
  pointwise [k0_pay4]

theorem cleared3 (l : Fin 1024) : k0_pay1 (F := Ideal) (ix2 0 l) = (0 : EReal) := by
  pointwise [k0_pay1]

theorem cleared4 (l : Fin 1024) : k0_pay2 (F := Ideal) (ix2 0 l) = (0 : EReal) := by
  pointwise [k0_pay2]

section Stored

variable (c : Dev nD) (i : grid0.Coords)
  (a1 : Memref sig .tc .vmem S1x256x256 .f32) (h1 : a1.IsWhole)
  (a2 : Memref sig .tc .vmem S1x256x128 .f32) (h2 : a2.IsWhole)
  (a3 : Memref sig .tc .vmem S128x1024 .f32) (h3 : a3.IsWhole)
  (a4 : Memref sig .tc .vmem S128x1024 .f32) (h4 : a4.IsWhole)
  (a5 : Memref sig .tc .vmem S1x1024 .f32) (h5 : a5.IsWhole)
  (a6 : Memref sig .tc .vmem S1x256x1024 .f32) (h6 : a6.IsWhole)
  (a7 : Memref sig .tc .vmem S1x1024 .f32) (h7 : a7.IsWhole)
  (a8 : Memref sig .tc .vmem S1x1024 .f32) (h8 : a8.IsWhole)
  (x0 : Vec Ideal S1x256x256 .f32) (x1 : Vec Ideal S1x256x128 .f32) (x2 x3 : Vec Ideal S128x1024 .f32) (x4 : Vec Ideal S1x1024 .f32)

theorem at2 : (![0, 0] : Fin 2 → Nat) = fun _ => 0 := by funext a; fin_cases a <;> rfl
theorem at3 : (![0, 0, 0] : Fin 3 → Nat) = fun _ => 0 := by funext a; fin_cases a <;> rfl

theorem out_A_5 (hc : cond0_0 i) :
    out0_A_5 c i a1 h1 a2 h2 a3 h3 a4 h4 a5 h5 a6 h6 a7 h7 a8 h8 hc x0 x1 x2 x3 x4 = k0_pay6 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero at3]
  simp only [View.readAt_eq_ld, h1.read_unread, h2.read_unread, h3.read_unread, h4.read_unread, h5.read_unread,
    View.ld_unit_zero (S := S1x256x256) at3, View.ld_unit_zero (S := S1x256x128) at3, View.ld_unit_zero (S := S128x1024) at2,
    View.ld_unit_zero (S := S1x1024) at2]

theorem out_A_6 (hc : cond0_0 i) :
    out0_A_6 c i a1 h1 a2 h2 a3 h3 a4 h4 a5 h5 a6 h6 a7 h7 a8 h8 hc x0 x1 x2 x3 x4 = k0_pay3 (k0_pay5 x0 x1 x2 x3 x4) (k0_pay1 (F := Ideal)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) at2, View.readCov_unit_zero (S := S1x1024) _ at2]
  simp only [View.readAt_eq_ld, h1.read_unread, h2.read_unread, h3.read_unread, h4.read_unread, h5.read_unread,
    View.ld_unit_zero (S := S1x256x256) at3, View.ld_unit_zero (S := S1x256x128) at3, View.ld_unit_zero (S := S128x1024) at2,
    View.ld_unit_zero (S := S1x1024) at2]

theorem out_A_7 (hc : cond0_0 i) :
    out0_A_7 c i a1 h1 a2 h2 a3 h3 a4 h4 a5 h5 a6 h6 a7 h7 a8 h8 hc x0 x1 x2 x3 x4 = k0_pay4 (k0_pay5 x0 x1 x2 x3 x4) (k0_pay2 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) at2, View.readCov_unit_zero (S := S1x1024) _ at2]
  simp only [View.readAt_eq_ld, h1.read_unread, h2.read_unread, h3.read_unread, h4.read_unread, h5.read_unread,
    View.ld_unit_zero (S := S1x256x256) at3, View.ld_unit_zero (S := S1x256x128) at3, View.ld_unit_zero (S := S128x1024) at2,
    View.ld_unit_zero (S := S1x1024) at2]

theorem out_B_5 (hc : ¬cond0_0 i) (xo6 xo7 : Vec Ideal S1x1024 .f32) :
    out0_B_5 c i a1 h1 a2 h2 a3 h3 a4 h4 a5 h5 a6 h6 a7 h7 a8 h8 hc x0 x1 x2 x3 x4 xo6 xo7 = k0_pay6 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero at3]
  simp only [View.readAt_eq_ld, h1.read_unread, h2.read_unread, h3.read_unread, h4.read_unread, h5.read_unread,
    View.ld_unit_zero (S := S1x256x256) at3, View.ld_unit_zero (S := S1x256x128) at3, View.ld_unit_zero (S := S128x1024) at2,
    View.ld_unit_zero (S := S1x1024) at2]

theorem out_B_6 (hc : ¬cond0_0 i) (xo6 xo7 : Vec Ideal S1x1024 .f32) :
    out0_B_6 c i a1 h1 a2 h2 a3 h3 a4 h4 a5 h5 a6 h6 a7 h7 a8 h8 hc x0 x1 x2 x3 x4 xo6 xo7 = k0_pay3 (k0_pay5 x0 x1 x2 x3 x4) xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero at2]
  simp only [View.readAt_eq_ld, h1.read_unread, h2.read_unread, h3.read_unread, h4.read_unread, h5.read_unread, h7.read_unread,
    View.ld_unit_zero (S := S1x256x256) at3, View.ld_unit_zero (S := S1x256x128) at3, View.ld_unit_zero (S := S128x1024) at2,
    View.ld_unit_zero (S := S1x1024) at2]

theorem out_B_7 (hc : ¬cond0_0 i) (xo6 xo7 : Vec Ideal S1x1024 .f32) :
    out0_B_7 c i a1 h1 a2 h2 a3 h3 a4 h4 a5 h5 a6 h6 a7 h7 a8 h8 hc x0 x1 x2 x3 x4 xo6 xo7 = k0_pay4 (k0_pay5 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero at2]
  simp only [View.readAt_eq_ld, h1.read_unread, h2.read_unread, h3.read_unread, h4.read_unread, h5.read_unread, h8.read_unread,
    View.ld_unit_zero (S := S1x256x256) at3, View.ld_unit_zero (S := S1x256x128) at3, View.ld_unit_zero (S := S128x1024) at2,
    View.ld_unit_zero (S := S1x1024) at2]

end Stored

/-! The reference's values. -/

section Reference

open Cert.ConvReferenceIdeal.Read

variable (a : Cert.ConvReferenceIdeal.S64x256x256.Idx → Ideal .f32) (x : Cert.ConvReferenceIdeal.S12800x128.Idx → Ideal .f32)
  (w : Cert.ConvReferenceIdeal.S128x1024.Idx → Ideal .f32) (b : Cert.ConvReferenceIdeal.S1024.Idx → Ideal .f32)
  (w' : Cert.ConvReferenceIdeal.S128x1024.Idx → Ideal .f32)

/-- The layer's result at node `r` of graph `g`. -/
def hidden (g : Fin 64) (r : Fin 200) (l : Fin 1024) : EReal :=
  layer (fun s => a (ix3 g ⟨r.val, by omega⟩ ⟨s.val, by omega⟩)) (fun s k => x (ix2 ⟨g.val * 200 + s.val, by omega⟩ k))
    (fun k => x (ix2 ⟨g.val * 200 + r.val, by omega⟩ k)) (fun k => w (ix2 k l)) (fun k => w' (ix2 k l)) (b (ix1 l))

theorem wanted (g : Fin 64) (r : Fin 200) (l : Fin 1024) : val_main_v8 (F := Ideal) a x w b w' (ix3 g r l) = hidden a x w b w' g r l := by
  unfold hidden layer
  pointwise [val_main_v8, val_main_v7, val_main_v6, val_main_v5, val_main_v4, val_main_v3, val_main_v2, val_main_v1, val_main_v0]

theorem wanted_map (g : Fin 64) (r : Fin 256) (l : Fin 1024) :
    val_main_v14 (F := Ideal) a x w b w' (ix3 g r l) = if h : r.val < 200 then hidden a x w b w' g ⟨r.val, h⟩ l else 0 := by
  pointwise [val_main_v14, val_main_call0_v0, val_main_c]
  rw [show (FloatOps.sitofp FTy.f32 (0#32 : BitVec 32) : Ideal .f32) = 0 by show (((0#32).toInt : ℝ) : EReal) = 0; simp]
  simp only [wanted]

/-- The sum over a map's first two axes. -/
theorem over_nodes (h : Cert.ConvReferenceIdeal.S64x200x1024.ReducesTo [0, 1] Cert.ConvReferenceIdeal.S1024)
    (v : Cert.ConvReferenceIdeal.S64x200x1024.Idx → EReal) (l : Fin 1024) :
    Ideal.hostReduceAdd h v 0 (ix1 l) = ∑ g : Fin 64, ∑ r : Fin 200, v (ix3 g r l) := by
  unfold Ideal.hostReduceAdd
  rw [zero_add, ← Fintype.sum_prod_type' (f := fun (g : Fin 64) (r : Fin 200) => v (ix3 g r l))]
  refine Finset.sum_bij' (fun i _ => ((i 0 : Fin 64), (i 1 : Fin 200))) (fun p _ => ix3 p.1 p.2 l) (fun _ _ => Finset.mem_univ _)
    (fun p _ => Finset.mem_filter.mpr ⟨Finset.mem_univ _, ?_⟩) (fun i hi => ?_) (fun _ _ => rfl) (fun i hi => ?_)
  · funext q; match q with | ⟨0, _⟩ => rfl
  all_goals
    have e : ix3 (i 0 : Fin 64) (i 1 : Fin 200) l = i := by
      funext q; apply Fin.ext
      match q with
      | ⟨0, _⟩ => rfl
      | ⟨1, _⟩ => rfl
      | ⟨2, _⟩ => exact (congrArg Fin.val (congrFun (Finset.mem_filter.mp hi).2 0)).symm
  · exact e
  · exact congrArg v e.symm

theorem wanted_sum (l : Fin 1024) :
    val_main_v10 (F := Ideal) a x w b w' (ix2 0 l) = ∑ g : Fin 64, ∑ r : Fin 200, hidden a x w b w' g r l := by
  pointwise [val_main_v10, val_main_v9, val_main_cst]
  rw [over_nodes]
  simp only [wanted]

theorem wanted_squares (l : Fin 1024) :
    val_main_v13 (F := Ideal) a x w b w' (ix2 0 l)
      = ∑ g : Fin 64, ∑ r : Fin 200, hidden a x w b w' g r l * hidden a x w b w' g r l := by
  pointwise [val_main_v13, val_main_v12, val_main_v11, val_main_cst_0]
  rw [over_nodes]
  simp only [← wanted]
  rfl

end Reference

end Cert.Proof.ConvBody

end
-- ==== Proof.Finite.lean ====
/-
  What the preconditions on floats say: every value that they name is a real number.
-/
module

public import proofs.«01_k».proof.Proof.Gen.Pre_finite_means
public import proofs.«01_k».proof.Proof.Gen.Pre_finite_nodes
public import proofs.«01_k».proof.Proof.Gen.Pre_finite_kept
public import proofs.«01_k».proof.Proof.Gen.Pre_finite_head
public import Idealize.ShloMosaic.Lib.Pointwise
public import Idealize.ShloMosaic.Lib.ReduceAll

@[expose] public section

noncomputable section

namespace Cert.Proof.Finite

open Idealize.ShloMosaic

/-- A value whose absolute value is below infinity is a real number. -/
theorem real_of_abs (x : EReal) (h : Ideal.cmp .olt (max x (-x)) (Ideal.ofBits FTy.f32 0x7F800000#32) = 1#1) :
    ∃ r : ℝ, x = (r : EReal) := by
  rw [show Ideal.ofBits FTy.f32 0x7F800000#32 = ⊤ by simp [Ideal.ofBits, Ideal.ieee]] at h
  induction x using EReal.rec with
  | coe r => exact ⟨r, rfl⟩
  | bot => exact absurd h (by simp [Ideal.cmp])
  | top => exact absurd h (by simp [Ideal.cmp])

/-- The same of a whole array. -/
theorem real_of_all {s t u : Shape} [Subsingleton t.Idx] {axes : List (Fin s.rank)} (x : s.Idx → Ideal .f32)
    (hb : (⟨0, ![]⟩ : Shape).BroadcastsInDim s (![] : Fin 0 → Fin s.rank)) (init : u.Idx → BitVec 1) (h : s.ReducesTo axes t)
    (hu : 0 < u.numel) (j : t.Idx)
    (e : Host.reduce IntOp.andi (cmpf .olt (Host.absf x) (broadcastInDim s ![] hb (constant ⟨0, ![]⟩ .f32 0x7F800000#32))) init h hu j = 1#1)
    (i : s.Idx) : ∃ r : ℝ, x i = (r : EReal) := by
  have := Host.reduce_andi_all _ _ _ _ _ e i
  exact real_of_abs (x i) this

theorem both {p q : (⟨0, ![]⟩ : Shape).Idx → BitVec 1} (h : andi p q ix0 = 1#1) : p ix0 = 1#1 ∧ q ix0 = 1#1 :=
  (IntOp.andi_eq_one).mp h

/-- What `finite_means` says. -/
theorem means (x0 x1 : Cert.Pre_finite_means.S64x1x1024.Idx → Ideal .f32) (x2 x3 : Cert.Pre_finite_means.S512.Idx → Ideal .f32)
    (x4 x5 : Cert.Pre_finite_means.S256.Idx → Ideal .f32)
    (h : Cert.Pre_finite_means.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  obtain ⟨h, h3⟩ := both (congrFun h ix0)
  obtain ⟨h, h2⟩ := both h
  obtain ⟨h0, h1⟩ := both h
  exact ⟨real_of_all x0 _ _ _ _ _ h0, real_of_all x1 _ _ _ _ _ h1, real_of_all x2 _ _ _ _ _ h2, real_of_all x3 _ _ _ _ _ h3⟩

/-- What `finite_nodes` says. -/
theorem nodes (a : Cert.Pre_finite_nodes.S64x256x256.Idx → Ideal .f32) (x : Cert.Pre_finite_nodes.S12800x128.Idx → Ideal .f32)
    (w : Cert.Pre_finite_nodes.S128x1024.Idx → Ideal .f32) (b : Cert.Pre_finite_nodes.S1024.Idx → Ideal .f32)
    (w' : Cert.Pre_finite_nodes.S128x1024.Idx → Ideal .f32)
    (h : Cert.Pre_finite_nodes.fn (F := Ideal) a x w b w' = fun _ => 1#1) (i : Cert.Pre_finite_nodes.S12800x128.Idx) :
    ∃ r : ℝ, x i = (r : EReal) := by
  unfold Cert.Pre_finite_nodes.fn at h
  have h' := congrFun h ix0
  exact real_of_all x _ _ _ _ ix0 h' i

/-- What `finite_kept` says. -/
theorem kept (a : Cert.Pre_finite_kept.S64x128x128.Idx → Ideal .f32) (x : Cert.Pre_finite_kept.S64x128x1024.Idx → Ideal .f32)
    (w : Cert.Pre_finite_kept.S1024x1024.Idx → Ideal .f32) (b : Cert.Pre_finite_kept.S1024.Idx → Ideal .f32)
    (w' : Cert.Pre_finite_kept.S1024x1024.Idx → Ideal .f32)
    (h : Cert.Pre_finite_kept.fn (F := Ideal) a x w b w' = fun _ => 1#1) (i : Cert.Pre_finite_kept.S64x128x1024.Idx) :
    ∃ r : ℝ, x i = (r : EReal) := by
  unfold Cert.Pre_finite_kept.fn at h
  have h' := congrFun h ix0
  exact real_of_all x _ _ _ _ ix0 h' i

/-- What `finite_head` says. -/
theorem head (x0 : Cert.Pre_finite_head.S64x256.Idx → Ideal .f32) (x1 : Cert.Pre_finite_head.S128x1x1x1.Idx → Ideal .f32) (x2 : Cert.Pre_finite_head.S128.Idx → Ideal .f32) (x3 : Cert.Pre_finite_head.S128.Idx → Ideal .f32) (x4 : Cert.Pre_finite_head.S128.Idx → Ideal .f32) (x5 : Cert.Pre_finite_head.S64x128x3x3.Idx → Ideal .f32) (x6 : Cert.Pre_finite_head.S64.Idx → Ideal .f32) (x7 : Cert.Pre_finite_head.S64.Idx → Ideal .f32) (x8 : Cert.Pre_finite_head.S64.Idx → Ideal .f32) (x9 : Cert.Pre_finite_head.S1x64x1x1.Idx → Ideal .f32) (x10 : Cert.Pre_finite_head.S1.Idx → Ideal .f32) (x11 : Cert.Pre_finite_head.S128x1x1x1.Idx → Ideal .f32) (x12 : Cert.Pre_finite_head.S128.Idx → Ideal .f32) (x13 : Cert.Pre_finite_head.S128.Idx → Ideal .f32) (x14 : Cert.Pre_finite_head.S128.Idx → Ideal .f32) (x15 : Cert.Pre_finite_head.S64x128x3x3.Idx → Ideal .f32) (x16 : Cert.Pre_finite_head.S64.Idx → Ideal .f32) (x17 : Cert.Pre_finite_head.S64.Idx → Ideal .f32) (x18 : Cert.Pre_finite_head.S64.Idx → Ideal .f32) (x19 : Cert.Pre_finite_head.S1x64x1x1.Idx → Ideal .f32) (x20 : Cert.Pre_finite_head.S1.Idx → Ideal .f32)
    (h : Cert.Pre_finite_head.fn (F := Ideal) x0 x1 x2 x3 x4 x5 x6 x7 x8 x9 x10 x11 x12 x13 x14 x15 x16 x17 x18 x19 x20 = fun _ => 1#1) :
    (∀ i, ∃ r : ℝ, x0 i = (r : EReal))
      ∧ (∀ i, ∃ r : ℝ, x1 i = (r : EReal))
      ∧ (∀ i, ∃ r : ℝ, x2 i = (r : EReal))
      ∧ (∀ i, ∃ r : ℝ, x3 i = (r : EReal))
      ∧ (∀ i, ∃ r : ℝ, x4 i = (r : EReal))
      ∧ (∀ i, ∃ r : ℝ, x5 i = (r : EReal))
      ∧ (∀ i, ∃ r : ℝ, x6 i = (r : EReal))
      ∧ (∀ i, ∃ r : ℝ, x7 i = (r : EReal))
      ∧ (∀ i, ∃ r : ℝ, x8 i = (r : EReal))
      ∧ (∀ i, ∃ r : ℝ, x9 i = (r : EReal))
      ∧ (∀ i, ∃ r : ℝ, x10 i = (r : EReal))
      ∧ (∀ i, ∃ r : ℝ, x11 i = (r : EReal))
      ∧ (∀ i, ∃ r : ℝ, x12 i = (r : EReal))
      ∧ (∀ i, ∃ r : ℝ, x13 i = (r : EReal))
      ∧ (∀ i, ∃ r : ℝ, x14 i = (r : EReal))
      ∧ (∀ i, ∃ r : ℝ, x15 i = (r : EReal))
      ∧ (∀ i, ∃ r : ℝ, x16 i = (r : EReal)) := by
  unfold Cert.Pre_finite_head.fn Cert.Pre_finite_head.fn_part1 Cert.Pre_finite_head.fn_part2 Cert.Pre_finite_head.fn_part3
    Cert.Pre_finite_head.fn_part4 at h
  obtain ⟨h, h16⟩ := both (congrFun h ix0)
  obtain ⟨h, h15⟩ := both h
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨real_of_all x0 _ _ _ _ _ h0, real_of_all x1 _ _ _ _ _ h1, real_of_all x2 _ _ _ _ _ h2, real_of_all x3 _ _ _ _ _ h3, real_of_all x4 _ _ _ _ _ h4, real_of_all x5 _ _ _ _ _ h5, real_of_all x6 _ _ _ _ _ h6, real_of_all x7 _ _ _ _ _ h7, real_of_all x8 _ _ _ _ _ h8, real_of_all x9 _ _ _ _ _ h9, real_of_all x10 _ _ _ _ _ h10, real_of_all x11 _ _ _ _ _ h11, real_of_all x12 _ _ _ _ _ h12, real_of_all x13 _ _ _ _ _ h13, real_of_all x14 _ _ _ _ _ h14, real_of_all x15 _ _ _ _ _ h15, real_of_all x16 _ _ _ _ _ h16⟩

end Cert.Proof.Finite

end
-- ==== Proof.ConvValue.lean ====
/-
  The value of the graph convolution's call: on finite node features, the reference's.
-/
module

public import proofs.«01_k».proof.Proof.ConvBody
public import proofs.«01_k».proof.Proof.Finite
public import proofs.«01_k».proof.Proof.Gen.ConvIdeal.Value
public import proofs.«01_k».proof.Defs
public import Idealize.ShloMosaic.Lib.KernelVsHost

@[expose] public section

noncomputable section

namespace Cert.Proof.ConvValue

open Cert.ConvIdeal Cert.ConvIdeal.Gen Idealize.ShloMosaic Idealize.ShloMosaic.TcCoe Idealize.SL.Sem
open Idealize.ShloMosaic.Pipeline (Dat)
open Cert.Proof.ConvBody

variable (m : (ℓ : Loc nD τ sig) → Buf (Elt Ideal) ℓ) (c : Dev nD)

/-! The two operands that the call prepares. -/

theorem found1 : V m c main_v1 = pad (α := Ideal .f32) S64x256x128 ![0, 0, 0] ![0, 56, 0] ![0, 0, 0]
    (shapeCast S64x200x128 (m ((c : Thread nD τ).loc main_arg1)) shapeCasts_S12800x128_S64x200x128)
    (sitofp .f32 (constantI S_ 32 0#32)) pads_S64x200x128_S64x256x128_000_0560_000 h_S_ := by
  simp only [V, hostOps0, hostOps0_1, hostOps0_2, List.flatten_cons, List.flatten_nil, List.append_nil, List.cons_append,
    List.nil_append]
  after_results <;> rfl

theorem found2 : V m c main_v2 = shapeCast S1x1024 (m ((c : Thread nD τ).loc main_arg3)) shapeCasts_S1024_S1x1024 := by
  simp only [V, hostOps0, hostOps0_1, hostOps0_2, List.flatten_cons, List.flatten_nil, List.append_nil, List.cons_append,
    List.nil_append]
  after_results <;> rfl

/-- The features padded to 256 nodes. -/
theorem padded (x : S12800x128.Idx → Ideal .f32) (g : Fin 64) (s : Fin 256) (k : Fin 128) :
    pad (α := Ideal .f32) S64x256x128 ![0, 0, 0] ![0, 56, 0] ![0, 0, 0] (shapeCast S64x200x128 x shapeCasts_S12800x128_S64x200x128)
      (sitofp .f32 (constantI S_ 32 0#32)) pads_S64x200x128_S64x256x128_000_0560_000 h_S_ (ix3 g s k)
      = if h : s.val < 200 then x (ix2 ⟨g.val * 200 + s.val, by omega⟩ k) else (0 : EReal) := by
  pointwise []
  rw [show (FloatOps.sitofp FTy.f32 (0#32 : BitVec 32) : Ideal .f32) = 0 by show (((0#32).toInt : ℝ) : EReal) = 0; simp]

theorem bias (x : S1024.Idx → Ideal .f32) (l : Fin 1024) :
    shapeCast S1x1024 x shapeCasts_S1024_S1x1024 (ix2 0 l) = x (ix1 l) := by
  pointwise []

/-! The blocks that one step stages: one graph of each map, and the weights whole. -/

/-- The graph of a step. -/
abbrev graph (t : Fin cfg0.N) : Fin 64 := ⟨t.val, N_0 ▸ t.isLt⟩

theorem still : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_5.index t 0 = t.val ∧ win0_5.index t 1 = 0 ∧ win0_5.index t 2 = 0) :=
  (by decide +kernel : ∀ t : Fin grid0.N, _)

theorem block0 (t : Fin cfg0.N) (r s : Fin 256) :
    iblk m c 0 t (ix3 0 r s) = m ((c : Thread nD τ).loc main_arg0) (ix3 (graph t) r s) := by
  rw [← V_main_arg0 m c]
  refine congrArg (V m c main_arg0) (funext fun a => Fin.ext ?_)
  match a with
  | ⟨0, _⟩ => show win0_0.index t 0 * 1 + 1 * 0 = t.val; rw [(still t).1.1]; simp
  | ⟨1, _⟩ => show win0_0.index t 1 * 256 + 1 * r.val = r.val; rw [(still t).1.2.1]; simp
  | ⟨2, _⟩ => show win0_0.index t 2 * 256 + 1 * s.val = s.val; rw [(still t).1.2.2]; simp

theorem block1 (t : Fin cfg0.N) (s : Fin 256) (k : Fin 128) :
    iblk m c 1 t (ix3 0 s k) = V m c main_v1 (ix3 (graph t) s k) := by
  refine congrArg (V m c main_v1) (funext fun a => Fin.ext ?_)
  match a with
  | ⟨0, _⟩ => show win0_1.index t 0 * 1 + 1 * 0 = t.val; rw [(still t).2.1.1]; simp
  | ⟨1, _⟩ => show win0_1.index t 1 * 256 + 1 * s.val = s.val; rw [(still t).2.1.2.1]; simp
  | ⟨2, _⟩ => show win0_1.index t 2 * 128 + 1 * k.val = k.val; rw [(still t).2.1.2.2]; simp

theorem block2 (t : Fin cfg0.N) : iblk m c 2 t = m ((c : Thread nD τ).loc main_arg2) := by
  rw [← V_main_arg2 m c]
  funext y
  refine congrArg (V m c main_arg2) (funext fun a => Fin.ext ?_)
  match a with
  | ⟨0, _⟩ => show 0 * 128 + 1 * (y 0).val = (y 0).val; simp
  | ⟨1, _⟩ => show 0 * 1024 + 1 * (y 1).val = (y 1).val; simp

theorem block3 (t : Fin cfg0.N) : iblk m c 3 t = m ((c : Thread nD τ).loc main_arg4) := by
  rw [← V_main_arg4 m c]
  funext y
  refine congrArg (V m c main_arg4) (funext fun a => Fin.ext ?_)
  match a with
  | ⟨0, _⟩ => show 0 * 128 + 1 * (y 0).val = (y 0).val; simp
  | ⟨1, _⟩ => show 0 * 1024 + 1 * (y 1).val = (y 1).val; simp

theorem block4 (t : Fin cfg0.N) : iblk m c 4 t = V m c main_v2 := by
  funext y
  refine congrArg (V m c main_v2) (funext fun a => Fin.ext ?_)
  match a with
  | ⟨0, _⟩ => show 0 * 1 + 1 * (y 0).val = (y 0).val; simp
  | ⟨1, _⟩ => show 0 * 1024 + 1 * (y 1).val = (y 1).val; simp

/-! One step. -/

/-- The layer's result at a node, of the operands in memory. -/
abbrev at' (g : Fin 64) (r : Fin 200) (l : Fin 1024) : EReal :=
  hidden (m ((c : Thread nD τ).loc main_arg0)) (m ((c : Thread nD τ).loc main_arg1)) (m ((c : Thread nD τ).loc main_arg2))
    (m ((c : Thread nD τ).loc main_arg3)) (m ((c : Thread nD τ).loc main_arg4)) g r l

/-- The nodes' features. -/
abbrev features : S12800x128.Idx → EReal := m ((c : Thread nD τ).loc main_arg1)

/-- They are finite. -/
abbrev Finite : Prop := ∀ i : S12800x128.Idx, ∃ r : ℝ, features m c i = (r : EReal)

/-- The rows that a step computes. -/
abbrev rowsOf (t : Fin cfg0.N) : Vec Ideal S256x1024 .f32 :=
  k0_pay5 (iblk m c 0 t) (iblk m c 1 t) (iblk m c 2 t) (iblk m c 3 t) (iblk m c 4 t)

theorem feature (t : Fin cfg0.N) (s : Fin 256) (k : Fin 128) :
    (iblk m c 1 t : S1x256x128.Idx → EReal) (ix3 0 s k) = if h : s.val < 200 then
      features m c (ix2 ⟨(graph t).val * 200 + s.val, by omega⟩ k) else 0 := by
  refine (block1 m c t s k).trans ?_
  rw [found1]
  exact padded _ _ _ _

theorem computed (hx : Finite m c) (t : Fin cfg0.N) (r : Fin 256) (l : Fin 1024) :
    rowsOf m c t (ix2 r l) = if h : r.val < 200 then at' m c (graph t) ⟨r.val, h⟩ l else 0 := by
  refine (row _ _ _ _ _ (fun s k => ?_) (fun s k hs => ?_) r l).trans ?_
  · rw [feature]
    split
    · exact hx _
    · exact ⟨0, rfl⟩
  · rw [feature, dif_neg (by omega)]
  · split
    · next h =>
      unfold at' ConvBody.hidden
      simp only [feature, block0, block2, block3, block4, Fin.is_lt, dif_pos, h]
      exact congrArg (layer _ _ _ _ _) ((congrFun (found2 m c) _).trans (bias _ l))
    · rfl

theorem map_at (hx : Finite m c) (t : Fin cfg0.N) (r : Fin 256) (l : Fin 1024) :
    (outsAt0 m c t.val t.isLt).1 (ix3 0 r l) = if h : r.val < 200 then at' m c (graph t) ⟨r.val, h⟩ l else 0 := by
  by_cases h0 : t.val % 64 = 0
  · rw [outsAt0_A m c t h0]
    dsimp only
    rw [out_A_5, stored]
    exact computed m c hx t r l
  · rw [outsAt0_B m c t h0]
    dsimp only
    rw [out_B_5, stored]
    exact computed m c hx t r l

/-! The two sums, step after step. -/

/-- A graph's share of the two sums. -/
def share (f : EReal → EReal) (n : Nat) (l : Fin 1024) : EReal :=
  if h : n < 64 then ∑ r : Fin 200, f (at' m c ⟨n, h⟩ r l) else 0

theorem share_of (f : EReal → EReal) (h0 : f 0 = 0) (hx : Finite m c) (t : Fin cfg0.N) (l : Fin 1024) :
    ∑ r : Fin 256, f (rowsOf m c t (ix2 r l)) = share m c f t.val l := by
  have ht : t.val < 64 := (graph t).isLt
  rw [first_rows _ fun s hs => by rw [computed m c hx, dif_neg (by omega), h0]]
  unfold share
  rw [dif_pos ht]
  refine Finset.sum_congr rfl fun r _ => congrArg f ?_
  rw [computed m c hx, dif_pos r.isLt]

theorem sums (hx : Finite m c) (l : Fin 1024) : ∀ (n : Nat) (hn : n < cfg0.N),
    (outsAt0 m c n hn).2.1 (ix2 0 l) = ∑ g ∈ Finset.range (n + 1), share m c (fun x => x) g l
    ∧ (outsAt0 m c n hn).2.2 (ix2 0 l) = ∑ g ∈ Finset.range (n + 1), share m c (fun x => x * x) g l
  | 0, hn => by
    rw [outsAt0_A m c ⟨0, hn⟩ rfl]
    dsimp only
    rw [out_A_6, out_A_7, summed, squared, cleared3, cleared4, Finset.sum_range_one, Finset.sum_range_one]
    exact ⟨(zero_add _).trans (share_of m c (fun x => x) rfl hx ⟨0, hn⟩ l), (zero_add _).trans (share_of m c (fun x => x * x) (mul_zero _) hx ⟨0, hn⟩ l)⟩
  | n + 1, hn => by
    have h64 : cfg0.N = 64 := N_0
    have hB : ¬(⟨n + 1, hn⟩ : Fin cfg0.N).val % 64 = 0 := by dsimp only; omega
    obtain ⟨e, e'⟩ := sums hx l n (Nat.lt_of_succ_lt hn)
    rw [outsAt0_B m c ⟨n + 1, hn⟩ hB]
    dsimp only
    rw [out_B_6, out_B_7, summed, squared, Finset.sum_range_succ _ (n + 1), Finset.sum_range_succ _ (n + 1)]
    exact ⟨congrArg₂ (· + ·) e (share_of m c (fun x => x) rfl hx ⟨n + 1, hn⟩ l),
      congrArg₂ (· + ·) e' (share_of m c (fun x => x * x) (mul_zero _) hx ⟨n + 1, hn⟩ l)⟩

theorem total (f : EReal → EReal) (l : Fin 1024) :
    ∑ g ∈ Finset.range 64, share m c f g l = ∑ g : Fin 64, ∑ r : Fin 200, f (at' m c g r l) := by
  rw [Finset.sum_range]
  refine Finset.sum_congr rfl fun g _ => ?_
  unfold share
  rw [dif_pos g.isLt]

/-! The arrays that the steps write back. -/

/-- The last step. -/
abbrev last : Fin cfg0.N := ⟨63, by rw [show cfg0.N = 64 from N_0]; omega⟩

theorem map_left (hx : Finite m c) : (dats m 0 c).arrAt 5 cfg0.N
    = Cert.ConvReferenceIdeal.Read.val_main_v14 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_cover 5 _ (fun t _ => ?_) (fun i => ⟨⟨(i 0).val, ?_⟩, ?_, ?_⟩)
  · rw [Cert.ConvIdeal.Value.flushed5]
    funext y
    obtain ⟨r, l, rfl⟩ : ∃ (r : Fin 256) (l : Fin 1024), y = ix3 0 r l :=
      ⟨y 1, y 2, by
        funext a; apply Fin.ext
        match a with
        | ⟨0, _⟩ => have : (y 0).val < 1 := (y 0).isLt; show (y 0).val = 0; omega
        | ⟨1, _⟩ => rfl
        | ⟨2, _⟩ => rfl⟩
    refine (map_at m c hx t r l).trans ((wanted_map _ _ _ _ _ (graph t) r l).symm.trans ?_)
    refine congrArg (Cert.ConvReferenceIdeal.Read.val_main_v14 (F := Ideal) _ _ _ _ _) (funext fun a => Fin.ext ?_)
    match a with
    | ⟨0, _⟩ => show t.val = win0_5.index t 0 * 1 + 1 * 0; rw [(still t).2.2.1]; simp
    | ⟨1, _⟩ => show r.val = win0_5.index t 1 * 256 + 1 * r.val; rw [(still t).2.2.2.1]; simp
    | ⟨2, _⟩ => show l.val = win0_5.index t 2 * 1024 + 1 * l.val; rw [(still t).2.2.2.2]; simp
  · have : (i 0).val < 64 := (i 0).isLt
    rw [show cfg0.N = 64 from N_0]; exact this
  · exact (by decide +kernel : ∀ t : Fin grid0.N, win0_5.flush t = true) _
  · generalize ht : (⟨(i 0).val, _⟩ : Fin cfg0.N) = t
    have e : t.val = (i 0).val := by rw [← ht]
    show i ∈ ((View.whole main_v3_0).slice (win0_5.rect t)).set
    rw [View.set_slice_whole, Rect.mem_set_unit]
    intro a
    match a with
    | ⟨0, _⟩ => show win0_5.index t 0 * 1 ≤ (i 0).val ∧ (i 0).val < win0_5.index t 0 * 1 + 1; rw [(still t).2.2.1]; omega
    | ⟨1, _⟩ => show win0_5.index t 1 * 256 ≤ (i 1).val ∧ (i 1).val < win0_5.index t 1 * 256 + 256; rw [(still t).2.2.2.1]; have : (i 1).val < 256 := (i 1).isLt; simpa using this
    | ⟨2, _⟩ => show win0_5.index t 2 * 1024 ≤ (i 2).val ∧ (i 2).val < win0_5.index t 2 * 1024 + 1024; rw [(still t).2.2.2.2]; have : (i 2).val < 1024 := (i 2).isLt; simpa using this

theorem sum_left (hx : Finite m c) : (dats m 0 c).arrAt 6 cfg0.N
    = Cert.ConvReferenceIdeal.Read.val_main_v10 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_cover 6 _ (fun t hf => ?_) (fun i => ⟨last, ?_, ?_⟩)
  · obtain rfl : t = last := Fin.ext
      ((by decide +kernel : ∀ t : Fin grid0.N, win0_6.flush t = true → t.val = 63) t hf)
    rw [Cert.ConvIdeal.Value.flushed6]
    funext y
    obtain ⟨l, rfl⟩ : ∃ l : Fin 1024, y = ix2 0 l :=
      ⟨y 1, by
        funext a; apply Fin.ext
        match a with
        | ⟨0, _⟩ => have : (y 0).val < 1 := (y 0).isLt; show (y 0).val = 0; omega
        | ⟨1, _⟩ => rfl⟩
    refine ((sums m c hx l 63 last.isLt).1.trans ((total m c _ l).trans (wanted_sum _ _ _ _ _ l).symm)).trans ?_
    refine congrArg (Cert.ConvReferenceIdeal.Read.val_main_v10 (F := Ideal) _ _ _ _ _) (funext fun a => Fin.ext ?_)
    match a with
    | ⟨0, _⟩ => show 0 = 0 * 1 + 1 * 0; simp
    | ⟨1, _⟩ => show l.val = 0 * 1024 + 1 * l.val; simp
  · exact (by decide +kernel : ∀ t : Fin grid0.N, t.val = 63 → win0_6.flush t = true) last rfl
  · show i ∈ ((View.whole main_v3_1).slice (win0_6.rect last)).set
    rw [View.set_slice_whole, Rect.mem_set_unit]
    intro a
    match a with
    | ⟨0, _⟩ => show 0 * 1 ≤ (i 0).val ∧ (i 0).val < 0 * 1 + 1; have : (i 0).val < 1 := (i 0).isLt; simpa using this
    | ⟨1, _⟩ => show 0 * 1024 ≤ (i 1).val ∧ (i 1).val < 0 * 1024 + 1024; have : (i 1).val < 1024 := (i 1).isLt; simpa using this

theorem squares_left (hx : Finite m c) : (dats m 0 c).arrAt 7 cfg0.N
    = Cert.ConvReferenceIdeal.Read.val_main_v13 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_cover 7 _ (fun t hf => ?_) (fun i => ⟨last, ?_, ?_⟩)
  · obtain rfl : t = last := Fin.ext
      ((by decide +kernel : ∀ t : Fin grid0.N, win0_7.flush t = true → t.val = 63) t hf)
    rw [Cert.ConvIdeal.Value.flushed7]
    funext y
    obtain ⟨l, rfl⟩ : ∃ l : Fin 1024, y = ix2 0 l :=
      ⟨y 1, by
        funext a; apply Fin.ext
        match a with
        | ⟨0, _⟩ => have : (y 0).val < 1 := (y 0).isLt; show (y 0).val = 0; omega
        | ⟨1, _⟩ => rfl⟩
    refine ((sums m c hx l 63 last.isLt).2.trans ((total m c _ l).trans (wanted_squares _ _ _ _ _ l).symm)).trans ?_
    refine congrArg (Cert.ConvReferenceIdeal.Read.val_main_v13 (F := Ideal) _ _ _ _ _) (funext fun a => Fin.ext ?_)
    match a with
    | ⟨0, _⟩ => show 0 = 0 * 1 + 1 * 0; simp
    | ⟨1, _⟩ => show l.val = 0 * 1024 + 1 * l.val; simp
  · exact (by decide +kernel : ∀ t : Fin grid0.N, t.val = 63 → win0_7.flush t = true) last rfl
  · show i ∈ ((View.whole main_v3_2).slice (win0_7.rect last)).set
    rw [View.set_slice_whole, Rect.mem_set_unit]
    intro a
    match a with
    | ⟨0, _⟩ => show 0 * 1 ≤ (i 0).val ∧ (i 0).val < 0 * 1 + 1; have : (i 0).val < 1 := (i 0).isLt; simpa using this
    | ⟨1, _⟩ => show 0 * 1024 ≤ (i 1).val ∧ (i 1).val < 0 * 1024 + 1024; have : (i 1).val < 1024 := (i 1).isLt; simpa using this

/-- The exact reading of the graph convolution ends with the reference's three results. -/
theorem same_value : Cert.algebraic_ConvIdeal_ConvReferenceIdeal_pre_finite_nodes := fun m ρ m' ρ' h hm =>
  ⟨fun d => (dats m 0 d).arrAt 5 cfg0.N, fun d => (dats m 0 d).arrAt 6 cfg0.N, fun d => (dats m 0 d).arrAt 7 cfg0.N,
    Cert.ConvIdeal.Value.run_blocks m ρ,
    (θ_run Cert.ConvReferenceIdeal.defs _ _).mono (fun _ q d => by
      obtain ⟨e0, e1, e2, e3, e4⟩ := hm d
      have hx : Finite m d := Cert.Proof.Finite.nodes _ _ _ _ _ (h d)
      obtain ⟨q0, q1, q2, kept⟩ := q d
      refine ⟨q0.trans ?_, q1.trans ?_, q2.trans ?_, kept⟩
      · refine (Cert.ConvReferenceIdeal.Read.val_main_v14_eq (F := Ideal) _ _ _ _ _).trans ?_
        rw [e0, e1, e2, e3, e4]
        exact (map_left m d hx).symm
      · refine (Cert.ConvReferenceIdeal.Read.val_main_v10_eq (F := Ideal) _ _ _ _ _).trans ?_
        rw [e0, e1, e2, e3, e4]
        exact (sum_left m d hx).symm
      · refine (Cert.ConvReferenceIdeal.Read.val_main_v13_eq (F := Ideal) _ _ _ _ _).trans ?_
        rw [e0, e1, e2, e3, e4]
        exact (squares_left m d hx).symm)
      (Cert.ConvReferenceIdeal.Value.run (F := Ideal) m' ρ')⟩

end Cert.Proof.ConvValue

end
-- ==== Proof.Conv2Body.lean ====
module

public import proofs.«01_k».proof.Proof.Gen.Conv2Ideal.Frame
public import proofs.«01_k».proof.Proof.Gen.Conv2ReferenceIdeal.Read
public import Idealize.ShloMosaic.Lib.Pointwise

@[expose] public section

noncomputable section

namespace Cert.Proof.Conv2Body

open Cert.Conv2Ideal Cert.Conv2Ideal.Gen Idealize.ShloMosaic

/-! The body of the second graph convolution, entry by entry. -/

/-- One entry of the layer's result: `a` is a node's row of the adjacency map, `x` the features of the graph's nodes and
    `own` those of this node. -/
def layer (a : Fin 128 → EReal) (x : Fin 128 → Fin 1024 → EReal) (own w w' : Fin 1024 → EReal) (b : EReal) : EReal :=
  (∑ k : Fin 1024, (∑ s : Fin 128, a s * x s k) * w k + b) + ∑ k : Fin 1024, own k * w' k

/-- Whether a row of the block is one of the graph's hundred nodes, as the kernel computes it. -/
theorem kept (r : Fin 128) :
    FloatOps.sitofp (F := Ideal) FTy.f32 (BitVec.setWidth 32 (IntOp.cmpi CmpIPredicate.slt (BitVec.ofNat 32 r.val) 100#32))
      = if r.val < 100 then (1 : EReal) else 0 := by
  have : ∀ r : Fin 128, BitVec.setWidth 32 (IntOp.cmpi CmpIPredicate.slt (BitVec.ofNat 32 r.val) 100#32)
      = if r.val < 100 then 1#32 else 0#32 := by decide +kernel
  rw [this]
  split
  · show (((1#32).toInt : ℝ) : EReal) = 1
    simp
  · show (((0#32).toInt : ℝ) : EReal) = 0
    simp

/-- A sum over the block's rows whose terms past the hundredth vanish. -/
theorem first_rows (f : Fin 128 → EReal) (h : ∀ s : Fin 128, 100 ≤ s.val → f s = 0) :
    ∑ s : Fin 128, f s = ∑ s : Fin 100, f ⟨s.val, by omega⟩ := by
  rw [show ∑ s : Fin 128, f s = _ from Fin.sum_univ_add (a := 100) (b := 28) f,
    Finset.sum_eq_zero (s := Finset.univ) (f := fun i : Fin 28 => f (Fin.natAdd 100 i)) fun i _ => h _ (by simp), add_zero]
  rfl

/-- A real number less itself. -/
theorem nothing (x : EReal) (h : ∃ r : ℝ, x = (r : EReal)) : x - x = 0 := by
  obtain ⟨r, rfl⟩ := h
  rw [← EReal.coe_sub, sub_self, EReal.coe_zero]

/-- What the body computes for one row, when the features are finite. -/
theorem row (x0 : Vec Ideal S1x128x128 .f32) (x1 : Vec Ideal S1x128x1024 .f32) (x2 x3 : Vec Ideal S1024x1024 .f32)
    (x4 : Vec Ideal S1x1024 .f32) (hx : ∀ s k, ∃ r : ℝ, x1 (ix3 0 s k) = (r : EReal)) (r : Fin 128) (l : Fin 1024) :
    k0_pay5 x0 x1 x2 x3 x4 (ix2 r l)
      = if r.val < 100 then layer (fun s => x0 (ix3 0 r s)) (fun s k => x1 (ix3 0 s k))
          (fun k => x1 (ix3 0 r k)) (fun k => x2 (ix2 k l)) (fun k => x3 (ix2 k l)) (x4 (ix2 0 l)) else 0 := by
  pointwise [k0_pay5]
  rw [kept]
  split
  · rw [mul_one]
    unfold layer
    rw [add_right_comm]
    refine congrArg (· + _ + _) (Finset.sum_congr rfl fun k _ => congrArg (· * _) ?_)
    rw [Finset.sum_eq_zero (f := fun s : Fin 128 => x0 (ix3 0 r s) * (x1 (ix3 0 s k) - x1 (ix3 0 s k)))
      fun s _ => by rw [nothing _ (hx s k), mul_zero], add_zero]
  · exact mul_zero _

/-! The three payloads that the body stores. -/

theorem stored (x0 : Vec Ideal S1x128x128 .f32) (x1 : Vec Ideal S1x128x1024 .f32) (x2 x3 : Vec Ideal S1024x1024 .f32)
    (x4 : Vec Ideal S1x1024 .f32) (r : Fin 128) (l : Fin 1024) :
    k0_pay6 x0 x1 x2 x3 x4 (ix3 0 r l) = k0_pay5 x0 x1 x2 x3 x4 (ix2 r l) := by
  pointwise [k0_pay6]

theorem summed (v : Vec Ideal S128x1024 .f32) (z : Vec Ideal S1x1024 .f32) (l : Fin 1024) :
    k0_pay3 v z (ix2 0 l) = z (ix2 0 l) + ∑ r : Fin 128, v (ix2 r l) := by
  pointwise [k0_pay3]

theorem squared (v : Vec Ideal S128x1024 .f32) (z : Vec Ideal S1x1024 .f32) (l : Fin 1024) :
    k0_pay4 v z (ix2 0 l) = z (ix2 0 l) + ∑ r : Fin 128, v (ix2 r l) * v (ix2 r l) := by
  pointwise [k0_pay4]

theorem cleared3 (l : Fin 1024) : k0_pay1 (F := Ideal) (ix2 0 l) = (0 : EReal) := by
  pointwise [k0_pay1]

theorem cleared4 (l : Fin 1024) : k0_pay2 (F := Ideal) (ix2 0 l) = (0 : EReal) := by
  pointwise [k0_pay2]

section Stored

variable (c : Dev nD) (i : grid0.Coords)
  (a1 : Memref sig .tc .vmem S1x128x128 .f32) (h1 : a1.IsWhole)
  (a2 : Memref sig .tc .vmem S1x128x1024 .f32) (h2 : a2.IsWhole)
  (a3 : Memref sig .tc .vmem S1024x1024 .f32) (h3 : a3.IsWhole)
  (a4 : Memref sig .tc .vmem S1024x1024 .f32) (h4 : a4.IsWhole)
  (a5 : Memref sig .tc .vmem S1x1024 .f32) (h5 : a5.IsWhole)
  (a6 : Memref sig .tc .vmem S1x128x1024 .f32) (h6 : a6.IsWhole)
  (a7 : Memref sig .tc .vmem S1x1024 .f32) (h7 : a7.IsWhole)
  (a8 : Memref sig .tc .vmem S1x1024 .f32) (h8 : a8.IsWhole)
  (x0 : Vec Ideal S1x128x128 .f32) (x1 : Vec Ideal S1x128x1024 .f32) (x2 x3 : Vec Ideal S1024x1024 .f32) (x4 : Vec Ideal S1x1024 .f32)

theorem at2 : (![0, 0] : Fin 2 → Nat) = fun _ => 0 := by funext a; fin_cases a <;> rfl
theorem at3 : (![0, 0, 0] : Fin 3 → Nat) = fun _ => 0 := by funext a; fin_cases a <;> rfl

theorem out_A_5 (hc : cond0_0 i) :
    out0_A_5 c i a1 h1 a2 h2 a3 h3 a4 h4 a5 h5 a6 h6 a7 h7 a8 h8 hc x0 x1 x2 x3 x4 = k0_pay6 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero at3]
  simp only [View.readAt_eq_ld, h1.read_unread, h2.read_unread, h3.read_unread, h4.read_unread, h5.read_unread,
    View.ld_unit_zero (S := S1x128x128) at3, View.ld_unit_zero (S := S1x128x1024) at3, View.ld_unit_zero (S := S1024x1024) at2,
    View.ld_unit_zero (S := S1x1024) at2]

theorem out_A_6 (hc : cond0_0 i) :
    out0_A_6 c i a1 h1 a2 h2 a3 h3 a4 h4 a5 h5 a6 h6 a7 h7 a8 h8 hc x0 x1 x2 x3 x4 = k0_pay3 (k0_pay5 x0 x1 x2 x3 x4) (k0_pay1 (F := Ideal)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) at2, View.readCov_unit_zero (S := S1x1024) _ at2]
  simp only [View.readAt_eq_ld, h1.read_unread, h2.read_unread, h3.read_unread, h4.read_unread, h5.read_unread,
    View.ld_unit_zero (S := S1x128x128) at3, View.ld_unit_zero (S := S1x128x1024) at3, View.ld_unit_zero (S := S1024x1024) at2,
    View.ld_unit_zero (S := S1x1024) at2]

theorem out_A_7 (hc : cond0_0 i) :
    out0_A_7 c i a1 h1 a2 h2 a3 h3 a4 h4 a5 h5 a6 h6 a7 h7 a8 h8 hc x0 x1 x2 x3 x4 = k0_pay4 (k0_pay5 x0 x1 x2 x3 x4) (k0_pay2 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) at2, View.readCov_unit_zero (S := S1x1024) _ at2]
  simp only [View.readAt_eq_ld, h1.read_unread, h2.read_unread, h3.read_unread, h4.read_unread, h5.read_unread,
    View.ld_unit_zero (S := S1x128x128) at3, View.ld_unit_zero (S := S1x128x1024) at3, View.ld_unit_zero (S := S1024x1024) at2,
    View.ld_unit_zero (S := S1x1024) at2]

theorem out_B_5 (hc : ¬cond0_0 i) (xo6 xo7 : Vec Ideal S1x1024 .f32) :
    out0_B_5 c i a1 h1 a2 h2 a3 h3 a4 h4 a5 h5 a6 h6 a7 h7 a8 h8 hc x0 x1 x2 x3 x4 xo6 xo7 = k0_pay6 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero at3]
  simp only [View.readAt_eq_ld, h1.read_unread, h2.read_unread, h3.read_unread, h4.read_unread, h5.read_unread,
    View.ld_unit_zero (S := S1x128x128) at3, View.ld_unit_zero (S := S1x128x1024) at3, View.ld_unit_zero (S := S1024x1024) at2,
    View.ld_unit_zero (S := S1x1024) at2]

theorem out_B_6 (hc : ¬cond0_0 i) (xo6 xo7 : Vec Ideal S1x1024 .f32) :
    out0_B_6 c i a1 h1 a2 h2 a3 h3 a4 h4 a5 h5 a6 h6 a7 h7 a8 h8 hc x0 x1 x2 x3 x4 xo6 xo7 = k0_pay3 (k0_pay5 x0 x1 x2 x3 x4) xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero at2]
  simp only [View.readAt_eq_ld, h1.read_unread, h2.read_unread, h3.read_unread, h4.read_unread, h5.read_unread, h7.read_unread,
    View.ld_unit_zero (S := S1x128x128) at3, View.ld_unit_zero (S := S1x128x1024) at3, View.ld_unit_zero (S := S1024x1024) at2,
    View.ld_unit_zero (S := S1x1024) at2]

theorem out_B_7 (hc : ¬cond0_0 i) (xo6 xo7 : Vec Ideal S1x1024 .f32) :
    out0_B_7 c i a1 h1 a2 h2 a3 h3 a4 h4 a5 h5 a6 h6 a7 h7 a8 h8 hc x0 x1 x2 x3 x4 xo6 xo7 = k0_pay4 (k0_pay5 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero at2]
  simp only [View.readAt_eq_ld, h1.read_unread, h2.read_unread, h3.read_unread, h4.read_unread, h5.read_unread, h8.read_unread,
    View.ld_unit_zero (S := S1x128x128) at3, View.ld_unit_zero (S := S1x128x1024) at3, View.ld_unit_zero (S := S1024x1024) at2,
    View.ld_unit_zero (S := S1x1024) at2]

end Stored

/-! The reference's values. -/

section Reference

open Cert.Conv2ReferenceIdeal.Read

variable (a : Cert.Conv2ReferenceIdeal.S64x128x128.Idx → Ideal .f32) (x : Cert.Conv2ReferenceIdeal.S64x128x1024.Idx → Ideal .f32)
  (w : Cert.Conv2ReferenceIdeal.S1024x1024.Idx → Ideal .f32) (b : Cert.Conv2ReferenceIdeal.S1024.Idx → Ideal .f32)
  (w' : Cert.Conv2ReferenceIdeal.S1024x1024.Idx → Ideal .f32)

/-- The layer's result at node `r` of graph `g`. -/
def hidden (g : Fin 64) (r : Fin 100) (l : Fin 1024) : EReal :=
  layer (fun s => a (ix3 g ⟨r.val, by omega⟩ s)) (fun s k => x (ix3 g s k))
    (fun k => x (ix3 g ⟨r.val, by omega⟩ k)) (fun k => w (ix2 k l)) (fun k => w' (ix2 k l)) (b (ix1 l))

theorem wanted (g : Fin 64) (r : Fin 100) (l : Fin 1024) : val_main_v8 (F := Ideal) a x w b w' (ix3 g r l) = hidden a x w b w' g r l := by
  unfold hidden layer
  pointwise [val_main_v8, val_main_v7, val_main_v6, val_main_v5, val_main_v4, val_main_v3, val_main_v2, val_main_v1, val_main_v0]

theorem wanted_map (g : Fin 64) (r : Fin 128) (l : Fin 1024) :
    val_main_v14 (F := Ideal) a x w b w' (ix3 g r l) = if h : r.val < 100 then hidden a x w b w' g ⟨r.val, h⟩ l else 0 := by
  pointwise [val_main_v14, val_main_call0_v0, val_main_c]
  rw [show (FloatOps.sitofp FTy.f32 (0#32 : BitVec 32) : Ideal .f32) = 0 by show (((0#32).toInt : ℝ) : EReal) = 0; simp]
  simp only [wanted]

/-- The sum over a map's first two axes. -/
theorem over_nodes (h : Cert.Conv2ReferenceIdeal.S64x100x1024.ReducesTo [0, 1] Cert.Conv2ReferenceIdeal.S1024)
    (v : Cert.Conv2ReferenceIdeal.S64x100x1024.Idx → EReal) (l : Fin 1024) :
    Ideal.hostReduceAdd h v 0 (ix1 l) = ∑ g : Fin 64, ∑ r : Fin 100, v (ix3 g r l) := by
  unfold Ideal.hostReduceAdd
  rw [zero_add, ← Fintype.sum_prod_type' (f := fun (g : Fin 64) (r : Fin 100) => v (ix3 g r l))]
  refine Finset.sum_bij' (fun i _ => ((i 0 : Fin 64), (i 1 : Fin 100))) (fun p _ => ix3 p.1 p.2 l) (fun _ _ => Finset.mem_univ _)
    (fun p _ => Finset.mem_filter.mpr ⟨Finset.mem_univ _, ?_⟩) (fun i hi => ?_) (fun _ _ => rfl) (fun i hi => ?_)
  · funext q; match q with | ⟨0, _⟩ => rfl
  all_goals
    have e : ix3 (i 0 : Fin 64) (i 1 : Fin 100) l = i := by
      funext q; apply Fin.ext
      match q with
      | ⟨0, _⟩ => rfl
      | ⟨1, _⟩ => rfl
      | ⟨2, _⟩ => exact (congrArg Fin.val (congrFun (Finset.mem_filter.mp hi).2 0)).symm
  · exact e
  · exact congrArg v e.symm

theorem wanted_sum (l : Fin 1024) :
    val_main_v10 (F := Ideal) a x w b w' (ix2 0 l) = ∑ g : Fin 64, ∑ r : Fin 100, hidden a x w b w' g r l := by
  pointwise [val_main_v10, val_main_v9, val_main_cst]
  rw [over_nodes]
  simp only [wanted]

theorem wanted_squares (l : Fin 1024) :
    val_main_v13 (F := Ideal) a x w b w' (ix2 0 l)
      = ∑ g : Fin 64, ∑ r : Fin 100, hidden a x w b w' g r l * hidden a x w b w' g r l := by
  pointwise [val_main_v13, val_main_v12, val_main_v11, val_main_cst_0]
  rw [over_nodes]
  simp only [← wanted]
  rfl

end Reference

end Cert.Proof.Conv2Body

end
-- ==== Proof.Conv2Value.lean ====
/-
  The value of the second graph convolution's call: on finite node features, the reference's.
-/
module

public import proofs.«01_k».proof.Proof.Conv2Body
public import proofs.«01_k».proof.Proof.Finite
public import proofs.«01_k».proof.Proof.Gen.Conv2Ideal.Value
public import proofs.«01_k».proof.Defs
public import Idealize.ShloMosaic.Lib.KernelVsHost

@[expose] public section

noncomputable section

namespace Cert.Proof.Conv2Value

open Cert.Conv2Ideal Cert.Conv2Ideal.Gen Idealize.ShloMosaic Idealize.ShloMosaic.TcCoe Idealize.SL.Sem
open Idealize.ShloMosaic.Pipeline (Dat)
open Cert.Proof.Conv2Body

variable (m : (ℓ : Loc nD τ sig) → Buf (Elt Ideal) ℓ) (c : Dev nD)

/-! The operand that the call prepares. -/

theorem found2 : V m c main_v0 = shapeCast S1x1024 (m ((c : Thread nD τ).loc main_arg3)) shapeCasts_S1024_S1x1024 := by
  simp only [V, hostOps0, List.flatten_cons, List.flatten_nil, List.append_nil, List.cons_append,
    List.nil_append]
  after_results <;> rfl

theorem bias (x : S1024.Idx → Ideal .f32) (l : Fin 1024) :
    shapeCast S1x1024 x shapeCasts_S1024_S1x1024 (ix2 0 l) = x (ix1 l) := by
  pointwise []

/-! The blocks that one step stages: one graph of each map, and the weights whole. -/

/-- The graph of a step. -/
abbrev graph (t : Fin cfg0.N) : Fin 64 := ⟨t.val, N_0 ▸ t.isLt⟩

theorem still : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_5.index t 0 = t.val ∧ win0_5.index t 1 = 0 ∧ win0_5.index t 2 = 0) :=
  (by decide +kernel : ∀ t : Fin grid0.N, _)

theorem block0 (t : Fin cfg0.N) (r s : Fin 128) :
    iblk m c 0 t (ix3 0 r s) = m ((c : Thread nD τ).loc main_arg0) (ix3 (graph t) r s) := by
  rw [← V_main_arg0 m c]
  refine congrArg (V m c main_arg0) (funext fun a => Fin.ext ?_)
  match a with
  | ⟨0, _⟩ => show win0_0.index t 0 * 1 + 1 * 0 = t.val; rw [(still t).1.1]; simp
  | ⟨1, _⟩ => show win0_0.index t 1 * 128 + 1 * r.val = r.val; rw [(still t).1.2.1]; simp
  | ⟨2, _⟩ => show win0_0.index t 2 * 128 + 1 * s.val = s.val; rw [(still t).1.2.2]; simp

theorem block1 (t : Fin cfg0.N) (s : Fin 128) (k : Fin 1024) :
    iblk m c 1 t (ix3 0 s k) = V m c main_arg1 (ix3 (graph t) s k) := by
  refine congrArg (V m c main_arg1) (funext fun a => Fin.ext ?_)
  match a with
  | ⟨0, _⟩ => show win0_1.index t 0 * 1 + 1 * 0 = t.val; rw [(still t).2.1.1]; simp
  | ⟨1, _⟩ => show win0_1.index t 1 * 128 + 1 * s.val = s.val; rw [(still t).2.1.2.1]; simp
  | ⟨2, _⟩ => show win0_1.index t 2 * 1024 + 1 * k.val = k.val; rw [(still t).2.1.2.2]; simp

theorem block2 (t : Fin cfg0.N) : iblk m c 2 t = m ((c : Thread nD τ).loc main_arg2) := by
  rw [← V_main_arg2 m c]
  funext y
  refine congrArg (V m c main_arg2) (funext fun a => Fin.ext ?_)
  match a with
  | ⟨0, _⟩ => show 0 * 1024 + 1 * (y 0).val = (y 0).val; simp
  | ⟨1, _⟩ => show 0 * 1024 + 1 * (y 1).val = (y 1).val; simp

theorem block3 (t : Fin cfg0.N) : iblk m c 3 t = m ((c : Thread nD τ).loc main_arg4) := by
  rw [← V_main_arg4 m c]
  funext y
  refine congrArg (V m c main_arg4) (funext fun a => Fin.ext ?_)
  match a with
  | ⟨0, _⟩ => show 0 * 1024 + 1 * (y 0).val = (y 0).val; simp
  | ⟨1, _⟩ => show 0 * 1024 + 1 * (y 1).val = (y 1).val; simp

theorem block4 (t : Fin cfg0.N) : iblk m c 4 t = V m c main_v0 := by
  funext y
  refine congrArg (V m c main_v0) (funext fun a => Fin.ext ?_)
  match a with
  | ⟨0, _⟩ => show 0 * 1 + 1 * (y 0).val = (y 0).val; simp
  | ⟨1, _⟩ => show 0 * 1024 + 1 * (y 1).val = (y 1).val; simp

/-! One step. -/

/-- The layer's result at a node, of the operands in memory. -/
abbrev at' (g : Fin 64) (r : Fin 100) (l : Fin 1024) : EReal :=
  hidden (m ((c : Thread nD τ).loc main_arg0)) (m ((c : Thread nD τ).loc main_arg1)) (m ((c : Thread nD τ).loc main_arg2))
    (m ((c : Thread nD τ).loc main_arg3)) (m ((c : Thread nD τ).loc main_arg4)) g r l

/-- The nodes' features. -/
abbrev features : S64x128x1024.Idx → EReal := m ((c : Thread nD τ).loc main_arg1)

/-- They are finite. -/
abbrev Finite : Prop := ∀ i : S64x128x1024.Idx, ∃ r : ℝ, features m c i = (r : EReal)

/-- The rows that a step computes. -/
abbrev rowsOf (t : Fin cfg0.N) : Vec Ideal S128x1024 .f32 :=
  k0_pay5 (iblk m c 0 t) (iblk m c 1 t) (iblk m c 2 t) (iblk m c 3 t) (iblk m c 4 t)

theorem feature (t : Fin cfg0.N) (s : Fin 128) (k : Fin 1024) :
    (iblk m c 1 t : S1x128x1024.Idx → EReal) (ix3 0 s k) = features m c (ix3 (graph t) s k) := by
  refine (block1 m c t s k).trans ?_
  rw [V_main_arg1]

theorem computed (hx : Finite m c) (t : Fin cfg0.N) (r : Fin 128) (l : Fin 1024) :
    rowsOf m c t (ix2 r l) = if h : r.val < 100 then at' m c (graph t) ⟨r.val, h⟩ l else 0 := by
  refine (row _ _ _ _ _ (fun s k => ?_) r l).trans ?_
  · rw [feature]
    exact hx _
  · split
    · next h =>
      unfold at' Conv2Body.hidden
      simp only [feature, block0, block2, block3, block4, Fin.is_lt, dif_pos, h]
      exact congrArg (layer _ _ _ _ _) ((congrFun (found2 m c) _).trans (bias _ l))
    · rfl

theorem map_at (hx : Finite m c) (t : Fin cfg0.N) (r : Fin 128) (l : Fin 1024) :
    (outsAt0 m c t.val t.isLt).1 (ix3 0 r l) = if h : r.val < 100 then at' m c (graph t) ⟨r.val, h⟩ l else 0 := by
  by_cases h0 : t.val % 64 = 0
  · rw [outsAt0_A m c t h0]
    dsimp only
    rw [out_A_5, stored]
    exact computed m c hx t r l
  · rw [outsAt0_B m c t h0]
    dsimp only
    rw [out_B_5, stored]
    exact computed m c hx t r l

/-! The two sums, step after step. -/

/-- A graph's share of the two sums. -/
def share (f : EReal → EReal) (n : Nat) (l : Fin 1024) : EReal :=
  if h : n < 64 then ∑ r : Fin 100, f (at' m c ⟨n, h⟩ r l) else 0

theorem share_of (f : EReal → EReal) (h0 : f 0 = 0) (hx : Finite m c) (t : Fin cfg0.N) (l : Fin 1024) :
    ∑ r : Fin 128, f (rowsOf m c t (ix2 r l)) = share m c f t.val l := by
  have ht : t.val < 64 := (graph t).isLt
  rw [first_rows _ fun s hs => by rw [computed m c hx, dif_neg (by omega), h0]]
  unfold share
  rw [dif_pos ht]
  refine Finset.sum_congr rfl fun r _ => congrArg f ?_
  rw [computed m c hx, dif_pos r.isLt]

theorem sums (hx : Finite m c) (l : Fin 1024) : ∀ (n : Nat) (hn : n < cfg0.N),
    (outsAt0 m c n hn).2.1 (ix2 0 l) = ∑ g ∈ Finset.range (n + 1), share m c (fun x => x) g l
    ∧ (outsAt0 m c n hn).2.2 (ix2 0 l) = ∑ g ∈ Finset.range (n + 1), share m c (fun x => x * x) g l
  | 0, hn => by
    rw [outsAt0_A m c ⟨0, hn⟩ rfl]
    dsimp only
    rw [out_A_6, out_A_7, summed, squared, cleared3, cleared4, Finset.sum_range_one, Finset.sum_range_one]
    exact ⟨(zero_add _).trans (share_of m c (fun x => x) rfl hx ⟨0, hn⟩ l), (zero_add _).trans (share_of m c (fun x => x * x) (mul_zero _) hx ⟨0, hn⟩ l)⟩
  | n + 1, hn => by
    have h64 : cfg0.N = 64 := N_0
    have hB : ¬(⟨n + 1, hn⟩ : Fin cfg0.N).val % 64 = 0 := by dsimp only; omega
    obtain ⟨e, e'⟩ := sums hx l n (Nat.lt_of_succ_lt hn)
    rw [outsAt0_B m c ⟨n + 1, hn⟩ hB]
    dsimp only
    rw [out_B_6, out_B_7, summed, squared, Finset.sum_range_succ _ (n + 1), Finset.sum_range_succ _ (n + 1)]
    exact ⟨congrArg₂ (· + ·) e (share_of m c (fun x => x) rfl hx ⟨n + 1, hn⟩ l),
      congrArg₂ (· + ·) e' (share_of m c (fun x => x * x) (mul_zero _) hx ⟨n + 1, hn⟩ l)⟩

theorem total (f : EReal → EReal) (l : Fin 1024) :
    ∑ g ∈ Finset.range 64, share m c f g l = ∑ g : Fin 64, ∑ r : Fin 100, f (at' m c g r l) := by
  rw [Finset.sum_range]
  refine Finset.sum_congr rfl fun g _ => ?_
  unfold share
  rw [dif_pos g.isLt]

/-! The arrays that the steps write back. -/

/-- The last step. -/
abbrev last : Fin cfg0.N := ⟨63, by rw [show cfg0.N = 64 from N_0]; omega⟩

theorem map_left (hx : Finite m c) : (dats m 0 c).arrAt 5 cfg0.N
    = Cert.Conv2ReferenceIdeal.Read.val_main_v14 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_cover 5 _ (fun t _ => ?_) (fun i => ⟨⟨(i 0).val, ?_⟩, ?_, ?_⟩)
  · rw [Cert.Conv2Ideal.Value.flushed5]
    funext y
    obtain ⟨r, l, rfl⟩ : ∃ (r : Fin 128) (l : Fin 1024), y = ix3 0 r l :=
      ⟨y 1, y 2, by
        funext a; apply Fin.ext
        match a with
        | ⟨0, _⟩ => have : (y 0).val < 1 := (y 0).isLt; show (y 0).val = 0; omega
        | ⟨1, _⟩ => rfl
        | ⟨2, _⟩ => rfl⟩
    refine (map_at m c hx t r l).trans ((wanted_map _ _ _ _ _ (graph t) r l).symm.trans ?_)
    refine congrArg (Cert.Conv2ReferenceIdeal.Read.val_main_v14 (F := Ideal) _ _ _ _ _) (funext fun a => Fin.ext ?_)
    match a with
    | ⟨0, _⟩ => show t.val = win0_5.index t 0 * 1 + 1 * 0; rw [(still t).2.2.1]; simp
    | ⟨1, _⟩ => show r.val = win0_5.index t 1 * 128 + 1 * r.val; rw [(still t).2.2.2.1]; simp
    | ⟨2, _⟩ => show l.val = win0_5.index t 2 * 1024 + 1 * l.val; rw [(still t).2.2.2.2]; simp
  · have : (i 0).val < 64 := (i 0).isLt
    rw [show cfg0.N = 64 from N_0]; exact this
  · exact (by decide +kernel : ∀ t : Fin grid0.N, win0_5.flush t = true) _
  · generalize ht : (⟨(i 0).val, _⟩ : Fin cfg0.N) = t
    have e : t.val = (i 0).val := by rw [← ht]
    show i ∈ ((View.whole main_v1_0).slice (win0_5.rect t)).set
    rw [View.set_slice_whole, Rect.mem_set_unit]
    intro a
    match a with
    | ⟨0, _⟩ => show win0_5.index t 0 * 1 ≤ (i 0).val ∧ (i 0).val < win0_5.index t 0 * 1 + 1; rw [(still t).2.2.1]; omega
    | ⟨1, _⟩ => show win0_5.index t 1 * 128 ≤ (i 1).val ∧ (i 1).val < win0_5.index t 1 * 128 + 128; rw [(still t).2.2.2.1]; have : (i 1).val < 128 := (i 1).isLt; simpa using this
    | ⟨2, _⟩ => show win0_5.index t 2 * 1024 ≤ (i 2).val ∧ (i 2).val < win0_5.index t 2 * 1024 + 1024; rw [(still t).2.2.2.2]; have : (i 2).val < 1024 := (i 2).isLt; simpa using this

theorem sum_left (hx : Finite m c) : (dats m 0 c).arrAt 6 cfg0.N
    = Cert.Conv2ReferenceIdeal.Read.val_main_v10 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_cover 6 _ (fun t hf => ?_) (fun i => ⟨last, ?_, ?_⟩)
  · obtain rfl : t = last := Fin.ext
      ((by decide +kernel : ∀ t : Fin grid0.N, win0_6.flush t = true → t.val = 63) t hf)
    rw [Cert.Conv2Ideal.Value.flushed6]
    funext y
    obtain ⟨l, rfl⟩ : ∃ l : Fin 1024, y = ix2 0 l :=
      ⟨y 1, by
        funext a; apply Fin.ext
        match a with
        | ⟨0, _⟩ => have : (y 0).val < 1 := (y 0).isLt; show (y 0).val = 0; omega
        | ⟨1, _⟩ => rfl⟩
    refine ((sums m c hx l 63 last.isLt).1.trans ((total m c _ l).trans (wanted_sum _ _ _ _ _ l).symm)).trans ?_
    refine congrArg (Cert.Conv2ReferenceIdeal.Read.val_main_v10 (F := Ideal) _ _ _ _ _) (funext fun a => Fin.ext ?_)
    match a with
    | ⟨0, _⟩ => show 0 = 0 * 1 + 1 * 0; simp
    | ⟨1, _⟩ => show l.val = 0 * 1024 + 1 * l.val; simp
  · exact (by decide +kernel : ∀ t : Fin grid0.N, t.val = 63 → win0_6.flush t = true) last rfl
  · show i ∈ ((View.whole main_v1_1).slice (win0_6.rect last)).set
    rw [View.set_slice_whole, Rect.mem_set_unit]
    intro a
    match a with
    | ⟨0, _⟩ => show 0 * 1 ≤ (i 0).val ∧ (i 0).val < 0 * 1 + 1; have : (i 0).val < 1 := (i 0).isLt; simpa using this
    | ⟨1, _⟩ => show 0 * 1024 ≤ (i 1).val ∧ (i 1).val < 0 * 1024 + 1024; have : (i 1).val < 1024 := (i 1).isLt; simpa using this

theorem squares_left (hx : Finite m c) : (dats m 0 c).arrAt 7 cfg0.N
    = Cert.Conv2ReferenceIdeal.Read.val_main_v13 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_cover 7 _ (fun t hf => ?_) (fun i => ⟨last, ?_, ?_⟩)
  · obtain rfl : t = last := Fin.ext
      ((by decide +kernel : ∀ t : Fin grid0.N, win0_7.flush t = true → t.val = 63) t hf)
    rw [Cert.Conv2Ideal.Value.flushed7]
    funext y
    obtain ⟨l, rfl⟩ : ∃ l : Fin 1024, y = ix2 0 l :=
      ⟨y 1, by
        funext a; apply Fin.ext
        match a with
        | ⟨0, _⟩ => have : (y 0).val < 1 := (y 0).isLt; show (y 0).val = 0; omega
        | ⟨1, _⟩ => rfl⟩
    refine ((sums m c hx l 63 last.isLt).2.trans ((total m c _ l).trans (wanted_squares _ _ _ _ _ l).symm)).trans ?_
    refine congrArg (Cert.Conv2ReferenceIdeal.Read.val_main_v13 (F := Ideal) _ _ _ _ _) (funext fun a => Fin.ext ?_)
    match a with
    | ⟨0, _⟩ => show 0 = 0 * 1 + 1 * 0; simp
    | ⟨1, _⟩ => show l.val = 0 * 1024 + 1 * l.val; simp
  · exact (by decide +kernel : ∀ t : Fin grid0.N, t.val = 63 → win0_7.flush t = true) last rfl
  · show i ∈ ((View.whole main_v1_2).slice (win0_7.rect last)).set
    rw [View.set_slice_whole, Rect.mem_set_unit]
    intro a
    match a with
    | ⟨0, _⟩ => show 0 * 1 ≤ (i 0).val ∧ (i 0).val < 0 * 1 + 1; have : (i 0).val < 1 := (i 0).isLt; simpa using this
    | ⟨1, _⟩ => show 0 * 1024 ≤ (i 1).val ∧ (i 1).val < 0 * 1024 + 1024; have : (i 1).val < 1024 := (i 1).isLt; simpa using this

/-- The exact reading of the second graph convolution ends with the reference's three results. -/
theorem same_value : Cert.algebraic_Conv2Ideal_Conv2ReferenceIdeal_pre_finite_kept := fun m ρ m' ρ' h hm =>
  ⟨fun d => (dats m 0 d).arrAt 5 cfg0.N, fun d => (dats m 0 d).arrAt 6 cfg0.N, fun d => (dats m 0 d).arrAt 7 cfg0.N,
    Cert.Conv2Ideal.Value.run_blocks m ρ,
    (θ_run Cert.Conv2ReferenceIdeal.defs _ _).mono (fun _ q d => by
      obtain ⟨e0, e1, e2, e3, e4⟩ := hm d
      have hx : Finite m d := Cert.Proof.Finite.kept _ _ _ _ _ (h d)
      obtain ⟨q0, q1, q2, kept⟩ := q d
      refine ⟨q0.trans ?_, q1.trans ?_, q2.trans ?_, kept⟩
      · refine (Cert.Conv2ReferenceIdeal.Read.val_main_v14_eq (F := Ideal) _ _ _ _ _).trans ?_
        rw [e0, e1, e2, e3, e4]
        exact (map_left m d hx).symm
      · refine (Cert.Conv2ReferenceIdeal.Read.val_main_v10_eq (F := Ideal) _ _ _ _ _).trans ?_
        rw [e0, e1, e2, e3, e4]
        exact (sum_left m d hx).symm
      · refine (Cert.Conv2ReferenceIdeal.Read.val_main_v13_eq (F := Ideal) _ _ _ _ _).trans ?_
        rw [e0, e1, e2, e3, e4]
        exact (squares_left m d hx).symm)
      (Cert.Conv2ReferenceIdeal.Value.run (F := Ideal) m' ρ')⟩

end Cert.Proof.Conv2Value

end
-- ==== Proof.Norm.lean ====
/-
  The variance of sixty-four finite values, as the mean of the squares less the square of the mean and as the mean of the
  squared deviations, and what the two batch norms make of it.
-/
module

public import Idealize.ShloMosaic.Lib.Pointwise

@[expose] public section

noncomputable section

namespace Cert.Proof.Norm

open Idealize.ShloMosaic

/-- The number of rows. -/
abbrev rows : EReal := Ideal.ofBits FTy.f32 1115684864#32

/-- What is added to the variance. -/
abbrev eps : EReal := Ideal.ofBits FTy.f32 925353388#32

theorem rows_eq : rows = ((64 : ℝ) : EReal) := by
  have h : rows = ((8388608 * (1 / 131072) : ℝ) : EReal) := by
    rw [EReal.coe_mul]
    simp [rows, Ideal.ofBits, Ideal.ieee]
    norm_num
  rw [h]; norm_num

theorem eps_pos : ∃ e : ℝ, 0 < e ∧ eps = (e : EReal) := by
  refine ⟨(10995116 : ℝ) * (1 / 1099511627776), by positivity, ?_⟩
  rw [EReal.coe_mul]
  simp [eps, Ideal.ofBits, Ideal.ieee]
  norm_num

theorem sum_coe {ι : Type} (s : Finset ι) (f : ι → ℝ) : ∑ r ∈ s, (f r : EReal) = ((∑ r ∈ s, f r : ℝ) : EReal) := by
  classical
  induction s using Finset.induction_on with
  | empty => simp
  | insert a s ha ih => rw [Finset.sum_insert ha, Finset.sum_insert ha, ih, EReal.coe_add]

def mean (f : Fin 64 → EReal) : EReal := Ideal.div (∑ r, f r) rows

def byMoments (f : Fin 64 → EReal) : EReal := Ideal.div (∑ r, f r * f r) rows - mean f * mean f

def byDeviations (f : Fin 64 → EReal) : EReal := Ideal.div (∑ r, (f r - mean f) * (f r - mean f)) rows

theorem mean_coe (f : Fin 64 → ℝ) : mean (fun r => (f r : EReal)) = (((∑ r, f r) / 64 : ℝ) : EReal) := by
  unfold mean
  rw [rows_eq, Ideal.div_coe (by norm_num), sum_coe, ← EReal.coe_mul]
  congr 1; ring

theorem deviations_coe (f : Fin 64 → ℝ) : byDeviations (fun r => (f r : EReal))
    = (((∑ r, (f r - (∑ r, f r) / 64) * (f r - (∑ r, f r) / 64)) / 64 : ℝ) : EReal) := by
  unfold byDeviations
  simp only [mean_coe, ← EReal.coe_sub, ← EReal.coe_mul]
  rw [rows_eq, Ideal.div_coe (by norm_num), sum_coe, ← EReal.coe_mul]
  congr 1; ring

theorem moments_coe (f : Fin 64 → ℝ) : byMoments (fun r => (f r : EReal)) = byDeviations (fun r => (f r : EReal)) := by
  rw [deviations_coe]
  unfold byMoments
  simp only [mean_coe, ← EReal.coe_mul]
  rw [rows_eq, Ideal.div_coe (by norm_num), sum_coe, ← EReal.coe_mul, ← EReal.coe_sub]
  congr 1
  generalize hs : (∑ r, f r) = s
  have e : (∑ r, (f r - s / 64) * (f r - s / 64)) = (∑ r, f r * f r) - 2 * (s / 64) * s + 64 * ((s / 64) * (s / 64)) := by
    rw [show (fun r : Fin 64 => (f r - s / 64) * (f r - s / 64)) = fun r => f r * f r - 2 * (s / 64) * f r + (s / 64) * (s / 64) from
      funext fun r => by ring]
    rw [Finset.sum_add_distrib, Finset.sum_sub_distrib, ← Finset.mul_sum, hs]
    simp
  rw [e]; ring

/-- The batch norm as the kernel computes it. -/
def quick (f : Fin 64 → EReal) (g b : EReal) (r : Fin 64) : EReal :=
  max ((f r - mean f) * Ideal.rsqrt (byMoments f + eps) * g + b) 0

/-- The batch norm as written. -/
def plain (f : Fin 64 → EReal) (g b : EReal) (r : Fin 64) : EReal :=
  max (Ideal.div (f r - mean f) (Ideal.sqrt (byDeviations f + eps)) * g + b) 0

theorem variance_pos (f : Fin 64 → ℝ) : ∃ v : ℝ, 0 < v ∧ byDeviations (fun r => (f r : EReal)) + eps = (v : EReal) := by
  obtain ⟨e, he, h⟩ := eps_pos
  refine ⟨(∑ r, (f r - (∑ r, f r) / 64) * (f r - (∑ r, f r) / 64)) / 64 + e, ?_, by rw [deviations_coe, h, EReal.coe_add]⟩
  have : 0 ≤ ∑ r, (f r - (∑ r, f r) / 64) * (f r - (∑ r, f r) / 64) := Finset.sum_nonneg fun r _ => mul_self_nonneg _
  positivity

/-- On finite values the two agree. -/
theorem quick_eq_plain (f : Fin 64 → ℝ) (g b : EReal) (r : Fin 64) :
    quick (fun r => (f r : EReal)) g b r = plain (fun r => (f r : EReal)) g b r := by
  unfold quick plain
  rw [moments_coe]
  obtain ⟨v, hv, h⟩ := variance_pos f
  have hr : Real.sqrt v ≠ 0 := (Real.sqrt_pos.mpr hv).ne'
  rw [h, Ideal.rsqrt_coe, Ideal.sqrt_coe, if_neg hv.not_gt, if_neg hv.ne', if_neg hv.not_gt, Ideal.div_coe hr, one_div]

/-- … and, of finite weights, are finite. -/
theorem plain_finite (f : Fin 64 → ℝ) (g b : ℝ) (r : Fin 64) :
    ∃ y : ℝ, plain (fun r => (f r : EReal)) g b r = (y : EReal) := by
  unfold plain
  obtain ⟨v, hv, h⟩ := variance_pos f
  have hr : Real.sqrt v ≠ 0 := (Real.sqrt_pos.mpr hv).ne'
  rw [h, mean_coe, Ideal.sqrt_coe, if_neg hv.not_gt, Ideal.div_coe hr, ← EReal.coe_sub, ← EReal.coe_mul, ← EReal.coe_mul,
    ← EReal.coe_add, ← EReal.coe_zero]
  exact ⟨_, (EReal.coe_strictMono.monotone.map_max).symm⟩

/-! The kernel's matrices of ones and zeros take out one column of each pair. -/

theorem word_even {n p : Nat} (hn : n ≤ 1024) (hp : 2 * p = n) (k : Fin n) (l : Fin p) :
    IntOp.cmpi CmpIPredicate.eq (BitVec.ofNat 32 k.val) (IntOp.muli 2#32 (BitVec.ofNat 32 l.val))
      = if k.val = 2 * l.val then 1#1 else 0#1 := by
  have e : IntOp.muli 2#32 (BitVec.ofNat 32 l.val) = BitVec.ofNat 32 (2 * l.val) := by
    show 2#32 * BitVec.ofNat 32 l.val = _
    rw [BitVec.ofNat_mul]
  rw [e]
  have := k.isLt; have := l.isLt
  have q : (BitVec.ofNat 32 k.val = BitVec.ofNat 32 (2 * l.val)) ↔ k.val = 2 * l.val := by
    rw [← BitVec.toNat_inj, BitVec.toNat_ofNat, BitVec.toNat_ofNat, Nat.mod_eq_of_lt (by omega), Nat.mod_eq_of_lt (by omega)]
  by_cases h : k.val = 2 * l.val
  · rw [if_pos h, q.mpr h]; simp [IntOp.cmpi]
  · rw [if_neg h]; show BitVec.ofBool (_ == _) = _; rw [beq_false_of_ne (mt q.mp h)]; rfl

theorem word_odd {n p : Nat} (hn : n ≤ 1024) (hp : 2 * p = n) (k : Fin n) (l : Fin p) :
    IntOp.cmpi CmpIPredicate.eq (BitVec.ofNat 32 k.val) (IntOp.addi (IntOp.muli 2#32 (BitVec.ofNat 32 l.val)) 1#32)
      = if k.val = 2 * l.val + 1 then 1#1 else 0#1 := by
  have e : IntOp.addi (IntOp.muli 2#32 (BitVec.ofNat 32 l.val)) 1#32 = BitVec.ofNat 32 (2 * l.val + 1) := by
    show 2#32 * BitVec.ofNat 32 l.val + 1#32 = _
    rw [BitVec.ofNat_add, BitVec.ofNat_mul]
  rw [e]
  have := k.isLt; have := l.isLt
  have q : (BitVec.ofNat 32 k.val = BitVec.ofNat 32 (2 * l.val + 1)) ↔ k.val = 2 * l.val + 1 := by
    rw [← BitVec.toNat_inj, BitVec.toNat_ofNat, BitVec.toNat_ofNat, Nat.mod_eq_of_lt (by omega), Nat.mod_eq_of_lt (by omega)]
  by_cases h : k.val = 2 * l.val + 1
  · rw [if_pos h, q.mpr h]; simp [IntOp.cmpi]
  · rw [if_neg h]; show BitVec.ofBool (_ == _) = _; rw [beq_false_of_ne (mt q.mp h)]; rfl

theorem even_taken {n p : Nat} (hn : n ≤ 1024) (hp : 2 * p = n) (f : Fin n → EReal) (l : Fin p) :
    ∑ k : Fin n, Scalar.select (IntOp.cmpi CmpIPredicate.eq (BitVec.ofNat 32 k.val) (IntOp.muli 2#32 (BitVec.ofNat 32 l.val)))
      (f k) 0 = f ⟨2 * l.val, by omega⟩ := by
  rw [Finset.sum_eq_single (⟨2 * l.val, by omega⟩ : Fin n)]
  · rw [word_even hn hp, if_pos rfl]; rfl
  · intro k _ hk
    rw [word_even hn hp, if_neg fun e => hk (Fin.ext e)]; rfl
  · intro h; exact absurd (Finset.mem_univ _) h

theorem odd_taken {n p : Nat} (hn : n ≤ 1024) (hp : 2 * p = n) (f : Fin n → EReal) (l : Fin p) :
    ∑ k : Fin n, Scalar.select (IntOp.cmpi CmpIPredicate.eq (BitVec.ofNat 32 k.val)
      (IntOp.addi (IntOp.muli 2#32 (BitVec.ofNat 32 l.val)) 1#32)) (f k) 0 = f ⟨2 * l.val + 1, by omega⟩ := by
  rw [Finset.sum_eq_single (⟨2 * l.val + 1, by omega⟩ : Fin n)]
  · rw [word_odd hn hp, if_pos rfl]; rfl
  · intro k _ hk
    rw [word_odd hn hp, if_neg fun e => hk (Fin.ext e)]; rfl
  · intro h; exact absurd (Finset.mem_univ _) h

/-- The greatest of a pair, over the two from `-∞`. -/
theorem pair_fold (f : Fin 2 → EReal) :
    Finset.fold max (Ideal.ofBits FTy.f32 4286578688#32) f Finset.univ = max (f 0) (f 1) := by
  have : Ideal.ofBits FTy.f32 4286578688#32 = ⊥ := by simp [Ideal.ofBits, Ideal.ieee]
  rw [this, show (Finset.univ : Finset (Fin 2)) = {0, 1} from rfl, Finset.fold_insert (by decide), Finset.fold_singleton]
  simp

theorem rows_left : rows - (FloatOps.sitofp FTy.f32 (0#32 : BitVec 32) : Ideal .f32) = rows := by
  show rows - ((BitVec.toInt 0#32 : ℝ) : EReal) = rows
  simp

theorem rows_pos : 0 < rows := by rw [rows_eq]; exact_mod_cast (by norm_num : (0 : ℝ) < 64)

end Cert.Proof.Norm

end
-- ==== Proof.ZprepBody.lean ====
/-
  The body of the call that prepares the convolutional head's map, and its reference, entry by entry: the greater of each
  pair of columns, the batch norm of the rows, and both again.
-/
module

public import proofs.«01_k».proof.Proof.Norm
public import proofs.«01_k».proof.Proof.Gen.ZprepIdeal.Frame
public import proofs.«01_k».proof.Proof.Gen.ZprepReferenceIdeal.Read
public import Idealize.ShloMosaic.Lib.Pointwise

@[expose] public section

noncomputable section

namespace Cert.Proof.ZprepBody

open Cert.ZprepIdeal Cert.ZprepIdeal.Gen Idealize.ShloMosaic
open Cert.Proof.Norm

/-- The greater of each pair of a row's entries. -/
def pairs {n : Nat} (p : Nat) (hp : 2 * p = n) (f : Fin n → EReal) (l : Fin p) : EReal :=
  max (f ⟨2 * l.val, by omega⟩) (f ⟨2 * l.val + 1, by omega⟩)

/-- The two layers, over a batch norm `norm`. -/
def layers (norm : (Fin 64 → EReal) → EReal → EReal → Fin 64 → EReal) (x : Fin 64 → Fin 1024 → EReal) (g b : Fin 512 → EReal)
    (g' b' : Fin 256 → EReal) (r : Fin 64) (l : Fin 256) : EReal :=
  norm (fun r => pairs 256 rfl (fun k : Fin 512 => norm (fun r => pairs 512 rfl (x r) k) (g k) (b k) r) l) (g' l) (b' l) r

theorem pay2 (x0 x1 : Vec Ideal S64x1024 .f32) (r : Fin 64) (l : Fin 512) :
    k0_pay2 x0 x1 (ix2 r l) = pairs 512 rfl (fun k : Fin 1024 => x0 (ix2 r k) + x1 (ix2 r k)) l := by
  pointwise [k0_pay2]
  rw [even_taken (by norm_num) rfl (fun k => x0 (ix2 r k) + x1 (ix2 r k)) l,
    odd_taken (by norm_num) rfl (fun k => x0 (ix2 r k) + x1 (ix2 r k)) l]
  rfl

theorem pay5 (x0 x1 : Vec Ideal S64x1024 .f32) (l : Fin 512) :
    k0_pay5 x0 x1 (ix2 0 l) = mean fun r => k0_pay2 x0 x1 (ix2 r l) := by
  pointwise [k0_pay5]
  rfl

theorem pay6 (x0 x1 : Vec Ideal S64x1024 .f32) (l : Fin 512) :
    k0_pay6 x0 x1 (ix2 0 l) = byMoments fun r => k0_pay2 x0 x1 (ix2 r l) := by
  pointwise [k0_pay6]
  rw [pay5]
  rfl

theorem pay7 (f : FVec Ideal S64x512 .f32) (g b u v : FVec Ideal S1x512 .f32) (hu : ∀ k, u (ix2 0 k) = mean fun r => f (ix2 r k))
    (hv : ∀ k, v (ix2 0 k) = byMoments fun r => f (ix2 r k)) (r : Fin 64) (l : Fin 256) :
    k0_pay7 f g b u v (ix2 r l)
      = pairs 256 rfl (fun k : Fin 512 => quick (fun r => f (ix2 r k)) (g (ix2 0 k)) (b (ix2 0 k)) r) l := by
  have e : (fun k : Fin 512 => quick (fun r => f (ix2 r k)) (g (ix2 0 k)) (b (ix2 0 k)) r)
      = fun k : Fin 512 => max ((f (ix2 r k) - u (ix2 0 k)) * Ideal.rsqrt (v (ix2 0 k) + eps) * g (ix2 0 k) + b (ix2 0 k)) 0 := by
    funext k
    unfold quick
    rw [hu, hv]
  rw [e]
  pointwise [k0_pay7]
  rw [even_taken (by norm_num) rfl
      (fun k => max ((f (ix2 r k) - u (ix2 0 k)) * Ideal.rsqrt (v (ix2 0 k) + eps) * g (ix2 0 k) + b (ix2 0 k)) 0) l,
    odd_taken (by norm_num) rfl
      (fun k => max ((f (ix2 r k) - u (ix2 0 k)) * Ideal.rsqrt (v (ix2 0 k) + eps) * g (ix2 0 k) + b (ix2 0 k)) 0) l]
  rfl

theorem pay10 (f : FVec Ideal S64x512 .f32) (g b u v : FVec Ideal S1x512 .f32) (l : Fin 256) :
    k0_pay10 f g b u v (ix2 0 l) = mean fun r => k0_pay7 f g b u v (ix2 r l) := by
  pointwise [k0_pay10]
  rfl

theorem pay11 (f : FVec Ideal S64x512 .f32) (g b u v : FVec Ideal S1x512 .f32) (l : Fin 256) :
    k0_pay11 f g b u v (ix1 l) = ∑ r, k0_pay7 f g b u v (ix2 r l) * k0_pay7 f g b u v (ix2 r l) := by
  pointwise [k0_pay11]

theorem pay1 (f : FVec Ideal S64x256 .f32) (g b u : FVec Ideal S1x256 .f32) (v : FVec Ideal S256 .f32)
    (hu : ∀ k, u (ix2 0 k) = mean fun r => f (ix2 r k)) (hv : ∀ k, v (ix1 k) = ∑ r, f (ix2 r k) * f (ix2 r k))
    (r : Fin 64) (l : Fin 256) :
    k0_pay1 f g b u v (ix2 r l) = quick (fun r => f (ix2 r l)) (g (ix2 0 l)) (b (ix2 0 l)) r := by
  pointwise [k0_pay1]
  rw [hu, hv]
  rfl

/-- What the body leaves. -/
theorem body (x0 x1 : Vec Ideal S64x1024 .f32) (x2 x3 : Vec Ideal S1x512 .f32) (x4 x5 : Vec Ideal S1x256 .f32) (r : Fin 64) (l : Fin 256) :
    out0_6 x0 x1 x2 x3 x4 x5 (ix2 r l)
      = layers quick (fun r k => x0 (ix2 r k) + x1 (ix2 r k)) (fun k => x2 (ix2 0 k)) (fun k => x3 (ix2 0 k))
          (fun k => x4 (ix2 0 k)) (fun k => x5 (ix2 0 k)) r l := by
  unfold_out out0_6
  rw [View.canon_unit_zero (by funext a; fin_cases a <;> rfl)]
  rw [View.ld_unit_zero (S := S64x1024) (X := x0) (by funext a; fin_cases a <;> rfl),
    View.ld_unit_zero (S := S64x1024) (X := x1) (by funext a; fin_cases a <;> rfl),
    View.ld_unit_zero (S := S1x512) (X := x2) (by funext a; fin_cases a <;> rfl),
    View.ld_unit_zero (S := S1x512) (X := x3) (by funext a; fin_cases a <;> rfl),
    View.ld_unit_zero (S := S1x256) (X := x4) (by funext a; fin_cases a <;> rfl),
    View.ld_unit_zero (S := S1x256) (X := x5) (by funext a; fin_cases a <;> rfl)]
  rw [pay1 _ _ _ _ _ (fun k => pay10 _ _ _ _ _ k) (fun k => pay11 _ _ _ _ _ k)]
  unfold layers
  have e8 : k0_pay8 x4 (ix2 0 l) = x4 (ix2 0 l) := by pointwise [k0_pay8]
  have e9 : k0_pay9 x5 (ix2 0 l) = x5 (ix2 0 l) := by pointwise [k0_pay9]
  rw [e8, e9]
  refine congrArg (fun f => quick f _ _ r) (funext fun r => ?_)
  rw [pay7 _ _ _ _ _ (fun k => pay5 _ _ k) (fun k => pay6 _ _ k)]
  refine congrArg (fun f => pairs 256 rfl f l) (funext fun k => ?_)
  have e3 : k0_pay3 x2 (ix2 0 k) = x2 (ix2 0 k) := by pointwise [k0_pay3]
  have e4 : k0_pay4 x3 (ix2 0 k) = x3 (ix2 0 k) := by pointwise [k0_pay4]
  rw [e3, e4]
  exact congrArg (fun f => quick f _ _ r) (funext fun r => pay2 _ _ r k)

/-! The reference. -/

section
open Cert.ZprepReferenceIdeal.Read

variable (x0 x1 : Cert.ZprepReferenceIdeal.S64x1x1024.Idx → Ideal .f32) (x2 x3 : Cert.ZprepReferenceIdeal.S512.Idx → Ideal .f32)
  (x4 x5 : Cert.ZprepReferenceIdeal.S256.Idx → Ideal .f32)

theorem ref4 (r : Fin 64) (l : Fin 512) : val_main_v4 (F := Ideal) x0 x1 (ix2 r l)
    = pairs 512 rfl (fun k : Fin 1024 => x0 (ix3 r 0 k) + x1 (ix3 r 0 k)) l := by
  pointwise [val_main_v4, val_main_v3, val_main_v2, val_main_v1, val_main_v0, val_main_cst]
  rw [pair_fold]
  have e : ∀ d : Fin 2, (⟨l.val * 2 + d.val, by omega⟩ : Fin 1024) = ⟨2 * l.val + d.val, by omega⟩ := fun d => Fin.ext (by simp only []; omega)
  simp only [e]
  rfl

theorem ref25 (r : Fin 64) (l : Fin 512) : val_main_v25 (F := Ideal) x0 x1 x2 x3 (ix2 r l)
    = plain (fun r => val_main_v4 (F := Ideal) x0 x1 (ix2 r l)) (x2 (ix1 l)) (x3 (ix1 l)) r := by
  pointwise [val_main_v25, val_main_v24, val_main_cst_3, val_main_v23, val_main_v22, val_main_v21, val_main_v20, val_main_v19,
    val_main_v18, val_main_v17, val_main_v16, val_main_v15, val_main_v14, val_main_v13, val_main_v12, val_main_cst_2,
    val_main_v11, val_main_v10, val_main_v9, val_main_v8, val_main_call0_call0_v1, val_main_call0_call0_v0,
    val_main_call0_cst_4, val_main_call0_v12, val_main_call0_cst_3, val_main_call0_v11, val_main_call0_v10,
    val_main_call0_v9, val_main_call0_cst_2, val_main_call0_v8, val_main_call0_cst_1, val_main_call0_v7, val_main_call0_v6,
    val_main_call0_v5, val_main_call0_v4, val_main_call0_v3, val_main_call0_v2, val_main_call0_cst_0, val_main_call0_v1,
    val_main_call0_v0, val_main_call0_cst, val_main_c, val_main_v7, val_main_v6, val_main_cst_1, val_main_v5, val_main_cst_0]
  rw [rows_left, if_pos rows_pos]
  rfl

theorem ref27 (r : Fin 64) (l : Fin 256) : val_main_v27 (F := Ideal) x0 x1 x2 x3 (ix2 r l)
    = pairs 256 rfl (fun k : Fin 512 => val_main_v25 (F := Ideal) x0 x1 x2 x3 (ix2 r k)) l := by
  pointwise [val_main_v27, val_main_v26, val_main_cst_4]
  rw [pair_fold]
  have e : ∀ d : Fin 2, (⟨l.val * 2 + d.val, by omega⟩ : Fin 512) = ⟨2 * l.val + d.val, by omega⟩ := fun d => Fin.ext (by simp only []; omega)
  simp only [e]
  rfl

theorem ref48 (r : Fin 64) (l : Fin 256) : val_main_v48 (F := Ideal) x0 x1 x2 x3 x4 x5 (ix2 r l)
    = plain (fun r => val_main_v27 (F := Ideal) x0 x1 x2 x3 (ix2 r l)) (x4 (ix1 l)) (x5 (ix1 l)) r := by
  pointwise [val_main_v48, val_main_v47, val_main_cst_9, val_main_v46, val_main_v45, val_main_v44, val_main_v43, val_main_v42,
    val_main_v41, val_main_v40, val_main_v39, val_main_v38, val_main_v37, val_main_v36, val_main_v35, val_main_cst_8,
    val_main_v34, val_main_v33, val_main_v32, val_main_v31, val_main_call1_call0_v1, val_main_call1_call0_v0,
    val_main_call1_cst_4, val_main_call1_v12, val_main_call1_cst_3, val_main_call1_v11, val_main_call1_v10,
    val_main_call1_v9, val_main_call1_cst_2, val_main_call1_v8, val_main_call1_cst_1, val_main_call1_v7, val_main_call1_v6,
    val_main_call1_v5, val_main_call1_v4, val_main_call1_v3, val_main_call1_v2, val_main_call1_cst_0, val_main_call1_v1,
    val_main_call1_v0, val_main_call1_cst, val_main_c_7, val_main_v30, val_main_v29, val_main_cst_6, val_main_v28, val_main_cst_5]
  rw [rows_left, if_pos rows_pos]
  rfl

/-- The reference's result. -/
theorem wanted (r : Fin 64) (l : Fin 256) : val_main_v48 (F := Ideal) x0 x1 x2 x3 x4 x5 (ix2 r l)
    = layers plain (fun r k => x0 (ix3 r 0 k) + x1 (ix3 r 0 k)) (fun k => x2 (ix1 k)) (fun k => x3 (ix1 k))
        (fun k => x4 (ix1 k)) (fun k => x5 (ix1 k)) r l := by
  rw [ref48]
  unfold layers
  refine congrArg (fun f => plain f _ _ r) (funext fun r => ?_)
  rw [ref27]
  refine congrArg (fun f => pairs 256 rfl f l) (funext fun k => ?_)
  rw [ref25]
  exact congrArg (fun f => plain f _ _ r) (funext fun r => ref4 x0 x1 r k)

end

/-- On finite values the two computations of the layers agree. -/
theorem layers_agree (x : Fin 64 → Fin 1024 → ℝ) (g b : Fin 512 → ℝ) (g' b' : Fin 256 → EReal) (r : Fin 64) (l : Fin 256) :
    layers quick (fun r k => (x r k : EReal)) (fun k => (g k : EReal)) (fun k => (b k : EReal)) g' b' r l
      = layers plain (fun r k => (x r k : EReal)) (fun k => (g k : EReal)) (fun k => (b k : EReal)) g' b' r l := by
  have hp : ∀ {n : Nat} (p : Nat) (hp : 2 * p = n) (f : Fin n → ℝ) (l : Fin p), pairs p hp (fun k => (f k : EReal)) l
      = ((max (f ⟨2 * l.val, by omega⟩) (f ⟨2 * l.val + 1, by omega⟩) : ℝ) : EReal) := fun p hp f l =>
    (EReal.coe_strictMono.monotone.map_max).symm
  unfold layers
  simp only [hp]
  simp only [quick_eq_plain (fun r => max (x r _) (x r _))]
  have hf : ∀ (r : Fin 64) (k : Fin 512), ∃ y : ℝ,
      plain (fun r => ((max (x r ⟨2 * k.val, by omega⟩) (x r ⟨2 * k.val + 1, by omega⟩) : ℝ) : EReal)) (g k) (b k) r = (y : EReal) :=
    fun r k => plain_finite (fun r => max (x r _) (x r _)) (g k) (b k) r
  choose y hy using hf
  simp only [hy, hp]
  exact quick_eq_plain (fun r => max (y r _) (y r _)) (g' l) (b' l) r

end Cert.Proof.ZprepBody

end
-- ==== Proof.ZprepValue.lean ====
/-
  The value of the call that prepares the convolutional head's map: on finite means, the reference's.
-/
module

public import proofs.«01_k».proof.Proof.ZprepBody
public import proofs.«01_k».proof.Proof.Finite
public import proofs.«01_k».proof.Proof.Gen.ZprepIdeal.Value
public import proofs.«01_k».proof.Defs

@[expose] public section

noncomputable section

namespace Cert.Proof.ZprepValue

open Cert.ZprepIdeal Cert.ZprepIdeal.Gen Idealize.ShloMosaic Idealize.ShloMosaic.TcCoe Idealize.SL.Sem
open Idealize.ShloMosaic.Pipeline (Dat)
open Cert.Proof.ZprepBody

variable (m : (ℓ : Loc nD τ sig) → Buf (Elt Ideal) ℓ) (c : Dev nD)

/-! The six operands as the call finds them: each an argument, reshaped. -/

theorem found0 : V m c main_v0 = shapeCast S64x1024 (m ((c : Thread nD τ).loc main_arg0)) shapeCasts_S64x1x1024_S64x1024 := by
  simp only [V, hostOps0]
  after_results <;> rfl

theorem found1 : V m c main_v1 = shapeCast S64x1024 (m ((c : Thread nD τ).loc main_arg1)) shapeCasts_S64x1x1024_S64x1024 := by
  simp only [V, hostOps0]
  after_results <;> rfl

theorem found2 : V m c main_v2 = shapeCast S1x512 (m ((c : Thread nD τ).loc main_arg2)) shapeCasts_S512_S1x512 := by
  simp only [V, hostOps0]
  after_results <;> rfl

theorem found3 : V m c main_v3 = shapeCast S1x512 (m ((c : Thread nD τ).loc main_arg3)) shapeCasts_S512_S1x512 := by
  simp only [V, hostOps0]
  after_results <;> rfl

theorem found4 : V m c main_v4 = shapeCast S1x256 (m ((c : Thread nD τ).loc main_arg4)) shapeCasts_S256_S1x256 := by
  simp only [V, hostOps0]
  after_results <;> rfl

theorem found5 : V m c main_v5 = shapeCast S1x256 (m ((c : Thread nD τ).loc main_arg5)) shapeCasts_S256_S1x256 := by
  simp only [V, hostOps0]
  after_results <;> rfl

/-! The one step stages every operand whole. -/

theorem whole0 (t : Fin cfg0.N) : iblk m c 0 t = V m c main_v0 := by
  funext y
  refine congrArg (V m c main_v0) (funext fun a => Fin.ext ?_)
  match a with
  | ⟨0, _⟩ => show 0 * 64 + 1 * (y 0).val = (y 0).val; simp
  | ⟨1, _⟩ => show 0 * 1024 + 1 * (y 1).val = (y 1).val; simp

theorem whole1 (t : Fin cfg0.N) : iblk m c 1 t = V m c main_v1 := by
  funext y
  refine congrArg (V m c main_v1) (funext fun a => Fin.ext ?_)
  match a with
  | ⟨0, _⟩ => show 0 * 64 + 1 * (y 0).val = (y 0).val; simp
  | ⟨1, _⟩ => show 0 * 1024 + 1 * (y 1).val = (y 1).val; simp

theorem whole2 (t : Fin cfg0.N) : iblk m c 2 t = V m c main_v2 := by
  funext y
  refine congrArg (V m c main_v2) (funext fun a => Fin.ext ?_)
  match a with
  | ⟨0, _⟩ => show 0 * 1 + 1 * (y 0).val = (y 0).val; simp
  | ⟨1, _⟩ => show 0 * 512 + 1 * (y 1).val = (y 1).val; simp

theorem whole3 (t : Fin cfg0.N) : iblk m c 3 t = V m c main_v3 := by
  funext y
  refine congrArg (V m c main_v3) (funext fun a => Fin.ext ?_)
  match a with
  | ⟨0, _⟩ => show 0 * 1 + 1 * (y 0).val = (y 0).val; simp
  | ⟨1, _⟩ => show 0 * 512 + 1 * (y 1).val = (y 1).val; simp

theorem whole4 (t : Fin cfg0.N) : iblk m c 4 t = V m c main_v4 := by
  funext y
  refine congrArg (V m c main_v4) (funext fun a => Fin.ext ?_)
  match a with
  | ⟨0, _⟩ => show 0 * 1 + 1 * (y 0).val = (y 0).val; simp
  | ⟨1, _⟩ => show 0 * 256 + 1 * (y 1).val = (y 1).val; simp

theorem whole5 (t : Fin cfg0.N) : iblk m c 5 t = V m c main_v5 := by
  funext y
  refine congrArg (V m c main_v5) (funext fun a => Fin.ext ?_)
  match a with
  | ⟨0, _⟩ => show 0 * 1 + 1 * (y 0).val = (y 0).val; simp
  | ⟨1, _⟩ => show 0 * 256 + 1 * (y 1).val = (y 1).val; simp

/-- The array that the step writes back. -/
theorem written (t : Fin cfg0.N) : (dats m 0 c).arrAt 6 cfg0.N
    = out0_6 (V m c main_v0) (V m c main_v1) (V m c main_v2) (V m c main_v3) (V m c main_v4) (V m c main_v5) := by
  have whole : ∀ t : Fin cfg0.N, ∀ G : S64x256.Idx → Ideal .f32,
      ((cfg0.win 6).blk t).view.read (Elt Ideal) G = G := fun t G => by
    funext y
    refine congrArg G (funext fun a => Fin.ext ?_)
    match a with
    | ⟨0, _⟩ => show 0 * 64 + 1 * (y 0).val = (y 0).val; simp
    | ⟨1, _⟩ => show 0 * 256 + 1 * (y 1).val = (y 1).val; simp
  have h := Cert.ZprepIdeal.Value.blocks6 m c t ((by decide +kernel : ∀ t : Fin grid0.N, win0_6.flush t = true) t)
  rw [whole, Cert.ZprepIdeal.Value.flushed6, whole0, whole1, whole2, whole3, whole4, whole5] at h
  exact h

theorem rows_of (x : S64x1x1024.Idx → Ideal .f32) (r : Fin 64) (k : Fin 1024) :
    shapeCast S64x1024 x shapeCasts_S64x1x1024_S64x1024 (ix2 r k) = x (ix3 r 0 k) := by
  pointwise []

theorem wide_of (x : S512.Idx → Ideal .f32) (k : Fin 512) : shapeCast S1x512 x shapeCasts_S512_S1x512 (ix2 0 k) = x (ix1 k) := by
  pointwise []

theorem narrow_of (x : S256.Idx → Ideal .f32) (k : Fin 256) : shapeCast S1x256 x shapeCasts_S256_S1x256 (ix2 0 k) = x (ix1 k) := by
  pointwise []

/-- On finite operands the kernel's layers are the reference's. -/
theorem layers_same (x0 x1 : S64x1x1024.Idx → EReal) (x2 x3 : S512.Idx → EReal) (x4 x5 : S256.Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (r : Fin 64) (l : Fin 256) :
    layers Norm.quick
        (fun r k => (shapeCast S64x1024 x0 shapeCasts_S64x1x1024_S64x1024 (ix2 r k) : EReal)
          + shapeCast S64x1024 x1 shapeCasts_S64x1x1024_S64x1024 (ix2 r k))
        (fun k => shapeCast S1x512 x2 shapeCasts_S512_S1x512 (ix2 0 k)) (fun k => shapeCast S1x512 x3 shapeCasts_S512_S1x512 (ix2 0 k))
        (fun k => shapeCast S1x256 x4 shapeCasts_S256_S1x256 (ix2 0 k)) (fun k => shapeCast S1x256 x5 shapeCasts_S256_S1x256 (ix2 0 k)) r l
      = layers Norm.plain (fun r k => x0 (ix3 r 0 k) + x1 (ix3 r 0 k)) (fun k => x2 (ix1 k)) (fun k => x3 (ix1 k))
        (fun k => x4 (ix1 k)) (fun k => x5 (ix1 k)) r l := by
  choose y0 e0 using h0
  choose y1 e1 using h1
  choose y2 e2 using h2
  choose y3 e3 using h3
  have a : (fun (r : Fin 64) (k : Fin 1024) => x0 (ix3 r 0 k) + x1 (ix3 r 0 k))
      = fun r k => ((y0 (ix3 r 0 k) + y1 (ix3 r 0 k) : ℝ) : EReal) := by
    funext r k; rw [e0, e1, EReal.coe_add]
  have a' : (fun (r : Fin 64) (k : Fin 1024) => (shapeCast S64x1024 x0 shapeCasts_S64x1x1024_S64x1024 (ix2 r k) : EReal)
      + shapeCast S64x1024 x1 shapeCasts_S64x1x1024_S64x1024 (ix2 r k)) = fun r k => x0 (ix3 r 0 k) + x1 (ix3 r 0 k) := by
    funext r k; exact congrArg₂ (· + ·) (rows_of x0 r k) (rows_of x1 r k)
  have b2 : (fun k : Fin 512 => shapeCast S1x512 x2 shapeCasts_S512_S1x512 (ix2 0 k)) = fun k => x2 (ix1 k) := funext (wide_of x2)
  have b3 : (fun k : Fin 512 => shapeCast S1x512 x3 shapeCasts_S512_S1x512 (ix2 0 k)) = fun k => x3 (ix1 k) := funext (wide_of x3)
  have b4 : (fun k : Fin 256 => shapeCast S1x256 x4 shapeCasts_S256_S1x256 (ix2 0 k)) = fun k => x4 (ix1 k) := funext (narrow_of x4)
  have b5 : (fun k : Fin 256 => shapeCast S1x256 x5 shapeCasts_S256_S1x256 (ix2 0 k)) = fun k => x5 (ix1 k) := funext (narrow_of x5)
  rw [a', a, b2, b3, b4, b5, show (fun k : Fin 512 => x2 (ix1 k)) = fun k => (y2 (ix1 k) : EReal) from funext fun k => e2 _,
    show (fun k : Fin 512 => x3 (ix1 k)) = fun k => (y3 (ix1 k) : EReal) from funext fun k => e3 _]
  exact layers_agree (fun r k => y0 (ix3 r 0 k) + y1 (ix3 r 0 k)) (fun k => y2 (ix1 k)) (fun k => y3 (ix1 k)) _ _ r l

/-- The value that the call leaves is the reference's. -/
theorem agree (h : Cert.Pre_ZprepIdeal_finite_means m) : (dats m 0 c).arrAt 6 cfg0.N
    = Cert.ZprepReferenceIdeal.Read.val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext i
  obtain ⟨r, l, rfl⟩ : ∃ (r : Fin 64) (l : Fin 256), i = ix2 r l := ⟨i 0, i 1, by funext a; fin_cases a <;> rfl⟩
  obtain ⟨h0, h1, h2, h3⟩ := Finite.means _ _ _ _ _ _ (h c)
  refine (congrFun (written m c ⟨0, by decide⟩) _).trans (Eq.trans ?_ (wanted _ _ _ _ _ _ r l).symm)
  rw [body, found0, found1, found2, found3, found4, found5]
  exact layers_same _ _ _ _ _ _ h0 h1 h2 h3 r l

/-- The exact reading of the call ends with the reference's result. -/
theorem same_value : Cert.algebraic_ZprepIdeal_ZprepReferenceIdeal_pre_finite_means := fun m ρ m' ρ' h hm =>
  ⟨fun d => (dats m 0 d).arrAt 6 cfg0.N, Cert.ZprepIdeal.Value.run_blocks m ρ,
    (θ_run Cert.ZprepReferenceIdeal.defs _ _).mono (fun _ q d => by
      obtain ⟨e0, e1, e2, e3, e4, e5⟩ := hm d
      refine ⟨(q d).1.trans ?_, (q d).2⟩
      refine (Cert.ZprepReferenceIdeal.Read.val_main_v48_eq (F := Ideal) _ _).trans ?_
      rw [e0, e1, e2, e3, e4, e5]
      exact (agree m d h).symm)
      (Cert.ZprepReferenceIdeal.Value.run (F := Ideal) m' ρ')⟩

end Cert.Proof.ZprepValue

end
-- ==== Proof.HeadNorm.lean ====
/-
  The batch norm over any number of finite values: by moments, as the head computes it, and by deviations, as written.
-/
module

public import proofs.«01_k».proof.Proof.Norm

@[expose] public section

noncomputable section

namespace Cert.Proof.HeadNorm

open Idealize.ShloMosaic
open Cert.Proof.Norm (eps eps_pos sum_coe)

/-- A value normalised by the number of values, their sum and the sum of their squares. -/
def quick (n s q g b x : EReal) : EReal :=
  (x - Ideal.div s n) * Ideal.rsqrt (Ideal.div q n - Ideal.div s n * Ideal.div s n + eps) * g + b

/-- A value normalised by the number of values, their sum and the sum of their squared deviations. -/
def plain (n s d g b x : EReal) : EReal :=
  Ideal.div (x - Ideal.div s n) (Ideal.sqrt (Ideal.div d n + eps)) * g + b

variable {ι : Type} [Fintype ι] (N : ℝ) (hN : (Fintype.card ι : ℝ) = N) (h0 : 0 < N)

/-- The values' mean. -/
abbrev mean (f : ι → ℝ) : ℝ := (∑ i, f i) / N

/-- The mean of their squared deviations. -/
abbrev spread (f : ι → ℝ) : ℝ := (∑ i, (f i - mean N f) * (f i - mean N f)) / N

include h0 in
theorem spread_nonneg (f : ι → ℝ) : 0 ≤ spread N f :=
  div_nonneg (Finset.sum_nonneg fun _ _ => mul_self_nonneg _) h0.le

include h0 in
theorem mean_coe (f : ι → ℝ) : Ideal.div (∑ i, (f i : EReal)) (N : EReal) = (mean N f : EReal) := by
  rw [Ideal.div_coe h0.ne', sum_coe, ← EReal.coe_mul]
  congr 1; ring

include h0 in
theorem deviations_coe (f : ι → ℝ) :
    Ideal.div (∑ i, ((f i : EReal) - (mean N f : EReal)) * ((f i : EReal) - (mean N f : EReal))) (N : EReal) = (spread N f : EReal) := by
  simp only [← EReal.coe_sub, ← EReal.coe_mul]
  rw [Ideal.div_coe h0.ne', sum_coe, ← EReal.coe_mul]
  congr 1; ring

include hN h0 in
theorem moments_coe (f : ι → ℝ) :
    Ideal.div (∑ i, (f i : EReal) * (f i : EReal)) (N : EReal) - (mean N f : EReal) * (mean N f : EReal) = (spread N f : EReal) := by
  simp only [← EReal.coe_mul]
  rw [Ideal.div_coe h0.ne', sum_coe, ← EReal.coe_mul, ← EReal.coe_sub]
  congr 1
  unfold spread mean
  generalize hs : (∑ i, f i) = s
  have e : (∑ i, (f i - s / N) * (f i - s / N)) = (∑ i, f i * f i) - 2 * (s / N) * s + N * ((s / N) * (s / N)) := by
    rw [show (fun i : ι => (f i - s / N) * (f i - s / N)) = fun i => f i * f i - 2 * (s / N) * f i + (s / N) * (s / N) from
      funext fun i => by ring]
    rw [Finset.sum_add_distrib, Finset.sum_sub_distrib, ← Finset.mul_sum, hs]
    simp [hN]
  rw [e]
  have := h0.ne'
  field_simp
  ring

variable (f : ι → EReal) (hf : ∀ i, ∃ r : ℝ, f i = (r : EReal))

include hN h0 hf in
/-- On finite values the two agree. -/
theorem agree (g b x : EReal) :
    quick (N : EReal) (∑ i, f i) (∑ i, f i * f i) g b x
      = plain (N : EReal) (∑ i, f i) (∑ i, (f i - Ideal.div (∑ i, f i) (N : EReal)) * (f i - Ideal.div (∑ i, f i) (N : EReal))) g b x := by
  obtain ⟨r, rfl⟩ : ∃ r : ι → ℝ, f = fun i => (r i : EReal) := ⟨fun i => (hf i).choose, funext fun i => (hf i).choose_spec⟩
  unfold quick plain
  rw [mean_coe N h0, moments_coe N hN h0, deviations_coe N h0]
  obtain ⟨e, he, h⟩ := eps_pos
  have hv : 0 < spread N r + e := add_pos_of_nonneg_of_pos (spread_nonneg N h0 r) he
  rw [h, ← EReal.coe_add, Ideal.rsqrt_coe, Ideal.sqrt_coe, if_neg hv.not_gt, if_neg hv.ne', if_neg hv.not_gt,
    Ideal.div_coe (Real.sqrt_pos.mpr hv).ne', one_div]

include h0 hf in
/-- … and, of a finite value and finite weights, are finite. -/
theorem plain_finite (g b x : EReal) (hg : ∃ r : ℝ, g = (r : EReal)) (hb : ∃ r : ℝ, b = (r : EReal))
    (hx : ∃ r : ℝ, x = (r : EReal)) :
    ∃ y : ℝ, plain (N : EReal) (∑ i, f i) (∑ i, (f i - Ideal.div (∑ i, f i) (N : EReal)) * (f i - Ideal.div (∑ i, f i) (N : EReal))) g b x
      = (y : EReal) := by
  obtain ⟨r, rfl⟩ : ∃ r : ι → ℝ, f = fun i => (r i : EReal) := ⟨fun i => (hf i).choose, funext fun i => (hf i).choose_spec⟩
  obtain ⟨g, rfl⟩ := hg
  obtain ⟨b, rfl⟩ := hb
  obtain ⟨x, rfl⟩ := hx
  unfold plain
  rw [mean_coe N h0, deviations_coe N h0]
  obtain ⟨e, he, h⟩ := eps_pos
  have hv : 0 < spread N r + e := add_pos_of_nonneg_of_pos (spread_nonneg N h0 r) he
  rw [h, ← EReal.coe_add, Ideal.sqrt_coe, if_neg hv.not_gt, Ideal.div_coe (Real.sqrt_pos.mpr hv).ne', ← EReal.coe_sub,
    ← EReal.coe_mul, ← EReal.coe_mul, ← EReal.coe_add]
  exact ⟨_, rfl⟩

end Cert.Proof.HeadNorm

end
-- ==== Proof.HeadModel.lean ====
/-
  The head's stages over sixty-four square images, written apart from either program: a convolution over single pixels, one
  over windows of nine pixels at a stride of two, the largest of such a window, the batch norm; and where on the one row of
  lanes the kernel keeps the pixels of each size of image.
-/
module

public import proofs.«01_k».proof.Proof.HeadNorm

@[expose] public section

noncomputable section

namespace Cert.Proof.HeadModel

open Idealize.ShloMosaic
open Cert.Proof.HeadNorm

/-- One channel of sixty-four images. -/
abbrev Image (n : ℕ) := Fin 64 → Fin n → Fin n → EReal

/-- An image's pixels in one family. -/
abbrev flat {n : ℕ} (f : Image n) (p : Fin 64 × Fin n × Fin n) : EReal := f p.1 p.2.1 p.2.2

def norm {n : ℕ} (N : EReal) (f : Image n) (g b : EReal) : Image n := fun r i j =>
  plain N (∑ p, flat f p) (∑ p, (flat f p - Ideal.div (∑ p, flat f p) N) * (flat f p - Ideal.div (∑ p, flat f p) N)) g b (f r i j)

def mix {c n : ℕ} (w : Fin c → EReal) (b : EReal) (f : Fin c → Image n) : Image n := fun r i j =>
  max (∑ k, w k * f k r i j + b) 0

/-- The place `a` of the window at `i`. -/
def near {n m : ℕ} (h : 2 * n < m) (i : Fin n) (a : Fin 3) : Fin m := ⟨2 * i.val + a.val, by omega⟩

theorem near0 {n m : ℕ} (h : 2 * n < m) (i : Fin n) : near h i 0 = ⟨2 * i.val, by omega⟩ := rfl
theorem near1 {n m : ℕ} (h : 2 * n < m) (i : Fin n) : near h i 1 = ⟨1 + 2 * i.val, by omega⟩ := Fin.ext (Nat.add_comm _ _)
theorem near2 {n m : ℕ} (h : 2 * n < m) (i : Fin n) : near h i 2 = ⟨2 + 2 * i.val, by omega⟩ := Fin.ext (Nat.add_comm _ _)

def tap {c n m : ℕ} (h : 2 * n < m) (w : Fin c → Fin 3 → Fin 3 → EReal) (f : Fin c → Image m) (a b : Fin 3) : Image n := fun r i j =>
  ∑ k, w k a b * f k r (near h i a) (near h j b)

def conv {c n m : ℕ} (h : 2 * n < m) (w : Fin c → Fin 3 → Fin 3 → EReal) (b : EReal) (f : Fin c → Image m) : Image n := fun r i j =>
  max (tap h w f 0 0 r i j + tap h w f 0 1 r i j + tap h w f 0 2 r i j + tap h w f 1 0 r i j + tap h w f 1 1 r i j
    + tap h w f 1 2 r i j + tap h w f 2 0 r i j + tap h w f 2 1 r i j + tap h w f 2 2 r i j + b) 0

def largest {n m : ℕ} (h : 2 * n < m) (f : Image m) : Image n := fun r i j =>
  max (max (max (max (max (max (max (max (f r (near h i 0) (near h j 0)) (f r (near h i 0) (near h j 1))) (f r (near h i 0) (near h j 2)))
    (f r (near h i 1) (near h j 0))) (f r (near h i 1) (near h j 1))) (f r (near h i 1) (near h j 2)))
    (f r (near h i 2) (near h j 0))) (f r (near h i 2) (near h j 1))) (f r (near h i 2) (near h j 2))

/-! Finite values stay finite. -/

def Real' (x : EReal) : Prop := ∃ r : ℝ, x = (r : EReal)

theorem real_add {x y : EReal} : Real' x → Real' y → Real' (x + y) := by
  rintro ⟨a, rfl⟩ ⟨b, rfl⟩; exact ⟨a + b, (EReal.coe_add a b).symm⟩

theorem real_mul {x y : EReal} : Real' x → Real' y → Real' (x * y) := by
  rintro ⟨a, rfl⟩ ⟨b, rfl⟩; exact ⟨a * b, (EReal.coe_mul a b).symm⟩

theorem real_max {x y : EReal} (hx : Real' x) (hy : Real' y) : Real' (max x y) := by
  rcases max_choice x y with h | h <;> rw [h] <;> assumption

theorem real_zero : Real' 0 := ⟨0, rfl⟩

theorem real_sum {ι : Type} [Fintype ι] {f : ι → EReal} (h : ∀ i, Real' (f i)) : Real' (∑ i, f i) := by
  obtain ⟨r, rfl⟩ : ∃ r : ι → ℝ, f = fun i => (r i : EReal) := ⟨fun i => (h i).choose, funext fun i => (h i).choose_spec⟩
  exact ⟨_, Cert.Proof.Norm.sum_coe _ _⟩

def Finite {n : ℕ} (f : Image n) : Prop := ∀ r i j, Real' (f r i j)

theorem finite_mix {c n : ℕ} {w : Fin c → EReal} {b : EReal} {f : Fin c → Image n} (hw : ∀ k, Real' (w k)) (hb : Real' b)
    (hf : ∀ k, Finite (f k)) : Finite (mix w b f) := fun r i j =>
  real_max (real_add (real_sum fun k => real_mul (hw k) (hf k r i j)) hb) real_zero

theorem finite_conv {c n m : ℕ} (h : 2 * n < m) {w : Fin c → Fin 3 → Fin 3 → EReal} {b : EReal} {f : Fin c → Image m}
    (hw : ∀ k a b, Real' (w k a b)) (hb : Real' b) (hf : ∀ k, Finite (f k)) : Finite (conv h w b f) := fun r i j => by
  have t : ∀ a b, Real' (tap h w f a b r i j) := fun a b => real_sum fun k => real_mul (hw k a b) (hf k r _ _)
  exact real_max (real_add (real_add (real_add (real_add (real_add (real_add (real_add (real_add (real_add (t _ _) (t _ _)) (t _ _))
    (t _ _)) (t _ _)) (t _ _)) (t _ _)) (t _ _)) (t _ _)) hb) real_zero

theorem finite_largest {n m : ℕ} (h : 2 * n < m) {f : Image m} (hf : Finite f) : Finite (largest h f) := fun r i j =>
  real_max (real_max (real_max (real_max (real_max (real_max (real_max (real_max (hf _ _ _) (hf _ _ _)) (hf _ _ _)) (hf _ _ _))
    (hf _ _ _)) (hf _ _ _)) (hf _ _ _)) (hf _ _ _)) (hf _ _ _)

theorem finite_norm {n : ℕ} (N : ℝ) (h0 : 0 < N) {f : Image n} (hf : Finite f) {g b : EReal} (hg : Real' g) (hb : Real' b) :
    Finite (norm (N : EReal) f g b) := fun r i j =>
  plain_finite N h0 (flat f) (fun p => hf p.1 p.2.1 p.2.2) g b _ hg hb (hf r i j)

/-! The lanes. -/

def lane1 (r : Fin 64) (i j : Fin 16) : Fin 16384 := ⟨256 * r.val + 16 * i.val + j.val, by omega⟩
def lane2 (r : Fin 64) (i j : Fin 7) : Fin 16384 := ⟨256 * r.val + 32 * i.val + 2 * j.val, by omega⟩
def lane4 (r : Fin 64) (i j : Fin 3) : Fin 16384 := ⟨256 * r.val + 64 * i.val + 4 * j.val, by omega⟩

def all1 (p : Fin 64 × Fin 16 × Fin 16) := lane1 p.1 p.2.1 p.2.2
def all2 (p : Fin 64 × Fin 7 × Fin 7) := lane2 p.1 p.2.1 p.2.2
def all4 (p : Fin 64 × Fin 3 × Fin 3) := lane4 p.1 p.2.1 p.2.2

theorem inj1 : Function.Injective all1 := by
  rintro ⟨r, i, j⟩ ⟨r', i', j'⟩ h
  have := congrArg Fin.val h
  simp only [all1, lane1] at this
  refine Prod.ext (Fin.ext ?_) (Prod.ext (Fin.ext ?_) (Fin.ext ?_)) <;> simp only <;> omega

theorem inj2 : Function.Injective all2 := by
  rintro ⟨r, i, j⟩ ⟨r', i', j'⟩ h
  have := congrArg Fin.val h
  simp only [all2, lane2] at this
  refine Prod.ext (Fin.ext ?_) (Prod.ext (Fin.ext ?_) (Fin.ext ?_)) <;> simp only <;> omega

theorem inj4 : Function.Injective all4 := by
  rintro ⟨r, i, j⟩ ⟨r', i', j'⟩ h
  have := congrArg Fin.val h
  simp only [all4, lane4] at this
  refine Prod.ext (Fin.ext ?_) (Prod.ext (Fin.ext ?_) (Fin.ext ?_)) <;> simp only <;> omega

theorem onto1 (q : Fin 16384) : ∃ p, q = all1 p :=
  ⟨(⟨q.val / 256, by omega⟩, ⟨q.val % 256 / 16, by omega⟩, ⟨q.val % 16, by omega⟩),
    Fin.ext (by simp only [all1, lane1]; omega)⟩

theorem kept_sum {ι : Type} [Fintype ι] {e : ι → Fin 16384} (he : Function.Injective e) (F : Fin 16384 → EReal)
    (h0 : ∀ q, (∀ p, q ≠ e p) → F q = 0) : ∑ q, F q = ∑ p, F (e p) :=
  (Fintype.sum_of_injective e he _ _ (fun q hq => h0 q fun p hp => hq ⟨p, hp.symm⟩) fun _ => rfl).symm

/-- The kernel's batch norm over the lanes a mask keeps, at one of them. -/
theorem masked {n : ℕ} (N : ℝ) (hN : (Fintype.card (Fin 64 × Fin n × Fin n) : ℝ) = N) (h0 : 0 < N)
    {e : Fin 64 × Fin n × Fin n → Fin 16384} (he : Function.Injective e) (a k : Fin 16384 → EReal) (f : Image n)
    (hk1 : ∀ p, k (e p) = 1) (hk0 : ∀ q, (∀ p, q ≠ e p) → k q = 0) (ha : ∀ p, a (e p) = flat f p) (hf : Finite f) (g b : EReal)
    (r : Fin 64) (i j : Fin n) :
    quick (N : EReal) (∑ q, a q * k q) (∑ q, a q * k q * (a q * k q)) g b (a (e (r, i, j))) = norm (N : EReal) f g b r i j := by
  rw [kept_sum he (fun q => a q * k q) fun q hq => by simp only [hk0 q hq, mul_zero],
    kept_sum he (fun q => a q * k q * (a q * k q)) fun q hq => by simp only [hk0 q hq, mul_zero]]
  simp only [hk1, mul_one, ha]
  exact agree N hN h0 (flat f) (fun p => hf p.1 p.2.1 p.2.2) g b _

/-! The numbers of pixels. -/

theorem count1 : Ideal.ofBits FTy.f32 1182793728#32 = ((16384 : ℝ) : EReal) := by
  have h : Ideal.ofBits FTy.f32 1182793728#32 = ((8388608 * (1 / 512) : ℝ) : EReal) := by
    rw [EReal.coe_mul]
    simp [Ideal.ofBits, Ideal.ieee]
    norm_num
  rw [h]; norm_num

theorem count2 : Ideal.ofBits FTy.f32 1162084352#32 = ((3136 : ℝ) : EReal) := by
  have h : Ideal.ofBits FTy.f32 1162084352#32 = ((12845056 * (1 / 4096) : ℝ) : EReal) := by
    rw [EReal.coe_mul]
    simp [Ideal.ofBits, Ideal.ieee]
    norm_num
  rw [h]; norm_num

theorem count4 : Ideal.ofBits FTy.f32 1141899264#32 = ((576 : ℝ) : EReal) := by
  have h : Ideal.ofBits FTy.f32 1141899264#32 = ((9437184 * (1 / 16384) : ℝ) : EReal) := by
    rw [EReal.coe_mul]
    simp [Ideal.ofBits, Ideal.ieee]
    norm_num
  rw [h]; norm_num

/-! The head, stage by stage. -/

structure Weights where
  pic : Image 16
  (w1 b1 g1 t1 : Fin 128 → EReal)
  w2 : Fin 64 → Fin 128 → Fin 3 → Fin 3 → EReal
  (b2 g2 t2 w3 : Fin 64 → EReal)
  b3 : EReal
  (w4 b4 g4 t4 : Fin 128 → EReal)
  w5 : Fin 64 → Fin 128 → Fin 3 → Fin 3 → EReal
  (b5 g5 t5 w6 : Fin 64 → EReal)
  b6 : EReal

namespace Weights

variable (W : Weights)

abbrev big : 2 * 7 < 16 := by decide
abbrev small : 2 * 3 < 7 := by decide

def m1 (o : Fin 128) : Image 16 := mix (fun _ : Fin 1 => W.w1 o) (W.b1 o) fun _ => W.pic
def n1 (o : Fin 128) : Image 16 := norm ((16384 : ℝ) : EReal) (W.m1 o) (W.g1 o) (W.t1 o)
def m2 (o : Fin 64) : Image 7 := conv big (W.w2 o) (W.b2 o) W.n1
def n2 (o : Fin 64) : Image 7 := norm ((3136 : ℝ) : EReal) (W.m2 o) (W.g2 o) (W.t2 o)
def m3 : Image 7 := mix W.w3 W.b3 W.n2
def cut : Image 7 := fun r i j => W.m3 r i j + largest big W.pic r i j
def m4 (o : Fin 128) : Image 7 := mix (fun _ : Fin 1 => W.w4 o) (W.b4 o) fun _ => W.cut
def n4 (o : Fin 128) : Image 7 := norm ((3136 : ℝ) : EReal) (W.m4 o) (W.g4 o) (W.t4 o)
def m5 (o : Fin 64) : Image 3 := conv small (W.w5 o) (W.b5 o) W.n4
def n5 (o : Fin 64) : Image 3 := norm ((576 : ℝ) : EReal) (W.m5 o) (W.g5 o) (W.t5 o)
def m6 : Image 3 := mix W.w6 W.b6 W.n5
def last : Image 3 := fun r i j => W.m6 r i j + largest small W.cut r i j

/-- What the four batch norms need finite. -/
structure Tame : Prop where
  pic : Finite W.pic
  w1 : ∀ o, Real' (W.w1 o)
  b1 : ∀ o, Real' (W.b1 o)
  g1 : ∀ o, Real' (W.g1 o)
  t1 : ∀ o, Real' (W.t1 o)
  w2 : ∀ o k a b, Real' (W.w2 o k a b)
  b2 : ∀ o, Real' (W.b2 o)
  g2 : ∀ o, Real' (W.g2 o)
  t2 : ∀ o, Real' (W.t2 o)
  w3 : ∀ o, Real' (W.w3 o)
  b3 : Real' W.b3
  w4 : ∀ o, Real' (W.w4 o)
  b4 : ∀ o, Real' (W.b4 o)
  g4 : ∀ o, Real' (W.g4 o)
  t4 : ∀ o, Real' (W.t4 o)
  w5 : ∀ o k a b, Real' (W.w5 o k a b)
  b5 : ∀ o, Real' (W.b5 o)

variable {W} (h : W.Tame)
include h

theorem finite_m1 (o : Fin 128) : Finite (W.m1 o) := finite_mix (fun _ => h.w1 o) (h.b1 o) fun _ => h.pic
theorem finite_n1 (o : Fin 128) : Finite (W.n1 o) := finite_norm 16384 (by norm_num) (finite_m1 h o) (h.g1 o) (h.t1 o)
theorem finite_m2 (o : Fin 64) : Finite (W.m2 o) := finite_conv big (h.w2 o) (h.b2 o) (finite_n1 h)
theorem finite_n2 (o : Fin 64) : Finite (W.n2 o) := finite_norm 3136 (by norm_num) (finite_m2 h o) (h.g2 o) (h.t2 o)
theorem finite_cut : Finite W.cut := fun r i j =>
  real_add (finite_mix h.w3 h.b3 (finite_n2 h) r i j) (finite_largest big h.pic r i j)
theorem finite_m4 (o : Fin 128) : Finite (W.m4 o) := finite_mix (fun _ => h.w4 o) (h.b4 o) fun _ => finite_cut h
theorem finite_n4 (o : Fin 128) : Finite (W.n4 o) := finite_norm 3136 (by norm_num) (finite_m4 h o) (h.g4 o) (h.t4 o)
theorem finite_m5 (o : Fin 64) : Finite (W.m5 o) := finite_conv small (h.w5 o) (h.b5 o) (finite_n4 h)

end Weights

end Cert.Proof.HeadModel

end
-- ==== Proof.HeadMask.lean ====
/-
  The head kernel's two masks over its one row of lanes: ones at the pixels of the seven by seven images, ones at those of
  the three by three images, zeros at every other lane.
-/
module

public import proofs.«01_k».proof.Proof.HeadModel
public import proofs.«01_k».proof.Proof.Gen.HeadIdeal.Frame

@[expose] public section

noncomputable section

namespace Cert.Proof.HeadMask

open Cert.HeadIdeal Cert.HeadIdeal.Gen Idealize.ShloMosaic
open Cert.Proof.HeadModel

/-- Every lane is some picture's. -/
theorem split (q : Fin 16384) : ∃ (r : Fin 64) (y : Fin 256), q = ⟨256 * r.val + y.val, by omega⟩ :=
  ⟨⟨q.val / 256, by omega⟩, ⟨q.val % 256, by omega⟩, Fin.ext (by simp only; omega)⟩

/-! The words that the kernel computes at a lane: its place in its picture, its row, its column. -/

theorem place (r : Fin 64) (y : Fin 256) : k0_pay3 (ix2 0 ⟨256 * r.val + y.val, by omega⟩) = BitVec.ofNat 32 y.val := by
  pointwise [k0_pay3]
  revert r y
  decide +kernel

theorem row (r : Fin 64) (y : Fin 256) : k0_pay4 (ix2 0 ⟨256 * r.val + y.val, by omega⟩) = BitVec.ofNat 32 (y.val / 16) := by
  pointwise [k0_pay4]
  rw [place r y]
  revert y
  decide +kernel

theorem column (r : Fin 64) (y : Fin 256) : k0_pay5 k0_pay3 16#32 0#32 (ix2 0 ⟨256 * r.val + y.val, by omega⟩) = BitVec.ofNat 32 (y.val % 16) := by
  pointwise [k0_pay5]
  rw [place r y]
  revert y
  decide +kernel

variable (x0 : Vec Ideal S1x16384 .f32) (x1 x2 x3 x4 : Vec Ideal S128x1 .f32) (x5 : Vec Ideal S576x128 .f32)
  (x6 x7 x8 : Vec Ideal S64x1 .f32) (x9 : Vec Ideal S1x64 .f32) (x10 : Vec Ideal S1x1 .f32) (x11 x12 x13 x14 : Vec Ideal S128x1 .f32)
  (x15 : Vec Ideal S576x128 .f32) (x16 x17 x18 : Vec Ideal S64x1 .f32) (x19 : Vec Ideal S1x64 .f32) (x20 : Vec Ideal S1x1 .f32)

theorem seven (r : Fin 64) (y : Fin 256) : k0_pay45 (F := Ideal) x0 x1 x2 x3 x4 x5 x6 x7 x8 x9 x10 x11 x12 x13 x14 x15 x16 x17 x18 x19 x20 (ix2 0 ⟨256 * r.val + y.val, by omega⟩)
    = Scalar.select (if ∃ i j : Fin 7, y.val = 32 * i.val + 2 * j.val then 1#1 else 0#1) 1 0 := by
  unfold k0_pay45 k0_pay44 k0_pay43 k0_pay42
  pointwise [k0_pay10, k0_pay6, k0_pay7, k0_pay8, k0_pay9]
  rw [row r y, column r y]
  refine congrArg (fun c => Scalar.select c (1 : EReal) 0) ?_
  revert y
  decide +kernel

theorem seven_kept (p : Fin 64 × Fin 7 × Fin 7) : k0_pay45 (F := Ideal) x0 x1 x2 x3 x4 x5 x6 x7 x8 x9 x10 x11 x12 x13 x14 x15 x16 x17 x18 x19 x20 (ix2 0 (all2 p)) = 1 := by
  obtain ⟨r, i, j⟩ := p
  have e : all2 (r, i, j) = ⟨256 * r.val + (⟨32 * i.val + 2 * j.val, by omega⟩ : Fin 256).val, by simp only; omega⟩ :=
    Fin.ext (by simp only [all2, lane2]; omega)
  rw [e, seven, if_pos ⟨i, j, rfl⟩]
  rfl

theorem seven_dropped (q : Fin 16384) (hq : ∀ p, q ≠ all2 p) : k0_pay45 (F := Ideal) x0 x1 x2 x3 x4 x5 x6 x7 x8 x9 x10 x11 x12 x13 x14 x15 x16 x17 x18 x19 x20 (ix2 0 q) = 0 := by
  obtain ⟨r, y, rfl⟩ := split q
  rw [seven, if_neg]
  · rfl
  · rintro ⟨i, j, h⟩
    exact hq (r, i, j) (Fin.ext (by simp only [all2, lane2]; omega))

theorem three (r : Fin 64) (y : Fin 256) : k0_pay46 (F := Ideal) x0 x1 x2 x3 x4 x5 x6 x7 x8 x9 x10 x11 x12 x13 x14 x15 x16 x17 x18 x19 x20 (ix2 0 ⟨256 * r.val + y.val, by omega⟩)
    = Scalar.select (if ∃ i j : Fin 3, y.val = 64 * i.val + 4 * j.val then 1#1 else 0#1) 1 0 := by
  unfold k0_pay46 k0_pay44 k0_pay43 k0_pay42
  pointwise [k0_pay14, k0_pay11, k0_pay12, k0_pay13]
  rw [row r y, column r y]
  refine congrArg (fun c => Scalar.select c (1 : EReal) 0) ?_
  revert y
  decide +kernel

theorem three_kept (p : Fin 64 × Fin 3 × Fin 3) : k0_pay46 (F := Ideal) x0 x1 x2 x3 x4 x5 x6 x7 x8 x9 x10 x11 x12 x13 x14 x15 x16 x17 x18 x19 x20 (ix2 0 (all4 p)) = 1 := by
  obtain ⟨r, i, j⟩ := p
  have e : all4 (r, i, j) = ⟨256 * r.val + (⟨64 * i.val + 4 * j.val, by omega⟩ : Fin 256).val, by simp only; omega⟩ :=
    Fin.ext (by simp only [all4, lane4]; omega)
  rw [e, three, if_pos ⟨i, j, rfl⟩]
  rfl

theorem three_dropped (q : Fin 16384) (hq : ∀ p, q ≠ all4 p) : k0_pay46 (F := Ideal) x0 x1 x2 x3 x4 x5 x6 x7 x8 x9 x10 x11 x12 x13 x14 x15 x16 x17 x18 x19 x20 (ix2 0 q) = 0 := by
  obtain ⟨r, y, rfl⟩ := split q
  rw [three, if_neg]
  · rfl
  · rintro ⟨i, j, h⟩
    exact hq (r, i, j) (Fin.ext (by simp only [all4, lane4]; omega))

end Cert.Proof.HeadMask
-- ==== Proof.HeadBody.lean ====
/-
  The head kernel's body, stage by stage: at the lanes that hold a stage's pixels its entries are the model's.
-/
module

public import proofs.«01_k».proof.Proof.HeadMask

@[expose] public section

noncomputable section

namespace Cert.Proof.HeadBody

open Cert.HeadIdeal Cert.HeadIdeal.Gen Idealize.ShloMosaic
open Cert.Proof.HeadNorm Cert.Proof.HeadModel Cert.Proof.HeadMask

variable (x0 : Vec Ideal S1x16384 .f32) (x1 x2 x3 x4 : Vec Ideal S128x1 .f32) (x5 : Vec Ideal S576x128 .f32)
  (x6 x7 x8 : Vec Ideal S64x1 .f32) (x9 : Vec Ideal S1x64 .f32) (x10 : Vec Ideal S1x1 .f32) (x11 x12 x13 x14 : Vec Ideal S128x1 .f32)
  (x15 : Vec Ideal S576x128 .f32) (x16 x17 x18 : Vec Ideal S64x1 .f32) (x19 : Vec Ideal S1x64 .f32) (x20 : Vec Ideal S1x1 .f32)

/-- The model's weights and pictures, read out of the kernel's operands. -/
def weights : Weights where
  pic r i j := x0 (ix2 0 (lane1 r i j))
  w1 o := x1 (ix2 o 0)
  b1 o := x2 (ix2 o 0)
  g1 o := x3 (ix2 o 0)
  t1 o := x4 (ix2 o 0)
  w2 o k a b := x5 (ix2 ⟨64 * (3 * a.val + b.val) + o.val, by omega⟩ k)
  b2 o := x6 (ix2 o 0)
  g2 o := x7 (ix2 o 0)
  t2 o := x8 (ix2 o 0)
  w3 k := x9 (ix2 0 k)
  b3 := x10 (ix2 0 0)
  w4 o := x11 (ix2 o 0)
  b4 o := x12 (ix2 o 0)
  g4 o := x13 (ix2 o 0)
  t4 o := x14 (ix2 o 0)
  w5 o k a b := x15 (ix2 ⟨64 * (3 * a.val + b.val) + o.val, by omega⟩ k)
  b5 o := x16 (ix2 o 0)
  g5 o := x17 (ix2 o 0)
  t5 o := x18 (ix2 o 0)
  w6 k := x19 (ix2 0 k)
  b6 := x20 (ix2 0 0)

/-! The operands as the body loads them. -/

theorem corner : (![0, 0] : Fin 2 → Nat) = 0 := by funext a; fin_cases a <;> rfl

theorem whole0 (x : Vec Ideal S1x16384 .f32) : View.ld x r0_0 = x := View.ld_unit_zero (S := S1x16384) corner _ _
theorem whole1 (x : Vec Ideal S128x1 .f32) : View.ld x r0_1 = x := View.ld_unit_zero (S := S128x1) corner _ _
theorem whole11 (x : Vec Ideal S64x1 .f32) : View.ld x r0_11 = x := View.ld_unit_zero (S := S64x1) corner _ _
theorem whole12 (x : Vec Ideal S1x64 .f32) : View.ld x r0_12 = x := View.ld_unit_zero (S := S1x64) corner _ _
theorem whole13 (x : Vec Ideal S1x1 .f32) : View.ld x r0_13 = x := View.ld_unit_zero (S := S1x1) corner _ _

/-! The stages. -/

theorem entry (q : Fin 16384) : k0_pay41 x0 x1 x2 x3 x4 x5 x6 x7 x8 x9 x10 x11 x12 x13 x14 x15 x16 x17 x18 x19 x20 (ix2 0 q) = x0 (ix2 0 q) := by
  unfold k0_pay41
  rw [whole0]
  pointwise [k0_pay2]

theorem m1_lane (o : Fin 128) (q : Fin 16384) : k0_pay47 x0 x1 x2 x3 x4 x5 x6 x7 x8 x9 x10 x11 x12 x13 x14 x15 x16 x17 x18 x19 x20 (ix2 o q) = max (x1 (ix2 o 0) * x0 (ix2 0 q) + x2 (ix2 o 0)) 0 := by
  unfold k0_pay47
  rw [whole1, whole1]
  pointwise [k0_pay15]
  rw [Fin.sum_univ_one, entry]

theorem m1 (o : Fin 128) (r : Fin 64) (i j : Fin 16) : k0_pay47 x0 x1 x2 x3 x4 x5 x6 x7 x8 x9 x10 x11 x12 x13 x14 x15 x16 x17 x18 x19 x20 (ix2 o (lane1 r i j)) = (weights x0 x1 x2 x3 x4 x5 x6 x7 x8 x9 x10 x11 x12 x13 x14 x15 x16 x17 x18 x19 x20).m1 o r i j := by
  rw [m1_lane]
  simp only [Weights.m1, mix, Fin.sum_univ_one, weights]

theorem n1 (h : (weights x0 x1 x2 x3 x4 x5 x6 x7 x8 x9 x10 x11 x12 x13 x14 x15 x16 x17 x18 x19 x20).Tame) (o : Fin 128) (r : Fin 64) (i j : Fin 16) :
    k0_pay53 x0 x1 x2 x3 x4 x5 x6 x7 x8 x9 x10 x11 x12 x13 x14 x15 x16 x17 x18 x19 x20 (ix2 o (lane1 r i j)) = (weights x0 x1 x2 x3 x4 x5 x6 x7 x8 x9 x10 x11 x12 x13 x14 x15 x16 x17 x18 x19 x20).n1 o r i j := by
  have key := masked 16384 (by norm_num) (by norm_num) inj1 (fun q => k0_pay47 x0 x1 x2 x3 x4 x5 x6 x7 x8 x9 x10 x11 x12 x13 x14 x15 x16 x17 x18 x19 x20 (ix2 o q)) (fun _ => 1) ((weights x0 x1 x2 x3 x4 x5 x6 x7 x8 x9 x10 x11 x12 x13 x14 x15 x16 x17 x18 x19 x20).m1 o)
    (fun _ => rfl) (fun q hq => absurd (onto1 q) (not_exists.mpr hq)) (fun p => m1 x0 x1 x2 x3 x4 x5 x6 x7 x8 x9 x10 x11 x12 x13 x14 x15 x16 x17 x18 x19 x20 o p.1 p.2.1 p.2.2) (Weights.finite_m1 h o)
    ((weights x0 x1 x2 x3 x4 x5 x6 x7 x8 x9 x10 x11 x12 x13 x14 x15 x16 x17 x18 x19 x20).g1 o) ((weights x0 x1 x2 x3 x4 x5 x6 x7 x8 x9 x10 x11 x12 x13 x14 x15 x16 x17 x18 x19 x20).t1 o) r i j
  rw [Weights.n1, ← key]
  unfold k0_pay53
  have e50 : ∀ q, k0_pay50 x0 x1 x2 x3 x4 x5 x6 x7 x8 x9 x10 x11 x12 x13 x14 x15 x16 x17 x18 x19 x20 (ix2 o q) = k0_pay47 x0 x1 x2 x3 x4 x5 x6 x7 x8 x9 x10 x11 x12 x13 x14 x15 x16 x17 x18 x19 x20 (ix2 o q) := fun q => by
    unfold k0_pay50 k0_pay47
    pointwise [k0_pay18]
  have e51 : k0_pay51 x0 x1 x2 x3 x4 x5 x6 x7 x8 x9 x10 x11 x12 x13 x14 x15 x16 x17 x18 x19 x20 (ix2 o 0) = ∑ q, k0_pay47 x0 x1 x2 x3 x4 x5 x6 x7 x8 x9 x10 x11 x12 x13 x14 x15 x16 x17 x18 x19 x20 (ix2 o q) := by
    simp only [← e50]
    unfold k0_pay51 k0_pay50
    pointwise [k0_pay19]
  have e52 : k0_pay52 x0 x1 x2 x3 x4 x5 x6 x7 x8 x9 x10 x11 x12 x13 x14 x15 x16 x17 x18 x19 x20 (ix2 o 0) = ((16384 : ℝ) : EReal) := by
    unfold k0_pay52
    pointwise [k0_pay20]
    exact count1
  have e48 : k0_pay48 x0 x1 x2 x3 x4 x5 x6 x7 x8 x9 x10 x11 x12 x13 x14 x15 x16 x17 x18 x19 x20 (ix2 o 0) = (weights x0 x1 x2 x3 x4 x5 x6 x7 x8 x9 x10 x11 x12 x13 x14 x15 x16 x17 x18 x19 x20).g1 o := by
    unfold k0_pay48
    rw [whole1]
    pointwise [k0_pay16]
    rfl
  have e49 : k0_pay49 x0 x1 x2 x3 x4 x5 x6 x7 x8 x9 x10 x11 x12 x13 x14 x15 x16 x17 x18 x19 x20 (ix2 o 0) = (weights x0 x1 x2 x3 x4 x5 x6 x7 x8 x9 x10 x11 x12 x13 x14 x15 x16 x17 x18 x19 x20).t1 o := by
    unfold k0_pay49
    rw [whole1]
    pointwise [k0_pay17]
    rfl
  pointwise [k0_pay21]
  simp only [e48, e49, e50, e51, e52, count1]
  rfl

/-- The sums of nine products that the kernel norms by its first mask, before the mask. -/
def nine (a : FVec Ideal S128x16384 .f32) (b : FVec Ideal S64x16384 .f32) (c : FVec Ideal S128x16384 .f32) (d : FVec Ideal S64x128 .bf16)
    (e : Vec Ideal S64x128 .f32) (f : Vec Ideal S64x1 .f32) : FVec Ideal S64x16384 .f32 :=
  let last : FVec Ideal S128x16384 .f32 := concatenate S128x16384 1 [⟨S128x16350, extractStridedSlice S128x16350 ![0, 34] a slices_S128x16384_o0_34_S128x16350⟩,
    ⟨S128x34, broadcast S128x34 (Scalar.ofBits .f32 0x00000000#32 : Ideal .f32)⟩] concatenates_S128x16350_S128x34_S128x16384_d1
  let zeros : FVec Ideal S64x16384 .f32 := constant S64x16384 .f32 0x00000000#32
  maximumf (addf (addf (addf b (matmul dot_S64x128_S128x16384_S64x16384_1_0_0_1_n_n none d (truncf .bf16 c bitsLt_bf16_f32) zeros))
      (matmul dot_S64x128_S128x16384_S64x16384_1_0_0_1_n_n none (truncf .bf16 (shapeCast S64x128 e shapeCasts_S64x128_S64x128) bitsLt_bf16_f32)
        (truncf .bf16 last bitsLt_bf16_f32) zeros))
      (broadcastTo S64x16384 (shapeCast S64x1 f shapeCasts_S64x1_S64x1) broadcasts_S64x1_S64x16384))
    (broadcast S64x16384 (Scalar.ofBits .f32 0x00000000#32 : Ideal .f32))

/-- … and what it makes of them. -/
def normed (m : FVec Ideal S1x16384 .f32) (v : FVec Ideal S64x16384 .f32) : FVec Ideal S64x16384 .f32 :=
  let kept : FVec Ideal S64x16384 .f32 := mulf v (broadcastTo S64x16384 m broadcasts_S1x16384_S64x16384)
  let count : FVec Ideal S64x1 .f32 := broadcast S64x1 (Scalar.ofBits .f32 0x45440000#32 : Ideal .f32)
  let mean : FVec Ideal S64x1 .f32 := divf (shapeCast S64x1 (multiReduction .add [1] S64 kept 0x00000000#32 reduces_S64x16384_S64 (.inl rfl) rfl) shapeCasts_S64_S64x1) count
  let square : FVec Ideal S64x1 .f32 := divf (shapeCast S64x1 (multiReduction .add [1] S64 (mulf kept kept) 0x00000000#32 reduces_S64x16384_S64 (.inl rfl) rfl) shapeCasts_S64_S64x1) count
  mulf (subf v (broadcastTo S64x16384 mean broadcasts_S64x1_S64x16384))
    (broadcastTo S64x16384 (rsqrt (addf (subf square (mulf mean mean)) (broadcast S64x1 (Scalar.ofBits .f32 0x3727C5AC#32 : Ideal .f32)))) broadcasts_S64x1_S64x16384)

theorem split_up (m : FVec Ideal S1x16384 .f32) (a b c d e f) : k0_pay27 m a b c d e f = normed m (nine a b c d e f) := rfl

theorem normed_lane (m : FVec Ideal S1x16384 .f32) (v : FVec Ideal S64x16384 .f32) (g b : EReal) (o : Fin 64) (q : Fin 16384) :
    normed m v (ix2 o q) * g + b = quick ((3136 : ℝ) : EReal) (∑ q, v (ix2 o q) * m (ix2 0 q))
      (∑ q, v (ix2 o q) * m (ix2 0 q) * (v (ix2 o q) * m (ix2 0 q))) g b (v (ix2 o q)) := by
  pointwise [normed]
  simp only [count2]
  rfl

/-- The kernel's sums of nine products, at every lane. -/
def sums : FVec Ideal S64x16384 .f32 :=
  nine (k0_pay53 x0 x1 x2 x3 x4 x5 x6 x7 x8 x9 x10 x11 x12 x13 x14 x15 x16 x17 x18 x19 x20)
    (k0_pay23 (k0_pay53 x0 x1 x2 x3 x4 x5 x6 x7 x8 x9 x10 x11 x12 x13 x14 x15 x16 x17 x18 x19 x20) (k0_pay22 (k0_pay47 x0 x1 x2 x3 x4 x5 x6 x7 x8 x9 x10 x11 x12 x13 x14 x15 x16 x17 x18 x19 x20) (k0_pay48 x0 x1 x2 x3 x4 x5 x6 x7 x8 x9 x10 x11 x12 x13 x14 x15 x16 x17 x18 x19 x20) (k0_pay49 x0 x1 x2 x3 x4 x5 x6 x7 x8 x9 x10 x11 x12 x13 x14 x15 x16 x17 x18 x19 x20) (k0_pay50 x0 x1 x2 x3 x4 x5 x6 x7 x8 x9 x10 x11 x12 x13 x14 x15 x16 x17 x18 x19 x20) (k0_pay51 x0 x1 x2 x3 x4 x5 x6 x7 x8 x9 x10 x11 x12 x13 x14 x15 x16 x17 x18 x19 x20) (k0_pay52 x0 x1 x2 x3 x4 x5 x6 x7 x8 x9 x10 x11 x12 x13 x14 x15 x16 x17 x18 x19 x20)
      (View.ld x5 r0_2) (View.ld x5 r0_3) (View.ld x5 r0_4)) (View.ld x5 r0_5) (View.ld x5 r0_6) (View.ld x5 r0_7) (View.ld x5 r0_8))
    (k0_pay24 (k0_pay53 x0 x1 x2 x3 x4 x5 x6 x7 x8 x9 x10 x11 x12 x13 x14 x15 x16 x17 x18 x19 x20)) (k0_pay25 (View.ld x5 r0_9)) (View.ld x5 r0_10) (View.ld x6 r0_11)

theorem m2 (h : (weights x0 x1 x2 x3 x4 x5 x6 x7 x8 x9 x10 x11 x12 x13 x14 x15 x16 x17 x18 x19 x20).Tame) (o : Fin 64) (r : Fin 64) (i j : Fin 7) : sums x0 x1 x2 x3 x4 x5 x6 x7 x8 x9 x10 x11 x12 x13 x14 x15 x16 x17 x18 x19 x20 (ix2 o (lane2 r i j)) = (weights x0 x1 x2 x3 x4 x5 x6 x7 x8 x9 x10 x11 x12 x13 x14 x15 x16 x17 x18 x19 x20).m2 o r i j := by
  have e00 : lane2 r i j = lane1 r (near Weights.big i 0) (near Weights.big j 0) := Fin.ext (by simp only [lane1, lane2, lane4, near]; omega)
  have l01 : (lane2 r i j).val < 16383 := by simp only [lane2]; omega
  have e01 : (⟨1 + (lane2 r i j).val, by omega⟩ : Fin 16384) = lane1 r (near Weights.big i 0) (near Weights.big j 1) := Fin.ext (by simp only [lane1, lane2, lane4, near, Fin.val_zero, Fin.val_one, Fin.val_two]; omega)
  have l02 : (lane2 r i j).val < 16382 := by simp only [lane2]; omega
  have e02 : (⟨2 + (lane2 r i j).val, by omega⟩ : Fin 16384) = lane1 r (near Weights.big i 0) (near Weights.big j 2) := Fin.ext (by simp only [lane1, lane2, lane4, near, Fin.val_zero, Fin.val_one, Fin.val_two]; omega)
  have l10 : (lane2 r i j).val < 16368 := by simp only [lane2]; omega
  have e10 : (⟨16 + (lane2 r i j).val, by omega⟩ : Fin 16384) = lane1 r (near Weights.big i 1) (near Weights.big j 0) := Fin.ext (by simp only [lane1, lane2, lane4, near, Fin.val_zero, Fin.val_one, Fin.val_two]; omega)
  have l11 : (lane2 r i j).val < 16367 := by simp only [lane2]; omega
  have e11 : (⟨17 + (lane2 r i j).val, by omega⟩ : Fin 16384) = lane1 r (near Weights.big i 1) (near Weights.big j 1) := Fin.ext (by simp only [lane1, lane2, lane4, near, Fin.val_zero, Fin.val_one, Fin.val_two]; omega)
  have l12 : (lane2 r i j).val < 16366 := by simp only [lane2]; omega
  have e12 : (⟨18 + (lane2 r i j).val, by omega⟩ : Fin 16384) = lane1 r (near Weights.big i 1) (near Weights.big j 2) := Fin.ext (by simp only [lane1, lane2, lane4, near, Fin.val_zero, Fin.val_one, Fin.val_two]; omega)
  have l20 : (lane2 r i j).val < 16352 := by simp only [lane2]; omega
  have e20 : (⟨32 + (lane2 r i j).val, by omega⟩ : Fin 16384) = lane1 r (near Weights.big i 2) (near Weights.big j 0) := Fin.ext (by simp only [lane1, lane2, lane4, near, Fin.val_zero, Fin.val_one, Fin.val_two]; omega)
  have l21 : (lane2 r i j).val < 16351 := by simp only [lane2]; omega
  have e21 : (⟨33 + (lane2 r i j).val, by omega⟩ : Fin 16384) = lane1 r (near Weights.big i 2) (near Weights.big j 1) := Fin.ext (by simp only [lane1, lane2, lane4, near, Fin.val_zero, Fin.val_one, Fin.val_two]; omega)
  have l22 : (lane2 r i j).val < 16350 := by simp only [lane2]; omega
  have e22 : (⟨34 + (lane2 r i j).val, by omega⟩ : Fin 16384) = lane1 r (near Weights.big i 2) (near Weights.big j 2) := Fin.ext (by simp only [lane1, lane2, lane4, near, Fin.val_zero, Fin.val_one, Fin.val_two]; omega)
  have e53 : k0_pay21 (k0_pay47 x0 x1 x2 x3 x4 x5 x6 x7 x8 x9 x10 x11 x12 x13 x14 x15 x16 x17 x18 x19 x20) (k0_pay48 x0 x1 x2 x3 x4 x5 x6 x7 x8 x9 x10 x11 x12 x13 x14 x15 x16 x17 x18 x19 x20) (k0_pay49 x0 x1 x2 x3 x4 x5 x6 x7 x8 x9 x10 x11 x12 x13 x14 x15 x16 x17 x18 x19 x20) (k0_pay50 x0 x1 x2 x3 x4 x5 x6 x7 x8 x9 x10 x11 x12 x13 x14 x15 x16 x17 x18 x19 x20) (k0_pay51 x0 x1 x2 x3 x4 x5 x6 x7 x8 x9 x10 x11 x12 x13 x14 x15 x16 x17 x18 x19 x20) (k0_pay52 x0 x1 x2 x3 x4 x5 x6 x7 x8 x9 x10 x11 x12 x13 x14 x15 x16 x17 x18 x19 x20) = k0_pay53 x0 x1 x2 x3 x4 x5 x6 x7 x8 x9 x10 x11 x12 x13 x14 x15 x16 x17 x18 x19 x20 := rfl
  unfold sums
  rw [whole11]
  pointwise [nine, k0_pay22, k0_pay23, k0_pay24, k0_pay25]
  simp only [e53, dif_pos l01, e01, dif_pos l02, e02, dif_pos l10, e10, dif_pos l11, e11, dif_pos l12, e12, dif_pos l20, e20, dif_pos l21, e21, dif_pos l22, e22]
  rw [e00]
  simp only [n1 x0 x1 x2 x3 x4 x5 x6 x7 x8 x9 x10 x11 x12 x13 x14 x15 x16 x17 x18 x19 x20 h, Weights.m2, conv, tap]
  simp only [weights, Fin.val_zero, Fin.val_one, Fin.val_two, Nat.reduceMul, Nat.reduceAdd, mul_zero, zero_add]

theorem m3 (h : (weights x0 x1 x2 x3 x4 x5 x6 x7 x8 x9 x10 x11 x12 x13 x14 x15 x16 x17 x18 x19 x20).Tame) (r : Fin 64) (i j : Fin 7) : k0_pay54 x0 x1 x2 x3 x4 x5 x6 x7 x8 x9 x10 x11 x12 x13 x14 x15 x16 x17 x18 x19 x20 (ix2 0 (lane2 r i j)) = (weights x0 x1 x2 x3 x4 x5 x6 x7 x8 x9 x10 x11 x12 x13 x14 x15 x16 x17 x18 x19 x20).m3 r i j := by
  have key := fun k : Fin 64 => masked 3136 (by norm_num) (by norm_num) inj2 (fun q => sums x0 x1 x2 x3 x4 x5 x6 x7 x8 x9 x10 x11 x12 x13 x14 x15 x16 x17 x18 x19 x20 (ix2 k q)) (fun q => k0_pay45 x0 x1 x2 x3 x4 x5 x6 x7 x8 x9 x10 x11 x12 x13 x14 x15 x16 x17 x18 x19 x20 (ix2 0 q)) ((weights x0 x1 x2 x3 x4 x5 x6 x7 x8 x9 x10 x11 x12 x13 x14 x15 x16 x17 x18 x19 x20).m2 k)
    (seven_kept x0 x1 x2 x3 x4 x5 x6 x7 x8 x9 x10 x11 x12 x13 x14 x15 x16 x17 x18 x19 x20) (seven_dropped x0 x1 x2 x3 x4 x5 x6 x7 x8 x9 x10 x11 x12 x13 x14 x15 x16 x17 x18 x19 x20) (fun p => m2 x0 x1 x2 x3 x4 x5 x6 x7 x8 x9 x10 x11 x12 x13 x14 x15 x16 x17 x18 x19 x20 h k p.1 p.2.1 p.2.2) (Weights.finite_m2 h k) ((weights x0 x1 x2 x3 x4 x5 x6 x7 x8 x9 x10 x11 x12 x13 x14 x15 x16 x17 x18 x19 x20).g2 k) ((weights x0 x1 x2 x3 x4 x5 x6 x7 x8 x9 x10 x11 x12 x13 x14 x15 x16 x17 x18 x19 x20).t2 k) r i j
  unfold k0_pay54
  rw [split_up, whole11 x7, whole11 x8, whole12, whole13]
  show k0_pay29 (k0_pay26 x8) (normed (k0_pay45 x0 x1 x2 x3 x4 x5 x6 x7 x8 x9 x10 x11 x12 x13 x14 x15 x16 x17 x18 x19 x20) (sums x0 x1 x2 x3 x4 x5 x6 x7 x8 x9 x10 x11 x12 x13 x14 x15 x16 x17 x18 x19 x20)) (k0_pay28 x7) x9 x10 (ix2 0 (lane2 r i j)) = _
  pointwise [k0_pay29, k0_pay28, k0_pay26]
  simp only [normed_lane]
  simp only [Weights.m3, mix, Weights.n2, ← key]
  rfl

theorem pooled (r : Fin 64) (i j : Fin 7) : k0_pay55 x0 x1 x2 x3 x4 x5 x6 x7 x8 x9 x10 x11 x12 x13 x14 x15 x16 x17 x18 x19 x20 (ix2 0 (lane2 r i j)) = largest Weights.big (weights x0 x1 x2 x3 x4 x5 x6 x7 x8 x9 x10 x11 x12 x13 x14 x15 x16 x17 x18 x19 x20).pic r i j := by
  have e00 : lane2 r i j = lane1 r (near Weights.big i 0) (near Weights.big j 0) := Fin.ext (by simp only [lane1, lane2, lane4, near]; omega)
  have l01 : (lane2 r i j).val < 16383 := by simp only [lane2]; omega
  have e01 : (⟨1 + (lane2 r i j).val, by omega⟩ : Fin 16384) = lane1 r (near Weights.big i 0) (near Weights.big j 1) := Fin.ext (by simp only [lane1, lane2, lane4, near, Fin.val_zero, Fin.val_one, Fin.val_two]; omega)
  have l02 : (lane2 r i j).val < 16382 := by simp only [lane2]; omega
  have e02 : (⟨2 + (lane2 r i j).val, by omega⟩ : Fin 16384) = lane1 r (near Weights.big i 0) (near Weights.big j 2) := Fin.ext (by simp only [lane1, lane2, lane4, near, Fin.val_zero, Fin.val_one, Fin.val_two]; omega)
  have l10 : (lane2 r i j).val < 16368 := by simp only [lane2]; omega
  have e10 : (⟨16 + (lane2 r i j).val, by omega⟩ : Fin 16384) = lane1 r (near Weights.big i 1) (near Weights.big j 0) := Fin.ext (by simp only [lane1, lane2, lane4, near, Fin.val_zero, Fin.val_one, Fin.val_two]; omega)
  have l11 : (lane2 r i j).val < 16367 := by simp only [lane2]; omega
  have e11 : (⟨17 + (lane2 r i j).val, by omega⟩ : Fin 16384) = lane1 r (near Weights.big i 1) (near Weights.big j 1) := Fin.ext (by simp only [lane1, lane2, lane4, near, Fin.val_zero, Fin.val_one, Fin.val_two]; omega)
  have l12 : (lane2 r i j).val < 16366 := by simp only [lane2]; omega
  have e12 : (⟨18 + (lane2 r i j).val, by omega⟩ : Fin 16384) = lane1 r (near Weights.big i 1) (near Weights.big j 2) := Fin.ext (by simp only [lane1, lane2, lane4, near, Fin.val_zero, Fin.val_one, Fin.val_two]; omega)
  have l20 : (lane2 r i j).val < 16352 := by simp only [lane2]; omega
  have e20 : (⟨32 + (lane2 r i j).val, by omega⟩ : Fin 16384) = lane1 r (near Weights.big i 2) (near Weights.big j 0) := Fin.ext (by simp only [lane1, lane2, lane4, near, Fin.val_zero, Fin.val_one, Fin.val_two]; omega)
  have l21 : (lane2 r i j).val < 16351 := by simp only [lane2]; omega
  have e21 : (⟨33 + (lane2 r i j).val, by omega⟩ : Fin 16384) = lane1 r (near Weights.big i 2) (near Weights.big j 1) := Fin.ext (by simp only [lane1, lane2, lane4, near, Fin.val_zero, Fin.val_one, Fin.val_two]; omega)
  have l22 : (lane2 r i j).val < 16350 := by simp only [lane2]; omega
  have e22 : (⟨34 + (lane2 r i j).val, by omega⟩ : Fin 16384) = lane1 r (near Weights.big i 2) (near Weights.big j 2) := Fin.ext (by simp only [lane1, lane2, lane4, near, Fin.val_zero, Fin.val_one, Fin.val_two]; omega)
  unfold k0_pay55
  pointwise [k0_pay30]
  simp only [dif_pos l01, e01, dif_pos l02, e02, dif_pos l10, e10, dif_pos l11, e11, dif_pos l12, e12, dif_pos l20, e20, dif_pos l21, e21, dif_pos l22, e22]
  rw [e00]
  simp only [entry]
  rfl

theorem cut (h : (weights x0 x1 x2 x3 x4 x5 x6 x7 x8 x9 x10 x11 x12 x13 x14 x15 x16 x17 x18 x19 x20).Tame) (r : Fin 64) (i j : Fin 7) : k0_pay56 x0 x1 x2 x3 x4 x5 x6 x7 x8 x9 x10 x11 x12 x13 x14 x15 x16 x17 x18 x19 x20 (ix2 0 (lane2 r i j)) = (weights x0 x1 x2 x3 x4 x5 x6 x7 x8 x9 x10 x11 x12 x13 x14 x15 x16 x17 x18 x19 x20).cut r i j := by
  unfold k0_pay56
  pointwise [k0_pay31]
  rw [m3 x0 x1 x2 x3 x4 x5 x6 x7 x8 x9 x10 x11 x12 x13 x14 x15 x16 x17 x18 x19 x20 h, pooled, show k0_pay45 x0 x1 x2 x3 x4 x5 x6 x7 x8 x9 x10 x11 x12 x13 x14 x15 x16 x17 x18 x19 x20 (ix2 0 (lane2 r i j)) = 1 from seven_kept x0 x1 x2 x3 x4 x5 x6 x7 x8 x9 x10 x11 x12 x13 x14 x15 x16 x17 x18 x19 x20 (r, i, j), mul_one]
  rfl

theorem n4 (h : (weights x0 x1 x2 x3 x4 x5 x6 x7 x8 x9 x10 x11 x12 x13 x14 x15 x16 x17 x18 x19 x20).Tame) (o : Fin 128) (r : Fin 64) (i j : Fin 7) : k0_pay57 x0 x1 x2 x3 x4 x5 x6 x7 x8 x9 x10 x11 x12 x13 x14 x15 x16 x17 x18 x19 x20 (ix2 o (lane2 r i j)) = (weights x0 x1 x2 x3 x4 x5 x6 x7 x8 x9 x10 x11 x12 x13 x14 x15 x16 x17 x18 x19 x20).n4 o r i j := by
  have ha : ∀ p, max (x11 (ix2 o 0) * k0_pay56 x0 x1 x2 x3 x4 x5 x6 x7 x8 x9 x10 x11 x12 x13 x14 x15 x16 x17 x18 x19 x20 (ix2 0 (all2 p)) + x12 (ix2 o 0)) 0 = flat ((weights x0 x1 x2 x3 x4 x5 x6 x7 x8 x9 x10 x11 x12 x13 x14 x15 x16 x17 x18 x19 x20).m4 o) p := fun p => by
    rw [show k0_pay56 x0 x1 x2 x3 x4 x5 x6 x7 x8 x9 x10 x11 x12 x13 x14 x15 x16 x17 x18 x19 x20 (ix2 0 (all2 p)) = _ from cut x0 x1 x2 x3 x4 x5 x6 x7 x8 x9 x10 x11 x12 x13 x14 x15 x16 x17 x18 x19 x20 h p.1 p.2.1 p.2.2]
    simp only [flat, Weights.m4, mix, Fin.sum_univ_one, weights]
  have key := masked 3136 (by norm_num) (by norm_num) inj2 (fun q => max (x11 (ix2 o 0) * k0_pay56 x0 x1 x2 x3 x4 x5 x6 x7 x8 x9 x10 x11 x12 x13 x14 x15 x16 x17 x18 x19 x20 (ix2 0 q) + x12 (ix2 o 0)) 0)
    (fun q => k0_pay45 x0 x1 x2 x3 x4 x5 x6 x7 x8 x9 x10 x11 x12 x13 x14 x15 x16 x17 x18 x19 x20 (ix2 0 q)) ((weights x0 x1 x2 x3 x4 x5 x6 x7 x8 x9 x10 x11 x12 x13 x14 x15 x16 x17 x18 x19 x20).m4 o) (seven_kept x0 x1 x2 x3 x4 x5 x6 x7 x8 x9 x10 x11 x12 x13 x14 x15 x16 x17 x18 x19 x20) (seven_dropped x0 x1 x2 x3 x4 x5 x6 x7 x8 x9 x10 x11 x12 x13 x14 x15 x16 x17 x18 x19 x20) ha (Weights.finite_m4 h o) ((weights x0 x1 x2 x3 x4 x5 x6 x7 x8 x9 x10 x11 x12 x13 x14 x15 x16 x17 x18 x19 x20).g4 o) ((weights x0 x1 x2 x3 x4 x5 x6 x7 x8 x9 x10 x11 x12 x13 x14 x15 x16 x17 x18 x19 x20).t4 o) r i j
  rw [Weights.n4, ← key]
  have e56 : k0_pay31 (k0_pay45 x0 x1 x2 x3 x4 x5 x6 x7 x8 x9 x10 x11 x12 x13 x14 x15 x16 x17 x18 x19 x20) (k0_pay54 x0 x1 x2 x3 x4 x5 x6 x7 x8 x9 x10 x11 x12 x13 x14 x15 x16 x17 x18 x19 x20) (k0_pay55 x0 x1 x2 x3 x4 x5 x6 x7 x8 x9 x10 x11 x12 x13 x14 x15 x16 x17 x18 x19 x20) = k0_pay56 x0 x1 x2 x3 x4 x5 x6 x7 x8 x9 x10 x11 x12 x13 x14 x15 x16 x17 x18 x19 x20 := rfl
  unfold k0_pay57
  rw [whole1, whole1, whole1, whole1]
  pointwise [k0_pay32]
  simp only [e56, Fin.sum_univ_one, count2]
  rfl

/-- The second sums of nine products. -/
def sums' : FVec Ideal S64x16384 .f32 :=
  k0_pay36 (k0_pay57 x0 x1 x2 x3 x4 x5 x6 x7 x8 x9 x10 x11 x12 x13 x14 x15 x16 x17 x18 x19 x20) (k0_pay35 (k0_pay57 x0 x1 x2 x3 x4 x5 x6 x7 x8 x9 x10 x11 x12 x13 x14 x15 x16 x17 x18 x19 x20) (k0_pay33 (F := Ideal)) (k0_pay34 (View.ld x15 r0_2)) (View.ld x15 r0_3) (View.ld x15 r0_4) (View.ld x15 r0_5) (View.ld x15 r0_6))
    (View.ld x15 r0_7) (View.ld x15 r0_8) (View.ld x15 r0_9) (View.ld x15 r0_10) (View.ld x16 r0_11)

theorem m5 (h : (weights x0 x1 x2 x3 x4 x5 x6 x7 x8 x9 x10 x11 x12 x13 x14 x15 x16 x17 x18 x19 x20).Tame) (o : Fin 64) (r : Fin 64) (i j : Fin 3) : sums' x0 x1 x2 x3 x4 x5 x6 x7 x8 x9 x10 x11 x12 x13 x14 x15 x16 x17 x18 x19 x20 (ix2 o (lane4 r i j)) = (weights x0 x1 x2 x3 x4 x5 x6 x7 x8 x9 x10 x11 x12 x13 x14 x15 x16 x17 x18 x19 x20).m5 o r i j := by
  have e00 : lane4 r i j = lane2 r (near Weights.small i 0) (near Weights.small j 0) := Fin.ext (by simp only [lane1, lane2, lane4, near]; omega)
  have l01 : (lane4 r i j).val < 16382 := by simp only [lane4]; omega
  have e01 : (⟨2 + (lane4 r i j).val, by omega⟩ : Fin 16384) = lane2 r (near Weights.small i 0) (near Weights.small j 1) := Fin.ext (by simp only [lane1, lane2, lane4, near, Fin.val_zero, Fin.val_one, Fin.val_two]; omega)
  have l02 : (lane4 r i j).val < 16380 := by simp only [lane4]; omega
  have e02 : (⟨4 + (lane4 r i j).val, by omega⟩ : Fin 16384) = lane2 r (near Weights.small i 0) (near Weights.small j 2) := Fin.ext (by simp only [lane1, lane2, lane4, near, Fin.val_zero, Fin.val_one, Fin.val_two]; omega)
  have l10 : (lane4 r i j).val < 16352 := by simp only [lane4]; omega
  have e10 : (⟨32 + (lane4 r i j).val, by omega⟩ : Fin 16384) = lane2 r (near Weights.small i 1) (near Weights.small j 0) := Fin.ext (by simp only [lane1, lane2, lane4, near, Fin.val_zero, Fin.val_one, Fin.val_two]; omega)
  have l11 : (lane4 r i j).val < 16350 := by simp only [lane4]; omega
  have e11 : (⟨34 + (lane4 r i j).val, by omega⟩ : Fin 16384) = lane2 r (near Weights.small i 1) (near Weights.small j 1) := Fin.ext (by simp only [lane1, lane2, lane4, near, Fin.val_zero, Fin.val_one, Fin.val_two]; omega)
  have l12 : (lane4 r i j).val < 16348 := by simp only [lane4]; omega
  have e12 : (⟨36 + (lane4 r i j).val, by omega⟩ : Fin 16384) = lane2 r (near Weights.small i 1) (near Weights.small j 2) := Fin.ext (by simp only [lane1, lane2, lane4, near, Fin.val_zero, Fin.val_one, Fin.val_two]; omega)
  have l20 : (lane4 r i j).val < 16320 := by simp only [lane4]; omega
  have e20 : (⟨64 + (lane4 r i j).val, by omega⟩ : Fin 16384) = lane2 r (near Weights.small i 2) (near Weights.small j 0) := Fin.ext (by simp only [lane1, lane2, lane4, near, Fin.val_zero, Fin.val_one, Fin.val_two]; omega)
  have l21 : (lane4 r i j).val < 16318 := by simp only [lane4]; omega
  have e21 : (⟨66 + (lane4 r i j).val, by omega⟩ : Fin 16384) = lane2 r (near Weights.small i 2) (near Weights.small j 1) := Fin.ext (by simp only [lane1, lane2, lane4, near, Fin.val_zero, Fin.val_one, Fin.val_two]; omega)
  have l22 : (lane4 r i j).val < 16316 := by simp only [lane4]; omega
  have e22 : (⟨68 + (lane4 r i j).val, by omega⟩ : Fin 16384) = lane2 r (near Weights.small i 2) (near Weights.small j 2) := Fin.ext (by simp only [lane1, lane2, lane4, near, Fin.val_zero, Fin.val_one, Fin.val_two]; omega)
  unfold sums'
  rw [whole11]
  pointwise [k0_pay33, k0_pay34, k0_pay35, k0_pay36]
  simp only [dif_pos l01, e01, dif_pos l02, e02, dif_pos l10, e10, dif_pos l11, e11, dif_pos l12, e12, dif_pos l20, e20, dif_pos l21, e21, dif_pos l22, e22]
  rw [e00]
  simp only [n4 x0 x1 x2 x3 x4 x5 x6 x7 x8 x9 x10 x11 x12 x13 x14 x15 x16 x17 x18 x19 x20 h, Weights.m5, conv, tap]
  simp only [weights, Fin.val_zero, Fin.val_one, Fin.val_two, Nat.reduceMul, Nat.reduceAdd, mul_zero, zero_add]

theorem m6 (h : (weights x0 x1 x2 x3 x4 x5 x6 x7 x8 x9 x10 x11 x12 x13 x14 x15 x16 x17 x18 x19 x20).Tame) (r : Fin 64) (i j : Fin 3) : k0_pay37 (k0_pay46 x0 x1 x2 x3 x4 x5 x6 x7 x8 x9 x10 x11 x12 x13 x14 x15 x16 x17 x18 x19 x20) (sums' x0 x1 x2 x3 x4 x5 x6 x7 x8 x9 x10 x11 x12 x13 x14 x15 x16 x17 x18 x19 x20) x17 x18 x19 x20 (ix2 0 (lane4 r i j)) = (weights x0 x1 x2 x3 x4 x5 x6 x7 x8 x9 x10 x11 x12 x13 x14 x15 x16 x17 x18 x19 x20).m6 r i j := by
  have key := fun k : Fin 64 => masked 576 (by norm_num) (by norm_num) inj4 (fun q => sums' x0 x1 x2 x3 x4 x5 x6 x7 x8 x9 x10 x11 x12 x13 x14 x15 x16 x17 x18 x19 x20 (ix2 k q)) (fun q => k0_pay46 x0 x1 x2 x3 x4 x5 x6 x7 x8 x9 x10 x11 x12 x13 x14 x15 x16 x17 x18 x19 x20 (ix2 0 q)) ((weights x0 x1 x2 x3 x4 x5 x6 x7 x8 x9 x10 x11 x12 x13 x14 x15 x16 x17 x18 x19 x20).m5 k)
    (three_kept x0 x1 x2 x3 x4 x5 x6 x7 x8 x9 x10 x11 x12 x13 x14 x15 x16 x17 x18 x19 x20) (three_dropped x0 x1 x2 x3 x4 x5 x6 x7 x8 x9 x10 x11 x12 x13 x14 x15 x16 x17 x18 x19 x20) (fun p => m5 x0 x1 x2 x3 x4 x5 x6 x7 x8 x9 x10 x11 x12 x13 x14 x15 x16 x17 x18 x19 x20 h k p.1 p.2.1 p.2.2) (Weights.finite_m5 h k) ((weights x0 x1 x2 x3 x4 x5 x6 x7 x8 x9 x10 x11 x12 x13 x14 x15 x16 x17 x18 x19 x20).g5 k) ((weights x0 x1 x2 x3 x4 x5 x6 x7 x8 x9 x10 x11 x12 x13 x14 x15 x16 x17 x18 x19 x20).t5 k) r i j
  pointwise [k0_pay37]
  simp only [Weights.m6, mix, Weights.n5, ← key, count4]
  rfl

/-! What the body leaves. -/

theorem body (q : Fin 16384) : out0_21 x0 x1 x2 x3 x4 x5 x6 x7 x8 x9 x10 x11 x12 x13 x14 x15 x16 x17 x18 x19 x20 (ix2 0 q)
    = k0_pay1 (k0_pay46 x0 x1 x2 x3 x4 x5 x6 x7 x8 x9 x10 x11 x12 x13 x14 x15 x16 x17 x18 x19 x20) (k0_pay56 x0 x1 x2 x3 x4 x5 x6 x7 x8 x9 x10 x11 x12 x13 x14 x15 x16 x17 x18 x19 x20) (k0_pay37 (k0_pay46 x0 x1 x2 x3 x4 x5 x6 x7 x8 x9 x10 x11 x12 x13 x14 x15 x16 x17 x18 x19 x20) (sums' x0 x1 x2 x3 x4 x5 x6 x7 x8 x9 x10 x11 x12 x13 x14 x15 x16 x17 x18 x19 x20) x17 x18 x19 x20) (k0_pay38 (k0_pay56 x0 x1 x2 x3 x4 x5 x6 x7 x8 x9 x10 x11 x12 x13 x14 x15 x16 x17 x18 x19 x20)) (k0_pay39 (F := Ideal)) (k0_pay40 (k0_pay56 x0 x1 x2 x3 x4 x5 x6 x7 x8 x9 x10 x11 x12 x13 x14 x15 x16 x17 x18 x19 x20)) (ix2 0 q) := by
  unfold out0_21
  rw [View.canon_unit_zero corner, whole11 x17, whole11 x18, whole12, whole13]
  rfl

theorem kept (h : (weights x0 x1 x2 x3 x4 x5 x6 x7 x8 x9 x10 x11 x12 x13 x14 x15 x16 x17 x18 x19 x20).Tame) (r : Fin 64) (i j : Fin 3) : out0_21 x0 x1 x2 x3 x4 x5 x6 x7 x8 x9 x10 x11 x12 x13 x14 x15 x16 x17 x18 x19 x20 (ix2 0 (lane4 r i j)) = (weights x0 x1 x2 x3 x4 x5 x6 x7 x8 x9 x10 x11 x12 x13 x14 x15 x16 x17 x18 x19 x20).last r i j := by
  have e00 : lane4 r i j = lane2 r (near Weights.small i 0) (near Weights.small j 0) := Fin.ext (by simp only [lane1, lane2, lane4, near]; omega)
  have l01 : (lane4 r i j).val < 16382 := by simp only [lane4]; omega
  have e01 : (⟨2 + (lane4 r i j).val, by omega⟩ : Fin 16384) = lane2 r (near Weights.small i 0) (near Weights.small j 1) := Fin.ext (by simp only [lane1, lane2, lane4, near, Fin.val_zero, Fin.val_one, Fin.val_two]; omega)
  have l02 : (lane4 r i j).val < 16380 := by simp only [lane4]; omega
  have e02 : (⟨4 + (lane4 r i j).val, by omega⟩ : Fin 16384) = lane2 r (near Weights.small i 0) (near Weights.small j 2) := Fin.ext (by simp only [lane1, lane2, lane4, near, Fin.val_zero, Fin.val_one, Fin.val_two]; omega)
  have l10 : (lane4 r i j).val < 16352 := by simp only [lane4]; omega
  have e10 : (⟨32 + (lane4 r i j).val, by omega⟩ : Fin 16384) = lane2 r (near Weights.small i 1) (near Weights.small j 0) := Fin.ext (by simp only [lane1, lane2, lane4, near, Fin.val_zero, Fin.val_one, Fin.val_two]; omega)
  have l11 : (lane4 r i j).val < 16350 := by simp only [lane4]; omega
  have e11 : (⟨34 + (lane4 r i j).val, by omega⟩ : Fin 16384) = lane2 r (near Weights.small i 1) (near Weights.small j 1) := Fin.ext (by simp only [lane1, lane2, lane4, near, Fin.val_zero, Fin.val_one, Fin.val_two]; omega)
  have l12 : (lane4 r i j).val < 16348 := by simp only [lane4]; omega
  have e12 : (⟨36 + (lane4 r i j).val, by omega⟩ : Fin 16384) = lane2 r (near Weights.small i 1) (near Weights.small j 2) := Fin.ext (by simp only [lane1, lane2, lane4, near, Fin.val_zero, Fin.val_one, Fin.val_two]; omega)
  have l20 : (lane4 r i j).val < 16320 := by simp only [lane4]; omega
  have e20 : (⟨64 + (lane4 r i j).val, by omega⟩ : Fin 16384) = lane2 r (near Weights.small i 2) (near Weights.small j 0) := Fin.ext (by simp only [lane1, lane2, lane4, near, Fin.val_zero, Fin.val_one, Fin.val_two]; omega)
  have l21 : (lane4 r i j).val < 16318 := by simp only [lane4]; omega
  have e21 : (⟨66 + (lane4 r i j).val, by omega⟩ : Fin 16384) = lane2 r (near Weights.small i 2) (near Weights.small j 1) := Fin.ext (by simp only [lane1, lane2, lane4, near, Fin.val_zero, Fin.val_one, Fin.val_two]; omega)
  have l22 : (lane4 r i j).val < 16316 := by simp only [lane4]; omega
  have e22 : (⟨68 + (lane4 r i j).val, by omega⟩ : Fin 16384) = lane2 r (near Weights.small i 2) (near Weights.small j 2) := Fin.ext (by simp only [lane1, lane2, lane4, near, Fin.val_zero, Fin.val_one, Fin.val_two]; omega)
  rw [body]
  pointwise [k0_pay1, k0_pay38, k0_pay39, k0_pay40]
  rw [m6 x0 x1 x2 x3 x4 x5 x6 x7 x8 x9 x10 x11 x12 x13 x14 x15 x16 x17 x18 x19 x20 h, show k0_pay46 x0 x1 x2 x3 x4 x5 x6 x7 x8 x9 x10 x11 x12 x13 x14 x15 x16 x17 x18 x19 x20 (ix2 0 (lane4 r i j)) = 1 from three_kept x0 x1 x2 x3 x4 x5 x6 x7 x8 x9 x10 x11 x12 x13 x14 x15 x16 x17 x18 x19 x20 (r, i, j), mul_one]
  simp only [dif_pos l01, e01, dif_pos l02, e02, dif_pos l10, e10, dif_pos l11, e11, dif_pos l12, e12, dif_pos l20, e20, dif_pos l21, e21, dif_pos l22, e22]
  rw [e00]
  simp only [cut x0 x1 x2 x3 x4 x5 x6 x7 x8 x9 x10 x11 x12 x13 x14 x15 x16 x17 x18 x19 x20 h]
  rfl

theorem dropped (q : Fin 16384) (hq : ∀ p, q ≠ all4 p) : out0_21 x0 x1 x2 x3 x4 x5 x6 x7 x8 x9 x10 x11 x12 x13 x14 x15 x16 x17 x18 x19 x20 (ix2 0 q) = 0 := by
  rw [body]
  pointwise [k0_pay1]
  rw [three_dropped x0 x1 x2 x3 x4 x5 x6 x7 x8 x9 x10 x11 x12 x13 x14 x15 x16 x17 x18 x19 x20 q hq, mul_zero]

end Cert.Proof.HeadBody
-- ==== Proof.HeadReference.lean ====
/-
  The head as the reference computes it: every stage's entries are the model's.
-/
module

public import proofs.«01_k».proof.Proof.HeadModel
public import proofs.«01_k».proof.Proof.Gen.HeadReferenceIdeal.Read

@[expose] public section

noncomputable section

namespace Cert.Proof.HeadReference

open Idealize.ShloMosaic Idealize.ShloMosaic.TcCoe
open Cert.HeadReferenceIdeal Cert.HeadReferenceIdeal.Read
open Cert.Proof.HeadNorm Cert.Proof.HeadModel

variable (x0 : S64x256.Idx → Ideal .f32) (x1 : S128x1x1x1.Idx → Ideal .f32) (x2 x3 x4 : S128.Idx → Ideal .f32)
  (x5 : S64x128x3x3.Idx → Ideal .f32) (x6 x7 x8 : S64.Idx → Ideal .f32) (x9 : S1x64x1x1.Idx → Ideal .f32)
  (x10 : S1.Idx → Ideal .f32) (x11 : S128x1x1x1.Idx → Ideal .f32) (x12 x13 x14 : S128.Idx → Ideal .f32)
  (x15 : S64x128x3x3.Idx → Ideal .f32) (x16 x17 x18 : S64.Idx → Ideal .f32) (x19 : S1x64x1x1.Idx → Ideal .f32)
  (x20 : S1.Idx → Ideal .f32)

/-- The model's weights and pictures, read out of the reference's operands. -/
def weights : Weights where
  pic r i j := x0 (ix2 r ⟨i.val * 16 + j.val, by omega⟩)
  w1 o := x1 (ix4 o 0 0 0)
  b1 o := x2 (ix1 o)
  g1 o := x3 (ix1 o)
  t1 o := x4 (ix1 o)
  w2 o k a b := x5 (ix4 o k a b)
  b2 o := x6 (ix1 o)
  g2 o := x7 (ix1 o)
  t2 o := x8 (ix1 o)
  w3 k := x9 (ix4 0 k 0 0)
  b3 := x10 (ix1 0)
  w4 o := x11 (ix4 o 0 0 0)
  b4 o := x12 (ix1 o)
  g4 o := x13 (ix1 o)
  t4 o := x14 (ix1 o)
  w5 o k a b := x15 (ix4 o k a b)
  b5 o := x16 (ix1 o)
  g5 o := x17 (ix1 o)
  t5 o := x18 (ix1 o)
  w6 k := x19 (ix4 0 k 0 0)
  b6 := x20 (ix1 0)

theorem none_taken (N : EReal) : N - (FloatOps.sitofp FTy.f32 (0#32 : BitVec 32) : Ideal .f32) = N := by
  show N - ((BitVec.toInt 0#32 : ℝ) : EReal) = N
  simp

/-! The sum over a channel's pixels. -/

theorem over_128_16 (h : S64x128x16x16.ReducesTo [0, 2, 3] S128) (v : S64x128x16x16.Idx → EReal) (o : Fin 128) :
    Ideal.hostReduceAdd h v 0 (ix1 o) = ∑ p : Fin 64 × Fin 16 × Fin 16, v (ix4 p.1 o p.2.1 p.2.2) := by
  unfold Ideal.hostReduceAdd
  rw [zero_add]
  refine Finset.sum_bij' (fun i _ => ((i 0 : Fin 64), (i 2 : Fin 16), (i 3 : Fin 16))) (fun p _ => ix4 p.1 o p.2.1 p.2.2)
    (fun _ _ => Finset.mem_univ _) (fun p _ => Finset.mem_filter.mpr ⟨Finset.mem_univ _, ?_⟩) (fun i hi => ?_) (fun _ _ => rfl) (fun i hi => ?_)
  · funext q; match q with | ⟨0, _⟩ => rfl
  all_goals
    have e : ix4 (i 0 : Fin 64) o (i 2 : Fin 16) (i 3 : Fin 16) = i := by
      funext q; apply Fin.ext
      match q with
      | ⟨0, _⟩ => rfl
      | ⟨1, _⟩ => exact (congrArg Fin.val (congrFun (Finset.mem_filter.mp hi).2 0)).symm
      | ⟨2, _⟩ => rfl
      | ⟨3, _⟩ => rfl
  · exact e
  · exact congrArg v e.symm

theorem over_64_7 (h : S64x64x7x7.ReducesTo [0, 2, 3] S64) (v : S64x64x7x7.Idx → EReal) (o : Fin 64) :
    Ideal.hostReduceAdd h v 0 (ix1 o) = ∑ p : Fin 64 × Fin 7 × Fin 7, v (ix4 p.1 o p.2.1 p.2.2) := by
  unfold Ideal.hostReduceAdd
  rw [zero_add]
  refine Finset.sum_bij' (fun i _ => ((i 0 : Fin 64), (i 2 : Fin 7), (i 3 : Fin 7))) (fun p _ => ix4 p.1 o p.2.1 p.2.2)
    (fun _ _ => Finset.mem_univ _) (fun p _ => Finset.mem_filter.mpr ⟨Finset.mem_univ _, ?_⟩) (fun i hi => ?_) (fun _ _ => rfl) (fun i hi => ?_)
  · funext q; match q with | ⟨0, _⟩ => rfl
  all_goals
    have e : ix4 (i 0 : Fin 64) o (i 2 : Fin 7) (i 3 : Fin 7) = i := by
      funext q; apply Fin.ext
      match q with
      | ⟨0, _⟩ => rfl
      | ⟨1, _⟩ => exact (congrArg Fin.val (congrFun (Finset.mem_filter.mp hi).2 0)).symm
      | ⟨2, _⟩ => rfl
      | ⟨3, _⟩ => rfl
  · exact e
  · exact congrArg v e.symm

theorem over_128_7 (h : S64x128x7x7.ReducesTo [0, 2, 3] S128) (v : S64x128x7x7.Idx → EReal) (o : Fin 128) :
    Ideal.hostReduceAdd h v 0 (ix1 o) = ∑ p : Fin 64 × Fin 7 × Fin 7, v (ix4 p.1 o p.2.1 p.2.2) := by
  unfold Ideal.hostReduceAdd
  rw [zero_add]
  refine Finset.sum_bij' (fun i _ => ((i 0 : Fin 64), (i 2 : Fin 7), (i 3 : Fin 7))) (fun p _ => ix4 p.1 o p.2.1 p.2.2)
    (fun _ _ => Finset.mem_univ _) (fun p _ => Finset.mem_filter.mpr ⟨Finset.mem_univ _, ?_⟩) (fun i hi => ?_) (fun _ _ => rfl) (fun i hi => ?_)
  · funext q; match q with | ⟨0, _⟩ => rfl
  all_goals
    have e : ix4 (i 0 : Fin 64) o (i 2 : Fin 7) (i 3 : Fin 7) = i := by
      funext q; apply Fin.ext
      match q with
      | ⟨0, _⟩ => rfl
      | ⟨1, _⟩ => exact (congrArg Fin.val (congrFun (Finset.mem_filter.mp hi).2 0)).symm
      | ⟨2, _⟩ => rfl
      | ⟨3, _⟩ => rfl
  · exact e
  · exact congrArg v e.symm

theorem over_64_3 (h : S64x64x3x3.ReducesTo [0, 2, 3] S64) (v : S64x64x3x3.Idx → EReal) (o : Fin 64) :
    Ideal.hostReduceAdd h v 0 (ix1 o) = ∑ p : Fin 64 × Fin 3 × Fin 3, v (ix4 p.1 o p.2.1 p.2.2) := by
  unfold Ideal.hostReduceAdd
  rw [zero_add]
  refine Finset.sum_bij' (fun i _ => ((i 0 : Fin 64), (i 2 : Fin 3), (i 3 : Fin 3))) (fun p _ => ix4 p.1 o p.2.1 p.2.2)
    (fun _ _ => Finset.mem_univ _) (fun p _ => Finset.mem_filter.mpr ⟨Finset.mem_univ _, ?_⟩) (fun i hi => ?_) (fun _ _ => rfl) (fun i hi => ?_)
  · funext q; match q with | ⟨0, _⟩ => rfl
  all_goals
    have e : ix4 (i 0 : Fin 64) o (i 2 : Fin 3) (i 3 : Fin 3) = i := by
      funext q; apply Fin.ext
      match q with
      | ⟨0, _⟩ => rfl
      | ⟨1, _⟩ => exact (congrArg Fin.val (congrFun (Finset.mem_filter.mp hi).2 0)).symm
      | ⟨2, _⟩ => rfl
      | ⟨3, _⟩ => rfl
  · exact e
  · exact congrArg v e.symm

/-! The stages. -/

theorem m1 (r : Fin 64) (o : Fin 128) (i j : Fin 16) : val_main_v8 (F := Ideal) x0 x1 x2 (ix4 r o i j) = (weights x0 x1 x2 x3 x4 x5 x6 x7 x8 x9 x10 x11 x12 x13 x14 x15 x16 x17 x18 x19 x20).m1 o r i j := by
  pointwise [val_main_v0, val_main_v1, val_main_v2, val_main_v3, val_main_v4, val_main_v5, val_main_v6, val_main_v7, val_main_v8, val_main_cst]
  simp only [Weights.m1, mix, Finset.univ_unique, Finset.sum_singleton, weights]
  rw [mul_comm]

theorem n1_deviation (r : Fin 64) (o : Fin 128) (i j : Fin 16) : val_main_call0_v6 (F := Ideal) x0 x1 x2 (ix4 r o i j)
    = (val_main_v8 (F := Ideal) x0 x1 x2 (ix4 r o i j) - Ideal.div (∑ p, flat ((weights x0 x1 x2 x3 x4 x5 x6 x7 x8 x9 x10 x11 x12 x13 x14 x15 x16 x17 x18 x19 x20).m1 o) p) ((16384 : ℝ) : EReal))
      * (val_main_v8 (F := Ideal) x0 x1 x2 (ix4 r o i j) - Ideal.div (∑ p, flat ((weights x0 x1 x2 x3 x4 x5 x6 x7 x8 x9 x10 x11 x12 x13 x14 x15 x16 x17 x18 x19 x20).m1 o) p) ((16384 : ℝ) : EReal)) := by
  pointwise [val_main_call0_v0, val_main_call0_v1, val_main_call0_v2, val_main_call0_v3, val_main_call0_v4, val_main_call0_v5, val_main_call0_v6, val_main_call0_cst, val_main_call0_cst_0]
  rw [over_128_16, count1]
  simp only [m1 x0 x1 x2 x3 x4 x5 x6 x7 x8 x9 x10 x11 x12 x13 x14 x15 x16 x17 x18 x19 x20]

theorem n1 (r : Fin 64) (o : Fin 128) (i j : Fin 16) : val_main_v26 (F := Ideal) x0 x1 x2 x3 x4 (ix4 r o i j) = (weights x0 x1 x2 x3 x4 x5 x6 x7 x8 x9 x10 x11 x12 x13 x14 x15 x16 x17 x18 x19 x20).n1 o r i j := by
  pointwise [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_0, val_main_cst_1, val_main_cst_2, val_main_c, val_main_call0_v7, val_main_call0_v8, val_main_call0_v9, val_main_call0_v10, val_main_call0_v11, val_main_call0_v12, val_main_call0_v13, val_main_call0_cst_1, val_main_call0_cst_2, val_main_call0_cst_3, val_main_call0_cst_4, val_main_call0_call0_v0, val_main_call0_call0_v1]
  rw [none_taken, count1, if_pos (by exact_mod_cast (by norm_num : (0 : ℝ) < 16384)), over_128_16, over_128_16]
  simp only [n1_deviation x0 x1 x2 x3 x4 x5 x6 x7 x8 x9 x10 x11 x12 x13 x14 x15 x16 x17 x18 x19 x20, m1 x0 x1 x2 x3 x4 x5 x6 x7 x8 x9 x10 x11 x12 x13 x14 x15 x16 x17 x18 x19 x20]
  rfl

theorem m2 (r : Fin 64) (o : Fin 64) (i j : Fin 7) : val_main_v86 (F := Ideal) x0 x1 x2 x3 x4 x5 x6 (ix4 r o i j) = (weights x0 x1 x2 x3 x4 x5 x6 x7 x8 x9 x10 x11 x12 x13 x14 x15 x16 x17 x18 x19 x20).m2 o r i j := by
  pointwise [val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_cst_3, val_main_cst_4]
  simp only [n1 x0 x1 x2 x3 x4 x5 x6 x7 x8 x9 x10 x11 x12 x13 x14 x15 x16 x17 x18 x19 x20]
  simp only [Weights.m2, conv, tap, near0, near1, near2, weights, mul_comm]

theorem n2_deviation (r : Fin 64) (o : Fin 64) (i j : Fin 7) : val_main_call1_v6 (F := Ideal) x0 x1 x2 x3 x4 x5 x6 (ix4 r o i j)
    = (val_main_v86 (F := Ideal) x0 x1 x2 x3 x4 x5 x6 (ix4 r o i j) - Ideal.div (∑ p, flat ((weights x0 x1 x2 x3 x4 x5 x6 x7 x8 x9 x10 x11 x12 x13 x14 x15 x16 x17 x18 x19 x20).m2 o) p) ((3136 : ℝ) : EReal))
      * (val_main_v86 (F := Ideal) x0 x1 x2 x3 x4 x5 x6 (ix4 r o i j) - Ideal.div (∑ p, flat ((weights x0 x1 x2 x3 x4 x5 x6 x7 x8 x9 x10 x11 x12 x13 x14 x15 x16 x17 x18 x19 x20).m2 o) p) ((3136 : ℝ) : EReal)) := by
  pointwise [val_main_call1_v0, val_main_call1_v1, val_main_call1_v2, val_main_call1_v3, val_main_call1_v4, val_main_call1_v5, val_main_call1_v6, val_main_call1_cst, val_main_call1_cst_0]
  rw [over_64_7, count2]
  simp only [m2 x0 x1 x2 x3 x4 x5 x6 x7 x8 x9 x10 x11 x12 x13 x14 x15 x16 x17 x18 x19 x20]

theorem n2 (r : Fin 64) (o : Fin 64) (i j : Fin 7) : val_main_v104 (F := Ideal) x0 x1 x2 x3 x4 x5 x6 x7 x8 (ix4 r o i j) = (weights x0 x1 x2 x3 x4 x5 x6 x7 x8 x9 x10 x11 x12 x13 x14 x15 x16 x17 x18 x19 x20).n2 o r i j := by
  pointwise [val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_cst_5, val_main_cst_6, val_main_cst_8, val_main_c_7, val_main_call1_v7, val_main_call1_v8, val_main_call1_v9, val_main_call1_v10, val_main_call1_v11, val_main_call1_v12, val_main_call1_v13, val_main_call1_cst_1, val_main_call1_cst_2, val_main_call1_cst_3, val_main_call1_cst_4, val_main_call1_call0_v0, val_main_call1_call0_v1]
  rw [none_taken, count2, if_pos (by exact_mod_cast (by norm_num : (0 : ℝ) < 3136)), over_64_7, over_64_7]
  simp only [n2_deviation x0 x1 x2 x3 x4 x5 x6 x7 x8 x9 x10 x11 x12 x13 x14 x15 x16 x17 x18 x19 x20, m2 x0 x1 x2 x3 x4 x5 x6 x7 x8 x9 x10 x11 x12 x13 x14 x15 x16 x17 x18 x19 x20]
  rfl

theorem m3 (r : Fin 64) (o : Fin 1) (i j : Fin 7) : val_main_v112 (F := Ideal) x0 x1 x2 x3 x4 x5 x6 x7 x8 x9 x10 (ix4 r o i j) = (weights x0 x1 x2 x3 x4 x5 x6 x7 x8 x9 x10 x11 x12 x13 x14 x15 x16 x17 x18 x19 x20).m3 r i j := by
  pointwise [val_main_v105, val_main_v106, val_main_v107, val_main_v108, val_main_v109, val_main_v110, val_main_v111, val_main_v112, val_main_cst_9]
  simp only [n2 x0 x1 x2 x3 x4 x5 x6 x7 x8 x9 x10 x11 x12 x13 x14 x15 x16 x17 x18 x19 x20]
  simp only [Weights.m3, mix, weights, mul_comm]

theorem cut (r : Fin 64) (o : Fin 1) (i j : Fin 7) : val_main_v130 (F := Ideal) x0 x1 x2 x3 x4 x5 x6 x7 x8 x9 x10 (ix4 r o i j) = (weights x0 x1 x2 x3 x4 x5 x6 x7 x8 x9 x10 x11 x12 x13 x14 x15 x16 x17 x18 x19 x20).cut r i j := by
  pointwise [val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v0]
  rw [m3 x0 x1 x2 x3 x4 x5 x6 x7 x8 x9 x10 x11 x12 x13 x14 x15 x16 x17 x18 x19 x20]
  simp only [Weights.cut, largest, near0, near1, near2, weights]

theorem m4 (r : Fin 64) (o : Fin 128) (i j : Fin 7) : val_main_v138 (F := Ideal) x0 x1 x2 x3 x4 x5 x6 x7 x8 x9 x10 x11 x12 (ix4 r o i j) = (weights x0 x1 x2 x3 x4 x5 x6 x7 x8 x9 x10 x11 x12 x13 x14 x15 x16 x17 x18 x19 x20).m4 o r i j := by
  pointwise [val_main_v131, val_main_v132, val_main_v133, val_main_v134, val_main_v135, val_main_v136, val_main_v137, val_main_v138, val_main_cst_10]
  simp only [cut x0 x1 x2 x3 x4 x5 x6 x7 x8 x9 x10 x11 x12 x13 x14 x15 x16 x17 x18 x19 x20]
  simp only [Weights.m4, mix, weights, mul_comm]

theorem n4_deviation (r : Fin 64) (o : Fin 128) (i j : Fin 7) : val_main_call2_v6 (F := Ideal) x0 x1 x2 x3 x4 x5 x6 x7 x8 x9 x10 x11 x12 (ix4 r o i j)
    = (val_main_v138 (F := Ideal) x0 x1 x2 x3 x4 x5 x6 x7 x8 x9 x10 x11 x12 (ix4 r o i j) - Ideal.div (∑ p, flat ((weights x0 x1 x2 x3 x4 x5 x6 x7 x8 x9 x10 x11 x12 x13 x14 x15 x16 x17 x18 x19 x20).m4 o) p) ((3136 : ℝ) : EReal))
      * (val_main_v138 (F := Ideal) x0 x1 x2 x3 x4 x5 x6 x7 x8 x9 x10 x11 x12 (ix4 r o i j) - Ideal.div (∑ p, flat ((weights x0 x1 x2 x3 x4 x5 x6 x7 x8 x9 x10 x11 x12 x13 x14 x15 x16 x17 x18 x19 x20).m4 o) p) ((3136 : ℝ) : EReal)) := by
  pointwise [val_main_call2_v0, val_main_call2_v1, val_main_call2_v2, val_main_call2_v3, val_main_call2_v4, val_main_call2_v5, val_main_call2_v6, val_main_call2_cst, val_main_call2_cst_0]
  rw [over_128_7, count2]
  simp only [m4 x0 x1 x2 x3 x4 x5 x6 x7 x8 x9 x10 x11 x12 x13 x14 x15 x16 x17 x18 x19 x20]

theorem n4 (r : Fin 64) (o : Fin 128) (i j : Fin 7) : val_main_v156 (F := Ideal) x0 x1 x2 x3 x4 x5 x6 x7 x8 x9 x10 x11 x12 x13 x14 (ix4 r o i j) = (weights x0 x1 x2 x3 x4 x5 x6 x7 x8 x9 x10 x11 x12 x13 x14 x15 x16 x17 x18 x19 x20).n4 o r i j := by
  pointwise [val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_cst_11, val_main_cst_12, val_main_cst_14, val_main_c_13, val_main_call2_v7, val_main_call2_v8, val_main_call2_v9, val_main_call2_v10, val_main_call2_v11, val_main_call2_v12, val_main_call2_v13, val_main_call2_cst_1, val_main_call2_cst_2, val_main_call2_cst_3, val_main_call2_cst_4, val_main_call2_call0_v0, val_main_call2_call0_v1]
  rw [none_taken, count2, if_pos (by exact_mod_cast (by norm_num : (0 : ℝ) < 3136)), over_128_7, over_128_7]
  simp only [n4_deviation x0 x1 x2 x3 x4 x5 x6 x7 x8 x9 x10 x11 x12 x13 x14 x15 x16 x17 x18 x19 x20, m4 x0 x1 x2 x3 x4 x5 x6 x7 x8 x9 x10 x11 x12 x13 x14 x15 x16 x17 x18 x19 x20]
  rfl

theorem m5 (r : Fin 64) (o : Fin 64) (i j : Fin 3) : val_main_v216 (F := Ideal) x0 x1 x2 x3 x4 x5 x6 x7 x8 x9 x10 x11 x12 x13 x14 x15 x16 (ix4 r o i j) = (weights x0 x1 x2 x3 x4 x5 x6 x7 x8 x9 x10 x11 x12 x13 x14 x15 x16 x17 x18 x19 x20).m5 o r i j := by
  pointwise [val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_cst_15, val_main_cst_16]
  simp only [n4 x0 x1 x2 x3 x4 x5 x6 x7 x8 x9 x10 x11 x12 x13 x14 x15 x16 x17 x18 x19 x20]
  simp only [Weights.m5, conv, tap, near0, near1, near2, weights, mul_comm]

theorem n5_deviation (r : Fin 64) (o : Fin 64) (i j : Fin 3) : val_main_call3_v6 (F := Ideal) x0 x1 x2 x3 x4 x5 x6 x7 x8 x9 x10 x11 x12 x13 x14 x15 x16 (ix4 r o i j)
    = (val_main_v216 (F := Ideal) x0 x1 x2 x3 x4 x5 x6 x7 x8 x9 x10 x11 x12 x13 x14 x15 x16 (ix4 r o i j) - Ideal.div (∑ p, flat ((weights x0 x1 x2 x3 x4 x5 x6 x7 x8 x9 x10 x11 x12 x13 x14 x15 x16 x17 x18 x19 x20).m5 o) p) ((576 : ℝ) : EReal))
      * (val_main_v216 (F := Ideal) x0 x1 x2 x3 x4 x5 x6 x7 x8 x9 x10 x11 x12 x13 x14 x15 x16 (ix4 r o i j) - Ideal.div (∑ p, flat ((weights x0 x1 x2 x3 x4 x5 x6 x7 x8 x9 x10 x11 x12 x13 x14 x15 x16 x17 x18 x19 x20).m5 o) p) ((576 : ℝ) : EReal)) := by
  pointwise [val_main_call3_v0, val_main_call3_v1, val_main_call3_v2, val_main_call3_v3, val_main_call3_v4, val_main_call3_v5, val_main_call3_v6, val_main_call3_cst, val_main_call3_cst_0]
  rw [over_64_3, count4]
  simp only [m5 x0 x1 x2 x3 x4 x5 x6 x7 x8 x9 x10 x11 x12 x13 x14 x15 x16 x17 x18 x19 x20]

theorem n5 (r : Fin 64) (o : Fin 64) (i j : Fin 3) : val_main_v234 (F := Ideal) x0 x1 x2 x3 x4 x5 x6 x7 x8 x9 x10 x11 x12 x13 x14 x15 x16 x17 x18 (ix4 r o i j) = (weights x0 x1 x2 x3 x4 x5 x6 x7 x8 x9 x10 x11 x12 x13 x14 x15 x16 x17 x18 x19 x20).n5 o r i j := by
  pointwise [val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_cst_17, val_main_cst_18, val_main_cst_20, val_main_c_19, val_main_call3_v7, val_main_call3_v8, val_main_call3_v9, val_main_call3_v10, val_main_call3_v11, val_main_call3_v12, val_main_call3_v13, val_main_call3_cst_1, val_main_call3_cst_2, val_main_call3_cst_3, val_main_call3_cst_4, val_main_call3_call0_v0, val_main_call3_call0_v1]
  rw [none_taken, count4, if_pos (by exact_mod_cast (by norm_num : (0 : ℝ) < 576)), over_64_3, over_64_3]
  simp only [n5_deviation x0 x1 x2 x3 x4 x5 x6 x7 x8 x9 x10 x11 x12 x13 x14 x15 x16 x17 x18 x19 x20, m5 x0 x1 x2 x3 x4 x5 x6 x7 x8 x9 x10 x11 x12 x13 x14 x15 x16 x17 x18 x19 x20]
  rfl

theorem m6 (r : Fin 64) (o : Fin 1) (i j : Fin 3) : val_main_v242 (F := Ideal) x0 x1 x2 x3 x4 x5 x6 x7 x8 x9 x10 x11 x12 x13 x14 x15 x16 x17 x18 x19 x20 (ix4 r o i j) = (weights x0 x1 x2 x3 x4 x5 x6 x7 x8 x9 x10 x11 x12 x13 x14 x15 x16 x17 x18 x19 x20).m6 r i j := by
  pointwise [val_main_v235, val_main_v236, val_main_v237, val_main_v238, val_main_v239, val_main_v240, val_main_v241, val_main_v242, val_main_cst_21]
  simp only [n5 x0 x1 x2 x3 x4 x5 x6 x7 x8 x9 x10 x11 x12 x13 x14 x15 x16 x17 x18 x19 x20]
  simp only [Weights.m6, mix, weights, mul_comm]

theorem last (r : Fin 64) (o : Fin 1) (i j : Fin 3) : val_main_v260 (F := Ideal) x0 x1 x2 x3 x4 x5 x6 x7 x8 x9 x10 x11 x12 x13 x14 x15 x16 x17 x18 x19 x20 (ix4 r o i j) = (weights x0 x1 x2 x3 x4 x5 x6 x7 x8 x9 x10 x11 x12 x13 x14 x15 x16 x17 x18 x19 x20).last r i j := by
  pointwise [val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260]
  rw [m6 x0 x1 x2 x3 x4 x5 x6 x7 x8 x9 x10 x11 x12 x13 x14 x15 x16 x17 x18 x19 x20]
  simp only [cut x0 x1 x2 x3 x4 x5 x6 x7 x8 x9 x10 x11 x12 x13 x14 x15 x16 x17 x18 x19 x20]
  simp only [Weights.last, largest, near0, near1, near2]

/-! Where the last stage's entries lie in the reference's one row. -/

theorem kept (r : Fin 64) (i j : Fin 3) : val_main_v263 (F := Ideal) x0 x1 x2 x3 x4 x5 x6 x7 x8 x9 x10 x11 x12 x13 x14 x15 x16 x17 x18 x19 x20 (ix2 0 (lane4 r i j)) = (weights x0 x1 x2 x3 x4 x5 x6 x7 x8 x9 x10 x11 x12 x13 x14 x15 x16 x17 x18 x19 x20).last r i j := by
  pointwise [val_main_v261, val_main_v262, val_main_v263, val_main_cst_22]
  have h : (lane4 r i j).val / 256 < 64 ∧ ((lane4 r i j).val / 16 % 16 % 4 = 0 ∧ (lane4 r i j).val / 16 % 16 / 4 < 3)
      ∧ (lane4 r i j).val % 16 % 4 = 0 ∧ (lane4 r i j).val % 16 / 4 < 3 := by simp only [lane4]; omega
  rw [dif_pos h, last x0 x1 x2 x3 x4 x5 x6 x7 x8 x9 x10 x11 x12 x13 x14 x15 x16 x17 x18 x19 x20]
  congr 1 <;> refine Fin.ext ?_ <;> simp only [lane4] <;> omega

theorem dropped (q : Fin 16384) (hq : ∀ p, q ≠ all4 p) : val_main_v263 (F := Ideal) x0 x1 x2 x3 x4 x5 x6 x7 x8 x9 x10 x11 x12 x13 x14 x15 x16 x17 x18 x19 x20 (ix2 0 q) = 0 := by
  pointwise [val_main_v261, val_main_v262, val_main_v263, val_main_cst_22]
  rw [dif_neg]
  rintro ⟨h1, ⟨h2, h3⟩, h4, h5⟩
  refine hq (⟨q.val / 256, h1⟩, ⟨q.val / 16 % 16 / 4, h3⟩, ⟨q.val % 16 / 4, h5⟩) (Fin.ext ?_)
  simp only [all4, lane4]
  omega

end Cert.Proof.HeadReference
-- ==== Proof.HeadValue.lean ====
/-
  The value of the call that runs the convolutional head: on finite operands, the reference's.
-/
module

public import proofs.«01_k».proof.Proof.HeadBody
public import proofs.«01_k».proof.Proof.HeadReference
public import proofs.«01_k».proof.Proof.Finite
public import proofs.«01_k».proof.Proof.Gen.HeadIdeal.Value
public import proofs.«01_k».proof.Defs

@[expose] public section

noncomputable section

namespace Cert.Proof.HeadValue

open Cert.HeadIdeal Cert.HeadIdeal.Gen Idealize.ShloMosaic Idealize.ShloMosaic.TcCoe Idealize.SL.Sem
open Idealize.ShloMosaic.Pipeline (Dat)
open Cert.Proof.HeadModel

variable (m : (ℓ : Loc nD τ sig) → Buf (Elt Ideal) ℓ) (c : Dev nD)

/-! The operands as the call finds them: each an argument, its axes moved and merged. -/

theorem found0 : V m c main_v0 = shapeCast S1x16384 (m ((c : Thread nD τ).loc main_arg0)) shapeCasts_S64x256_S1x16384 := by
  simp only [V, hostOps0]
  after_results <;> rfl

theorem found1 : V m c main_v5 = shapeCast S128x1 (m ((c : Thread nD τ).loc main_arg1)) shapeCasts_S128x1x1x1_S128x1 := by
  simp only [V, hostOps0]
  after_results <;> rfl

theorem found2 : V m c main_v6 = shapeCast S128x1 (m ((c : Thread nD τ).loc main_arg2)) shapeCasts_S128_S128x1 := by
  simp only [V, hostOps0]
  after_results <;> rfl

theorem found3 : V m c main_v7 = shapeCast S128x1 (m ((c : Thread nD τ).loc main_arg3)) shapeCasts_S128_S128x1 := by
  simp only [V, hostOps0]
  after_results <;> rfl

theorem found4 : V m c main_v8 = shapeCast S128x1 (m ((c : Thread nD τ).loc main_arg4)) shapeCasts_S128_S128x1 := by
  simp only [V, hostOps0]
  after_results <;> rfl

theorem found5 : V m c main_v2 = shapeCast S576x128 (transpose S3x3x64x128 [2, 3, 0, 1] (m ((c : Thread nD τ).loc main_arg5)) transposes_S64x128x3x3_S3x3x64x128_2_3_0_1) shapeCasts_S3x3x64x128_S576x128 := by
  simp only [V, hostOps0]
  after_results <;> rfl

theorem found6 : V m c main_v9 = shapeCast S64x1 (m ((c : Thread nD τ).loc main_arg6)) shapeCasts_S64_S64x1 := by
  simp only [V, hostOps0]
  after_results <;> rfl

theorem found7 : V m c main_v10 = shapeCast S64x1 (m ((c : Thread nD τ).loc main_arg7)) shapeCasts_S64_S64x1 := by
  simp only [V, hostOps0]
  after_results <;> rfl

theorem found8 : V m c main_v11 = shapeCast S64x1 (m ((c : Thread nD τ).loc main_arg8)) shapeCasts_S64_S64x1 := by
  simp only [V, hostOps0]
  after_results <;> rfl

theorem found9 : V m c main_v12 = shapeCast S1x64 (m ((c : Thread nD τ).loc main_arg9)) shapeCasts_S1x64x1x1_S1x64 := by
  simp only [V, hostOps0]
  after_results <;> rfl

theorem found10 : V m c main_v13 = shapeCast S1x1 (m ((c : Thread nD τ).loc main_arg10)) shapeCasts_S1_S1x1 := by
  simp only [V, hostOps0]
  after_results <;> rfl

theorem found11 : V m c main_v14 = shapeCast S128x1 (m ((c : Thread nD τ).loc main_arg11)) shapeCasts_S128x1x1x1_S128x1 := by
  simp only [V, hostOps0]
  after_results <;> rfl

theorem found12 : V m c main_v15 = shapeCast S128x1 (m ((c : Thread nD τ).loc main_arg12)) shapeCasts_S128_S128x1 := by
  simp only [V, hostOps0]
  after_results <;> rfl

theorem found13 : V m c main_v16 = shapeCast S128x1 (m ((c : Thread nD τ).loc main_arg13)) shapeCasts_S128_S128x1 := by
  simp only [V, hostOps0]
  after_results <;> rfl

theorem found14 : V m c main_v17 = shapeCast S128x1 (m ((c : Thread nD τ).loc main_arg14)) shapeCasts_S128_S128x1 := by
  simp only [V, hostOps0]
  after_results <;> rfl

theorem found15 : V m c main_v4 = shapeCast S576x128 (transpose S3x3x64x128 [2, 3, 0, 1] (m ((c : Thread nD τ).loc main_arg15)) transposes_S64x128x3x3_S3x3x64x128_2_3_0_1) shapeCasts_S3x3x64x128_S576x128 := by
  simp only [V, hostOps0]
  after_results <;> rfl

theorem found16 : V m c main_v18 = shapeCast S64x1 (m ((c : Thread nD τ).loc main_arg16)) shapeCasts_S64_S64x1 := by
  simp only [V, hostOps0]
  after_results <;> rfl

theorem found17 : V m c main_v19 = shapeCast S64x1 (m ((c : Thread nD τ).loc main_arg17)) shapeCasts_S64_S64x1 := by
  simp only [V, hostOps0]
  after_results <;> rfl

theorem found18 : V m c main_v20 = shapeCast S64x1 (m ((c : Thread nD τ).loc main_arg18)) shapeCasts_S64_S64x1 := by
  simp only [V, hostOps0]
  after_results <;> rfl

theorem found19 : V m c main_v21 = shapeCast S1x64 (m ((c : Thread nD τ).loc main_arg19)) shapeCasts_S1x64x1x1_S1x64 := by
  simp only [V, hostOps0]
  after_results <;> rfl

theorem found20 : V m c main_v22 = shapeCast S1x1 (m ((c : Thread nD τ).loc main_arg20)) shapeCasts_S1_S1x1 := by
  simp only [V, hostOps0]
  after_results <;> rfl

/-! The one step stages every operand whole. -/

theorem whole0 (t : Fin cfg0.N) : iblk m c 0 t = V m c main_v0 := by
  funext y
  refine congrArg (V m c main_v0) (funext fun a => Fin.ext ?_)
  match a with
  | ⟨0, _⟩ => show 0 * 1 + 1 * (y 0).val = (y 0).val; simp
  | ⟨1, _⟩ => show 0 * 16384 + 1 * (y 1).val = (y 1).val; simp

theorem whole1 (t : Fin cfg0.N) : iblk m c 1 t = V m c main_v5 := by
  funext y
  refine congrArg (V m c main_v5) (funext fun a => Fin.ext ?_)
  match a with
  | ⟨0, _⟩ => show 0 * 128 + 1 * (y 0).val = (y 0).val; simp
  | ⟨1, _⟩ => show 0 * 1 + 1 * (y 1).val = (y 1).val; simp

theorem whole2 (t : Fin cfg0.N) : iblk m c 2 t = V m c main_v6 := by
  funext y
  refine congrArg (V m c main_v6) (funext fun a => Fin.ext ?_)
  match a with
  | ⟨0, _⟩ => show 0 * 128 + 1 * (y 0).val = (y 0).val; simp
  | ⟨1, _⟩ => show 0 * 1 + 1 * (y 1).val = (y 1).val; simp

theorem whole3 (t : Fin cfg0.N) : iblk m c 3 t = V m c main_v7 := by
  funext y
  refine congrArg (V m c main_v7) (funext fun a => Fin.ext ?_)
  match a with
  | ⟨0, _⟩ => show 0 * 128 + 1 * (y 0).val = (y 0).val; simp
  | ⟨1, _⟩ => show 0 * 1 + 1 * (y 1).val = (y 1).val; simp

theorem whole4 (t : Fin cfg0.N) : iblk m c 4 t = V m c main_v8 := by
  funext y
  refine congrArg (V m c main_v8) (funext fun a => Fin.ext ?_)
  match a with
  | ⟨0, _⟩ => show 0 * 128 + 1 * (y 0).val = (y 0).val; simp
  | ⟨1, _⟩ => show 0 * 1 + 1 * (y 1).val = (y 1).val; simp

theorem whole5 (t : Fin cfg0.N) : iblk m c 5 t = V m c main_v2 := by
  funext y
  refine congrArg (V m c main_v2) (funext fun a => Fin.ext ?_)
  match a with
  | ⟨0, _⟩ => show 0 * 576 + 1 * (y 0).val = (y 0).val; simp
  | ⟨1, _⟩ => show 0 * 128 + 1 * (y 1).val = (y 1).val; simp

theorem whole6 (t : Fin cfg0.N) : iblk m c 6 t = V m c main_v9 := by
  funext y
  refine congrArg (V m c main_v9) (funext fun a => Fin.ext ?_)
  match a with
  | ⟨0, _⟩ => show 0 * 64 + 1 * (y 0).val = (y 0).val; simp
  | ⟨1, _⟩ => show 0 * 1 + 1 * (y 1).val = (y 1).val; simp

theorem whole7 (t : Fin cfg0.N) : iblk m c 7 t = V m c main_v10 := by
  funext y
  refine congrArg (V m c main_v10) (funext fun a => Fin.ext ?_)
  match a with
  | ⟨0, _⟩ => show 0 * 64 + 1 * (y 0).val = (y 0).val; simp
  | ⟨1, _⟩ => show 0 * 1 + 1 * (y 1).val = (y 1).val; simp

theorem whole8 (t : Fin cfg0.N) : iblk m c 8 t = V m c main_v11 := by
  funext y
  refine congrArg (V m c main_v11) (funext fun a => Fin.ext ?_)
  match a with
  | ⟨0, _⟩ => show 0 * 64 + 1 * (y 0).val = (y 0).val; simp
  | ⟨1, _⟩ => show 0 * 1 + 1 * (y 1).val = (y 1).val; simp

theorem whole9 (t : Fin cfg0.N) : iblk m c 9 t = V m c main_v12 := by
  funext y
  refine congrArg (V m c main_v12) (funext fun a => Fin.ext ?_)
  match a with
  | ⟨0, _⟩ => show 0 * 1 + 1 * (y 0).val = (y 0).val; simp
  | ⟨1, _⟩ => show 0 * 64 + 1 * (y 1).val = (y 1).val; simp

theorem whole10 (t : Fin cfg0.N) : iblk m c 10 t = V m c main_v13 := by
  funext y
  refine congrArg (V m c main_v13) (funext fun a => Fin.ext ?_)
  match a with
  | ⟨0, _⟩ => show 0 * 1 + 1 * (y 0).val = (y 0).val; simp
  | ⟨1, _⟩ => show 0 * 1 + 1 * (y 1).val = (y 1).val; simp

theorem whole11 (t : Fin cfg0.N) : iblk m c 11 t = V m c main_v14 := by
  funext y
  refine congrArg (V m c main_v14) (funext fun a => Fin.ext ?_)
  match a with
  | ⟨0, _⟩ => show 0 * 128 + 1 * (y 0).val = (y 0).val; simp
  | ⟨1, _⟩ => show 0 * 1 + 1 * (y 1).val = (y 1).val; simp

theorem whole12 (t : Fin cfg0.N) : iblk m c 12 t = V m c main_v15 := by
  funext y
  refine congrArg (V m c main_v15) (funext fun a => Fin.ext ?_)
  match a with
  | ⟨0, _⟩ => show 0 * 128 + 1 * (y 0).val = (y 0).val; simp
  | ⟨1, _⟩ => show 0 * 1 + 1 * (y 1).val = (y 1).val; simp

theorem whole13 (t : Fin cfg0.N) : iblk m c 13 t = V m c main_v16 := by
  funext y
  refine congrArg (V m c main_v16) (funext fun a => Fin.ext ?_)
  match a with
  | ⟨0, _⟩ => show 0 * 128 + 1 * (y 0).val = (y 0).val; simp
  | ⟨1, _⟩ => show 0 * 1 + 1 * (y 1).val = (y 1).val; simp

theorem whole14 (t : Fin cfg0.N) : iblk m c 14 t = V m c main_v17 := by
  funext y
  refine congrArg (V m c main_v17) (funext fun a => Fin.ext ?_)
  match a with
  | ⟨0, _⟩ => show 0 * 128 + 1 * (y 0).val = (y 0).val; simp
  | ⟨1, _⟩ => show 0 * 1 + 1 * (y 1).val = (y 1).val; simp

theorem whole15 (t : Fin cfg0.N) : iblk m c 15 t = V m c main_v4 := by
  funext y
  refine congrArg (V m c main_v4) (funext fun a => Fin.ext ?_)
  match a with
  | ⟨0, _⟩ => show 0 * 576 + 1 * (y 0).val = (y 0).val; simp
  | ⟨1, _⟩ => show 0 * 128 + 1 * (y 1).val = (y 1).val; simp

theorem whole16 (t : Fin cfg0.N) : iblk m c 16 t = V m c main_v18 := by
  funext y
  refine congrArg (V m c main_v18) (funext fun a => Fin.ext ?_)
  match a with
  | ⟨0, _⟩ => show 0 * 64 + 1 * (y 0).val = (y 0).val; simp
  | ⟨1, _⟩ => show 0 * 1 + 1 * (y 1).val = (y 1).val; simp

theorem whole17 (t : Fin cfg0.N) : iblk m c 17 t = V m c main_v19 := by
  funext y
  refine congrArg (V m c main_v19) (funext fun a => Fin.ext ?_)
  match a with
  | ⟨0, _⟩ => show 0 * 64 + 1 * (y 0).val = (y 0).val; simp
  | ⟨1, _⟩ => show 0 * 1 + 1 * (y 1).val = (y 1).val; simp

theorem whole18 (t : Fin cfg0.N) : iblk m c 18 t = V m c main_v20 := by
  funext y
  refine congrArg (V m c main_v20) (funext fun a => Fin.ext ?_)
  match a with
  | ⟨0, _⟩ => show 0 * 64 + 1 * (y 0).val = (y 0).val; simp
  | ⟨1, _⟩ => show 0 * 1 + 1 * (y 1).val = (y 1).val; simp

theorem whole19 (t : Fin cfg0.N) : iblk m c 19 t = V m c main_v21 := by
  funext y
  refine congrArg (V m c main_v21) (funext fun a => Fin.ext ?_)
  match a with
  | ⟨0, _⟩ => show 0 * 1 + 1 * (y 0).val = (y 0).val; simp
  | ⟨1, _⟩ => show 0 * 64 + 1 * (y 1).val = (y 1).val; simp

theorem whole20 (t : Fin cfg0.N) : iblk m c 20 t = V m c main_v22 := by
  funext y
  refine congrArg (V m c main_v22) (funext fun a => Fin.ext ?_)
  match a with
  | ⟨0, _⟩ => show 0 * 1 + 1 * (y 0).val = (y 0).val; simp
  | ⟨1, _⟩ => show 0 * 1 + 1 * (y 1).val = (y 1).val; simp

/-- The array that the step writes back. -/
theorem written (t : Fin cfg0.N) : (dats m 0 c).arrAt 21 cfg0.N
    = out0_21 (V m c main_v0) (V m c main_v5) (V m c main_v6) (V m c main_v7) (V m c main_v8) (V m c main_v2) (V m c main_v9) (V m c main_v10) (V m c main_v11) (V m c main_v12) (V m c main_v13) (V m c main_v14) (V m c main_v15) (V m c main_v16) (V m c main_v17) (V m c main_v4) (V m c main_v18) (V m c main_v19) (V m c main_v20) (V m c main_v21) (V m c main_v22) := by
  have whole : ∀ t : Fin cfg0.N, ∀ G : S1x16384.Idx → Ideal .f32,
      ((cfg0.win 21).blk t).view.read (Elt Ideal) G = G := fun t G => by
    funext y
    refine congrArg G (funext fun a => Fin.ext ?_)
    match a with
    | ⟨0, _⟩ => show 0 * 1 + 1 * (y 0).val = (y 0).val; simp
    | ⟨1, _⟩ => show 0 * 16384 + 1 * (y 1).val = (y 1).val; simp
  have h := Cert.HeadIdeal.Value.blocks21 m c t ((by decide +kernel : ∀ t : Fin grid0.N, win0_21.flush t = true) t)
  rw [whole, Cert.HeadIdeal.Value.flushed21, whole0, whole1, whole2, whole3, whole4, whole5, whole6, whole7, whole8, whole9, whole10, whole11, whole12, whole13, whole14, whole15, whole16, whole17, whole18, whole19, whole20] at h
  exact h

/-! The operands so prepared, entry by entry. -/

theorem picture_of (x : S64x256.Idx → Ideal .f32) (r : Fin 64) (i j : Fin 16) :
    shapeCast S1x16384 x shapeCasts_S64x256_S1x16384 (ix2 0 (lane1 r i j)) = x (ix2 r ⟨i.val * 16 + j.val, by omega⟩) := by
  have e : lane1 r i j = ⟨256 * r.val + (i.val * 16 + j.val), by omega⟩ := Fin.ext (by simp only [lane1]; omega)
  rw [e]
  pointwise []
  exact congrArg (fun q => x (ix2 r q)) (Fin.ext (by show (256 * r.val + (i.val * 16 + j.val)) % 256 = i.val * 16 + j.val; omega))

theorem kernel_of (x : S64x128x3x3.Idx → Ideal .f32) (o : Fin 64) (k : Fin 128) (a b : Fin 3) :
    shapeCast S576x128 (transpose S3x3x64x128 [2, 3, 0, 1] x transposes_S64x128x3x3_S3x3x64x128_2_3_0_1) shapeCasts_S3x3x64x128_S576x128 (ix2 ⟨64 * (3 * a.val + b.val) + o.val, by omega⟩ k) = x (ix4 o k a b) := by
  pointwise []

theorem single128_of (x : S128x1x1x1.Idx → Ideal .f32) (o : Fin 128) : shapeCast S128x1 x shapeCasts_S128x1x1x1_S128x1 (ix2 o 0) = x (ix4 o 0 0 0) := by
  pointwise []

theorem tall128_of (x : S128.Idx → Ideal .f32) (o : Fin 128) : shapeCast S128x1 x shapeCasts_S128_S128x1 (ix2 o 0) = x (ix1 o) := by
  pointwise []

theorem tall64_of (x : S64.Idx → Ideal .f32) (o : Fin 64) : shapeCast S64x1 x shapeCasts_S64_S64x1 (ix2 o 0) = x (ix1 o) := by
  pointwise []

theorem wide64_of (x : S1x64x1x1.Idx → Ideal .f32) (k : Fin 64) : shapeCast S1x64 x shapeCasts_S1x64x1x1_S1x64 (ix2 0 k) = x (ix4 0 k 0 0) := by
  pointwise []

theorem one_of (x : S1.Idx → Ideal .f32) : shapeCast S1x1 x shapeCasts_S1_S1x1 (ix2 0 0) = x (ix1 0) := by
  pointwise []

/-- The kernel and the reference read the same weights and pictures. -/
theorem same_weights (x0 : S64x256.Idx → Ideal .f32) (x1 : S128x1x1x1.Idx → Ideal .f32) (x2 : S128.Idx → Ideal .f32) (x3 : S128.Idx → Ideal .f32) (x4 : S128.Idx → Ideal .f32) (x5 : S64x128x3x3.Idx → Ideal .f32) (x6 : S64.Idx → Ideal .f32) (x7 : S64.Idx → Ideal .f32) (x8 : S64.Idx → Ideal .f32) (x9 : S1x64x1x1.Idx → Ideal .f32) (x10 : S1.Idx → Ideal .f32) (x11 : S128x1x1x1.Idx → Ideal .f32) (x12 : S128.Idx → Ideal .f32) (x13 : S128.Idx → Ideal .f32) (x14 : S128.Idx → Ideal .f32) (x15 : S64x128x3x3.Idx → Ideal .f32) (x16 : S64.Idx → Ideal .f32) (x17 : S64.Idx → Ideal .f32) (x18 : S64.Idx → Ideal .f32) (x19 : S1x64x1x1.Idx → Ideal .f32) (x20 : S1.Idx → Ideal .f32) :
    HeadBody.weights (shapeCast S1x16384 x0 shapeCasts_S64x256_S1x16384) (shapeCast S128x1 x1 shapeCasts_S128x1x1x1_S128x1) (shapeCast S128x1 x2 shapeCasts_S128_S128x1) (shapeCast S128x1 x3 shapeCasts_S128_S128x1) (shapeCast S128x1 x4 shapeCasts_S128_S128x1) (shapeCast S576x128 (transpose S3x3x64x128 [2, 3, 0, 1] x5 transposes_S64x128x3x3_S3x3x64x128_2_3_0_1) shapeCasts_S3x3x64x128_S576x128) (shapeCast S64x1 x6 shapeCasts_S64_S64x1) (shapeCast S64x1 x7 shapeCasts_S64_S64x1) (shapeCast S64x1 x8 shapeCasts_S64_S64x1) (shapeCast S1x64 x9 shapeCasts_S1x64x1x1_S1x64) (shapeCast S1x1 x10 shapeCasts_S1_S1x1) (shapeCast S128x1 x11 shapeCasts_S128x1x1x1_S128x1) (shapeCast S128x1 x12 shapeCasts_S128_S128x1) (shapeCast S128x1 x13 shapeCasts_S128_S128x1) (shapeCast S128x1 x14 shapeCasts_S128_S128x1) (shapeCast S576x128 (transpose S3x3x64x128 [2, 3, 0, 1] x15 transposes_S64x128x3x3_S3x3x64x128_2_3_0_1) shapeCasts_S3x3x64x128_S576x128) (shapeCast S64x1 x16 shapeCasts_S64_S64x1) (shapeCast S64x1 x17 shapeCasts_S64_S64x1) (shapeCast S64x1 x18 shapeCasts_S64_S64x1) (shapeCast S1x64 x19 shapeCasts_S1x64x1x1_S1x64) (shapeCast S1x1 x20 shapeCasts_S1_S1x1)
      = HeadReference.weights x0 x1 x2 x3 x4 x5 x6 x7 x8 x9 x10 x11 x12 x13 x14 x15 x16 x17 x18 x19 x20 := by
  unfold HeadBody.weights HeadReference.weights
  rw [Weights.mk.injEq]
  exact ⟨funext fun r => funext fun i => funext fun j => picture_of x0 r i j,
    funext fun r => single128_of x1 r,
    funext fun r => tall128_of x2 r,
    funext fun r => tall128_of x3 r,
    funext fun r => tall128_of x4 r,
    funext fun r => funext fun i => funext fun j => funext fun k => kernel_of x5 r i j k,
    funext fun r => tall64_of x6 r,
    funext fun r => tall64_of x7 r,
    funext fun r => tall64_of x8 r,
    funext fun r => wide64_of x9 r,
    one_of x10,
    funext fun r => single128_of x11 r,
    funext fun r => tall128_of x12 r,
    funext fun r => tall128_of x13 r,
    funext fun r => tall128_of x14 r,
    funext fun r => funext fun i => funext fun j => funext fun k => kernel_of x15 r i j k,
    funext fun r => tall64_of x16 r,
    funext fun r => tall64_of x17 r,
    funext fun r => tall64_of x18 r,
    funext fun r => wide64_of x19 r,
    one_of x20⟩

/-- What `finite_head` makes of the model's weights and pictures. -/
theorem tame (h : Cert.Pre_HeadIdeal_finite_head m) : (HeadReference.weights (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))).Tame := by
  obtain ⟨h0, h1, h2, h3, h4, h5, h6, h7, h8, h9, h10, h11, h12, h13, h14, h15, h16⟩ := Finite.head _ _ _ _ _ _ _ _ _ _ _ _ _ _ _ _ _ _ _ _ _ (h c)
  exact ⟨fun r i j => h0 _, fun r => h1 _, fun r => h2 _, fun r => h3 _, fun r => h4 _, fun r i j k => h5 _, fun r => h6 _, fun r => h7 _, fun r => h8 _, fun r => h9 _, h10 _, fun r => h11 _, fun r => h12 _, fun r => h13 _, fun r => h14 _, fun r i j k => h15 _, fun r => h16 _⟩

/-- On finite operands the kernel's array is the reference's. -/
theorem same_lanes (x0 : S64x256.Idx → Ideal .f32) (x1 : S128x1x1x1.Idx → Ideal .f32) (x2 : S128.Idx → Ideal .f32) (x3 : S128.Idx → Ideal .f32) (x4 : S128.Idx → Ideal .f32) (x5 : S64x128x3x3.Idx → Ideal .f32) (x6 : S64.Idx → Ideal .f32) (x7 : S64.Idx → Ideal .f32) (x8 : S64.Idx → Ideal .f32) (x9 : S1x64x1x1.Idx → Ideal .f32) (x10 : S1.Idx → Ideal .f32) (x11 : S128x1x1x1.Idx → Ideal .f32) (x12 : S128.Idx → Ideal .f32) (x13 : S128.Idx → Ideal .f32) (x14 : S128.Idx → Ideal .f32) (x15 : S64x128x3x3.Idx → Ideal .f32) (x16 : S64.Idx → Ideal .f32) (x17 : S64.Idx → Ideal .f32) (x18 : S64.Idx → Ideal .f32) (x19 : S1x64x1x1.Idx → Ideal .f32) (x20 : S1.Idx → Ideal .f32) (s : (HeadReference.weights x0 x1 x2 x3 x4 x5 x6 x7 x8 x9 x10 x11 x12 x13 x14 x15 x16 x17 x18 x19 x20).Tame)
    (y0 : S1x16384.Idx → Ideal .f32) (y1 : S128x1.Idx → Ideal .f32) (y2 : S128x1.Idx → Ideal .f32) (y3 : S128x1.Idx → Ideal .f32) (y4 : S128x1.Idx → Ideal .f32) (y5 : S576x128.Idx → Ideal .f32) (y6 : S64x1.Idx → Ideal .f32) (y7 : S64x1.Idx → Ideal .f32) (y8 : S64x1.Idx → Ideal .f32) (y9 : S1x64.Idx → Ideal .f32) (y10 : S1x1.Idx → Ideal .f32) (y11 : S128x1.Idx → Ideal .f32) (y12 : S128x1.Idx → Ideal .f32) (y13 : S128x1.Idx → Ideal .f32) (y14 : S128x1.Idx → Ideal .f32) (y15 : S576x128.Idx → Ideal .f32) (y16 : S64x1.Idx → Ideal .f32) (y17 : S64x1.Idx → Ideal .f32) (y18 : S64x1.Idx → Ideal .f32) (y19 : S1x64.Idx → Ideal .f32) (y20 : S1x1.Idx → Ideal .f32)
    (e0 : y0 = shapeCast S1x16384 x0 shapeCasts_S64x256_S1x16384)
    (e1 : y1 = shapeCast S128x1 x1 shapeCasts_S128x1x1x1_S128x1)
    (e2 : y2 = shapeCast S128x1 x2 shapeCasts_S128_S128x1)
    (e3 : y3 = shapeCast S128x1 x3 shapeCasts_S128_S128x1)
    (e4 : y4 = shapeCast S128x1 x4 shapeCasts_S128_S128x1)
    (e5 : y5 = shapeCast S576x128 (transpose S3x3x64x128 [2, 3, 0, 1] x5 transposes_S64x128x3x3_S3x3x64x128_2_3_0_1) shapeCasts_S3x3x64x128_S576x128)
    (e6 : y6 = shapeCast S64x1 x6 shapeCasts_S64_S64x1)
    (e7 : y7 = shapeCast S64x1 x7 shapeCasts_S64_S64x1)
    (e8 : y8 = shapeCast S64x1 x8 shapeCasts_S64_S64x1)
    (e9 : y9 = shapeCast S1x64 x9 shapeCasts_S1x64x1x1_S1x64)
    (e10 : y10 = shapeCast S1x1 x10 shapeCasts_S1_S1x1)
    (e11 : y11 = shapeCast S128x1 x11 shapeCasts_S128x1x1x1_S128x1)
    (e12 : y12 = shapeCast S128x1 x12 shapeCasts_S128_S128x1)
    (e13 : y13 = shapeCast S128x1 x13 shapeCasts_S128_S128x1)
    (e14 : y14 = shapeCast S128x1 x14 shapeCasts_S128_S128x1)
    (e15 : y15 = shapeCast S576x128 (transpose S3x3x64x128 [2, 3, 0, 1] x15 transposes_S64x128x3x3_S3x3x64x128_2_3_0_1) shapeCasts_S3x3x64x128_S576x128)
    (e16 : y16 = shapeCast S64x1 x16 shapeCasts_S64_S64x1)
    (e17 : y17 = shapeCast S64x1 x17 shapeCasts_S64_S64x1)
    (e18 : y18 = shapeCast S64x1 x18 shapeCasts_S64_S64x1)
    (e19 : y19 = shapeCast S1x64 x19 shapeCasts_S1x64x1x1_S1x64)
    (e20 : y20 = shapeCast S1x1 x20 shapeCasts_S1_S1x1) :
    out0_21 y0 y1 y2 y3 y4 y5 y6 y7 y8 y9 y10 y11 y12 y13 y14 y15 y16 y17 y18 y19 y20
      = Cert.HeadReferenceIdeal.Read.val_main_v263 (F := Ideal) x0 x1 x2 x3 x4 x5 x6 x7 x8 x9 x10 x11 x12 x13 x14 x15 x16 x17 x18 x19 x20 := by
  subst e0 e1 e2 e3 e4 e5 e6 e7 e8 e9 e10 e11 e12 e13 e14 e15 e16 e17 e18 e19 e20
  have w := same_weights x0 x1 x2 x3 x4 x5 x6 x7 x8 x9 x10 x11 x12 x13 x14 x15 x16 x17 x18 x19 x20
  funext q
  obtain ⟨l, rfl⟩ : ∃ l : Fin 16384, q = ix2 0 l :=
    ⟨q 1, by funext a; fin_cases a; exacts [Fin.ext (by have := (q 0).isLt; change (q 0).val < 1 at this; show (q 0).val = 0; omega), rfl]⟩
  by_cases e : ∃ p, l = all4 p
  · obtain ⟨⟨r, i, j⟩, rfl⟩ := e
    refine (HeadBody.kept _ _ _ _ _ _ _ _ _ _ _ _ _ _ _ _ _ _ _ _ _ (by rw [w]; exact s) r i j).trans ?_
    rw [w]
    exact (HeadReference.kept x0 x1 x2 x3 x4 x5 x6 x7 x8 x9 x10 x11 x12 x13 x14 x15 x16 x17 x18 x19 x20 r i j).symm
  · have e' : ∀ p, l ≠ all4 p := fun p hp => e ⟨p, hp⟩
    exact (HeadBody.dropped _ _ _ _ _ _ _ _ _ _ _ _ _ _ _ _ _ _ _ _ _ l e').trans (HeadReference.dropped x0 x1 x2 x3 x4 x5 x6 x7 x8 x9 x10 x11 x12 x13 x14 x15 x16 x17 x18 x19 x20 l e').symm

/-- The value that the call leaves is the reference's. -/
theorem agree (h : Cert.Pre_HeadIdeal_finite_head m) : (dats m 0 c).arrAt 21 cfg0.N
    = Cert.HeadReferenceIdeal.Read.val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  exact (written m c ⟨0, by decide⟩).trans (same_lanes _ _ _ _ _ _ _ _ _ _ _ _ _ _ _ _ _ _ _ _ _ (tame m c h) _ _ _ _ _ _ _ _ _ _ _ _ _ _ _ _ _ _ _ _ _
    (found0 m c) (found1 m c) (found2 m c) (found3 m c) (found4 m c) (found5 m c) (found6 m c) (found7 m c) (found8 m c) (found9 m c) (found10 m c) (found11 m c) (found12 m c) (found13 m c) (found14 m c) (found15 m c) (found16 m c) (found17 m c) (found18 m c) (found19 m c) (found20 m c))

/-- The exact reading of the call ends with the reference's result. -/
theorem same_value : Cert.algebraic_HeadIdeal_HeadReferenceIdeal_pre_finite_head := fun m ρ m' ρ' h hm =>
  ⟨fun d => (dats m 0 d).arrAt 21 cfg0.N, Cert.HeadIdeal.Value.run_blocks m ρ,
    (θ_run Cert.HeadReferenceIdeal.defs _ _).mono (fun _ q d => by
      obtain ⟨e0, e1, e2, e3, e4, e5, e6, e7, e8, e9, e10, e11, e12, e13, e14, e15, e16, e17, e18, e19, e20⟩ := hm d
      refine ⟨(q d).1.trans ?_, (q d).2⟩
      refine (Cert.HeadReferenceIdeal.Read.val_main_v263_eq (F := Ideal) _).trans ?_
      refine Eq.trans ?_ (agree m d h).symm
      rw [← e0, ← e1, ← e2, ← e3, ← e4, ← e5, ← e6, ← e7, ← e8, ← e9, ← e10, ← e11, ← e12, ← e13, ← e14, ← e15, ← e16, ← e17, ← e18, ← e19, ← e20])
      (Cert.HeadReferenceIdeal.Value.run (F := Ideal) m' ρ')⟩

end Cert.Proof.HeadValue

end
-- ==== Proof.FcBody.lean ====
module

public import proofs.«01_k».proof.Proof.Gen.FcIdeal.Frame
public import Idealize.ShloMosaic.Lib.Pointwise

@[expose] public section

noncomputable section

namespace Cert.Proof.FcBody

open Cert.FcIdeal Cert.FcIdeal.Gen Idealize.ShloMosaic

/-! The body of the head's dense layers, entry by entry. -/

/-- The flat position, in a map of sixteen by sixteen, of the `j`-th of the nine points at rows and columns 0, 4, 8. -/
abbrev spot (j : Nat) : Nat := 64 * (j / 3) + 4 * (j % 3)

/-- The word that the kernel compares with: `picks` says what it is. -/
def word (q : Fin 256) (j : Fin 16) : BitVec 1 :=
  IntOp.andi
    (IntOp.cmpi CmpIPredicate.eq (BitVec.ofNat 32 q.val)
      (IntOp.addi (k0_pay3 (ix2 q j))
        (IntOp.muli 4#32
          (Scalar.select (k0_pay5 (ix2 q j)) (IntOp.addi (k0_pay4 (ix2 q j)) (k0_pay6 (ix2 q j))) (k0_pay4 (ix2 q j))))))
    (IntOp.cmpi CmpIPredicate.slt (BitVec.ofNat 32 j.val) 9#32)

/-- The condition that the kernel computes with words, decided for every row and column. -/
theorem picks (q : Fin 256) (j : Fin 16) : word q j = if q.val = spot j.val ∧ j.val < 9 then 1#1 else 0#1 := by
  unfold word
  pointwise [k0_pay3, k0_pay4, k0_pay5, k0_pay6]
  revert q j
  decide +kernel

/-- Multiplying by the kernel's matrix of ones and zeros takes out one entry of a row. -/
theorem taken (f : Fin 256 → EReal) (j : Fin 16) (h : j.val < 9) :
    ∑ q : Fin 256, Scalar.select (word q j) (f q) 0 = f ⟨spot j.val, by unfold spot; omega⟩ := by
  rw [Finset.sum_eq_single (⟨spot j.val, by unfold spot; omega⟩ : Fin 256)]
  · rw [picks, if_pos ⟨rfl, h⟩]; rfl
  · intro q _ hq
    rw [picks, if_neg fun e => hq (Fin.ext e.1)]; rfl
  · intro hn; exact absurd (Finset.mem_univ _) hn

theorem dropped (f : Fin 256 → EReal) (j : Fin 16) (h : ¬j.val < 9) :
    ∑ q : Fin 256, Scalar.select (word q j) (f q) 0 = 0 :=
  Finset.sum_eq_zero fun q _ => by rw [picks, if_neg fun e => h e.2]; rfl

/-- What the body leaves. -/
theorem body (x0 : Vec Ideal S64x256 .f32) (x1 : Vec Ideal S16x1024 .f32) (x2 : Vec Ideal S1x1024 .f32)
    (x3 : Vec Ideal S1024x128 .f32) (x4 : Vec Ideal S1x128 .f32) (r : Fin 64) (l : Fin 128) :
    out0_5 x0 x1 x2 x3 x4 (ix2 r l)
      = ∑ k : Fin 1024, max ((∑ j : Fin 16, (∑ q : Fin 256, Scalar.select (word q j) (x0 (ix2 r q)) 0) * x1 (ix2 j k))
          + x2 (ix2 0 k)) 0 * x3 (ix2 k l) + x4 (ix2 0 l) := by
  unfold out0_5
  rw [View.canon_unit_zero (by funext a; fin_cases a <;> rfl)]
  rw [View.ld_unit_zero (S := S64x256) (by funext a; fin_cases a <;> rfl),
    View.ld_unit_zero (S := S16x1024) (by funext a; fin_cases a <;> rfl),
    View.ld_unit_zero (S := S1x1024) (by funext a; fin_cases a <;> rfl),
    View.ld_unit_zero (S := S1024x128) (by funext a; fin_cases a <;> rfl),
    View.ld_unit_zero (S := S1x128) (by funext a; fin_cases a <;> rfl)]
  unfold k0_pay1 k0_pay2 word
  pointwise []

/-- The same, of padded weights: the seven added rows and the rest of the columns do not matter. -/
theorem body_padded (x0 : Vec Ideal S64x256 .f32) (x1 : Vec Ideal S16x1024 .f32) (x2 : Vec Ideal S1x1024 .f32)
    (x3 : Vec Ideal S1024x128 .f32) (x4 : Vec Ideal S1x128 .f32) (r : Fin 64) (l : Fin 128) :
    out0_5 x0 x1 x2 x3 x4 (ix2 r l)
      = ∑ k : Fin 1024, max ((∑ j : Fin 9, x0 (ix2 r ⟨spot j.val, by unfold spot; omega⟩)
            * x1 (ix2 ⟨j.val, by omega⟩ k)) + x2 (ix2 0 k)) 0 * x3 (ix2 k l) + x4 (ix2 0 l) := by
  rw [body]
  congr 1
  refine Finset.sum_congr rfl fun k _ => ?_
  congr 3
  rw [show (∑ j : Fin 16, (∑ q : Fin 256, Scalar.select (word q j) (x0 (ix2 r q)) 0) * x1 (ix2 j k))
      = ∑ j : Fin (9 + 7), (∑ q : Fin 256, Scalar.select (word q j) (x0 (ix2 r q)) 0) * x1 (ix2 j k) from rfl,
    Fin.sum_univ_add]
  rw [Finset.sum_eq_zero (s := (Finset.univ : Finset (Fin 7))) (fun j _ => by
    rw [dropped _ _ (by simp), zero_mul]), add_zero]
  refine Finset.sum_congr rfl fun j _ => ?_
  rw [taken _ _ (by simp)]
  rfl

end Cert.Proof.FcBody

end
-- ==== Proof.FcValue.lean ====
module

public import proofs.«01_k».proof.Proof.FcBody
public import proofs.«01_k».proof.Proof.Gen.FcReferenceIdeal.Read
public import proofs.«01_k».proof.Defs
public import Idealize.ShloMosaic.Lib.KernelVsHost

@[expose] public section

noncomputable section

namespace Cert.Proof.FcValue

open Cert.FcIdeal Cert.FcIdeal.Gen Idealize.ShloMosaic Idealize.ShloMosaic.TcCoe Idealize.SL.Sem
open Idealize.ShloMosaic.Pipeline (Dat)
open Cert.Proof.FcBody

/-! What the head's dense layers leave in memory. -/

variable (m : (ℓ : Loc nD τ sig) → Buf (Elt Ideal) ℓ) (c : Dev nD)

/-! The five operands as the call finds them. -/

theorem found_v4 : V m c main_v4 = shapeCast S64x256 (m ((c : Thread nD τ).loc main_arg0)) shapeCasts_S1x16384_S64x256 := by
  simp only [V, V0, hostOps0, hostOps0_1, hostOps0_2, hostOps0_3, hostOps0_4, hostOps0_5, hostOps0_6, List.flatten_cons,
    List.flatten_nil, List.append_nil, List.cons_append, List.nil_append]
  after_results <;> rfl

theorem found_v5 : V m c main_v5 = shapeCast S1x1024 (m ((c : Thread nD τ).loc main_arg2)) shapeCasts_S1024_S1x1024 := by
  simp only [V, V0, hostOps0, hostOps0_1, hostOps0_2, hostOps0_3, hostOps0_4, hostOps0_5, hostOps0_6, List.flatten_cons,
    List.flatten_nil, List.append_nil, List.cons_append, List.nil_append]
  after_results <;> rfl

theorem found_v0 : V m c main_v0 = pad (α := Ideal .f32) S16x1024 ![0, 0] ![7, 0] ![0, 0] (m ((c : Thread nD τ).loc main_arg1))
    (sitofp .f32 (constantI S_ 32 0#32)) pads_S9x1024_S16x1024_070_000 h_S_ := by
  simp only [V, V0, hostOps0, hostOps0_1, hostOps0_2, hostOps0_3, hostOps0_4, hostOps0_5, hostOps0_6, List.flatten_cons,
    List.flatten_nil, List.append_nil, List.cons_append, List.nil_append]
  after_results <;> rfl

theorem found_v1 : V m c main_v1 = pad (α := Ideal .f32) S1024x128 ![0, 0] ![0, 118] ![0, 0] (m ((c : Thread nD τ).loc main_arg3))
    (sitofp .f32 (constantI S_ 32 0#32)) pads_S1024x10_S1024x128_000_01180 h_S_ := by
  simp only [V, V0, hostOps0, hostOps0_1, hostOps0_2, hostOps0_3, hostOps0_4, hostOps0_5, hostOps0_6, List.flatten_cons,
    List.flatten_nil, List.append_nil, List.cons_append, List.nil_append]
  after_results <;> rfl

theorem found_v3 : V m c main_v3 = pad (α := Ideal .f32) S1x128 ![0, 0] ![0, 118] ![0, 0]
    (shapeCast S1x10 (m ((c : Thread nD τ).loc main_arg4)) shapeCasts_S10_S1x10)
    (sitofp .f32 (constantI S_ 32 0#32)) pads_S1x10_S1x128_000_01180 h_S_ := by
  simp only [V, V0, hostOps0, hostOps0_1, hostOps0_2, hostOps0_3, hostOps0_4, hostOps0_5, hostOps0_6, List.flatten_cons,
    List.flatten_nil, List.append_nil, List.cons_append, List.nil_append]
  after_results <;> rfl

/-! The one step stages every operand whole. -/

theorem still : ∀ t : Fin cfg0.N, win0_0.index t = 0 ∧ win0_1.index t = 0 ∧ win0_2.index t = 0 ∧ win0_3.index t = 0
    ∧ win0_4.index t = 0 ∧ win0_5.index t = 0 :=
  (by decide +kernel : ∀ t : Fin grid0.N, _)

theorem whole0 (t : Fin cfg0.N) : iblk m c 0 t = V m c main_v4 := by
  funext y
  refine congrArg (V m c main_v4) (funext fun a => Fin.ext ?_)
  match a with
  | ⟨0, _⟩ => show win0_0.index t 0 * 64 + 1 * (y 0).val = (y 0).val; rw [(still t).1]; simp
  | ⟨1, _⟩ => show win0_0.index t 1 * 256 + 1 * (y 1).val = (y 1).val; rw [(still t).1]; simp

theorem whole1 (t : Fin cfg0.N) : iblk m c 1 t = V m c main_v0 := by
  funext y
  refine congrArg (V m c main_v0) (funext fun a => Fin.ext ?_)
  match a with
  | ⟨0, _⟩ => show win0_1.index t 0 * 16 + 1 * (y 0).val = (y 0).val; rw [(still t).2.1]; simp
  | ⟨1, _⟩ => show win0_1.index t 1 * 1024 + 1 * (y 1).val = (y 1).val; rw [(still t).2.1]; simp

theorem whole2 (t : Fin cfg0.N) : iblk m c 2 t = V m c main_v5 := by
  funext y
  refine congrArg (V m c main_v5) (funext fun a => Fin.ext ?_)
  match a with
  | ⟨0, _⟩ => show win0_2.index t 0 * 1 + 1 * (y 0).val = (y 0).val; rw [(still t).2.2.1]; simp
  | ⟨1, _⟩ => show win0_2.index t 1 * 1024 + 1 * (y 1).val = (y 1).val; rw [(still t).2.2.1]; simp

theorem whole3 (t : Fin cfg0.N) : iblk m c 3 t = V m c main_v1 := by
  funext y
  refine congrArg (V m c main_v1) (funext fun a => Fin.ext ?_)
  match a with
  | ⟨0, _⟩ => show win0_3.index t 0 * 1024 + 1 * (y 0).val = (y 0).val; rw [(still t).2.2.2.1]; simp
  | ⟨1, _⟩ => show win0_3.index t 1 * 128 + 1 * (y 1).val = (y 1).val; rw [(still t).2.2.2.1]; simp

theorem whole4 (t : Fin cfg0.N) : iblk m c 4 t = V m c main_v3 := by
  funext y
  refine congrArg (V m c main_v3) (funext fun a => Fin.ext ?_)
  match a with
  | ⟨0, _⟩ => show win0_4.index t 0 * 1 + 1 * (y 0).val = (y 0).val; rw [(still t).2.2.2.2.1]; simp
  | ⟨1, _⟩ => show win0_4.index t 1 * 128 + 1 * (y 1).val = (y 1).val; rw [(still t).2.2.2.2.1]; simp

/-- The array that the step writes back. -/
theorem written (t : Fin cfg0.N) : (dats m 0 c).arrAt 5 cfg0.N
    = out0_5 (V m c main_v4) (V m c main_v0) (V m c main_v5) (V m c main_v1) (V m c main_v3) := by
  have whole : ∀ t : Fin cfg0.N, ∀ G : S64x128.Idx → Ideal .f32,
      ((cfg0.win 5).blk t).view.read (Elt Ideal) G = G := fun t G => by
    funext y
    refine congrArg G (funext fun a => Fin.ext ?_)
    match a with
    | ⟨0, _⟩ => show win0_5.index t 0 * 64 + 1 * (y 0).val = (y 0).val; rw [(still t).2.2.2.2.2]; simp
    | ⟨1, _⟩ => show win0_5.index t 1 * 128 + 1 * (y 1).val = (y 1).val; rw [(still t).2.2.2.2.2]; simp
  refine (dats m 0 c).arrAt_eq_of_cover 5 _ (fun t _ => ?_) (fun i => ⟨t, ?_, ?_⟩)
  · refine Eq.trans ?_ (whole t _).symm
    show (cfg0.win 5).cut (grid0.coords t) ((dats m 0 c).after 5 t) = _
    rw [after0_5, whole0, whole1, whole2, whole3, whole4]
    rfl
  · exact (by decide +kernel : ∀ t : Fin grid0.N, win0_5.flush t = true) t
  · show i ∈ ((View.whole main_v6).slice (win0_5.rect t)).set
    rw [View.set_slice_whole, Rect.mem_set_unit]
    intro a
    match a with
    | ⟨0, _⟩ => show win0_5.index t 0 * 64 ≤ (i 0).val ∧ (i 0).val < win0_5.index t 0 * 64 + 64; rw [(still t).2.2.2.2.2]; have : (i 0).val < 64 := (i 0).isLt; simpa using this
    | ⟨1, _⟩ => show win0_5.index t 1 * 128 ≤ (i 1).val ∧ (i 1).val < win0_5.index t 1 * 128 + 128; rw [(still t).2.2.2.2.2]; have : (i 1).val < 128 := (i 1).isLt; simpa using this

/-- What the slice after the call leaves. -/
theorem left (r : Fin 64) (l : Fin 10) :
    (Pipeline.afterTail₀ cfgs (dats m) 0 (V0 m) [hostOps1] c main_v7 : S64x10.Idx → Ideal .f32) (ix2 r l)
      = out0_5 (V m c main_v4) (V m c main_v0) (V m c main_v5) (V m c main_v1) (V m c main_v3) (ix2 r ⟨l.val, by omega⟩) := by
  have e : Pipeline.afterTail₀ cfgs (dats m) 0 (V0 m) [hostOps1] c main_v7
      = extractStridedSlice (α := Ideal .f32) S64x10 ![0, 0] ((dats m 0 c).arrAt 5 cfg0.N) slices_S64x128_S64x10_0_0 := by
    unfold Pipeline.afterTail₀
    simp only [hostOps1, List.flatten_cons, List.flatten_nil, List.append_nil, List.cons_append, List.nil_append]
    after_results
    exact congrArg (extractStridedSlice (α := Ideal .f32) S64x10 ![0, 0] · slices_S64x128_S64x10_0_0)
      (Pipeline.withArrays_arr spec0 (by decide) c (V0 m c) _ 5)
  rw [e, written m c ⟨0, by decide⟩]
  pointwise []

/-- The reference's result, entry by entry. -/
theorem wanted (x0 : S1x16384.Idx → Ideal .f32) (x1 : S9x1024.Idx → Ideal .f32) (x2 : S1024.Idx → Ideal .f32)
    (x3 : S1024x10.Idx → Ideal .f32) (x4 : S10.Idx → Ideal .f32) (r : Fin 64) (l : Fin 10) :
    Cert.FcReferenceIdeal.Read.val_main_v12 (F := Ideal) x0 x1 x2 x3 x4 (ix2 r l)
      = ∑ k : Fin 1024, max ((∑ j : Fin 9, x0 (ix2 0 ⟨256 * r.val + spot j.val, by unfold spot; omega⟩) * x1 (ix2 j k))
          + x2 (ix1 k)) 0 * x3 (ix2 k l) + x4 (ix1 l) := by
  pointwise [Cert.FcReferenceIdeal.Read.val_main_v12, Cert.FcReferenceIdeal.Read.val_main_v11,
    Cert.FcReferenceIdeal.Read.val_main_v10, Cert.FcReferenceIdeal.Read.val_main_v9, Cert.FcReferenceIdeal.Read.val_main_v8,
    Cert.FcReferenceIdeal.Read.val_main_v7, Cert.FcReferenceIdeal.Read.val_main_cst, Cert.FcReferenceIdeal.Read.val_main_v6,
    Cert.FcReferenceIdeal.Read.val_main_v5, Cert.FcReferenceIdeal.Read.val_main_v4, Cert.FcReferenceIdeal.Read.val_main_v3,
    Cert.FcReferenceIdeal.Read.val_main_v2, Cert.FcReferenceIdeal.Read.val_main_v1, Cert.FcReferenceIdeal.Read.val_main_v0]
  refine congrArg (· + x4 (ix1 l)) (Finset.sum_congr rfl fun k _ => ?_)
  refine congrArg (fun z => max (z + x2 (ix1 k)) 0 * x3 (ix2 k l)) (Finset.sum_congr rfl fun j _ => ?_)
  refine congrArg (fun z => x0 (ix2 0 z) * x1 (ix2 j k)) (Fin.ext ?_)
  show r.val * 256 + 4 * (j.val / 3) * 16 + 4 * (j.val % 3) = 256 * r.val + spot j.val
  unfold spot
  omega

theorem row_of (x : S1x16384.Idx → Ideal .f32) (r : Fin 64) (q : Fin 256) :
    shapeCast S64x256 x shapeCasts_S1x16384_S64x256 (ix2 r q) = x (ix2 0 ⟨256 * r.val + q.val, by omega⟩) := by
  pointwise []
  exact congrArg (fun z => x (ix2 0 z)) (Fin.ext (congrArg (· + q.val) (Nat.mul_comm _ _)))

theorem vec_of (x : S1024.Idx → Ideal .f32) (k : Fin 1024) :
    shapeCast S1x1024 x shapeCasts_S1024_S1x1024 (ix2 0 k) = x (ix1 k) := by
  pointwise []

theorem pad_rows (x : S9x1024.Idx → Ideal .f32) (z : S_.Idx → Ideal .f32) (j : Fin 9) (k : Fin 1024) :
    pad S16x1024 ![0, 0] ![7, 0] ![0, 0] x z pads_S9x1024_S16x1024_070_000 h_S_ (ix2 ⟨j.val, by omega⟩ k) = x (ix2 j k) := by
  rw [pad_apply_of_inside (k := ix2 j k)]
  intro a; fin_cases a <;> simp

theorem pad_columns (x : S1024x10.Idx → Ideal .f32) (z : S_.Idx → Ideal .f32) (k : Fin 1024) (l : Fin 10) :
    pad S1024x128 ![0, 0] ![0, 118] ![0, 0] x z pads_S1024x10_S1024x128_000_01180 h_S_ (ix2 k ⟨l.val, by omega⟩) = x (ix2 k l) := by
  rw [pad_apply_of_inside (k := ix2 k l)]
  intro a; fin_cases a <;> simp

theorem pad_row (x : S10.Idx → Ideal .f32) (z : S_.Idx → Ideal .f32) (l : Fin 10) :
    pad S1x128 ![0, 0] ![0, 118] ![0, 0] (shapeCast S1x10 x shapeCasts_S10_S1x10) z pads_S1x10_S1x128_000_01180 h_S_
      (ix2 0 ⟨l.val, by omega⟩) = x (ix1 l) := by
  rw [pad_apply_of_inside (k := ix2 0 l)]
  · pointwise []
  · intro a; fin_cases a <;> simp

/-- The value that the call leaves is the reference's. -/
theorem agree : Pipeline.afterTail₀ cfgs (dats m) 0 (V0 m) [hostOps1] c main_v7
    = Cert.FcReferenceIdeal.Read.val_main_v12 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨r, l, rfl⟩ : ∃ (r : Fin 64) (l : Fin 10), i = ix2 r l := ⟨i 0, i 1, by funext a; fin_cases a <;> rfl⟩
  refine (left m c r l).trans (Eq.trans ?_ (wanted _ _ _ _ _ r l).symm)
  rw [body_padded, found_v4, found_v0, found_v5, found_v1, found_v3, pad_row]
  refine congrArg (· + _) (Finset.sum_congr rfl fun k _ => ?_)
  rw [pad_columns, vec_of]
  refine congrArg (fun z => max (z + _) 0 * _) (Finset.sum_congr rfl fun j _ => ?_)
  rw [pad_rows, row_of]

/-- The exact reading of the dense layers ends with the reference's result. -/
theorem same_value : Cert.algebraic_FcIdeal_FcReferenceIdeal := fun m ρ m' ρ' _ hm =>
  ⟨fun d => Pipeline.afterTail₀ cfgs (dats m) 0 (V0 m) [hostOps1] d main_v7,
    (θ_run Cert.FcIdeal.defs _ _).mono (fun _ q d =>
        ⟨(q.1 d).2 main_v7 (Pipeline.mem_restRefs_of main_v7 (by decide) (by decide)), q.2 d⟩)
      (θ_run_and (run_main m ρ) (unchanged m ρ)),
    (θ_run Cert.FcReferenceIdeal.defs _ _).mono (fun _ q d => by
      obtain ⟨e0, e1, e2, e3, e4⟩ := hm d
      refine ⟨(q d).1.trans ?_, (q d).2⟩
      rw [e0, e1, e2, e3, e4]
      exact (Cert.FcReferenceIdeal.Read.val_main_v12_eq (F := Ideal) _ _ _ _ _).trans (agree m d).symm)
      (Cert.FcReferenceIdeal.Value.run (F := Ideal) m' ρ')⟩

end Cert.Proof.FcValue

end
-- ==== Proof.lean ====
/-
  The adjacency counts: the kernel and its exact reading run quiescent on edge lists whose edges join nodes of their own
  graph; read exactly, the kernel's result is the reference's. Then the same of five calls on the TensorCore: the two
  graph convolutions, the map that the two layers of means become, the convolutional head, and the last two dense layers.
-/
module

public import proofs.«01_k».proof.Proof.Named
public import proofs.«01_k».proof.Proof.ConvValue
public import proofs.«01_k».proof.Proof.Conv2Value
public import proofs.«01_k».proof.Proof.ZprepValue
public import proofs.«01_k».proof.Proof.HeadValue
public import proofs.«01_k».proof.Proof.FcValue
public import proofs.«01_k».proof.Proof.Gen.Pre_finite_means
public import proofs.«01_k».proof.Proof.Gen.Pre_finite_nodes
public import proofs.«01_k».proof.Proof.Gen.Pre_finite_kept
public import proofs.«01_k».proof.Proof.Gen.Pre_finite_head
public import proofs.«01_k».proof.Proof.Gen.ConvIdeal.Value
public import proofs.«01_k».proof.Proof.Gen.Conv2Ideal.Value
public import proofs.«01_k».proof.Proof.Gen.ZprepIdeal.Value
public import proofs.«01_k».proof.Proof.Gen.HeadIdeal.Value
public import proofs.«01_k».proof.Proof.Gen.ConvReferenceIdeal.Read
public import proofs.«01_k».proof.Proof.Gen.Conv2ReferenceIdeal.Read
public import proofs.«01_k».proof.Proof.Gen.Conv
public import proofs.«01_k».proof.Proof.Gen.Conv2
public import proofs.«01_k».proof.Proof.Gen.ZprepReferenceIdeal.Read
public import proofs.«01_k».proof.Proof.Gen.HeadReferenceIdeal.Read
public import proofs.«01_k».proof.Proof.Gen.Zprep
public import proofs.«01_k».proof.Proof.Gen.Head
public import proofs.«01_k».proof.Proof.Gen.FcReferenceIdeal.Read
public import proofs.«01_k».proof.Proof.Gen.Fc
public import proofs.«01_k».proof.Proof.Gen.Conv.Frame
public import proofs.«01_k».proof.Proof.Gen.Conv2.Frame
public import proofs.«01_k».proof.Proof.Gen.ConvIdeal.Frame
public import proofs.«01_k».proof.Proof.Gen.Conv2Ideal.Frame
public import proofs.«01_k».proof.Proof.Gen.Zprep.Frame
public import proofs.«01_k».proof.Proof.Gen.Head.Frame
public import proofs.«01_k».proof.Proof.Gen.ZprepIdeal.Frame
public import proofs.«01_k».proof.Proof.Gen.HeadIdeal.Frame
public import proofs.«01_k».proof.Proof.Gen.Fc.Frame
public import proofs.«01_k».proof.Proof.Gen.FcIdeal.Frame
public import proofs.«01_k».proof.Defs
public import proofs.«01_k».proof.Proof.Gen.Kernel
public import proofs.«01_k».proof.Proof.Gen.Kernel.Skeleton
public import Idealize.ShloMosaic.Adequacy
public import Idealize.ShloMosaic.Init

@[expose] public section

noncomputable section

namespace Cert.Proof

open Idealize.ShloMosaic Idealize.ShloMosaic.TcCoe Idealize.SL.Sem

/-- The kernel's frame: its text is its exact reading's, run over bit patterns. -/
theorem frame_kernel : Cert.quiescent_Kernel := fun m ρ h =>
  (θ_run (Cert.KernelIdeal.defs (F := Bits)) _ _).mono (fun _ q => ⟨fun c => (q.1 c).1, q.2⟩)
    (Adj.run_main (F := Bits) m ρ fun d => Adj.within_call (F := Bits) m d (h d))

/-- The exact reading's frame. -/
theorem frame_ideal : Cert.quiescent_KernelIdeal := fun m ρ h =>
  (θ_run (Cert.KernelIdeal.defs (F := Ideal)) _ _).mono (fun _ q => ⟨fun c => (q.1 c).1, q.2⟩)
    (Adj.run_main (F := Ideal) m ρ fun d => Adj.within_call (F := Ideal) m d (h d))

/-- The reference's frame. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

theorem frame_reference_pre : Cert.quiescent_ReferenceIdeal_pre_own_graph := fun m ρ _ => frame_reference m ρ trivial

/-- Cell by cell, the reference's result is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (hpre : Cert.Pre_own_graph.fn (F := Ideal) (Adj.argOf m d) = fun _ => 1#1)
    (e : m' ((d.tc : Thread Cert.ReferenceIdeal.nD Cert.ReferenceIdeal.τ).loc Cert.ReferenceIdeal.main_arg0) = Adj.argOf m d) :
    Cert.ReferenceIdeal.Value.res_out0 (F := Ideal) m' d = Adj.result m d := by
  funext j
  obtain ⟨g, p, q, rfl⟩ : ∃ (g : Fin 64) (p q : Fin 256), j = ix3 g p q := ⟨j 0, j 1, j 2, by funext a; fin_cases a <;> rfl⟩
  refine (Adj.reference_cell m' d (Adj.argOf m d) e hpre g p q).trans ?_
  refine (Adj.table_cell (Adj.argOf m d) hpre g p q).symm.trans ?_
  exact (Adj.result_apply m d (ix3 g p q)).symm

/-- The exact reading's result is the reference's. -/
theorem same_value : Cert.algebraic_KernelIdeal_ReferenceIdeal := fun m ρ m' ρ' h hm =>
  ⟨fun d => Adj.result m d,
    (θ_run (Cert.KernelIdeal.defs (F := Ideal)) _ _).mono (fun _ q c => ⟨(q.1 c).2, (q.1 c).1⟩)
      (Adj.run_main (F := Ideal) m ρ fun d => Adj.within_call (F := Ideal) m d (h d)),
    (θ_run Cert.ReferenceIdeal.defs _ _).mono
      (fun _ q c => ⟨(q c).1.trans (results_agree m m' c (h c) (hm c)), (q c).2⟩) (Cert.ReferenceIdeal.Value.run (F := Ideal) m' ρ')⟩

/-! The frames of the other calls' references. -/

theorem frame_conv_reference : Cert.quiescent_ConvReferenceIdeal := fun m ρ _ =>
  (θ_run Cert.ConvReferenceIdeal.defs _ _).mono
    (fun r h => ⟨fun c => (h c).2.2.2, Idealize.ShloMosaic.sem_eq_zero_of_no_sems (by decide) r.2⟩)
    (Cert.ConvReferenceIdeal.Value.run (F := Ideal) m ρ)

theorem frame_conv2_reference : Cert.quiescent_Conv2ReferenceIdeal := fun m ρ _ =>
  (θ_run Cert.Conv2ReferenceIdeal.defs _ _).mono
    (fun r h => ⟨fun c => (h c).2.2.2, Idealize.ShloMosaic.sem_eq_zero_of_no_sems (by decide) r.2⟩)
    (Cert.Conv2ReferenceIdeal.Value.run (F := Ideal) m ρ)

theorem frame_zprep_reference : Cert.quiescent_ZprepReferenceIdeal := fun m ρ _ =>
  (θ_run Cert.ZprepReferenceIdeal.defs _ _).mono
    (fun r h => ⟨fun c => (h c).2, Idealize.ShloMosaic.sem_eq_zero_of_no_sems (by decide) r.2⟩)
    (Cert.ZprepReferenceIdeal.Value.run (F := Ideal) m ρ)

theorem frame_head_reference : Cert.quiescent_HeadReferenceIdeal := fun m ρ _ =>
  (θ_run Cert.HeadReferenceIdeal.defs _ _).mono
    (fun r h => ⟨fun c => (h c).2, Idealize.ShloMosaic.sem_eq_zero_of_no_sems (by decide) r.2⟩)
    (Cert.HeadReferenceIdeal.Value.run (F := Ideal) m ρ)

theorem frame_fc_reference : Cert.quiescent_FcReferenceIdeal := fun m ρ _ =>
  (θ_run Cert.FcReferenceIdeal.defs _ _).mono
    (fun r h => ⟨fun c => (h c).2, Idealize.ShloMosaic.sem_eq_zero_of_no_sems (by decide) r.2⟩)
    (Cert.FcReferenceIdeal.Value.run (F := Ideal) m ρ)

theorem claim : Cert.Claim := ⟨Cert.Kernel.Gen.facts, Cert.KernelIdeal.Gen.facts, Cert.ReferenceIdeal.Gen.facts,
  Cert.Conv.Gen.facts, Cert.ConvIdeal.Gen.facts, Cert.ConvReferenceIdeal.Gen.facts,
  Cert.Conv2.Gen.facts, Cert.Conv2Ideal.Gen.facts, Cert.Conv2ReferenceIdeal.Gen.facts,
  Cert.Zprep.Gen.facts, Cert.ZprepIdeal.Gen.facts, Cert.ZprepReferenceIdeal.Gen.facts,
  Cert.Head.Gen.facts, Cert.HeadIdeal.Gen.facts, Cert.HeadReferenceIdeal.Gen.facts,
  Cert.Fc.Gen.facts, Cert.FcIdeal.Gen.facts, Cert.FcReferenceIdeal.Gen.facts,
  Cert.Pre_own_graph.Gen.facts, Cert.Pre_finite_nodes.Gen.facts, Cert.Pre_finite_kept.Gen.facts,
  Cert.Pre_finite_means.Gen.facts, Cert.Pre_finite_head.Gen.facts,
  frame_kernel, frame_ideal, frame_reference, frame_reference_pre,
  fun m ρ _ => Cert.Conv.Gen.frame m ρ, fun m ρ _ => Cert.ConvIdeal.Gen.frame m ρ, fun m ρ _ => Cert.ConvIdeal.Gen.frame m ρ,
  frame_conv_reference, fun m ρ _ => frame_conv_reference m ρ trivial,
  fun m ρ _ => Cert.Conv2.Gen.frame m ρ, fun m ρ _ => Cert.Conv2Ideal.Gen.frame m ρ, fun m ρ _ => Cert.Conv2Ideal.Gen.frame m ρ,
  frame_conv2_reference, fun m ρ _ => frame_conv2_reference m ρ trivial,
  fun m ρ _ => Cert.Zprep.Gen.frame m ρ, fun m ρ _ => Cert.ZprepIdeal.Gen.frame m ρ, fun m ρ _ => Cert.ZprepIdeal.Gen.frame m ρ,
  frame_zprep_reference, fun m ρ _ => frame_zprep_reference m ρ trivial,
  fun m ρ _ => Cert.Head.Gen.frame m ρ, fun m ρ _ => Cert.HeadIdeal.Gen.frame m ρ, fun m ρ _ => Cert.HeadIdeal.Gen.frame m ρ,
  frame_head_reference, fun m ρ _ => frame_head_reference m ρ trivial,
  fun m ρ _ => Cert.Fc.Gen.frame m ρ, fun m ρ _ => Cert.FcIdeal.Gen.frame m ρ, frame_fc_reference,
  trivial, same_value, trivial, ConvValue.same_value, trivial, Conv2Value.same_value,
  trivial, ZprepValue.same_value, trivial, HeadValue.same_value, trivial, FcValue.same_value⟩

end Cert.Proof

end
